-- ==== Defs.lean ====
def Pre_Kernel [hPre_boundaries_in_range : Cert.Pre_boundaries_in_range.Facts] (m : (ℓ : Loc Cert.Kernel.nD Cert.Kernel.τ Cert.Kernel.sig) → Buf (Elt Bits) ℓ) : Prop :=
  ∀ c : Dev Cert.Kernel.nD,
    (Cert.Pre_boundaries_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_boundaries_in_range : Cert.Pre_boundaries_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_boundaries_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_bounded [hPre_bounded : Cert.Pre_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded [hPre_bounded : Cert.Pre_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def quiescent_Kernel [hKernel : Cert.Kernel.Facts] [hPre_boundaries_in_range : Cert.Pre_boundaries_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_boundaries_in_range : Cert.Pre_boundaries_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_bounded [hKernelIdeal : Cert.KernelIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_bounded [hReferenceIdeal : Cert.ReferenceIdeal.Facts] [hPre_bounded : Cert.Pre_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.Statement Cert.KernelIdeal.S64x128 Cert.KernelIdeal.S32x128
  ∧ IdealRules.bf16_pair.SelectZeroStatement Cert.KernelIdeal.S32x128

def algebraic_KernelIdeal_ReferenceIdeal_pre_bounded [hKernelIdeal : Cert.KernelIdeal.Facts] [hReferenceIdeal : Cert.ReferenceIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v198_0) = v0 c
          ∧ r.2.mem ((c.tc : Thread Cert.ReferenceIdeal.nD Cert.ReferenceIdeal.τ).loc Cert.ReferenceIdeal.main_v198_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_boundaries_in_range : Cert.Pre_boundaries_in_range.Facts) (hPre_bounded : Cert.Pre_bounded.Facts),
    quiescent_Kernel (hKernel := hKernel) (hPre_boundaries_in_range := hPre_boundaries_in_range)
    ∧ quiescent_KernelIdeal (hKernelIdeal := hKernelIdeal) (hPre_boundaries_in_range := hPre_boundaries_in_range)
    ∧ quiescent_KernelIdeal_pre_bounded (hKernelIdeal := hKernelIdeal) (hPre_bounded := hPre_bounded)
    ∧ quiescent_ReferenceIdeal (hReferenceIdeal := hReferenceIdeal)
    ∧ quiescent_ReferenceIdeal_pre_bounded (hReferenceIdeal := hReferenceIdeal) (hPre_bounded := hPre_bounded)
    ∧ preserves_Kernel_KernelIdeal
    ∧ algebraic_KernelIdeal_ReferenceIdeal_pre_bounded (hKernelIdeal := hKernelIdeal) (hReferenceIdeal := hReferenceIdeal) (hPre_bounded := hPre_bounded)
-- ==== Pre_boundaries_in_range.lean ====
abbrev S8192x2048 : Shape := ⟨2, ![8192, 2048]⟩
abbrev S1x2048 : Shape := ⟨2, ![1, 2048]⟩
abbrev S7 : Shape := ⟨1, ![7]⟩
abbrev S8192x4 : Shape := ⟨2, ![8192, 4]⟩
abbrev S8192 : Shape := ⟨1, ![8192]⟩
abbrev S6 : Shape := ⟨1, ![6]⟩
abbrev S_ : Shape := ⟨0, ![]⟩

class Facts : Prop where
  slices_S7_S6_0 : S7.Slices ![0] S6
  slices_S7_S6_1 : S7.Slices ![1] S6
  bcast_S_S6 : S_.BroadcastsInDim S6 (![] : Fin 0 → Fin S6.rank)

variable [Facts]

def fn {F : FTy → Type} [FloatOps F] (main_arg0 : IVec S8192x2048 8) (main_arg1 : FVec F S1x2048 .f32) (main_arg2 : IVec S7 32) (main_arg3 : FVec F S8192x4 .bf16) (main_arg4 : FVec F S8192 .bf16) : IVec S6 1 :=
  let main_v0 : IVec S6 32 := (extractStridedSlice S6 ![0] · slices_S7_S6_0) main_arg2
  let main_v1 : IVec S6 32 := (extractStridedSlice S6 ![1] · slices_S7_S6_1) main_arg2
  let main_c : IVec S_ 32 := constantI S_ 32 0#32
  let main_v2 : IVec S6 32 := broadcastInDim S6 ![] bcast_S_S6 main_c
  let main_v3 : IVec S6 1 := cmpi .sge main_v0 main_v2
  let main_c_0 : IVec S_ 32 := constantI S_ 32 2045#32
  let main_v4 : IVec S6 32 := broadcastInDim S6 ![] bcast_S_S6 main_c_0
  let main_v5 : IVec S6 1 := cmpi .sle main_v0 main_v4
  let main_v6 : IVec S6 1 := andi main_v3 main_v5
  let main_c_1 : IVec S_ 32 := constantI S_ 32 3#32
  let main_v7 : IVec S6 32 := broadcastInDim S6 ![] bcast_S_S6 main_c_1
  let main_v8 : IVec S6 1 := cmpi .sge main_v1 main_v7
  let main_v9 : IVec S6 1 := andi main_v6 main_v8
  let main_c_2 : IVec S_ 32 := constantI S_ 32 2048#32
  let main_v10 : IVec S6 32 := broadcastInDim S6 ![] bcast_S_S6 main_c_2
  let main_v11 : IVec S6 1 := cmpi .sle main_v1 main_v10
  let main_v12 : IVec S6 1 := andi main_v9 main_v11
  main_v12
-- ==== Pre_bounded.lean ====
abbrev S8192x2048 : Shape := ⟨2, ![8192, 2048]⟩
abbrev S1x2048 : Shape := ⟨2, ![1, 2048]⟩
abbrev S7 : Shape := ⟨1, ![7]⟩
abbrev S8192x4 : Shape := ⟨2, ![8192, 4]⟩
abbrev S8192 : Shape := ⟨1, ![8192]⟩
abbrev S6 : Shape := ⟨1, ![6]⟩
abbrev S_ : Shape := ⟨0, ![]⟩

class Facts : Prop where
  slices_S7_S6_0 : S7.Slices ![0] S6
  slices_S7_S6_1 : S7.Slices ![1] S6
  bcast_S_S6 : S_.BroadcastsInDim S6 (![] : Fin 0 → Fin S6.rank)
  bcast_S_S8192x2048 : S_.BroadcastsInDim S8192x2048 (![] : Fin 0 → Fin S8192x2048.rank)
  bcast_S_S1x2048 : S_.BroadcastsInDim S1x2048 (![] : Fin 0 → Fin S1x2048.rank)
  bitsLt_bf16_f32 : FTy.bits .bf16 < FTy.bits .f32
  bcast_S_S8192x4 : S_.BroadcastsInDim S8192x4 (![] : Fin 0 → Fin S8192x4.rank)
  bcast_S_S8192 : S_.BroadcastsInDim S8192 (![] : Fin 0 → Fin S8192.rank)

variable [Facts]

def fn_part1 {F : FTy → Type} [FloatOps F] (main_arg1 : FVec F S1x2048 .f32) (main_arg3 : FVec F S8192x4 .bf16) (main_arg4 : FVec F S8192 .bf16) (main_v12 : IVec S6 1) (main_v17 : IVec S8192x2048 1) : IVec S6 1 × IVec S8192x2048 1 × IVec S1x2048 1 × IVec S8192x4 1 × IVec S8192 1 :=
  let main_v18 : FVec F S1x2048 .f32 := Host.absf main_arg1
  let main_cst : FVec F S_ .f32 := constant S_ .f32 0x5F800000#32
  let main_v19 : FVec F S1x2048 .f32 := broadcastInDim S1x2048 ![] bcast_S_S1x2048 main_cst
  let main_v20 : IVec S1x2048 1 := cmpf .ole main_v18 main_v19
  let main_v21 : FVec F S8192x4 .f32 := (extf .f32 · bitsLt_bf16_f32) main_arg3
  let main_v22 : FVec F S8192x4 .f32 := Host.absf main_v21
  let main_cst_5 : FVec F S_ .f32 := constant S_ .f32 0x4F800000#32
  let main_v23 : FVec F S8192x4 .f32 := broadcastInDim S8192x4 ![] bcast_S_S8192x4 main_cst_5
  let main_v24 : IVec S8192x4 1 := cmpf .ole main_v22 main_v23
  let main_v25 : FVec F S8192 .f32 := (extf .f32 · bitsLt_bf16_f32) main_arg4
  let main_v26 : FVec F S8192 .f32 := Host.absf main_v25
  let main_cst_6 : FVec F S_ .f32 := constant S_ .f32 0x5F800000#32
  let main_v27 : FVec F S8192 .f32 := broadcastInDim S8192 ![] bcast_S_S8192 main_cst_6
  let main_v28 : IVec S8192 1 := cmpf .ole main_v26 main_v27
  (main_v12, main_v17, main_v20, main_v24, main_v28)

def fn {F : FTy → Type} [FloatOps F] (main_arg0 : IVec S8192x2048 8) (main_arg1 : FVec F S1x2048 .f32) (main_arg2 : IVec S7 32) (main_arg3 : FVec F S8192x4 .bf16) (main_arg4 : FVec F S8192 .bf16) : IVec S6 1 × IVec S8192x2048 1 × IVec S1x2048 1 × IVec S8192x4 1 × IVec S8192 1 :=
  let main_v0 : IVec S6 32 := (extractStridedSlice S6 ![0] · slices_S7_S6_0) main_arg2
  let main_v1 : IVec S6 32 := (extractStridedSlice S6 ![1] · slices_S7_S6_1) main_arg2
  let main_c : IVec S_ 32 := constantI S_ 32 0#32
  let main_v2 : IVec S6 32 := broadcastInDim S6 ![] bcast_S_S6 main_c
  let main_v3 : IVec S6 1 := cmpi .sge main_v0 main_v2
  let main_c_0 : IVec S_ 32 := constantI S_ 32 2045#32
  let main_v4 : IVec S6 32 := broadcastInDim S6 ![] bcast_S_S6 main_c_0
  let main_v5 : IVec S6 1 := cmpi .sle main_v0 main_v4
  let main_v6 : IVec S6 1 := andi main_v3 main_v5
  let main_c_1 : IVec S_ 32 := constantI S_ 32 3#32
  let main_v7 : IVec S6 32 := broadcastInDim S6 ![] bcast_S_S6 main_c_1
  let main_v8 : IVec S6 1 := cmpi .sge main_v1 main_v7
  let main_v9 : IVec S6 1 := andi main_v6 main_v8
  let main_c_2 : IVec S_ 32 := constantI S_ 32 2048#32
  let main_v10 : IVec S6 32 := broadcastInDim S6 ![] bcast_S_S6 main_c_2
  let main_v11 : IVec S6 1 := cmpi .sle main_v1 main_v10
  let main_v12 : IVec S6 1 := andi main_v9 main_v11
  let main_c_3 : IVec S_ 8 := constantI S_ 8 127#8
  let main_v13 : IVec S8192x2048 8 := broadcastInDim S8192x2048 ![] bcast_S_S8192x2048 main_c_3
  let main_v14 : IVec S8192x2048 1 := cmpi .ne main_arg0 main_v13
  let main_c_4 : IVec S_ 8 := constantI S_ 8 255#8
  let main_v15 : IVec S8192x2048 8 := broadcastInDim S8192x2048 ![] bcast_S_S8192x2048 main_c_4
  let main_v16 : IVec S8192x2048 1 := cmpi .ne main_arg0 main_v15
  let main_v17 : IVec S8192x2048 1 := andi main_v14 main_v16
  fn_part1 (F := F) main_arg1 main_arg3 main_arg4 main_v12 main_v17
-- ==== Kernel.lean ====
abbrev S8192x2048 : Shape := ⟨2, ![8192, 2048]⟩
abbrev S1x2048 : Shape := ⟨2, ![1, 2048]⟩
abbrev S7 : Shape := ⟨1, ![7]⟩
abbrev S8192x4 : Shape := ⟨2, ![8192, 4]⟩
abbrev S8192 : Shape := ⟨1, ![8192]⟩
abbrev S8192x1 : Shape := ⟨2, ![8192, 1]⟩
abbrev S8192x128 : Shape := ⟨2, ![8192, 128]⟩
abbrev S_ : Shape := ⟨0, ![]⟩
abbrev S4x8192 : Shape := ⟨2, ![4, 8192]⟩
abbrev S1x8192 : Shape := ⟨2, ![1, 8192]⟩
abbrev S6x3x8192 : Shape := ⟨3, ![6, 3, 8192]⟩
abbrev S8192x256 : Shape := ⟨2, ![8192, 256]⟩
abbrev S8x256 : Shape := ⟨2, ![8, 256]⟩
abbrev S64x128 : Shape := ⟨2, ![64, 128]⟩
abbrev S1x128 : Shape := ⟨2, ![1, 128]⟩
abbrev S4x128 : Shape := ⟨2, ![4, 128]⟩
abbrev S256 : Shape := ⟨1, ![256]⟩
abbrev S1x256 : Shape := ⟨2, ![1, 256]⟩
abbrev S1x1x256 : Shape := ⟨3, ![1, 1, 256]⟩
abbrev S1 : Shape := ⟨1, ![1]⟩
abbrev S1x1x1 : Shape := ⟨3, ![1, 1, 1]⟩
abbrev S256x256 : Shape := ⟨2, ![256, 256]⟩
abbrev S64x256 : Shape := ⟨2, ![64, 256]⟩
abbrev S32x128 : Shape := ⟨2, ![32, 128]⟩
abbrev S64x1 : Shape := ⟨2, ![64, 1]⟩
abbrev S8x128 : Shape := ⟨2, ![8, 128]⟩
abbrev S256x128 : Shape := ⟨2, ![256, 128]⟩
abbrev S96x128 : Shape := ⟨2, ![96, 128]⟩
abbrev S24x1 : Shape := ⟨2, ![24, 1]⟩
abbrev S1x1 : Shape := ⟨2, ![1, 1]⟩
abbrev S512x128 : Shape := ⟨2, ![512, 128]⟩
abbrev S96x512 : Shape := ⟨2, ![96, 512]⟩
abbrev S24x512 : Shape := ⟨2, ![24, 512]⟩
abbrev S4x512 : Shape := ⟨2, ![4, 512]⟩
abbrev S1x512 : Shape := ⟨2, ![1, 512]⟩
abbrev S3x512 : Shape := ⟨2, ![3, 512]⟩
abbrev S1x3x512 : Shape := ⟨3, ![1, 3, 512]⟩

abbrev nBuf : Space → Nat
  | .hbm => 19
  | .vmem => 17
  | .smem => 2
  | _ => 0

abbrev bufTy : (tb : Table) → Fin (tcTables nBuf tb) → BufTy
  | .hbm, ⟨0, _⟩ => ⟨S8192x2048, .i8⟩
  | .hbm, ⟨1, _⟩ => ⟨S1x2048, .f32⟩
  | .hbm, ⟨2, _⟩ => ⟨S7, .i32⟩
  | .hbm, ⟨3, _⟩ => ⟨S8192x4, .bf16⟩
  | .hbm, ⟨4, _⟩ => ⟨S8192, .bf16⟩
  | .hbm, ⟨5, _⟩ => ⟨S8192x2048, .fp8e4m3⟩
  | .hbm, ⟨6, _⟩ => ⟨S8192, .f32⟩
  | .hbm, ⟨7, _⟩ => ⟨S8192x1, .f32⟩
  | .hbm, ⟨8, _⟩ => ⟨S8192x128, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S4x8192, .bf16⟩
  | .hbm, ⟨14, _⟩ => ⟨S1x8192, .bf16⟩
  | .hbm, ⟨15, _⟩ => ⟨S8192x2048, .fp8e4m3⟩
  | .hbm, ⟨16, _⟩ => ⟨S1x2048, .f32⟩
  | .hbm, ⟨17, _⟩ => ⟨S6x3x8192, .f32⟩
  | .hbm, ⟨18, _⟩ => ⟨S6x3x8192, .bf16⟩
  | .local _ .vmem, ⟨0, _⟩ => ⟨S8192x256, .fp8e4m3⟩
  | .local _ .vmem, ⟨1, _⟩ => ⟨S8192x256, .fp8e4m3⟩
  | .local _ .vmem, ⟨2, _⟩ => ⟨S1x2048, .f32⟩
  | .local _ .vmem, ⟨3, _⟩ => ⟨S4x8192, .bf16⟩
  | .local _ .vmem, ⟨4, _⟩ => ⟨S8192x1, .f32⟩
  | .local _ .vmem, ⟨5, _⟩ => ⟨S1x8192, .bf16⟩
  | .local _ .vmem, ⟨6, _⟩ => ⟨S8192x256, .fp8e4m3⟩
  | .local _ .vmem, ⟨7, _⟩ => ⟨S8192x256, .fp8e4m3⟩
  | .local _ .vmem, ⟨8, _⟩ => ⟨S1x2048, .f32⟩
  | .local _ .vmem, ⟨9, _⟩ => ⟨S6x3x8192, .f32⟩
  | .local _ .vmem, ⟨10, _⟩ => ⟨S6x3x8192, .bf16⟩
  | .local _ .vmem, ⟨11, _⟩ => ⟨S8192x256, .f32⟩
  | .local _ .vmem, ⟨12, _⟩ => ⟨S8192x256, .bf16⟩
  | .local _ .vmem, ⟨13, _⟩ => ⟨S8192x128, .bf16⟩
  | .local _ .vmem, ⟨14, _⟩ => ⟨S8192x128, .f32⟩
  | .local _ .vmem, ⟨15, _⟩ => ⟨S8x256, .f32⟩
  | .local _ .vmem, ⟨16, _⟩ => ⟨S8x256, .f32⟩
  | .local _ .smem, ⟨0, _⟩ => ⟨S7, .i32⟩
  | .local _ .smem, ⟨1, _⟩ => ⟨S1x2048, .f32⟩
  | _, _ => ⟨S8192x2048, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v9_3 : Ref sig .tc := ⟨.hbm, 18, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg7_1 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem9_0 : DmaSem sig := 11
abbrev cc0_sem10_0 : DmaSem sig := 12

abbrev nD : Nat := 1
abbrev τ : Topo := Topo.v7x

variable {F : FTy → Type} [BitOps F]

abbrev grid0 : Pipeline.Grid := ⟨1, ![9], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_122 : BitVec 32 := 0#32
  let c64_i32_123 : BitVec 32 := 64#32
  let v306 : BitVec 32 := Scalar.addi c0_i32_122 c64_i32_123
  let c1_i32_124 : BitVec 32 := 1#32
  ⟨c0_i32_122, v306, c1_i32_124⟩
def k0_mult1 (k0_t1 : Fin k0_t1_loop.trips) : BitVec 32 :=
  let c0_i32_122 : BitVec 32 := 0#32
  let c1_i32_124 : BitVec 32 := 1#32
  let arg18 : BitVec 32 := Scf.iv c0_i32_122 c1_i32_124 k0_t1
  let c128_i32_126 : BitVec 32 := 128#32
  let v307 : BitVec 32 := Scalar.muli arg18 c128_i32_126
  v307
def k0_off1 (k0_t1 : Fin k0_t1_loop.trips) : Fin 2 → Nat :=
  let c0_127 : Index := 0#32
  let c0_i32_122 : BitVec 32 := 0#32
  let c1_i32_124 : BitVec 32 := 1#32
  let arg18 : BitVec 32 := Scf.iv c0_i32_122 c1_i32_124 k0_t1
  let c128_i32_126 : BitVec 32 := 128#32
  let v307 : BitVec 32 := Scalar.muli arg18 c128_i32_126
  let v308 : BitVec 32 := v307
  let v309 : Index := Scalar.indexCast v308
  ![0, v309.toNat]
def k0_mult2 (k0_t1 : Fin k0_t1_loop.trips) : BitVec 32 :=
  let c0_i32_122 : BitVec 32 := 0#32
  let c1_i32_124 : BitVec 32 := 1#32
  let arg18 : BitVec 32 := Scf.iv c0_i32_122 c1_i32_124 k0_t1
  let c128_i32_130 : BitVec 32 := 128#32
  let v316 : BitVec 32 := Scalar.muli arg18 c128_i32_130
  v316
def k0_off2 (k0_t1 : Fin k0_t1_loop.trips) (c0_i32_131 : BitVec 32) : Fin 2 → Nat :=
  let c0_i32_122 : BitVec 32 := 0#32
  let c1_i32_124 : BitVec 32 := 1#32
  let arg18 : BitVec 32 := Scf.iv c0_i32_122 c1_i32_124 k0_t1
  let c128_i32_130 : BitVec 32 := 128#32
  let v316 : BitVec 32 := Scalar.muli arg18 c128_i32_130
  let v317 : BitVec 32 := v316
  let v318 : BitVec 32 := Scalar.addi v317 c0_i32_131
  let v327 : Index := Scalar.indexCast v318
  let c0_133 : Index := 0#32
  ![v327.toNat, 0]
def k0_off3 (k0_t1 : Fin k0_t1_loop.trips) (c0_i32_131 : BitVec 32) : Fin 2 → Nat :=
  let c0_i32_122 : BitVec 32 := 0#32
  let c1_i32_124 : BitVec 32 := 1#32
  let arg18 : BitVec 32 := Scf.iv c0_i32_122 c1_i32_124 k0_t1
  let c128_i32_130 : BitVec 32 := 128#32
  let v316 : BitVec 32 := Scalar.muli arg18 c128_i32_130
  let v317 : BitVec 32 := v316
  let v318 : BitVec 32 := Scalar.addi v317 c0_i32_131
  let v339 : Index := Scalar.indexCast v318
  let c128 : Index := 128#32
  ![v339.toNat, 128]
def k0_mult3 (k0_t1 : Fin k0_t1_loop.trips) : BitVec 32 :=
  let c0_i32_122 : BitVec 32 := 0#32
  let c1_i32_124 : BitVec 32 := 1#32
  let arg18 : BitVec 32 := Scf.iv c0_i32_122 c1_i32_124 k0_t1
  let c128_i32_135 : BitVec 32 := 128#32
  let v343 : BitVec 32 := Scalar.muli arg18 c128_i32_135
  v343
def k0_mult4 (i : grid0.Coords) : BitVec 32 :=
  let arg0 : BitVec 32 := BitVec.ofNat 32 (i 0).val
  let c1_i32 : BitVec 32 := 1#32
  let v26 : BitVec 32 := Scalar.subi arg0 c1_i32
  let c0_i32_11 : BitVec 32 := 0#32
  let v27 : BitVec 32 := Scalar.maxsi v26 c0_i32_11
  let c256_i32 : BitVec 32 := 256#32
  let v28 : BitVec 32 := Scalar.muli v27 c256_i32
  v28
def k0_off4 (i : grid0.Coords) : Fin 2 → Nat :=
  let c0_127 : Index := 0#32
  let arg0 : BitVec 32 := BitVec.ofNat 32 (i 0).val
  let c1_i32 : BitVec 32 := 1#32
  let v26 : BitVec 32 := Scalar.subi arg0 c1_i32
  let c0_i32_11 : BitVec 32 := 0#32
  let v27 : BitVec 32 := Scalar.maxsi v26 c0_i32_11
  let c256_i32 : BitVec 32 := 256#32
  let v28 : BitVec 32 := Scalar.muli v27 c256_i32
  let v29 : BitVec 32 := v28
  let v330 : Index := Scalar.indexCast v29
  ![0, v330.toNat]
def k0_mult5 (i : grid0.Coords) : BitVec 32 :=
  let arg0 : BitVec 32 := BitVec.ofNat 32 (i 0).val
  let c7_i32 : BitVec 32 := 7#32
  let v35 : BitVec 32 := Scalar.minsi arg0 c7_i32
  let c256_i32_14 : BitVec 32 := 256#32
  let v36 : BitVec 32 := Scalar.muli v35 c256_i32_14
  v36
def k0_off5 (i : grid0.Coords) : Fin 2 → Nat :=
  let c0_21 : Index := 0#32
  let arg0 : BitVec 32 := BitVec.ofNat 32 (i 0).val
  let c7_i32 : BitVec 32 := 7#32
  let v35 : BitVec 32 := Scalar.minsi arg0 c7_i32
  let c256_i32_14 : BitVec 32 := 256#32
  let v36 : BitVec 32 := Scalar.muli v35 c256_i32_14
  let v77 : BitVec 32 := v36
  let v78 : Index := Scalar.indexCast v77
  ![0, v78.toNat]
@[reducible] def k0_t2_loop : Scf.Loop 32 :=
  let c0_i32_116 : BitVec 32 := 0#32
  let c128_i32_117 : BitVec 32 := 128#32
  let v290 : BitVec 32 := Scalar.addi c0_i32_116 c128_i32_117
  let c1_i32_118 : BitVec 32 := 1#32
  ⟨c0_i32_116, v290, c1_i32_118⟩
def k0_mult6 (k0_t2 : Fin k0_t2_loop.trips) : BitVec 32 :=
  let c0_i32_116 : BitVec 32 := 0#32
  let c1_i32_118 : BitVec 32 := 1#32
  let arg18 : BitVec 32 := Scf.iv c0_i32_116 c1_i32_118 k0_t2
  let c64_i32 : BitVec 32 := 64#32
  let v295 : BitVec 32 := Scalar.muli arg18 c64_i32
  v295
def k0_off6 (k0_t2 : Fin k0_t2_loop.trips) : Fin 2 → Nat :=
  let c0_i32_116 : BitVec 32 := 0#32
  let c1_i32_118 : BitVec 32 := 1#32
  let arg18 : BitVec 32 := Scf.iv c0_i32_116 c1_i32_118 k0_t2
  let c64_i32 : BitVec 32 := 64#32
  let v295 : BitVec 32 := Scalar.muli arg18 c64_i32
  let v296 : BitVec 32 := v295
  let v297 : Index := Scalar.indexCast v296
  let c0_122 : Index := 0#32
  ![v297.toNat, 0]
def k0_mult7 (k0_t2 : Fin k0_t2_loop.trips) : BitVec 32 :=
  let c0_i32_116 : BitVec 32 := 0#32
  let c1_i32_118 : BitVec 32 := 1#32
  let arg18 : BitVec 32 := Scf.iv c0_i32_116 c1_i32_118 k0_t2
  let c64_i32_128 : BitVec 32 := 64#32
  let v313 : BitVec 32 := Scalar.muli arg18 c64_i32_128
  v313
def k0_off7 (k0_t2 : Fin k0_t2_loop.trips) : Fin 2 → Nat :=
  let c0_i32_116 : BitVec 32 := 0#32
  let c1_i32_118 : BitVec 32 := 1#32
  let arg18 : BitVec 32 := Scf.iv c0_i32_116 c1_i32_118 k0_t2
  let c64_i32_128 : BitVec 32 := 64#32
  let v313 : BitVec 32 := Scalar.muli arg18 c64_i32_128
  let v314 : BitVec 32 := v313
  let v320 : Index := Scalar.indexCast v314
  let c0_130 : Index := 0#32
  ![v320.toNat, 0]
def k0_off8 (k0_t2 : Fin k0_t2_loop.trips) : Fin 2 → Nat :=
  let c0_i32_116 : BitVec 32 := 0#32
  let c1_i32_118 : BitVec 32 := 1#32
  let arg18 : BitVec 32 := Scf.iv c0_i32_116 c1_i32_118 k0_t2
  let c64_i32_128 : BitVec 32 := 64#32
  let v313 : BitVec 32 := Scalar.muli arg18 c64_i32_128
  let v314 : BitVec 32 := v313
  let v393 : Index := Scalar.indexCast v314
  let c0_155 : Index := 0#32
  ![v393.toNat, 0]
def k0_mult8 (k0_t2 : Fin k0_t2_loop.trips) : BitVec 32 :=
  let c0_i32_116 : BitVec 32 := 0#32
  let c1_i32_118 : BitVec 32 := 1#32
  let arg18 : BitVec 32 := Scf.iv c0_i32_116 c1_i32_118 k0_t2
  let c64_i32_156 : BitVec 32 := 64#32
  let v398 : BitVec 32 := Scalar.muli arg18 c64_i32_156
  v398
@[reducible] def k0_t3_loop : Scf.Loop 32 :=
  let c0_i32_120 : BitVec 32 := 0#32
  let c128_i32_121 : BitVec 32 := 128#32
  let v296 : BitVec 32 := Scalar.addi c0_i32_120 c128_i32_121
  let c1_i32_122 : BitVec 32 := 1#32
  ⟨c0_i32_120, v296, c1_i32_122⟩
def k0_mult9 (k0_t3 : Fin k0_t3_loop.trips) : BitVec 32 :=
  let c0_i32_120 : BitVec 32 := 0#32
  let c1_i32_122 : BitVec 32 := 1#32
  let arg18 : BitVec 32 := Scf.iv c0_i32_120 c1_i32_122 k0_t3
  let c64_i32 : BitVec 32 := 64#32
  let v343 : BitVec 32 := Scalar.muli arg18 c64_i32
  v343
def k0_off9 (k0_t3 : Fin k0_t3_loop.trips) : Fin 2 → Nat :=
  let c0_i32_120 : BitVec 32 := 0#32
  let c1_i32_122 : BitVec 32 := 1#32
  let arg18 : BitVec 32 := Scf.iv c0_i32_120 c1_i32_122 k0_t3
  let c64_i32 : BitVec 32 := 64#32
  let v343 : BitVec 32 := Scalar.muli arg18 c64_i32
  let v344 : BitVec 32 := v343
  let v345 : Index := Scalar.indexCast v344
  let c0_141 : Index := 0#32
  ![v345.toNat, 0]
def k0_off10 (i : grid0.Coords) : Fin 2 → Nat :=
  let c0_136 : Index := 0#32
  let arg0 : BitVec 32 := BitVec.ofNat 32 (i 0).val
  let c1_i32 : BitVec 32 := 1#32
  let v26 : BitVec 32 := Scalar.subi arg0 c1_i32
  let c0_i32_11 : BitVec 32 := 0#32
  let v27 : BitVec 32 := Scalar.maxsi v26 c0_i32_11
  let c256_i32 : BitVec 32 := 256#32
  let v28 : BitVec 32 := Scalar.muli v27 c256_i32
  let v29 : BitVec 32 := v28
  let v340 : Index := Scalar.indexCast v29
  ![0, v340.toNat]
@[reducible] def k0_t4_loop : Scf.Loop 32 :=
  let c0_i32_137 : BitVec 32 := 0#32
  let c128_i32_138 : BitVec 32 := 128#32
  let v342 : BitVec 32 := Scalar.addi c0_i32_137 c128_i32_138
  let c1_i32_139 : BitVec 32 := 1#32
  ⟨c0_i32_137, v342, c1_i32_139⟩
def k0_mult10 (k0_t4 : Fin k0_t4_loop.trips) : BitVec 32 :=
  let c0_i32_137 : BitVec 32 := 0#32
  let c1_i32_139 : BitVec 32 := 1#32
  let arg18 : BitVec 32 := Scf.iv c0_i32_137 c1_i32_139 k0_t4
  let c64_i32 : BitVec 32 := 64#32
  let v343 : BitVec 32 := Scalar.muli arg18 c64_i32
  v343
def k0_off11 (k0_t4 : Fin k0_t4_loop.trips) : Fin 2 → Nat :=
  let c0_i32_137 : BitVec 32 := 0#32
  let c1_i32_139 : BitVec 32 := 1#32
  let arg18 : BitVec 32 := Scf.iv c0_i32_137 c1_i32_139 k0_t4
  let c64_i32 : BitVec 32 := 64#32
  let v343 : BitVec 32 := Scalar.muli arg18 c64_i32
  let v344 : BitVec 32 := v343
  let v345 : Index := Scalar.indexCast v344
  let c0_141 : Index := 0#32
  ![v345.toNat, 0]
@[reducible] def k0_t5_loop : Scf.Loop 32 :=
  let c0_i32_119 : BitVec 32 := 0#32
  let c128_i32_120 : BitVec 32 := 128#32
  let v295 : BitVec 32 := Scalar.addi c0_i32_119 c128_i32_120
  let c1_i32_121 : BitVec 32 := 1#32
  ⟨c0_i32_119, v295, c1_i32_121⟩
def k0_mult11 (k0_t5 : Fin k0_t5_loop.trips) : BitVec 32 :=
  let c0_i32_119 : BitVec 32 := 0#32
  let c1_i32_121 : BitVec 32 := 1#32
  let arg18 : BitVec 32 := Scf.iv c0_i32_119 c1_i32_121 k0_t5
  let c64_i32 : BitVec 32 := 64#32
  let v296 : BitVec 32 := Scalar.muli arg18 c64_i32
  v296
def k0_off12 (k0_t5 : Fin k0_t5_loop.trips) : Fin 2 → Nat :=
  let c0_i32_119 : BitVec 32 := 0#32
  let c1_i32_121 : BitVec 32 := 1#32
  let arg18 : BitVec 32 := Scf.iv c0_i32_119 c1_i32_121 k0_t5
  let c64_i32 : BitVec 32 := 64#32
  let v296 : BitVec 32 := Scalar.muli arg18 c64_i32
  let v297 : BitVec 32 := v296
  let v298 : Index := Scalar.indexCast v297
  let c0_123 : Index := 0#32
  ![v298.toNat, 0]
@[reducible] def k0_t6_loop : Scf.Loop 32 :=
  let c0_i32_116 : BitVec 32 := 0#32
  let c128_i32_117 : BitVec 32 := 128#32
  let v290 : BitVec 32 := Scalar.addi c0_i32_116 c128_i32_117
  let c1_i32_118 : BitVec 32 := 1#32
  ⟨c0_i32_116, v290, c1_i32_118⟩
def k0_mult12 (k0_t6 : Fin k0_t6_loop.trips) : BitVec 32 :=
  let c0_i32_116 : BitVec 32 := 0#32
  let c1_i32_118 : BitVec 32 := 1#32
  let arg18 : BitVec 32 := Scf.iv c0_i32_116 c1_i32_118 k0_t6
  let c64_i32 : BitVec 32 := 64#32
  let v295 : BitVec 32 := Scalar.muli arg18 c64_i32
  v295
def k0_off13 (k0_t6 : Fin k0_t6_loop.trips) : Fin 2 → Nat :=
  let c0_i32_116 : BitVec 32 := 0#32
  let c1_i32_118 : BitVec 32 := 1#32
  let arg18 : BitVec 32 := Scf.iv c0_i32_116 c1_i32_118 k0_t6
  let c64_i32 : BitVec 32 := 64#32
  let v295 : BitVec 32 := Scalar.muli arg18 c64_i32
  let v296 : BitVec 32 := v295
  let v297 : Index := Scalar.indexCast v296
  let c0_122 : Index := 0#32
  ![v297.toNat, 0]
def k0_off14 (k0_t6 : Fin k0_t6_loop.trips) : Fin 2 → Nat :=
  let c0_i32_116 : BitVec 32 := 0#32
  let c1_i32_118 : BitVec 32 := 1#32
  let arg18 : BitVec 32 := Scf.iv c0_i32_116 c1_i32_118 k0_t6
  let c64_i32 : BitVec 32 := 64#32
  let v295 : BitVec 32 := Scalar.muli arg18 c64_i32
  let v296 : BitVec 32 := v295
  let v302 : Index := Scalar.indexCast v296
  let c0_123 : Index := 0#32
  ![v302.toNat, 0]
def k0_off15 (k0_t6 : Fin k0_t6_loop.trips) : Fin 2 → Nat :=
  let c0_i32_116 : BitVec 32 := 0#32
  let c1_i32_118 : BitVec 32 := 1#32
  let arg18 : BitVec 32 := Scf.iv c0_i32_116 c1_i32_118 k0_t6
  let c64_i32 : BitVec 32 := 64#32
  let v295 : BitVec 32 := Scalar.muli arg18 c64_i32
  let v296 : BitVec 32 := v295
  let v375 : Index := Scalar.indexCast v296
  let c0_148 : Index := 0#32
  ![v375.toNat, 0]
def k0_mult13 (k0_t6 : Fin k0_t6_loop.trips) : BitVec 32 :=
  let c0_i32_116 : BitVec 32 := 0#32
  let c1_i32_118 : BitVec 32 := 1#32
  let arg18 : BitVec 32 := Scf.iv c0_i32_116 c1_i32_118 k0_t6
  let c64_i32_149 : BitVec 32 := 64#32
  let v380 : BitVec 32 := Scalar.muli arg18 c64_i32_149
  v380
@[reducible] def k0_t7_loop : Scf.Loop 32 :=
  let c0_i32_122 : BitVec 32 := 0#32
  let c32_i32 : BitVec 32 := 32#32
  let v313 : BitVec 32 := Scalar.addi c0_i32_122 c32_i32
  let c1_i32_123 : BitVec 32 := 1#32
  ⟨c0_i32_122, v313, c1_i32_123⟩
def k0_mult14 (k0_t7 : Fin k0_t7_loop.trips) : BitVec 32 :=
  let c0_i32_122 : BitVec 32 := 0#32
  let c1_i32_123 : BitVec 32 := 1#32
  let arg18 : BitVec 32 := Scf.iv c0_i32_122 c1_i32_123 k0_t7
  let c64_i32 : BitVec 32 := 64#32
  let v314 : BitVec 32 := Scalar.muli arg18 c64_i32
  let c4_i32 : BitVec 32 := 4#32
  let v315 : BitVec 32 := Scalar.muli v314 c4_i32
  v315
def k0_off16 (k0_t7 : Fin k0_t7_loop.trips) : Fin 2 → Nat :=
  let c0_i32_122 : BitVec 32 := 0#32
  let c1_i32_123 : BitVec 32 := 1#32
  let arg18 : BitVec 32 := Scf.iv c0_i32_122 c1_i32_123 k0_t7
  let c64_i32 : BitVec 32 := 64#32
  let v314 : BitVec 32 := Scalar.muli arg18 c64_i32
  let c4_i32 : BitVec 32 := 4#32
  let v315 : BitVec 32 := Scalar.muli v314 c4_i32
  let v316 : BitVec 32 := v315
  let v317 : Index := Scalar.indexCast v316
  let c0_125 : Index := 0#32
  ![v317.toNat, 0]
def k0_off17 (k0_t7 : Fin k0_t7_loop.trips) : Fin 2 → Nat :=
  let c0_i32_122 : BitVec 32 := 0#32
  let c1_i32_123 : BitVec 32 := 1#32
  let arg18 : BitVec 32 := Scf.iv c0_i32_122 c1_i32_123 k0_t7
  let c64_i32 : BitVec 32 := 64#32
  let v314 : BitVec 32 := Scalar.muli arg18 c64_i32
  let c4_i32 : BitVec 32 := 4#32
  let v315 : BitVec 32 := Scalar.muli v314 c4_i32
  let v316 : BitVec 32 := v315
  let v322 : Index := Scalar.indexCast v316
  let c0_126 : Index := 0#32
  ![v322.toNat, 0]
@[reducible] def k0_t8_loop : Scf.Loop 32 :=
  let c0_i32_122 : BitVec 32 := 0#32
  let c32_i32 : BitVec 32 := 32#32
  let v313 : BitVec 32 := Scalar.addi c0_i32_122 c32_i32
  let c1_i32_123 : BitVec 32 := 1#32
  ⟨c0_i32_122, v313, c1_i32_123⟩
def k0_mult15 (k0_t8 : Fin k0_t8_loop.trips) : BitVec 32 :=
  let c0_i32_122 : BitVec 32 := 0#32
  let c1_i32_123 : BitVec 32 := 1#32
  let arg18 : BitVec 32 := Scf.iv c0_i32_122 c1_i32_123 k0_t8
  let c64_i32 : BitVec 32 := 64#32
  let v314 : BitVec 32 := Scalar.muli arg18 c64_i32
  let c4_i32 : BitVec 32 := 4#32
  let v315 : BitVec 32 := Scalar.muli v314 c4_i32
  v315
def k0_off18 (k0_t8 : Fin k0_t8_loop.trips) : Fin 2 → Nat :=
  let c0_i32_122 : BitVec 32 := 0#32
  let c1_i32_123 : BitVec 32 := 1#32
  let arg18 : BitVec 32 := Scf.iv c0_i32_122 c1_i32_123 k0_t8
  let c64_i32 : BitVec 32 := 64#32
  let v314 : BitVec 32 := Scalar.muli arg18 c64_i32
  let c4_i32 : BitVec 32 := 4#32
  let v315 : BitVec 32 := Scalar.muli v314 c4_i32
  let v316 : BitVec 32 := v315
  let v317 : Index := Scalar.indexCast v316
  let c128 : Index := 128#32
  ![v317.toNat, 128]
def k0_off19 (k0_t8 : Fin k0_t8_loop.trips) : Fin 2 → Nat :=
  let c0_i32_122 : BitVec 32 := 0#32
  let c1_i32_123 : BitVec 32 := 1#32
  let arg18 : BitVec 32 := Scf.iv c0_i32_122 c1_i32_123 k0_t8
  let c64_i32 : BitVec 32 := 64#32
  let v314 : BitVec 32 := Scalar.muli arg18 c64_i32
  let c4_i32 : BitVec 32 := 4#32
  let v315 : BitVec 32 := Scalar.muli v314 c4_i32
  let v316 : BitVec 32 := v315
  let v322 : Index := Scalar.indexCast v316
  let c0_125 : Index := 0#32
  ![v322.toNat, 0]
@[reducible] def k0_t9_loop : Scf.Loop 32 :=
  let c0_i32_122 : BitVec 32 := 0#32
  let c32_i32 : BitVec 32 := 32#32
  let v313 : BitVec 32 := Scalar.addi c0_i32_122 c32_i32
  let c1_i32_123 : BitVec 32 := 1#32
  ⟨c0_i32_122, v313, c1_i32_123⟩
def k0_mult16 (k0_t9 : Fin k0_t9_loop.trips) : BitVec 32 :=
  let c0_i32_122 : BitVec 32 := 0#32
  let c1_i32_123 : BitVec 32 := 1#32
  let arg18 : BitVec 32 := Scf.iv c0_i32_122 c1_i32_123 k0_t9
  let c64_i32 : BitVec 32 := 64#32
  let v314 : BitVec 32 := Scalar.muli arg18 c64_i32
  let c4_i32 : BitVec 32 := 4#32
  let v315 : BitVec 32 := Scalar.muli v314 c4_i32
  v315
def k0_off20 (k0_t9 : Fin k0_t9_loop.trips) : Fin 2 → Nat :=
  let c0_i32_122 : BitVec 32 := 0#32
  let c1_i32_123 : BitVec 32 := 1#32
  let arg18 : BitVec 32 := Scf.iv c0_i32_122 c1_i32_123 k0_t9
  let c64_i32 : BitVec 32 := 64#32
  let v314 : BitVec 32 := Scalar.muli arg18 c64_i32
  let c4_i32 : BitVec 32 := 4#32
  let v315 : BitVec 32 := Scalar.muli v314 c4_i32
  let v316 : BitVec 32 := v315
  let v317 : Index := Scalar.indexCast v316
  let c0_125 : Index := 0#32
  ![v317.toNat, 0]
def k0_off21 (k0_t9 : Fin k0_t9_loop.trips) : Fin 2 → Nat :=
  let c0_i32_122 : BitVec 32 := 0#32
  let c1_i32_123 : BitVec 32 := 1#32
  let arg18 : BitVec 32 := Scf.iv c0_i32_122 c1_i32_123 k0_t9
  let c64_i32 : BitVec 32 := 64#32
  let v314 : BitVec 32 := Scalar.muli arg18 c64_i32
  let c4_i32 : BitVec 32 := 4#32
  let v315 : BitVec 32 := Scalar.muli v314 c4_i32
  let v316 : BitVec 32 := v315
  let v322 : Index := Scalar.indexCast v316
  let c0_126 : Index := 0#32
  ![v322.toNat, 0]
@[reducible] def k0_t10_loop : Scf.Loop 32 :=
  let c0_i32_122 : BitVec 32 := 0#32
  let c32_i32 : BitVec 32 := 32#32
  let v313 : BitVec 32 := Scalar.addi c0_i32_122 c32_i32
  let c1_i32_123 : BitVec 32 := 1#32
  ⟨c0_i32_122, v313, c1_i32_123⟩
def k0_mult17 (k0_t10 : Fin k0_t10_loop.trips) : BitVec 32 :=
  let c0_i32_122 : BitVec 32 := 0#32
  let c1_i32_123 : BitVec 32 := 1#32
  let arg18 : BitVec 32 := Scf.iv c0_i32_122 c1_i32_123 k0_t10
  let c64_i32 : BitVec 32 := 64#32
  let v314 : BitVec 32 := Scalar.muli arg18 c64_i32
  let c4_i32 : BitVec 32 := 4#32
  let v315 : BitVec 32 := Scalar.muli v314 c4_i32
  v315
def k0_off22 (k0_t10 : Fin k0_t10_loop.trips) : Fin 2 → Nat :=
  let c0_i32_122 : BitVec 32 := 0#32
  let c1_i32_123 : BitVec 32 := 1#32
  let arg18 : BitVec 32 := Scf.iv c0_i32_122 c1_i32_123 k0_t10
  let c64_i32 : BitVec 32 := 64#32
  let v314 : BitVec 32 := Scalar.muli arg18 c64_i32
  let c4_i32 : BitVec 32 := 4#32
  let v315 : BitVec 32 := Scalar.muli v314 c4_i32
  let v316 : BitVec 32 := v315
  let v317 : Index := Scalar.indexCast v316
  let c128 : Index := 128#32
  ![v317.toNat, 128]
def k0_off23 (k0_t10 : Fin k0_t10_loop.trips) : Fin 2 → Nat :=
  let c0_i32_122 : BitVec 32 := 0#32
  let c1_i32_123 : BitVec 32 := 1#32
  let arg18 : BitVec 32 := Scf.iv c0_i32_122 c1_i32_123 k0_t10
  let c64_i32 : BitVec 32 := 64#32
  let v314 : BitVec 32 := Scalar.muli arg18 c64_i32
  let c4_i32 : BitVec 32 := 4#32
  let v315 : BitVec 32 := Scalar.muli v314 c4_i32
  let v316 : BitVec 32 := v315
  let v322 : Index := Scalar.indexCast v316
  let c0_125 : Index := 0#32
  ![v322.toNat, 0]
@[reducible] def k0_t11_loop : Scf.Loop 32 :=
  let c0_i32_121 : BitVec 32 := 0#32
  let c32_i32 : BitVec 32 := 32#32
  let v313 : BitVec 32 := Scalar.addi c0_i32_121 c32_i32
  let c1_i32_122 : BitVec 32 := 1#32
  ⟨c0_i32_121, v313, c1_i32_122⟩
def k0_mult18 (k0_t11 : Fin k0_t11_loop.trips) : BitVec 32 :=
  let c0_i32_121 : BitVec 32 := 0#32
  let c1_i32_122 : BitVec 32 := 1#32
  let arg18 : BitVec 32 := Scf.iv c0_i32_121 c1_i32_122 k0_t11
  let c64_i32 : BitVec 32 := 64#32
  let v314 : BitVec 32 := Scalar.muli arg18 c64_i32
  let c4_i32 : BitVec 32 := 4#32
  let v315 : BitVec 32 := Scalar.muli v314 c4_i32
  v315
def k0_off24 (k0_t11 : Fin k0_t11_loop.trips) : Fin 2 → Nat :=
  let c0_i32_121 : BitVec 32 := 0#32
  let c1_i32_122 : BitVec 32 := 1#32
  let arg18 : BitVec 32 := Scf.iv c0_i32_121 c1_i32_122 k0_t11
  let c64_i32 : BitVec 32 := 64#32
  let v314 : BitVec 32 := Scalar.muli arg18 c64_i32
  let c4_i32 : BitVec 32 := 4#32
  let v315 : BitVec 32 := Scalar.muli v314 c4_i32
  let v316 : BitVec 32 := v315
  let v317 : Index := Scalar.indexCast v316
  let c0_124 : Index := 0#32
  ![v317.toNat, 0]
def k0_off25 (k0_t11 : Fin k0_t11_loop.trips) : Fin 2 → Nat :=
  let c0_i32_121 : BitVec 32 := 0#32
  let c1_i32_122 : BitVec 32 := 1#32
  let arg18 : BitVec 32 := Scf.iv c0_i32_121 c1_i32_122 k0_t11
  let c64_i32 : BitVec 32 := 64#32
  let v314 : BitVec 32 := Scalar.muli arg18 c64_i32
  let c4_i32 : BitVec 32 := 4#32
  let v315 : BitVec 32 := Scalar.muli v314 c4_i32
  let v316 : BitVec 32 := v315
  let v322 : Index := Scalar.indexCast v316
  let c0_125 : Index := 0#32
  ![v322.toNat, 0]
@[reducible] def k0_t12_loop : Scf.Loop 32 :=
  let c0_i32_121 : BitVec 32 := 0#32
  let c32_i32 : BitVec 32 := 32#32
  let v313 : BitVec 32 := Scalar.addi c0_i32_121 c32_i32
  let c1_i32_122 : BitVec 32 := 1#32
  ⟨c0_i32_121, v313, c1_i32_122⟩
def k0_mult19 (k0_t12 : Fin k0_t12_loop.trips) : BitVec 32 :=
  let c0_i32_121 : BitVec 32 := 0#32
  let c1_i32_122 : BitVec 32 := 1#32
  let arg18 : BitVec 32 := Scf.iv c0_i32_121 c1_i32_122 k0_t12
  let c64_i32 : BitVec 32 := 64#32
  let v314 : BitVec 32 := Scalar.muli arg18 c64_i32
  let c4_i32 : BitVec 32 := 4#32
  let v315 : BitVec 32 := Scalar.muli v314 c4_i32
  v315
def k0_off26 (k0_t12 : Fin k0_t12_loop.trips) : Fin 2 → Nat :=
  let c0_i32_121 : BitVec 32 := 0#32
  let c1_i32_122 : BitVec 32 := 1#32
  let arg18 : BitVec 32 := Scf.iv c0_i32_121 c1_i32_122 k0_t12
  let c64_i32 : BitVec 32 := 64#32
  let v314 : BitVec 32 := Scalar.muli arg18 c64_i32
  let c4_i32 : BitVec 32 := 4#32
  let v315 : BitVec 32 := Scalar.muli v314 c4_i32
  let v316 : BitVec 32 := v315
  let v317 : Index := Scalar.indexCast v316
  let c128 : Index := 128#32
  ![v317.toNat, 128]
def k0_off27 (k0_t12 : Fin k0_t12_loop.trips) : Fin 2 → Nat :=
  let c0_i32_121 : BitVec 32 := 0#32
  let c1_i32_122 : BitVec 32 := 1#32
  let arg18 : BitVec 32 := Scf.iv c0_i32_121 c1_i32_122 k0_t12
  let c64_i32 : BitVec 32 := 64#32
  let v314 : BitVec 32 := Scalar.muli arg18 c64_i32
  let c4_i32 : BitVec 32 := 4#32
  let v315 : BitVec 32 := Scalar.muli v314 c4_i32
  let v316 : BitVec 32 := v315
  let v322 : Index := Scalar.indexCast v316
  let c0_124 : Index := 0#32
  ![v322.toNat, 0]
@[reducible] def k0_t13_loop : Scf.Loop 32 :=
  let c0_i32_121 : BitVec 32 := 0#32
  let c32_i32 : BitVec 32 := 32#32
  let v313 : BitVec 32 := Scalar.addi c0_i32_121 c32_i32
  let c1_i32_122 : BitVec 32 := 1#32
  ⟨c0_i32_121, v313, c1_i32_122⟩
def k0_mult20 (k0_t13 : Fin k0_t13_loop.trips) : BitVec 32 :=
  let c0_i32_121 : BitVec 32 := 0#32
  let c1_i32_122 : BitVec 32 := 1#32
  let arg18 : BitVec 32 := Scf.iv c0_i32_121 c1_i32_122 k0_t13
  let c64_i32 : BitVec 32 := 64#32
  let v314 : BitVec 32 := Scalar.muli arg18 c64_i32
  let c4_i32 : BitVec 32 := 4#32
  let v315 : BitVec 32 := Scalar.muli v314 c4_i32
  v315
def k0_off28 (k0_t13 : Fin k0_t13_loop.trips) : Fin 2 → Nat :=
  let c0_i32_121 : BitVec 32 := 0#32
  let c1_i32_122 : BitVec 32 := 1#32
  let arg18 : BitVec 32 := Scf.iv c0_i32_121 c1_i32_122 k0_t13
  let c64_i32 : BitVec 32 := 64#32
  let v314 : BitVec 32 := Scalar.muli arg18 c64_i32
  let c4_i32 : BitVec 32 := 4#32
  let v315 : BitVec 32 := Scalar.muli v314 c4_i32
  let v316 : BitVec 32 := v315
  let v317 : Index := Scalar.indexCast v316
  let c0_124 : Index := 0#32
  ![v317.toNat, 0]
def k0_off29 (k0_t13 : Fin k0_t13_loop.trips) : Fin 2 → Nat :=
  let c0_i32_121 : BitVec 32 := 0#32
  let c1_i32_122 : BitVec 32 := 1#32
  let arg18 : BitVec 32 := Scf.iv c0_i32_121 c1_i32_122 k0_t13
  let c64_i32 : BitVec 32 := 64#32
  let v314 : BitVec 32 := Scalar.muli arg18 c64_i32
  let c4_i32 : BitVec 32 := 4#32
  let v315 : BitVec 32 := Scalar.muli v314 c4_i32
  let v316 : BitVec 32 := v315
  let v322 : Index := Scalar.indexCast v316
  let c0_125 : Index := 0#32
  ![v322.toNat, 0]
@[reducible] def k0_t14_loop : Scf.Loop 32 :=
  let c0_i32_121 : BitVec 32 := 0#32
  let c32_i32 : BitVec 32 := 32#32
  let v313 : BitVec 32 := Scalar.addi c0_i32_121 c32_i32
  let c1_i32_122 : BitVec 32 := 1#32
  ⟨c0_i32_121, v313, c1_i32_122⟩
def k0_mult21 (k0_t14 : Fin k0_t14_loop.trips) : BitVec 32 :=
  let c0_i32_121 : BitVec 32 := 0#32
  let c1_i32_122 : BitVec 32 := 1#32
  let arg18 : BitVec 32 := Scf.iv c0_i32_121 c1_i32_122 k0_t14
  let c64_i32 : BitVec 32 := 64#32
  let v314 : BitVec 32 := Scalar.muli arg18 c64_i32
  let c4_i32 : BitVec 32 := 4#32
  let v315 : BitVec 32 := Scalar.muli v314 c4_i32
  v315
def k0_off30 (k0_t14 : Fin k0_t14_loop.trips) : Fin 2 → Nat :=
  let c0_i32_121 : BitVec 32 := 0#32
  let c1_i32_122 : BitVec 32 := 1#32
  let arg18 : BitVec 32 := Scf.iv c0_i32_121 c1_i32_122 k0_t14
  let c64_i32 : BitVec 32 := 64#32
  let v314 : BitVec 32 := Scalar.muli arg18 c64_i32
  let c4_i32 : BitVec 32 := 4#32
  let v315 : BitVec 32 := Scalar.muli v314 c4_i32
  let v316 : BitVec 32 := v315
  let v317 : Index := Scalar.indexCast v316
  let c128 : Index := 128#32
  ![v317.toNat, 128]
def k0_off31 (k0_t14 : Fin k0_t14_loop.trips) : Fin 2 → Nat :=
  let c0_i32_121 : BitVec 32 := 0#32
  let c1_i32_122 : BitVec 32 := 1#32
  let arg18 : BitVec 32 := Scf.iv c0_i32_121 c1_i32_122 k0_t14
  let c64_i32 : BitVec 32 := 64#32
  let v314 : BitVec 32 := Scalar.muli arg18 c64_i32
  let c4_i32 : BitVec 32 := 4#32
  let v315 : BitVec 32 := Scalar.muli v314 c4_i32
  let v316 : BitVec 32 := v315
  let v322 : Index := Scalar.indexCast v316
  let c0_124 : Index := 0#32
  ![v322.toNat, 0]
@[reducible] def k0_t15_loop : Scf.Loop 32 :=
  let c0_i32_121 : BitVec 32 := 0#32
  let c32_i32_122 : BitVec 32 := 32#32
  let v313 : BitVec 32 := Scalar.addi c0_i32_121 c32_i32_122
  let c1_i32_123 : BitVec 32 := 1#32
  ⟨c0_i32_121, v313, c1_i32_123⟩
def k0_mult22 (k0_t15 : Fin k0_t15_loop.trips) : BitVec 32 :=
  let c0_i32_121 : BitVec 32 := 0#32
  let c1_i32_123 : BitVec 32 := 1#32
  let arg18 : BitVec 32 := Scf.iv c0_i32_121 c1_i32_123 k0_t15
  let c64_i32 : BitVec 32 := 64#32
  let v314 : BitVec 32 := Scalar.muli arg18 c64_i32
  let c4_i32 : BitVec 32 := 4#32
  let v315 : BitVec 32 := Scalar.muli v314 c4_i32
  v315
def k0_off32 (k0_t15 : Fin k0_t15_loop.trips) : Fin 2 → Nat :=
  let c0_i32_121 : BitVec 32 := 0#32
  let c1_i32_123 : BitVec 32 := 1#32
  let arg18 : BitVec 32 := Scf.iv c0_i32_121 c1_i32_123 k0_t15
  let c64_i32 : BitVec 32 := 64#32
  let v314 : BitVec 32 := Scalar.muli arg18 c64_i32
  let c4_i32 : BitVec 32 := 4#32
  let v315 : BitVec 32 := Scalar.muli v314 c4_i32
  let v316 : BitVec 32 := v315
  let v317 : Index := Scalar.indexCast v316
  let c0_125 : Index := 0#32
  ![v317.toNat, 0]
def k0_off33 (k0_t15 : Fin k0_t15_loop.trips) : Fin 2 → Nat :=
  let c0_i32_121 : BitVec 32 := 0#32
  let c1_i32_123 : BitVec 32 := 1#32
  let arg18 : BitVec 32 := Scf.iv c0_i32_121 c1_i32_123 k0_t15
  let c64_i32 : BitVec 32 := 64#32
  let v314 : BitVec 32 := Scalar.muli arg18 c64_i32
  let c4_i32 : BitVec 32 := 4#32
  let v315 : BitVec 32 := Scalar.muli v314 c4_i32
  let v316 : BitVec 32 := v315
  let v322 : Index := Scalar.indexCast v316
  let c0_126 : Index := 0#32
  ![v322.toNat, 0]
@[reducible] def k0_t16_loop : Scf.Loop 32 :=
  let c0_i32_121 : BitVec 32 := 0#32
  let c32_i32_122 : BitVec 32 := 32#32
  let v313 : BitVec 32 := Scalar.addi c0_i32_121 c32_i32_122
  let c1_i32_123 : BitVec 32 := 1#32
  ⟨c0_i32_121, v313, c1_i32_123⟩
def k0_mult23 (k0_t16 : Fin k0_t16_loop.trips) : BitVec 32 :=
  let c0_i32_121 : BitVec 32 := 0#32
  let c1_i32_123 : BitVec 32 := 1#32
  let arg18 : BitVec 32 := Scf.iv c0_i32_121 c1_i32_123 k0_t16
  let c64_i32 : BitVec 32 := 64#32
  let v314 : BitVec 32 := Scalar.muli arg18 c64_i32
  let c4_i32 : BitVec 32 := 4#32
  let v315 : BitVec 32 := Scalar.muli v314 c4_i32
  v315
def k0_off34 (k0_t16 : Fin k0_t16_loop.trips) : Fin 2 → Nat :=
  let c0_i32_121 : BitVec 32 := 0#32
  let c1_i32_123 : BitVec 32 := 1#32
  let arg18 : BitVec 32 := Scf.iv c0_i32_121 c1_i32_123 k0_t16
  let c64_i32 : BitVec 32 := 64#32
  let v314 : BitVec 32 := Scalar.muli arg18 c64_i32
  let c4_i32 : BitVec 32 := 4#32
  let v315 : BitVec 32 := Scalar.muli v314 c4_i32
  let v316 : BitVec 32 := v315
  let v317 : Index := Scalar.indexCast v316
  let c128 : Index := 128#32
  ![v317.toNat, 128]
def k0_off35 (k0_t16 : Fin k0_t16_loop.trips) : Fin 2 → Nat :=
  let c0_i32_121 : BitVec 32 := 0#32
  let c1_i32_123 : BitVec 32 := 1#32
  let arg18 : BitVec 32 := Scf.iv c0_i32_121 c1_i32_123 k0_t16
  let c64_i32 : BitVec 32 := 64#32
  let v314 : BitVec 32 := Scalar.muli arg18 c64_i32
  let c4_i32 : BitVec 32 := 4#32
  let v315 : BitVec 32 := Scalar.muli v314 c4_i32
  let v316 : BitVec 32 := v315
  let v322 : Index := Scalar.indexCast v316
  let c0_125 : Index := 0#32
  ![v322.toNat, 0]
@[reducible] def k0_t17_loop : Scf.Loop 32 :=
  let c0_i32_121 : BitVec 32 := 0#32
  let c32_i32 : BitVec 32 := 32#32
  let v313 : BitVec 32 := Scalar.addi c0_i32_121 c32_i32
  let c1_i32_122 : BitVec 32 := 1#32
  ⟨c0_i32_121, v313, c1_i32_122⟩
def k0_mult24 (k0_t17 : Fin k0_t17_loop.trips) : BitVec 32 :=
  let c0_i32_121 : BitVec 32 := 0#32
  let c1_i32_122 : BitVec 32 := 1#32
  let arg18 : BitVec 32 := Scf.iv c0_i32_121 c1_i32_122 k0_t17
  let c64_i32 : BitVec 32 := 64#32
  let v314 : BitVec 32 := Scalar.muli arg18 c64_i32
  let c4_i32 : BitVec 32 := 4#32
  let v315 : BitVec 32 := Scalar.muli v314 c4_i32
  v315
def k0_off36 (k0_t17 : Fin k0_t17_loop.trips) : Fin 2 → Nat :=
  let c0_i32_121 : BitVec 32 := 0#32
  let c1_i32_122 : BitVec 32 := 1#32
  let arg18 : BitVec 32 := Scf.iv c0_i32_121 c1_i32_122 k0_t17
  let c64_i32 : BitVec 32 := 64#32
  let v314 : BitVec 32 := Scalar.muli arg18 c64_i32
  let c4_i32 : BitVec 32 := 4#32
  let v315 : BitVec 32 := Scalar.muli v314 c4_i32
  let v316 : BitVec 32 := v315
  let v317 : Index := Scalar.indexCast v316
  let c0_124 : Index := 0#32
  ![v317.toNat, 0]
def k0_off37 (k0_t17 : Fin k0_t17_loop.trips) : Fin 2 → Nat :=
  let c0_i32_121 : BitVec 32 := 0#32
  let c1_i32_122 : BitVec 32 := 1#32
  let arg18 : BitVec 32 := Scf.iv c0_i32_121 c1_i32_122 k0_t17
  let c64_i32 : BitVec 32 := 64#32
  let v314 : BitVec 32 := Scalar.muli arg18 c64_i32
  let c4_i32 : BitVec 32 := 4#32
  let v315 : BitVec 32 := Scalar.muli v314 c4_i32
  let v316 : BitVec 32 := v315
  let v322 : Index := Scalar.indexCast v316
  let c0_125 : Index := 0#32
  ![v322.toNat, 0]
@[reducible] def k0_t18_loop : Scf.Loop 32 :=
  let c0_i32_121 : BitVec 32 := 0#32
  let c32_i32 : BitVec 32 := 32#32
  let v313 : BitVec 32 := Scalar.addi c0_i32_121 c32_i32
  let c1_i32_122 : BitVec 32 := 1#32
  ⟨c0_i32_121, v313, c1_i32_122⟩
def k0_mult25 (k0_t18 : Fin k0_t18_loop.trips) : BitVec 32 :=
  let c0_i32_121 : BitVec 32 := 0#32
  let c1_i32_122 : BitVec 32 := 1#32
  let arg18 : BitVec 32 := Scf.iv c0_i32_121 c1_i32_122 k0_t18
  let c64_i32 : BitVec 32 := 64#32
  let v314 : BitVec 32 := Scalar.muli arg18 c64_i32
  let c4_i32 : BitVec 32 := 4#32
  let v315 : BitVec 32 := Scalar.muli v314 c4_i32
  v315
def k0_off38 (k0_t18 : Fin k0_t18_loop.trips) : Fin 2 → Nat :=
  let c0_i32_121 : BitVec 32 := 0#32
  let c1_i32_122 : BitVec 32 := 1#32
  let arg18 : BitVec 32 := Scf.iv c0_i32_121 c1_i32_122 k0_t18
  let c64_i32 : BitVec 32 := 64#32
  let v314 : BitVec 32 := Scalar.muli arg18 c64_i32
  let c4_i32 : BitVec 32 := 4#32
  let v315 : BitVec 32 := Scalar.muli v314 c4_i32
  let v316 : BitVec 32 := v315
  let v317 : Index := Scalar.indexCast v316
  let c128 : Index := 128#32
  ![v317.toNat, 128]
def k0_off39 (k0_t18 : Fin k0_t18_loop.trips) : Fin 2 → Nat :=
  let c0_i32_121 : BitVec 32 := 0#32
  let c1_i32_122 : BitVec 32 := 1#32
  let arg18 : BitVec 32 := Scf.iv c0_i32_121 c1_i32_122 k0_t18
  let c64_i32 : BitVec 32 := 64#32
  let v314 : BitVec 32 := Scalar.muli arg18 c64_i32
  let c4_i32 : BitVec 32 := 4#32
  let v315 : BitVec 32 := Scalar.muli v314 c4_i32
  let v316 : BitVec 32 := v315
  let v322 : Index := Scalar.indexCast v316
  let c0_124 : Index := 0#32
  ![v322.toNat, 0]
@[reducible] def k0_t19_loop : Scf.Loop 32 :=
  let c0_i32_121 : BitVec 32 := 0#32
  let c32_i32 : BitVec 32 := 32#32
  let v313 : BitVec 32 := Scalar.addi c0_i32_121 c32_i32
  let c1_i32_122 : BitVec 32 := 1#32
  ⟨c0_i32_121, v313, c1_i32_122⟩
def k0_mult26 (k0_t19 : Fin k0_t19_loop.trips) : BitVec 32 :=
  let c0_i32_121 : BitVec 32 := 0#32
  let c1_i32_122 : BitVec 32 := 1#32
  let arg18 : BitVec 32 := Scf.iv c0_i32_121 c1_i32_122 k0_t19
  let c64_i32 : BitVec 32 := 64#32
  let v314 : BitVec 32 := Scalar.muli arg18 c64_i32
  let c4_i32 : BitVec 32 := 4#32
  let v315 : BitVec 32 := Scalar.muli v314 c4_i32
  v315
def k0_off40 (k0_t19 : Fin k0_t19_loop.trips) : Fin 2 → Nat :=
  let c0_i32_121 : BitVec 32 := 0#32
  let c1_i32_122 : BitVec 32 := 1#32
  let arg18 : BitVec 32 := Scf.iv c0_i32_121 c1_i32_122 k0_t19
  let c64_i32 : BitVec 32 := 64#32
  let v314 : BitVec 32 := Scalar.muli arg18 c64_i32
  let c4_i32 : BitVec 32 := 4#32
  let v315 : BitVec 32 := Scalar.muli v314 c4_i32
  let v316 : BitVec 32 := v315
  let v317 : Index := Scalar.indexCast v316
  let c0_124 : Index := 0#32
  ![v317.toNat, 0]
def k0_off41 (k0_t19 : Fin k0_t19_loop.trips) : Fin 2 → Nat :=
  let c0_i32_121 : BitVec 32 := 0#32
  let c1_i32_122 : BitVec 32 := 1#32
  let arg18 : BitVec 32 := Scf.iv c0_i32_121 c1_i32_122 k0_t19
  let c64_i32 : BitVec 32 := 64#32
  let v314 : BitVec 32 := Scalar.muli arg18 c64_i32
  let c4_i32 : BitVec 32 := 4#32
  let v315 : BitVec 32 := Scalar.muli v314 c4_i32
  let v316 : BitVec 32 := v315
  let v322 : Index := Scalar.indexCast v316
  let c0_125 : Index := 0#32
  ![v322.toNat, 0]
@[reducible] def k0_t20_loop : Scf.Loop 32 :=
  let c0_i32_121 : BitVec 32 := 0#32
  let c32_i32 : BitVec 32 := 32#32
  let v313 : BitVec 32 := Scalar.addi c0_i32_121 c32_i32
  let c1_i32_122 : BitVec 32 := 1#32
  ⟨c0_i32_121, v313, c1_i32_122⟩
def k0_mult27 (k0_t20 : Fin k0_t20_loop.trips) : BitVec 32 :=
  let c0_i32_121 : BitVec 32 := 0#32
  let c1_i32_122 : BitVec 32 := 1#32
  let arg18 : BitVec 32 := Scf.iv c0_i32_121 c1_i32_122 k0_t20
  let c64_i32 : BitVec 32 := 64#32
  let v314 : BitVec 32 := Scalar.muli arg18 c64_i32
  let c4_i32 : BitVec 32 := 4#32
  let v315 : BitVec 32 := Scalar.muli v314 c4_i32
  v315
def k0_off42 (k0_t20 : Fin k0_t20_loop.trips) : Fin 2 → Nat :=
  let c0_i32_121 : BitVec 32 := 0#32
  let c1_i32_122 : BitVec 32 := 1#32
  let arg18 : BitVec 32 := Scf.iv c0_i32_121 c1_i32_122 k0_t20
  let c64_i32 : BitVec 32 := 64#32
  let v314 : BitVec 32 := Scalar.muli arg18 c64_i32
  let c4_i32 : BitVec 32 := 4#32
  let v315 : BitVec 32 := Scalar.muli v314 c4_i32
  let v316 : BitVec 32 := v315
  let v317 : Index := Scalar.indexCast v316
  let c128 : Index := 128#32
  ![v317.toNat, 128]
def k0_off43 (k0_t20 : Fin k0_t20_loop.trips) : Fin 2 → Nat :=
  let c0_i32_121 : BitVec 32 := 0#32
  let c1_i32_122 : BitVec 32 := 1#32
  let arg18 : BitVec 32 := Scf.iv c0_i32_121 c1_i32_122 k0_t20
  let c64_i32 : BitVec 32 := 64#32
  let v314 : BitVec 32 := Scalar.muli arg18 c64_i32
  let c4_i32 : BitVec 32 := 4#32
  let v315 : BitVec 32 := Scalar.muli v314 c4_i32
  let v316 : BitVec 32 := v315
  let v322 : Index := Scalar.indexCast v316
  let c0_124 : Index := 0#32
  ![v322.toNat, 0]
def k0_cond22 (i : grid0.Coords) : BitVec 1 :=
  let arg0 : BitVec 32 := BitVec.ofNat 32 (i 0).val
  let c8_i32_114 : BitVec 32 := 8#32
  let v287 : BitVec 1 := Scalar.cmpi .eq arg0 c8_i32_114
  let v288 : BitVec 32 := Scalar.extui v287
  let c0_i32_115 : BitVec 32 := 0#32
  let v289 : BitVec 1 := Scalar.cmpi .ne v288 c0_i32_115
  v289

def k0_off44 (v295 : BitVec 32) : Fin 2 → Nat :=
  let c0_125 : Index := 0#32
  let c0_i32_119 : BitVec 32 := 0#32
  let v296 : BitVec 32 := Scalar.addi v295 c0_i32_119
  let c0_i32_120 : BitVec 32 := 0#32
  let v297 : BitVec 32 := Scalar.subi v296 c0_i32_120
  let v307 : Index := Scalar.indexCast v297
  ![0, v307.toNat]

def k0_chk1 (i : grid0.Coords) (v295 : BitVec 32) : Prop :=
  (∀ (k0_h22 : k0_cond22 i = 1#1), ∀ a, (k0_off44 v295) a + S1x1.size a ≤ S1x2048.size a)
theorem k0_off44_inb : ∀ (i : grid0.Coords) (v295 : BitVec 32) (k0_hw1 : k0_chk1 i v295), ∀ (k0_h22 : k0_cond22 i = 1#1), ∀ a, (k0_off44 v295) a + S1x1.size a ≤ S1x2048.size a := fun i v295 k0_hw1 k0_h22 => k0_hw1 k0_h22

def k0_off45 (v311 : BitVec 32) : Fin 2 → Nat :=
  let c0_132 : Index := 0#32
  let c1_i32_127 : BitVec 32 := 1#32
  let v312 : BitVec 32 := Scalar.addi v311 c1_i32_127
  let c0_i32_128 : BitVec 32 := 0#32
  let v313 : BitVec 32 := Scalar.subi v312 c0_i32_128
  let v323 : Index := Scalar.indexCast v313
  ![0, v323.toNat]

def k0_chk2 (i : grid0.Coords) (v311 : BitVec 32) : Prop :=
  (∀ (k0_h22 : k0_cond22 i = 1#1), ∀ a, (k0_off45 v311) a + S1x1.size a ≤ S1x2048.size a)
theorem k0_off45_inb : ∀ (i : grid0.Coords) (v311 : BitVec 32) (k0_hw2 : k0_chk2 i v311), ∀ (k0_h22 : k0_cond22 i = 1#1), ∀ a, (k0_off45 v311) a + S1x1.size a ≤ S1x2048.size a := fun i v311 k0_hw2 k0_h22 => k0_hw2 k0_h22

def k0_off46 (v327 : BitVec 32) : Fin 2 → Nat :=
  let c0_139 : Index := 0#32
  let c2_i32_134 : BitVec 32 := 2#32
  let v328 : BitVec 32 := Scalar.addi v327 c2_i32_134
  let c0_i32_135 : BitVec 32 := 0#32
  let v329 : BitVec 32 := Scalar.subi v328 c0_i32_135
  let v339 : Index := Scalar.indexCast v329
  ![0, v339.toNat]

def k0_chk3 (i : grid0.Coords) (v327 : BitVec 32) : Prop :=
  (∀ (k0_h22 : k0_cond22 i = 1#1), ∀ a, (k0_off46 v327) a + S1x1.size a ≤ S1x2048.size a)
theorem k0_off46_inb : ∀ (i : grid0.Coords) (v327 : BitVec 32) (k0_hw3 : k0_chk3 i v327), ∀ (k0_h22 : k0_cond22 i = 1#1), ∀ a, (k0_off46 v327) a + S1x1.size a ≤ S1x2048.size a := fun i v327 k0_hw3 k0_h22 => k0_hw3 k0_h22

def k0_off47 (v343 : BitVec 32) : Fin 2 → Nat :=
  let c0_146 : Index := 0#32
  let c0_i32_141 : BitVec 32 := 0#32
  let v344 : BitVec 32 := Scalar.addi v343 c0_i32_141
  let c0_i32_142 : BitVec 32 := 0#32
  let v345 : BitVec 32 := Scalar.subi v344 c0_i32_142
  let v355 : Index := Scalar.indexCast v345
  ![0, v355.toNat]

def k0_chk4 (i : grid0.Coords) (v343 : BitVec 32) : Prop :=
  (∀ (k0_h22 : k0_cond22 i = 1#1), ∀ a, (k0_off47 v343) a + S1x1.size a ≤ S1x2048.size a)
theorem k0_off47_inb : ∀ (i : grid0.Coords) (v343 : BitVec 32) (k0_hw4 : k0_chk4 i v343), ∀ (k0_h22 : k0_cond22 i = 1#1), ∀ a, (k0_off47 v343) a + S1x1.size a ≤ S1x2048.size a := fun i v343 k0_hw4 k0_h22 => k0_hw4 k0_h22

def k0_off48 (v359 : BitVec 32) : Fin 2 → Nat :=
  let c0_153 : Index := 0#32
  let c1_i32_148 : BitVec 32 := 1#32
  let v360 : BitVec 32 := Scalar.addi v359 c1_i32_148
  let c0_i32_149 : BitVec 32 := 0#32
  let v361 : BitVec 32 := Scalar.subi v360 c0_i32_149
  let v371 : Index := Scalar.indexCast v361
  ![0, v371.toNat]

def k0_chk5 (i : grid0.Coords) (v359 : BitVec 32) : Prop :=
  (∀ (k0_h22 : k0_cond22 i = 1#1), ∀ a, (k0_off48 v359) a + S1x1.size a ≤ S1x2048.size a)
theorem k0_off48_inb : ∀ (i : grid0.Coords) (v359 : BitVec 32) (k0_hw5 : k0_chk5 i v359), ∀ (k0_h22 : k0_cond22 i = 1#1), ∀ a, (k0_off48 v359) a + S1x1.size a ≤ S1x2048.size a := fun i v359 k0_hw5 k0_h22 => k0_hw5 k0_h22

def k0_off49 (v375 : BitVec 32) : Fin 2 → Nat :=
  let c0_160 : Index := 0#32
  let c2_i32_155 : BitVec 32 := 2#32
  let v376 : BitVec 32 := Scalar.addi v375 c2_i32_155
  let c0_i32_156 : BitVec 32 := 0#32
  let v377 : BitVec 32 := Scalar.subi v376 c0_i32_156
  let v387 : Index := Scalar.indexCast v377
  ![0, v387.toNat]

def k0_chk6 (i : grid0.Coords) (v375 : BitVec 32) : Prop :=
  (∀ (k0_h22 : k0_cond22 i = 1#1), ∀ a, (k0_off49 v375) a + S1x1.size a ≤ S1x2048.size a)
theorem k0_off49_inb : ∀ (i : grid0.Coords) (v375 : BitVec 32) (k0_hw6 : k0_chk6 i v375), ∀ (k0_h22 : k0_cond22 i = 1#1), ∀ a, (k0_off49 v375) a + S1x1.size a ≤ S1x2048.size a := fun i v375 k0_hw6 k0_h22 => k0_hw6 k0_h22

def k0_off50 (v391 : BitVec 32) : Fin 2 → Nat :=
  let c0_167 : Index := 0#32
  let c0_i32_162 : BitVec 32 := 0#32
  let v392 : BitVec 32 := Scalar.addi v391 c0_i32_162
  let c0_i32_163 : BitVec 32 := 0#32
  let v393 : BitVec 32 := Scalar.subi v392 c0_i32_163
  let v403 : Index := Scalar.indexCast v393
  ![0, v403.toNat]

def k0_chk7 (i : grid0.Coords) (v391 : BitVec 32) : Prop :=
  (∀ (k0_h22 : k0_cond22 i = 1#1), ∀ a, (k0_off50 v391) a + S1x1.size a ≤ S1x2048.size a)
theorem k0_off50_inb : ∀ (i : grid0.Coords) (v391 : BitVec 32) (k0_hw7 : k0_chk7 i v391), ∀ (k0_h22 : k0_cond22 i = 1#1), ∀ a, (k0_off50 v391) a + S1x1.size a ≤ S1x2048.size a := fun i v391 k0_hw7 k0_h22 => k0_hw7 k0_h22

def k0_off51 (v407 : BitVec 32) : Fin 2 → Nat :=
  let c0_173 : Index := 0#32
  let c1_i32_169 : BitVec 32 := 1#32
  let v408 : BitVec 32 := Scalar.addi v407 c1_i32_169
  let c0_i32_170 : BitVec 32 := 0#32
  let v409 : BitVec 32 := Scalar.subi v408 c0_i32_170
  let v419 : Index := Scalar.indexCast v409
  ![0, v419.toNat]

def k0_chk8 (i : grid0.Coords) (v407 : BitVec 32) : Prop :=
  (∀ (k0_h22 : k0_cond22 i = 1#1), ∀ a, (k0_off51 v407) a + S1x1.size a ≤ S1x2048.size a)
theorem k0_off51_inb : ∀ (i : grid0.Coords) (v407 : BitVec 32) (k0_hw8 : k0_chk8 i v407), ∀ (k0_h22 : k0_cond22 i = 1#1), ∀ a, (k0_off51 v407) a + S1x1.size a ≤ S1x2048.size a := fun i v407 k0_hw8 k0_h22 => k0_hw8 k0_h22

def k0_off52 (v423 : BitVec 32) : Fin 2 → Nat :=
  let c0_179 : Index := 0#32
  let c2_i32_175 : BitVec 32 := 2#32
  let v424 : BitVec 32 := Scalar.addi v423 c2_i32_175
  let c0_i32_176 : BitVec 32 := 0#32
  let v425 : BitVec 32 := Scalar.subi v424 c0_i32_176
  let v435 : Index := Scalar.indexCast v425
  ![0, v435.toNat]

def k0_chk9 (i : grid0.Coords) (v423 : BitVec 32) : Prop :=
  (∀ (k0_h22 : k0_cond22 i = 1#1), ∀ a, (k0_off52 v423) a + S1x1.size a ≤ S1x2048.size a)
theorem k0_off52_inb : ∀ (i : grid0.Coords) (v423 : BitVec 32) (k0_hw9 : k0_chk9 i v423), ∀ (k0_h22 : k0_cond22 i = 1#1), ∀ a, (k0_off52 v423) a + S1x1.size a ≤ S1x2048.size a := fun i v423 k0_hw9 k0_h22 => k0_hw9 k0_h22

def k0_off53 (v439 : BitVec 32) : Fin 2 → Nat :=
  let c0_186 : Index := 0#32
  let c0_i32_181 : BitVec 32 := 0#32
  let v440 : BitVec 32 := Scalar.addi v439 c0_i32_181
  let c0_i32_182 : BitVec 32 := 0#32
  let v441 : BitVec 32 := Scalar.subi v440 c0_i32_182
  let v451 : Index := Scalar.indexCast v441
  ![0, v451.toNat]

def k0_chk10 (i : grid0.Coords) (v439 : BitVec 32) : Prop :=
  (∀ (k0_h22 : k0_cond22 i = 1#1), ∀ a, (k0_off53 v439) a + S1x1.size a ≤ S1x2048.size a)
theorem k0_off53_inb : ∀ (i : grid0.Coords) (v439 : BitVec 32) (k0_hw10 : k0_chk10 i v439), ∀ (k0_h22 : k0_cond22 i = 1#1), ∀ a, (k0_off53 v439) a + S1x1.size a ≤ S1x2048.size a := fun i v439 k0_hw10 k0_h22 => k0_hw10 k0_h22

def k0_off54 (v455 : BitVec 32) : Fin 2 → Nat :=
  let c0_193 : Index := 0#32
  let c1_i32_188 : BitVec 32 := 1#32
  let v456 : BitVec 32 := Scalar.addi v455 c1_i32_188
  let c0_i32_189 : BitVec 32 := 0#32
  let v457 : BitVec 32 := Scalar.subi v456 c0_i32_189
  let v467 : Index := Scalar.indexCast v457
  ![0, v467.toNat]

def k0_chk11 (i : grid0.Coords) (v455 : BitVec 32) : Prop :=
  (∀ (k0_h22 : k0_cond22 i = 1#1), ∀ a, (k0_off54 v455) a + S1x1.size a ≤ S1x2048.size a)
theorem k0_off54_inb : ∀ (i : grid0.Coords) (v455 : BitVec 32) (k0_hw11 : k0_chk11 i v455), ∀ (k0_h22 : k0_cond22 i = 1#1), ∀ a, (k0_off54 v455) a + S1x1.size a ≤ S1x2048.size a := fun i v455 k0_hw11 k0_h22 => k0_hw11 k0_h22

def k0_off55 (v471 : BitVec 32) : Fin 2 → Nat :=
  let c0_199 : Index := 0#32
  let c2_i32_195 : BitVec 32 := 2#32
  let v472 : BitVec 32 := Scalar.addi v471 c2_i32_195
  let c0_i32_196 : BitVec 32 := 0#32
  let v473 : BitVec 32 := Scalar.subi v472 c0_i32_196
  let v483 : Index := Scalar.indexCast v473
  ![0, v483.toNat]

def k0_chk12 (i : grid0.Coords) (v471 : BitVec 32) : Prop :=
  (∀ (k0_h22 : k0_cond22 i = 1#1), ∀ a, (k0_off55 v471) a + S1x1.size a ≤ S1x2048.size a)
theorem k0_off55_inb : ∀ (i : grid0.Coords) (v471 : BitVec 32) (k0_hw12 : k0_chk12 i v471), ∀ (k0_h22 : k0_cond22 i = 1#1), ∀ a, (k0_off55 v471) a + S1x1.size a ≤ S1x2048.size a := fun i v471 k0_hw12 k0_h22 => k0_hw12 k0_h22

def k0_off56 (v487 : BitVec 32) : Fin 2 → Nat :=
  let c0_205 : Index := 0#32
  let c0_i32_201 : BitVec 32 := 0#32
  let v488 : BitVec 32 := Scalar.addi v487 c0_i32_201
  let c0_i32_202 : BitVec 32 := 0#32
  let v489 : BitVec 32 := Scalar.subi v488 c0_i32_202
  let v499 : Index := Scalar.indexCast v489
  ![0, v499.toNat]

def k0_chk13 (i : grid0.Coords) (v487 : BitVec 32) : Prop :=
  (∀ (k0_h22 : k0_cond22 i = 1#1), ∀ a, (k0_off56 v487) a + S1x1.size a ≤ S1x2048.size a)
theorem k0_off56_inb : ∀ (i : grid0.Coords) (v487 : BitVec 32) (k0_hw13 : k0_chk13 i v487), ∀ (k0_h22 : k0_cond22 i = 1#1), ∀ a, (k0_off56 v487) a + S1x1.size a ≤ S1x2048.size a := fun i v487 k0_hw13 k0_h22 => k0_hw13 k0_h22

def k0_off57 (v503 : BitVec 32) : Fin 2 → Nat :=
  let c0_211 : Index := 0#32
  let c1_i32_207 : BitVec 32 := 1#32
  let v504 : BitVec 32 := Scalar.addi v503 c1_i32_207
  let c0_i32_208 : BitVec 32 := 0#32
  let v505 : BitVec 32 := Scalar.subi v504 c0_i32_208
  let v515 : Index := Scalar.indexCast v505
  ![0, v515.toNat]

def k0_chk14 (i : grid0.Coords) (v503 : BitVec 32) : Prop :=
  (∀ (k0_h22 : k0_cond22 i = 1#1), ∀ a, (k0_off57 v503) a + S1x1.size a ≤ S1x2048.size a)
theorem k0_off57_inb : ∀ (i : grid0.Coords) (v503 : BitVec 32) (k0_hw14 : k0_chk14 i v503), ∀ (k0_h22 : k0_cond22 i = 1#1), ∀ a, (k0_off57 v503) a + S1x1.size a ≤ S1x2048.size a := fun i v503 k0_hw14 k0_h22 => k0_hw14 k0_h22

def k0_off58 (v519 : BitVec 32) : Fin 2 → Nat :=
  let c0_217 : Index := 0#32
  let c2_i32_213 : BitVec 32 := 2#32
  let v520 : BitVec 32 := Scalar.addi v519 c2_i32_213
  let c0_i32_214 : BitVec 32 := 0#32
  let v521 : BitVec 32 := Scalar.subi v520 c0_i32_214
  let v531 : Index := Scalar.indexCast v521
  ![0, v531.toNat]

def k0_chk15 (i : grid0.Coords) (v519 : BitVec 32) : Prop :=
  (∀ (k0_h22 : k0_cond22 i = 1#1), ∀ a, (k0_off58 v519) a + S1x1.size a ≤ S1x2048.size a)
theorem k0_off58_inb : ∀ (i : grid0.Coords) (v519 : BitVec 32) (k0_hw15 : k0_chk15 i v519), ∀ (k0_h22 : k0_cond22 i = 1#1), ∀ a, (k0_off58 v519) a + S1x1.size a ≤ S1x2048.size a := fun i v519 k0_hw15 k0_h22 => k0_hw15 k0_h22

def k0_off59 (v535 : BitVec 32) : Fin 2 → Nat :=
  let c0_224 : Index := 0#32
  let c0_i32_219 : BitVec 32 := 0#32
  let v536 : BitVec 32 := Scalar.addi v535 c0_i32_219
  let c0_i32_220 : BitVec 32 := 0#32
  let v537 : BitVec 32 := Scalar.subi v536 c0_i32_220
  let v547 : Index := Scalar.indexCast v537
  ![0, v547.toNat]

def k0_chk16 (i : grid0.Coords) (v535 : BitVec 32) : Prop :=
  (∀ (k0_h22 : k0_cond22 i = 1#1), ∀ a, (k0_off59 v535) a + S1x1.size a ≤ S1x2048.size a)
theorem k0_off59_inb : ∀ (i : grid0.Coords) (v535 : BitVec 32) (k0_hw16 : k0_chk16 i v535), ∀ (k0_h22 : k0_cond22 i = 1#1), ∀ a, (k0_off59 v535) a + S1x1.size a ≤ S1x2048.size a := fun i v535 k0_hw16 k0_h22 => k0_hw16 k0_h22

def k0_off60 (v551 : BitVec 32) : Fin 2 → Nat :=
  let c0_231 : Index := 0#32
  let c1_i32_226 : BitVec 32 := 1#32
  let v552 : BitVec 32 := Scalar.addi v551 c1_i32_226
  let c0_i32_227 : BitVec 32 := 0#32
  let v553 : BitVec 32 := Scalar.subi v552 c0_i32_227
  let v563 : Index := Scalar.indexCast v553
  ![0, v563.toNat]

def k0_chk17 (i : grid0.Coords) (v551 : BitVec 32) : Prop :=
  (∀ (k0_h22 : k0_cond22 i = 1#1), ∀ a, (k0_off60 v551) a + S1x1.size a ≤ S1x2048.size a)
theorem k0_off60_inb : ∀ (i : grid0.Coords) (v551 : BitVec 32) (k0_hw17 : k0_chk17 i v551), ∀ (k0_h22 : k0_cond22 i = 1#1), ∀ a, (k0_off60 v551) a + S1x1.size a ≤ S1x2048.size a := fun i v551 k0_hw17 k0_h22 => k0_hw17 k0_h22

def k0_off61 (v567 : BitVec 32) : Fin 2 → Nat :=
  let c0_237 : Index := 0#32
  let c2_i32_233 : BitVec 32 := 2#32
  let v568 : BitVec 32 := Scalar.addi v567 c2_i32_233
  let c0_i32_234 : BitVec 32 := 0#32
  let v569 : BitVec 32 := Scalar.subi v568 c0_i32_234
  let v579 : Index := Scalar.indexCast v569
  ![0, v579.toNat]

def k0_chk18 (i : grid0.Coords) (v567 : BitVec 32) : Prop :=
  (∀ (k0_h22 : k0_cond22 i = 1#1), ∀ a, (k0_off61 v567) a + S1x1.size a ≤ S1x2048.size a)
theorem k0_off61_inb : ∀ (i : grid0.Coords) (v567 : BitVec 32) (k0_hw18 : k0_chk18 i v567), ∀ (k0_h22 : k0_cond22 i = 1#1), ∀ a, (k0_off61 v567) a + S1x1.size a ≤ S1x2048.size a := fun i v567 k0_hw18 k0_h22 => k0_hw18 k0_h22

def k0_off62 (v584 : BitVec 32) : Fin 2 → Nat :=
  let c0_245 : Index := 0#32
  let c1_i32_240 : BitVec 32 := 1#32
  let v585 : BitVec 32 := Scalar.addi v584 c1_i32_240
  let c1_i32_241 : BitVec 32 := 1#32
  let v586 : BitVec 32 := Scalar.subi v585 c1_i32_241
  let v596 : Index := Scalar.indexCast v586
  ![0, v596.toNat]

def k0_chk19 (i : grid0.Coords) (v584 : BitVec 32) : Prop :=
  (∀ (k0_h22 : k0_cond22 i = 1#1), ∀ a, (k0_off62 v584) a + S1x1.size a ≤ S1x2048.size a)
theorem k0_off62_inb : ∀ (i : grid0.Coords) (v584 : BitVec 32) (k0_hw19 : k0_chk19 i v584), ∀ (k0_h22 : k0_cond22 i = 1#1), ∀ a, (k0_off62 v584) a + S1x1.size a ≤ S1x2048.size a := fun i v584 k0_hw19 k0_h22 => k0_hw19 k0_h22

def k0_off63 (v600 : BitVec 32) : Fin 2 → Nat :=
  let c0_252 : Index := 0#32
  let c2_i32_247 : BitVec 32 := 2#32
  let v601 : BitVec 32 := Scalar.addi v600 c2_i32_247
  let c1_i32_248 : BitVec 32 := 1#32
  let v602 : BitVec 32 := Scalar.subi v601 c1_i32_248
  let v612 : Index := Scalar.indexCast v602
  ![0, v612.toNat]

def k0_chk20 (i : grid0.Coords) (v600 : BitVec 32) : Prop :=
  (∀ (k0_h22 : k0_cond22 i = 1#1), ∀ a, (k0_off63 v600) a + S1x1.size a ≤ S1x2048.size a)
theorem k0_off63_inb : ∀ (i : grid0.Coords) (v600 : BitVec 32) (k0_hw20 : k0_chk20 i v600), ∀ (k0_h22 : k0_cond22 i = 1#1), ∀ a, (k0_off63 v600) a + S1x1.size a ≤ S1x2048.size a := fun i v600 k0_hw20 k0_h22 => k0_hw20 k0_h22

def k0_off64 (v616 : BitVec 32) : Fin 2 → Nat :=
  let c0_260 : Index := 0#32
  let c1_i32_254 : BitVec 32 := 1#32
  let v617 : BitVec 32 := Scalar.addi v616 c1_i32_254
  let c1_i32_255 : BitVec 32 := 1#32
  let v618 : BitVec 32 := Scalar.subi v617 c1_i32_255
  let v628 : Index := Scalar.indexCast v618
  ![0, v628.toNat]

def k0_chk21 (i : grid0.Coords) (v616 : BitVec 32) : Prop :=
  (∀ (k0_h22 : k0_cond22 i = 1#1), ∀ a, (k0_off64 v616) a + S1x1.size a ≤ S1x2048.size a)
theorem k0_off64_inb : ∀ (i : grid0.Coords) (v616 : BitVec 32) (k0_hw21 : k0_chk21 i v616), ∀ (k0_h22 : k0_cond22 i = 1#1), ∀ a, (k0_off64 v616) a + S1x1.size a ≤ S1x2048.size a := fun i v616 k0_hw21 k0_h22 => k0_hw21 k0_h22

def k0_off65 (v632 : BitVec 32) : Fin 2 → Nat :=
  let c0_267 : Index := 0#32
  let c2_i32_262 : BitVec 32 := 2#32
  let v633 : BitVec 32 := Scalar.addi v632 c2_i32_262
  let c1_i32_263 : BitVec 32 := 1#32
  let v634 : BitVec 32 := Scalar.subi v633 c1_i32_263
  let v644 : Index := Scalar.indexCast v634
  ![0, v644.toNat]

def k0_chk22 (i : grid0.Coords) (v632 : BitVec 32) : Prop :=
  (∀ (k0_h22 : k0_cond22 i = 1#1), ∀ a, (k0_off65 v632) a + S1x1.size a ≤ S1x2048.size a)
theorem k0_off65_inb : ∀ (i : grid0.Coords) (v632 : BitVec 32) (k0_hw22 : k0_chk22 i v632), ∀ (k0_h22 : k0_cond22 i = 1#1), ∀ a, (k0_off65 v632) a + S1x1.size a ≤ S1x2048.size a := fun i v632 k0_hw22 k0_h22 => k0_hw22 k0_h22

def k0_off66 (v648 : BitVec 32) : Fin 2 → Nat :=
  let c0_274 : Index := 0#32
  let c1_i32_269 : BitVec 32 := 1#32
  let v649 : BitVec 32 := Scalar.addi v648 c1_i32_269
  let c1_i32_270 : BitVec 32 := 1#32
  let v650 : BitVec 32 := Scalar.subi v649 c1_i32_270
  let v660 : Index := Scalar.indexCast v650
  ![0, v660.toNat]

def k0_chk23 (i : grid0.Coords) (v648 : BitVec 32) : Prop :=
  (∀ (k0_h22 : k0_cond22 i = 1#1), ∀ a, (k0_off66 v648) a + S1x1.size a ≤ S1x2048.size a)
theorem k0_off66_inb : ∀ (i : grid0.Coords) (v648 : BitVec 32) (k0_hw23 : k0_chk23 i v648), ∀ (k0_h22 : k0_cond22 i = 1#1), ∀ a, (k0_off66 v648) a + S1x1.size a ≤ S1x2048.size a := fun i v648 k0_hw23 k0_h22 => k0_hw23 k0_h22

def k0_off67 (v664 : BitVec 32) : Fin 2 → Nat :=
  let c0_281 : Index := 0#32
  let c2_i32_276 : BitVec 32 := 2#32
  let v665 : BitVec 32 := Scalar.addi v664 c2_i32_276
  let c1_i32_277 : BitVec 32 := 1#32
  let v666 : BitVec 32 := Scalar.subi v665 c1_i32_277
  let v676 : Index := Scalar.indexCast v666
  ![0, v676.toNat]

def k0_chk24 (i : grid0.Coords) (v664 : BitVec 32) : Prop :=
  (∀ (k0_h22 : k0_cond22 i = 1#1), ∀ a, (k0_off67 v664) a + S1x1.size a ≤ S1x2048.size a)
theorem k0_off67_inb : ∀ (i : grid0.Coords) (v664 : BitVec 32) (k0_hw24 : k0_chk24 i v664), ∀ (k0_h22 : k0_cond22 i = 1#1), ∀ a, (k0_off67 v664) a + S1x1.size a ≤ S1x2048.size a := fun i v664 k0_hw24 k0_h22 => k0_hw24 k0_h22

def k0_off68 (v680 : BitVec 32) : Fin 2 → Nat :=
  let c0_289 : Index := 0#32
  let c1_i32_283 : BitVec 32 := 1#32
  let v681 : BitVec 32 := Scalar.addi v680 c1_i32_283
  let c1_i32_284 : BitVec 32 := 1#32
  let v682 : BitVec 32 := Scalar.subi v681 c1_i32_284
  let v692 : Index := Scalar.indexCast v682
  ![0, v692.toNat]

def k0_chk25 (i : grid0.Coords) (v680 : BitVec 32) : Prop :=
  (∀ (k0_h22 : k0_cond22 i = 1#1), ∀ a, (k0_off68 v680) a + S1x1.size a ≤ S1x2048.size a)
theorem k0_off68_inb : ∀ (i : grid0.Coords) (v680 : BitVec 32) (k0_hw25 : k0_chk25 i v680), ∀ (k0_h22 : k0_cond22 i = 1#1), ∀ a, (k0_off68 v680) a + S1x1.size a ≤ S1x2048.size a := fun i v680 k0_hw25 k0_h22 => k0_hw25 k0_h22

def k0_off69 (v696 : BitVec 32) : Fin 2 → Nat :=
  let c0_296 : Index := 0#32
  let c2_i32_291 : BitVec 32 := 2#32
  let v697 : BitVec 32 := Scalar.addi v696 c2_i32_291
  let c1_i32_292 : BitVec 32 := 1#32
  let v698 : BitVec 32 := Scalar.subi v697 c1_i32_292
  let v708 : Index := Scalar.indexCast v698
  ![0, v708.toNat]

def k0_chk26 (i : grid0.Coords) (v696 : BitVec 32) : Prop :=
  (∀ (k0_h22 : k0_cond22 i = 1#1), ∀ a, (k0_off69 v696) a + S1x1.size a ≤ S1x2048.size a)
theorem k0_off69_inb : ∀ (i : grid0.Coords) (v696 : BitVec 32) (k0_hw26 : k0_chk26 i v696), ∀ (k0_h22 : k0_cond22 i = 1#1), ∀ a, (k0_off69 v696) a + S1x1.size a ≤ S1x2048.size a := fun i v696 k0_hw26 k0_h22 => k0_hw26 k0_h22

def k0_off70 (v712 : BitVec 32) : Fin 2 → Nat :=
  let c0_303 : Index := 0#32
  let c1_i32_298 : BitVec 32 := 1#32
  let v713 : BitVec 32 := Scalar.addi v712 c1_i32_298
  let c1_i32_299 : BitVec 32 := 1#32
  let v714 : BitVec 32 := Scalar.subi v713 c1_i32_299
  let v724 : Index := Scalar.indexCast v714
  ![0, v724.toNat]

def k0_chk27 (i : grid0.Coords) (v712 : BitVec 32) : Prop :=
  (∀ (k0_h22 : k0_cond22 i = 1#1), ∀ a, (k0_off70 v712) a + S1x1.size a ≤ S1x2048.size a)
theorem k0_off70_inb : ∀ (i : grid0.Coords) (v712 : BitVec 32) (k0_hw27 : k0_chk27 i v712), ∀ (k0_h22 : k0_cond22 i = 1#1), ∀ a, (k0_off70 v712) a + S1x1.size a ≤ S1x2048.size a := fun i v712 k0_hw27 k0_h22 => k0_hw27 k0_h22

def k0_off71 (v728 : BitVec 32) : Fin 2 → Nat :=
  let c0_310 : Index := 0#32
  let c2_i32_305 : BitVec 32 := 2#32
  let v729 : BitVec 32 := Scalar.addi v728 c2_i32_305
  let c1_i32_306 : BitVec 32 := 1#32
  let v730 : BitVec 32 := Scalar.subi v729 c1_i32_306
  let v740 : Index := Scalar.indexCast v730
  ![0, v740.toNat]

def k0_chk28 (i : grid0.Coords) (v728 : BitVec 32) : Prop :=
  (∀ (k0_h22 : k0_cond22 i = 1#1), ∀ a, (k0_off71 v728) a + S1x1.size a ≤ S1x2048.size a)
theorem k0_off71_inb : ∀ (i : grid0.Coords) (v728 : BitVec 32) (k0_hw28 : k0_chk28 i v728), ∀ (k0_h22 : k0_cond22 i = 1#1), ∀ a, (k0_off71 v728) a + S1x1.size a ≤ S1x2048.size a := fun i v728 k0_hw28 k0_h22 => k0_hw28 k0_h22

def k0_off72 (v744 : BitVec 32) : Fin 2 → Nat :=
  let c0_318 : Index := 0#32
  let c1_i32_312 : BitVec 32 := 1#32
  let v745 : BitVec 32 := Scalar.addi v744 c1_i32_312
  let c1_i32_313 : BitVec 32 := 1#32
  let v746 : BitVec 32 := Scalar.subi v745 c1_i32_313
  let v756 : Index := Scalar.indexCast v746
  ![0, v756.toNat]

def k0_chk29 (i : grid0.Coords) (v744 : BitVec 32) : Prop :=
  (∀ (k0_h22 : k0_cond22 i = 1#1), ∀ a, (k0_off72 v744) a + S1x1.size a ≤ S1x2048.size a)
theorem k0_off72_inb : ∀ (i : grid0.Coords) (v744 : BitVec 32) (k0_hw29 : k0_chk29 i v744), ∀ (k0_h22 : k0_cond22 i = 1#1), ∀ a, (k0_off72 v744) a + S1x1.size a ≤ S1x2048.size a := fun i v744 k0_hw29 k0_h22 => k0_hw29 k0_h22

def k0_off73 (v760 : BitVec 32) : Fin 2 → Nat :=
  let c0_325 : Index := 0#32
  let c2_i32_320 : BitVec 32 := 2#32
  let v761 : BitVec 32 := Scalar.addi v760 c2_i32_320
  let c1_i32_321 : BitVec 32 := 1#32
  let v762 : BitVec 32 := Scalar.subi v761 c1_i32_321
  let v772 : Index := Scalar.indexCast v762
  ![0, v772.toNat]

def k0_chk30 (i : grid0.Coords) (v760 : BitVec 32) : Prop :=
  (∀ (k0_h22 : k0_cond22 i = 1#1), ∀ a, (k0_off73 v760) a + S1x1.size a ≤ S1x2048.size a)
theorem k0_off73_inb : ∀ (i : grid0.Coords) (v760 : BitVec 32) (k0_hw30 : k0_chk30 i v760), ∀ (k0_h22 : k0_cond22 i = 1#1), ∀ a, (k0_off73 v760) a + S1x1.size a ≤ S1x2048.size a := fun i v760 k0_hw30 k0_h22 => k0_hw30 k0_h22

def k0_off74 (v777 : BitVec 32) : Fin 2 → Nat :=
  let c0_333 : Index := 0#32
  let c2_i32_328 : BitVec 32 := 2#32
  let v778 : BitVec 32 := Scalar.addi v777 c2_i32_328
  let c2_i32_329 : BitVec 32 := 2#32
  let v779 : BitVec 32 := Scalar.subi v778 c2_i32_329
  let v789 : Index := Scalar.indexCast v779
  ![0, v789.toNat]

def k0_chk31 (i : grid0.Coords) (v777 : BitVec 32) : Prop :=
  (∀ (k0_h22 : k0_cond22 i = 1#1), ∀ a, (k0_off74 v777) a + S1x1.size a ≤ S1x2048.size a)
theorem k0_off74_inb : ∀ (i : grid0.Coords) (v777 : BitVec 32) (k0_hw31 : k0_chk31 i v777), ∀ (k0_h22 : k0_cond22 i = 1#1), ∀ a, (k0_off74 v777) a + S1x1.size a ≤ S1x2048.size a := fun i v777 k0_hw31 k0_h22 => k0_hw31 k0_h22

def k0_off75 (v793 : BitVec 32) : Fin 2 → Nat :=
  let c0_340 : Index := 0#32
  let c2_i32_335 : BitVec 32 := 2#32
  let v794 : BitVec 32 := Scalar.addi v793 c2_i32_335
  let c2_i32_336 : BitVec 32 := 2#32
  let v795 : BitVec 32 := Scalar.subi v794 c2_i32_336
  let v805 : Index := Scalar.indexCast v795
  ![0, v805.toNat]

def k0_chk32 (i : grid0.Coords) (v793 : BitVec 32) : Prop :=
  (∀ (k0_h22 : k0_cond22 i = 1#1), ∀ a, (k0_off75 v793) a + S1x1.size a ≤ S1x2048.size a)
theorem k0_off75_inb : ∀ (i : grid0.Coords) (v793 : BitVec 32) (k0_hw32 : k0_chk32 i v793), ∀ (k0_h22 : k0_cond22 i = 1#1), ∀ a, (k0_off75 v793) a + S1x1.size a ≤ S1x2048.size a := fun i v793 k0_hw32 k0_h22 => k0_hw32 k0_h22

def k0_off76 (v809 : BitVec 32) : Fin 2 → Nat :=
  let c0_347 : Index := 0#32
  let c2_i32_342 : BitVec 32 := 2#32
  let v810 : BitVec 32 := Scalar.addi v809 c2_i32_342
  let c2_i32_343 : BitVec 32 := 2#32
  let v811 : BitVec 32 := Scalar.subi v810 c2_i32_343
  let v821 : Index := Scalar.indexCast v811
  ![0, v821.toNat]

def k0_chk33 (i : grid0.Coords) (v809 : BitVec 32) : Prop :=
  (∀ (k0_h22 : k0_cond22 i = 1#1), ∀ a, (k0_off76 v809) a + S1x1.size a ≤ S1x2048.size a)
theorem k0_off76_inb : ∀ (i : grid0.Coords) (v809 : BitVec 32) (k0_hw33 : k0_chk33 i v809), ∀ (k0_h22 : k0_cond22 i = 1#1), ∀ a, (k0_off76 v809) a + S1x1.size a ≤ S1x2048.size a := fun i v809 k0_hw33 k0_h22 => k0_hw33 k0_h22

def k0_off77 (v825 : BitVec 32) : Fin 2 → Nat :=
  let c0_354 : Index := 0#32
  let c2_i32_349 : BitVec 32 := 2#32
  let v826 : BitVec 32 := Scalar.addi v825 c2_i32_349
  let c2_i32_350 : BitVec 32 := 2#32
  let v827 : BitVec 32 := Scalar.subi v826 c2_i32_350
  let v837 : Index := Scalar.indexCast v827
  ![0, v837.toNat]

def k0_chk34 (i : grid0.Coords) (v825 : BitVec 32) : Prop :=
  (∀ (k0_h22 : k0_cond22 i = 1#1), ∀ a, (k0_off77 v825) a + S1x1.size a ≤ S1x2048.size a)
theorem k0_off77_inb : ∀ (i : grid0.Coords) (v825 : BitVec 32) (k0_hw34 : k0_chk34 i v825), ∀ (k0_h22 : k0_cond22 i = 1#1), ∀ a, (k0_off77 v825) a + S1x1.size a ≤ S1x2048.size a := fun i v825 k0_hw34 k0_h22 => k0_hw34 k0_h22

def k0_off78 (v841 : BitVec 32) : Fin 2 → Nat :=
  let c0_361 : Index := 0#32
  let c2_i32_356 : BitVec 32 := 2#32
  let v842 : BitVec 32 := Scalar.addi v841 c2_i32_356
  let c2_i32_357 : BitVec 32 := 2#32
  let v843 : BitVec 32 := Scalar.subi v842 c2_i32_357
  let v853 : Index := Scalar.indexCast v843
  ![0, v853.toNat]

def k0_chk35 (i : grid0.Coords) (v841 : BitVec 32) : Prop :=
  (∀ (k0_h22 : k0_cond22 i = 1#1), ∀ a, (k0_off78 v841) a + S1x1.size a ≤ S1x2048.size a)
theorem k0_off78_inb : ∀ (i : grid0.Coords) (v841 : BitVec 32) (k0_hw35 : k0_chk35 i v841), ∀ (k0_h22 : k0_cond22 i = 1#1), ∀ a, (k0_off78 v841) a + S1x1.size a ≤ S1x2048.size a := fun i v841 k0_hw35 k0_h22 => k0_hw35 k0_h22

def k0_off79 (v857 : BitVec 32) : Fin 2 → Nat :=
  let c0_368 : Index := 0#32
  let c2_i32_363 : BitVec 32 := 2#32
  let v858 : BitVec 32 := Scalar.addi v857 c2_i32_363
  let c2_i32_364 : BitVec 32 := 2#32
  let v859 : BitVec 32 := Scalar.subi v858 c2_i32_364
  let v869 : Index := Scalar.indexCast v859
  ![0, v869.toNat]

def k0_chk36 (i : grid0.Coords) (v857 : BitVec 32) : Prop :=
  (∀ (k0_h22 : k0_cond22 i = 1#1), ∀ a, (k0_off79 v857) a + S1x1.size a ≤ S1x2048.size a)
theorem k0_off79_inb : ∀ (i : grid0.Coords) (v857 : BitVec 32) (k0_hw36 : k0_chk36 i v857), ∀ (k0_h22 : k0_cond22 i = 1#1), ∀ a, (k0_off79 v857) a + S1x1.size a ≤ S1x2048.size a := fun i v857 k0_hw36 k0_h22 => k0_hw36 k0_h22

def k0_off80 (v874 : BitVec 32) : Fin 2 → Nat :=
  let c0_376 : Index := 0#32
  let c3_i32_371 : BitVec 32 := 3#32
  let v875 : BitVec 32 := Scalar.subi v874 c3_i32_371
  let c0_i32_372 : BitVec 32 := 0#32
  let v876 : BitVec 32 := Scalar.addi v875 c0_i32_372
  let v886 : Index := Scalar.indexCast v876
  ![0, v886.toNat]

def k0_chk37 (i : grid0.Coords) (v874 : BitVec 32) : Prop :=
  (∀ (k0_h22 : k0_cond22 i = 1#1), ∀ a, (k0_off80 v874) a + S1x1.size a ≤ S1x2048.size a)
theorem k0_off80_inb : ∀ (i : grid0.Coords) (v874 : BitVec 32) (k0_hw37 : k0_chk37 i v874), ∀ (k0_h22 : k0_cond22 i = 1#1), ∀ a, (k0_off80 v874) a + S1x1.size a ≤ S1x2048.size a := fun i v874 k0_hw37 k0_h22 => k0_hw37 k0_h22

def k0_off81 (v890 : BitVec 32) : Fin 2 → Nat :=
  let c0_383 : Index := 0#32
  let c3_i32_378 : BitVec 32 := 3#32
  let v891 : BitVec 32 := Scalar.subi v890 c3_i32_378
  let c1_i32_379 : BitVec 32 := 1#32
  let v892 : BitVec 32 := Scalar.addi v891 c1_i32_379
  let v902 : Index := Scalar.indexCast v892
  ![0, v902.toNat]

def k0_chk38 (i : grid0.Coords) (v890 : BitVec 32) : Prop :=
  (∀ (k0_h22 : k0_cond22 i = 1#1), ∀ a, (k0_off81 v890) a + S1x1.size a ≤ S1x2048.size a)
theorem k0_off81_inb : ∀ (i : grid0.Coords) (v890 : BitVec 32) (k0_hw38 : k0_chk38 i v890), ∀ (k0_h22 : k0_cond22 i = 1#1), ∀ a, (k0_off81 v890) a + S1x1.size a ≤ S1x2048.size a := fun i v890 k0_hw38 k0_h22 => k0_hw38 k0_h22

def k0_off82 (v906 : BitVec 32) : Fin 2 → Nat :=
  let c0_390 : Index := 0#32
  let c3_i32_385 : BitVec 32 := 3#32
  let v907 : BitVec 32 := Scalar.subi v906 c3_i32_385
  let c2_i32_386 : BitVec 32 := 2#32
  let v908 : BitVec 32 := Scalar.addi v907 c2_i32_386
  let v918 : Index := Scalar.indexCast v908
  ![0, v918.toNat]

def k0_chk39 (i : grid0.Coords) (v906 : BitVec 32) : Prop :=
  (∀ (k0_h22 : k0_cond22 i = 1#1), ∀ a, (k0_off82 v906) a + S1x1.size a ≤ S1x2048.size a)
theorem k0_off82_inb : ∀ (i : grid0.Coords) (v906 : BitVec 32) (k0_hw39 : k0_chk39 i v906), ∀ (k0_h22 : k0_cond22 i = 1#1), ∀ a, (k0_off82 v906) a + S1x1.size a ≤ S1x2048.size a := fun i v906 k0_hw39 k0_h22 => k0_hw39 k0_h22

def k0_off83 (v922 : BitVec 32) : Fin 2 → Nat :=
  let c0_397 : Index := 0#32
  let c3_i32_392 : BitVec 32 := 3#32
  let v923 : BitVec 32 := Scalar.subi v922 c3_i32_392
  let c0_i32_393 : BitVec 32 := 0#32
  let v924 : BitVec 32 := Scalar.addi v923 c0_i32_393
  let v934 : Index := Scalar.indexCast v924
  ![0, v934.toNat]

def k0_chk40 (i : grid0.Coords) (v922 : BitVec 32) : Prop :=
  (∀ (k0_h22 : k0_cond22 i = 1#1), ∀ a, (k0_off83 v922) a + S1x1.size a ≤ S1x2048.size a)
theorem k0_off83_inb : ∀ (i : grid0.Coords) (v922 : BitVec 32) (k0_hw40 : k0_chk40 i v922), ∀ (k0_h22 : k0_cond22 i = 1#1), ∀ a, (k0_off83 v922) a + S1x1.size a ≤ S1x2048.size a := fun i v922 k0_hw40 k0_h22 => k0_hw40 k0_h22

def k0_off84 (v938 : BitVec 32) : Fin 2 → Nat :=
  let c0_404 : Index := 0#32
  let c3_i32_399 : BitVec 32 := 3#32
  let v939 : BitVec 32 := Scalar.subi v938 c3_i32_399
  let c1_i32_400 : BitVec 32 := 1#32
  let v940 : BitVec 32 := Scalar.addi v939 c1_i32_400
  let v950 : Index := Scalar.indexCast v940
  ![0, v950.toNat]

def k0_chk41 (i : grid0.Coords) (v938 : BitVec 32) : Prop :=
  (∀ (k0_h22 : k0_cond22 i = 1#1), ∀ a, (k0_off84 v938) a + S1x1.size a ≤ S1x2048.size a)
theorem k0_off84_inb : ∀ (i : grid0.Coords) (v938 : BitVec 32) (k0_hw41 : k0_chk41 i v938), ∀ (k0_h22 : k0_cond22 i = 1#1), ∀ a, (k0_off84 v938) a + S1x1.size a ≤ S1x2048.size a := fun i v938 k0_hw41 k0_h22 => k0_hw41 k0_h22

def k0_off85 (v954 : BitVec 32) : Fin 2 → Nat :=
  let c0_411 : Index := 0#32
  let c3_i32_406 : BitVec 32 := 3#32
  let v955 : BitVec 32 := Scalar.subi v954 c3_i32_406
  let c2_i32_407 : BitVec 32 := 2#32
  let v956 : BitVec 32 := Scalar.addi v955 c2_i32_407
  let v966 : Index := Scalar.indexCast v956
  ![0, v966.toNat]

def k0_chk42 (i : grid0.Coords) (v954 : BitVec 32) : Prop :=
  (∀ (k0_h22 : k0_cond22 i = 1#1), ∀ a, (k0_off85 v954) a + S1x1.size a ≤ S1x2048.size a)
theorem k0_off85_inb : ∀ (i : grid0.Coords) (v954 : BitVec 32) (k0_hw42 : k0_chk42 i v954), ∀ (k0_h22 : k0_cond22 i = 1#1), ∀ a, (k0_off85 v954) a + S1x1.size a ≤ S1x2048.size a := fun i v954 k0_hw42 k0_h22 => k0_hw42 k0_h22

def k0_off86 (v970 : BitVec 32) : Fin 2 → Nat :=
  let c0_417 : Index := 0#32
  let c3_i32_413 : BitVec 32 := 3#32
  let v971 : BitVec 32 := Scalar.subi v970 c3_i32_413
  let c0_i32_414 : BitVec 32 := 0#32
  let v972 : BitVec 32 := Scalar.addi v971 c0_i32_414
  let v982 : Index := Scalar.indexCast v972
  ![0, v982.toNat]

def k0_chk43 (i : grid0.Coords) (v970 : BitVec 32) : Prop :=
  (∀ (k0_h22 : k0_cond22 i = 1#1), ∀ a, (k0_off86 v970) a + S1x1.size a ≤ S1x2048.size a)
theorem k0_off86_inb : ∀ (i : grid0.Coords) (v970 : BitVec 32) (k0_hw43 : k0_chk43 i v970), ∀ (k0_h22 : k0_cond22 i = 1#1), ∀ a, (k0_off86 v970) a + S1x1.size a ≤ S1x2048.size a := fun i v970 k0_hw43 k0_h22 => k0_hw43 k0_h22

def k0_off87 (v986 : BitVec 32) : Fin 2 → Nat :=
  let c0_424 : Index := 0#32
  let c3_i32_419 : BitVec 32 := 3#32
  let v987 : BitVec 32 := Scalar.subi v986 c3_i32_419
  let c1_i32_420 : BitVec 32 := 1#32
  let v988 : BitVec 32 := Scalar.addi v987 c1_i32_420
  let v998 : Index := Scalar.indexCast v988
  ![0, v998.toNat]

def k0_chk44 (i : grid0.Coords) (v986 : BitVec 32) : Prop :=
  (∀ (k0_h22 : k0_cond22 i = 1#1), ∀ a, (k0_off87 v986) a + S1x1.size a ≤ S1x2048.size a)
theorem k0_off87_inb : ∀ (i : grid0.Coords) (v986 : BitVec 32) (k0_hw44 : k0_chk44 i v986), ∀ (k0_h22 : k0_cond22 i = 1#1), ∀ a, (k0_off87 v986) a + S1x1.size a ≤ S1x2048.size a := fun i v986 k0_hw44 k0_h22 => k0_hw44 k0_h22

def k0_off88 (v1002 : BitVec 32) : Fin 2 → Nat :=
  let c0_431 : Index := 0#32
  let c3_i32_426 : BitVec 32 := 3#32
  let v1003 : BitVec 32 := Scalar.subi v1002 c3_i32_426
  let c2_i32_427 : BitVec 32 := 2#32
  let v1004 : BitVec 32 := Scalar.addi v1003 c2_i32_427
  let v1014 : Index := Scalar.indexCast v1004
  ![0, v1014.toNat]

def k0_chk45 (i : grid0.Coords) (v1002 : BitVec 32) : Prop :=
  (∀ (k0_h22 : k0_cond22 i = 1#1), ∀ a, (k0_off88 v1002) a + S1x1.size a ≤ S1x2048.size a)
theorem k0_off88_inb : ∀ (i : grid0.Coords) (v1002 : BitVec 32) (k0_hw45 : k0_chk45 i v1002), ∀ (k0_h22 : k0_cond22 i = 1#1), ∀ a, (k0_off88 v1002) a + S1x1.size a ≤ S1x2048.size a := fun i v1002 k0_hw45 k0_h22 => k0_hw45 k0_h22

def k0_off89 (v1018 : BitVec 32) : Fin 2 → Nat :=
  let c0_437 : Index := 0#32
  let c3_i32_433 : BitVec 32 := 3#32
  let v1019 : BitVec 32 := Scalar.subi v1018 c3_i32_433
  let c0_i32_434 : BitVec 32 := 0#32
  let v1020 : BitVec 32 := Scalar.addi v1019 c0_i32_434
  let v1030 : Index := Scalar.indexCast v1020
  ![0, v1030.toNat]

def k0_chk46 (i : grid0.Coords) (v1018 : BitVec 32) : Prop :=
  (∀ (k0_h22 : k0_cond22 i = 1#1), ∀ a, (k0_off89 v1018) a + S1x1.size a ≤ S1x2048.size a)
theorem k0_off89_inb : ∀ (i : grid0.Coords) (v1018 : BitVec 32) (k0_hw46 : k0_chk46 i v1018), ∀ (k0_h22 : k0_cond22 i = 1#1), ∀ a, (k0_off89 v1018) a + S1x1.size a ≤ S1x2048.size a := fun i v1018 k0_hw46 k0_h22 => k0_hw46 k0_h22

def k0_off90 (v1034 : BitVec 32) : Fin 2 → Nat :=
  let c0_444 : Index := 0#32
  let c3_i32_439 : BitVec 32 := 3#32
  let v1035 : BitVec 32 := Scalar.subi v1034 c3_i32_439
  let c1_i32_440 : BitVec 32 := 1#32
  let v1036 : BitVec 32 := Scalar.addi v1035 c1_i32_440
  let v1046 : Index := Scalar.indexCast v1036
  ![0, v1046.toNat]

def k0_chk47 (i : grid0.Coords) (v1034 : BitVec 32) : Prop :=
  (∀ (k0_h22 : k0_cond22 i = 1#1), ∀ a, (k0_off90 v1034) a + S1x1.size a ≤ S1x2048.size a)
theorem k0_off90_inb : ∀ (i : grid0.Coords) (v1034 : BitVec 32) (k0_hw47 : k0_chk47 i v1034), ∀ (k0_h22 : k0_cond22 i = 1#1), ∀ a, (k0_off90 v1034) a + S1x1.size a ≤ S1x2048.size a := fun i v1034 k0_hw47 k0_h22 => k0_hw47 k0_h22

def k0_off91 (v1050 : BitVec 32) : Fin 2 → Nat :=
  let c0_451 : Index := 0#32
  let c3_i32_446 : BitVec 32 := 3#32
  let v1051 : BitVec 32 := Scalar.subi v1050 c3_i32_446
  let c2_i32_447 : BitVec 32 := 2#32
  let v1052 : BitVec 32 := Scalar.addi v1051 c2_i32_447
  let v1062 : Index := Scalar.indexCast v1052
  ![0, v1062.toNat]

def k0_chk48 (i : grid0.Coords) (v1050 : BitVec 32) : Prop :=
  (∀ (k0_h22 : k0_cond22 i = 1#1), ∀ a, (k0_off91 v1050) a + S1x1.size a ≤ S1x2048.size a)
theorem k0_off91_inb : ∀ (i : grid0.Coords) (v1050 : BitVec 32) (k0_hw48 : k0_chk48 i v1050), ∀ (k0_h22 : k0_cond22 i = 1#1), ∀ a, (k0_off91 v1050) a + S1x1.size a ≤ S1x2048.size a := fun i v1050 k0_hw48 k0_h22 => k0_hw48 k0_h22

def k0_off92 (v1066 : BitVec 32) : Fin 2 → Nat :=
  let c0_457 : Index := 0#32
  let c3_i32_453 : BitVec 32 := 3#32
  let v1067 : BitVec 32 := Scalar.subi v1066 c3_i32_453
  let c0_i32_454 : BitVec 32 := 0#32
  let v1068 : BitVec 32 := Scalar.addi v1067 c0_i32_454
  let v1078 : Index := Scalar.indexCast v1068
  ![0, v1078.toNat]

def k0_chk49 (i : grid0.Coords) (v1066 : BitVec 32) : Prop :=
  (∀ (k0_h22 : k0_cond22 i = 1#1), ∀ a, (k0_off92 v1066) a + S1x1.size a ≤ S1x2048.size a)
theorem k0_off92_inb : ∀ (i : grid0.Coords) (v1066 : BitVec 32) (k0_hw49 : k0_chk49 i v1066), ∀ (k0_h22 : k0_cond22 i = 1#1), ∀ a, (k0_off92 v1066) a + S1x1.size a ≤ S1x2048.size a := fun i v1066 k0_hw49 k0_h22 => k0_hw49 k0_h22

def k0_off93 (v1082 : BitVec 32) : Fin 2 → Nat :=
  let c0_464 : Index := 0#32
  let c3_i32_459 : BitVec 32 := 3#32
  let v1083 : BitVec 32 := Scalar.subi v1082 c3_i32_459
  let c1_i32_460 : BitVec 32 := 1#32
  let v1084 : BitVec 32 := Scalar.addi v1083 c1_i32_460
  let v1094 : Index := Scalar.indexCast v1084
  ![0, v1094.toNat]

def k0_chk50 (i : grid0.Coords) (v1082 : BitVec 32) : Prop :=
  (∀ (k0_h22 : k0_cond22 i = 1#1), ∀ a, (k0_off93 v1082) a + S1x1.size a ≤ S1x2048.size a)
theorem k0_off93_inb : ∀ (i : grid0.Coords) (v1082 : BitVec 32) (k0_hw50 : k0_chk50 i v1082), ∀ (k0_h22 : k0_cond22 i = 1#1), ∀ a, (k0_off93 v1082) a + S1x1.size a ≤ S1x2048.size a := fun i v1082 k0_hw50 k0_h22 => k0_hw50 k0_h22

def k0_off94 (v1098 : BitVec 32) : Fin 2 → Nat :=
  let c0_471 : Index := 0#32
  let c3_i32_466 : BitVec 32 := 3#32
  let v1099 : BitVec 32 := Scalar.subi v1098 c3_i32_466
  let c2_i32_467 : BitVec 32 := 2#32
  let v1100 : BitVec 32 := Scalar.addi v1099 c2_i32_467
  let v1110 : Index := Scalar.indexCast v1100
  ![0, v1110.toNat]

def k0_chk51 (i : grid0.Coords) (v1098 : BitVec 32) : Prop :=
  (∀ (k0_h22 : k0_cond22 i = 1#1), ∀ a, (k0_off94 v1098) a + S1x1.size a ≤ S1x2048.size a)
theorem k0_off94_inb : ∀ (i : grid0.Coords) (v1098 : BitVec 32) (k0_hw51 : k0_chk51 i v1098), ∀ (k0_h22 : k0_cond22 i = 1#1), ∀ a, (k0_off94 v1098) a + S1x1.size a ≤ S1x2048.size a := fun i v1098 k0_hw51 k0_h22 => k0_hw51 k0_h22

def k0_off95 (v1114 : BitVec 32) : Fin 2 → Nat :=
  let c0_477 : Index := 0#32
  let c3_i32_473 : BitVec 32 := 3#32
  let v1115 : BitVec 32 := Scalar.subi v1114 c3_i32_473
  let c0_i32_474 : BitVec 32 := 0#32
  let v1116 : BitVec 32 := Scalar.addi v1115 c0_i32_474
  let v1126 : Index := Scalar.indexCast v1116
  ![0, v1126.toNat]

def k0_chk52 (i : grid0.Coords) (v1114 : BitVec 32) : Prop :=
  (∀ (k0_h22 : k0_cond22 i = 1#1), ∀ a, (k0_off95 v1114) a + S1x1.size a ≤ S1x2048.size a)
theorem k0_off95_inb : ∀ (i : grid0.Coords) (v1114 : BitVec 32) (k0_hw52 : k0_chk52 i v1114), ∀ (k0_h22 : k0_cond22 i = 1#1), ∀ a, (k0_off95 v1114) a + S1x1.size a ≤ S1x2048.size a := fun i v1114 k0_hw52 k0_h22 => k0_hw52 k0_h22

def k0_off96 (v1130 : BitVec 32) : Fin 2 → Nat :=
  let c0_483 : Index := 0#32
  let c3_i32_479 : BitVec 32 := 3#32
  let v1131 : BitVec 32 := Scalar.subi v1130 c3_i32_479
  let c1_i32_480 : BitVec 32 := 1#32
  let v1132 : BitVec 32 := Scalar.addi v1131 c1_i32_480
  let v1142 : Index := Scalar.indexCast v1132
  ![0, v1142.toNat]

def k0_chk53 (i : grid0.Coords) (v1130 : BitVec 32) : Prop :=
  (∀ (k0_h22 : k0_cond22 i = 1#1), ∀ a, (k0_off96 v1130) a + S1x1.size a ≤ S1x2048.size a)
theorem k0_off96_inb : ∀ (i : grid0.Coords) (v1130 : BitVec 32) (k0_hw53 : k0_chk53 i v1130), ∀ (k0_h22 : k0_cond22 i = 1#1), ∀ a, (k0_off96 v1130) a + S1x1.size a ≤ S1x2048.size a := fun i v1130 k0_hw53 k0_h22 => k0_hw53 k0_h22

def k0_off97 (v1146 : BitVec 32) : Fin 2 → Nat :=
  let c0_490 : Index := 0#32
  let c3_i32_485 : BitVec 32 := 3#32
  let v1147 : BitVec 32 := Scalar.subi v1146 c3_i32_485
  let c2_i32_486 : BitVec 32 := 2#32
  let v1148 : BitVec 32 := Scalar.addi v1147 c2_i32_486
  let v1158 : Index := Scalar.indexCast v1148
  ![0, v1158.toNat]

def k0_chk54 (i : grid0.Coords) (v1146 : BitVec 32) : Prop :=
  (∀ (k0_h22 : k0_cond22 i = 1#1), ∀ a, (k0_off97 v1146) a + S1x1.size a ≤ S1x2048.size a)
theorem k0_off97_inb : ∀ (i : grid0.Coords) (v1146 : BitVec 32) (k0_hw54 : k0_chk54 i v1146), ∀ (k0_h22 : k0_cond22 i = 1#1), ∀ a, (k0_off97 v1146) a + S1x1.size a ≤ S1x2048.size a := fun i v1146 k0_hw54 k0_h22 => k0_hw54 k0_h22

@[reducible] def k0_t21_loop : Scf.Loop 32 :=
  let c0_i32_491 : BitVec 32 := 0#32
  let c16_i32_492 : BitVec 32 := 16#32
  let v1163 : BitVec 32 := Scalar.addi c0_i32_491 c16_i32_492
  let c1_i32_493 : BitVec 32 := 1#32
  ⟨c0_i32_491, v1163, c1_i32_493⟩
def k0_mult28 (k0_t21 : Fin k0_t21_loop.trips) : BitVec 32 :=
  let c0_i32_491 : BitVec 32 := 0#32
  let c1_i32_493 : BitVec 32 := 1#32
  let arg18 : BitVec 32 := Scf.iv c0_i32_491 c1_i32_493 k0_t21
  let c512_i32 : BitVec 32 := 512#32
  let v1164 : BitVec 32 := Scalar.muli arg18 c512_i32
  v1164
def k0_off98 (k0_t21 : Fin k0_t21_loop.trips) : Fin 2 → Nat :=
  let c0_i32_491 : BitVec 32 := 0#32
  let c1_i32_493 : BitVec 32 := 1#32
  let arg18 : BitVec 32 := Scf.iv c0_i32_491 c1_i32_493 k0_t21
  let c512_i32 : BitVec 32 := 512#32
  let v1164 : BitVec 32 := Scalar.muli arg18 c512_i32
  let v1165 : BitVec 32 := v1164
  let v1166 : Index := Scalar.indexCast v1165
  let c0_495 : Index := 0#32
  ![v1166.toNat, 0]
def k0_off99 (k0_t21 : Fin k0_t21_loop.trips) : Fin 2 → Nat :=
  let c0_497 : Index := 0#32
  let c0_i32_491 : BitVec 32 := 0#32
  let c1_i32_493 : BitVec 32 := 1#32
  let arg18 : BitVec 32 := Scf.iv c0_i32_491 c1_i32_493 k0_t21
  let c512_i32 : BitVec 32 := 512#32
  let v1164 : BitVec 32 := Scalar.muli arg18 c512_i32
  let v1165 : BitVec 32 := v1164
  let v1182 : Index := Scalar.indexCast v1165
  ![0, v1182.toNat]
def k0_off100 (k0_t21 : Fin k0_t21_loop.trips) : Fin 2 → Nat :=
  let c0_498 : Index := 0#32
  let c0_i32_491 : BitVec 32 := 0#32
  let c1_i32_493 : BitVec 32 := 1#32
  let arg18 : BitVec 32 := Scf.iv c0_i32_491 c1_i32_493 k0_t21
  let c512_i32 : BitVec 32 := 512#32
  let v1164 : BitVec 32 := Scalar.muli arg18 c512_i32
  let v1165 : BitVec 32 := v1164
  let v1186 : Index := Scalar.indexCast v1165
  ![0, v1186.toNat]
def k0_off101 (k0_t21 : Fin k0_t21_loop.trips) : Fin 3 → Nat :=
  let c0_502 : Index := 0#32
  let c0_503 : Index := 0#32
  let c0_i32_491 : BitVec 32 := 0#32
  let c1_i32_493 : BitVec 32 := 1#32
  let arg18 : BitVec 32 := Scf.iv c0_i32_491 c1_i32_493 k0_t21
  let c512_i32 : BitVec 32 := 512#32
  let v1164 : BitVec 32 := Scalar.muli arg18 c512_i32
  let v1165 : BitVec 32 := v1164
  let v1213 : Index := Scalar.indexCast v1165
  ![0, 0, v1213.toNat]
def k0_off102 (k0_t21 : Fin k0_t21_loop.trips) : Fin 3 → Nat :=
  let c1_506 : Index := 1#32
  let c0_507 : Index := 0#32
  let c0_i32_491 : BitVec 32 := 0#32
  let c1_i32_493 : BitVec 32 := 1#32
  let arg18 : BitVec 32 := Scf.iv c0_i32_491 c1_i32_493 k0_t21
  let c512_i32 : BitVec 32 := 512#32
  let v1164 : BitVec 32 := Scalar.muli arg18 c512_i32
  let v1165 : BitVec 32 := v1164
  let v1223 : Index := Scalar.indexCast v1165
  ![1, 0, v1223.toNat]
def k0_off103 (k0_t21 : Fin k0_t21_loop.trips) : Fin 3 → Nat :=
  let c2_510 : Index := 2#32
  let c0_511 : Index := 0#32
  let c0_i32_491 : BitVec 32 := 0#32
  let c1_i32_493 : BitVec 32 := 1#32
  let arg18 : BitVec 32 := Scf.iv c0_i32_491 c1_i32_493 k0_t21
  let c512_i32 : BitVec 32 := 512#32
  let v1164 : BitVec 32 := Scalar.muli arg18 c512_i32
  let v1165 : BitVec 32 := v1164
  let v1233 : Index := Scalar.indexCast v1165
  ![2, 0, v1233.toNat]
def k0_off104 (k0_t21 : Fin k0_t21_loop.trips) : Fin 3 → Nat :=
  let c3_514 : Index := 3#32
  let c0_515 : Index := 0#32
  let c0_i32_491 : BitVec 32 := 0#32
  let c1_i32_493 : BitVec 32 := 1#32
  let arg18 : BitVec 32 := Scf.iv c0_i32_491 c1_i32_493 k0_t21
  let c512_i32 : BitVec 32 := 512#32
  let v1164 : BitVec 32 := Scalar.muli arg18 c512_i32
  let v1165 : BitVec 32 := v1164
  let v1243 : Index := Scalar.indexCast v1165
  ![3, 0, v1243.toNat]
def k0_off105 (k0_t21 : Fin k0_t21_loop.trips) : Fin 3 → Nat :=
  let c4_518 : Index := 4#32
  let c0_519 : Index := 0#32
  let c0_i32_491 : BitVec 32 := 0#32
  let c1_i32_493 : BitVec 32 := 1#32
  let arg18 : BitVec 32 := Scf.iv c0_i32_491 c1_i32_493 k0_t21
  let c512_i32 : BitVec 32 := 512#32
  let v1164 : BitVec 32 := Scalar.muli arg18 c512_i32
  let v1165 : BitVec 32 := v1164
  let v1253 : Index := Scalar.indexCast v1165
  ![4, 0, v1253.toNat]
def k0_off106 (k0_t21 : Fin k0_t21_loop.trips) : Fin 3 → Nat :=
  let c5_522 : Index := 5#32
  let c0_523 : Index := 0#32
  let c0_i32_491 : BitVec 32 := 0#32
  let c1_i32_493 : BitVec 32 := 1#32
  let arg18 : BitVec 32 := Scf.iv c0_i32_491 c1_i32_493 k0_t21
  let c512_i32 : BitVec 32 := 512#32
  let v1164 : BitVec 32 := Scalar.muli arg18 c512_i32
  let v1165 : BitVec 32 := v1164
  let v1263 : Index := Scalar.indexCast v1165
  ![5, 0, v1263.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .smem S7 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8192x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x8192 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8192x256 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S6x3x8192 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S6x3x8192 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelIdeal.lean ====
variable {F : FTy → Type} [FloatOps F]
-- ==== ReferenceIdeal.lean ====
abbrev S8192x2048 : Shape := ⟨2, ![8192, 2048]⟩
abbrev S1x2048 : Shape := ⟨2, ![1, 2048]⟩
abbrev S7 : Shape := ⟨1, ![7]⟩
abbrev S8192x4 : Shape := ⟨2, ![8192, 4]⟩
abbrev S8192 : Shape := ⟨1, ![8192]⟩
abbrev S2048 : Shape := ⟨1, ![2048]⟩
abbrev S_ : Shape := ⟨0, ![]⟩
abbrev S1 : Shape := ⟨1, ![1]⟩
abbrev S3x2048 : Shape := ⟨2, ![3, 2048]⟩
abbrev S8192x1 : Shape := ⟨2, ![8192, 1]⟩
abbrev S8192x3 : Shape := ⟨2, ![8192, 3]⟩
abbrev S8192x2045 : Shape := ⟨2, ![8192, 2045]⟩
abbrev S8192x2 : Shape := ⟨2, ![8192, 2]⟩
abbrev S8192x2046 : Shape := ⟨2, ![8192, 2046]⟩
abbrev S8192x2047 : Shape := ⟨2, ![8192, 2047]⟩

abbrev nBuf : Space → Nat
  | .hbm => 223
  | .vmem => 7
  | .smem => 0
  | _ => 0

abbrev hbmTy0_0 (i : Nat) : BufTy := match i % 128 with
  | 0 => ⟨S8192x2048, .i8⟩
  | 1 => ⟨S1x2048, .f32⟩
  | 2 => ⟨S7, .i32⟩
  | 3 => ⟨S8192x4, .bf16⟩
  | 4 => ⟨S8192, .bf16⟩
  | 5 => ⟨S8192x2048, .fp8e4m3⟩
  | 6 => ⟨S2048, .i32⟩
  | 7 => ⟨S_, .i32⟩
  | 8 => ⟨S2048, .i32⟩
  | 9 => ⟨S2048, .i1⟩
  | 10 => ⟨S1, .i32⟩
  | 11 => ⟨S_, .i32⟩
  | 12 => ⟨S_, .i32⟩
  | 13 => ⟨S2048, .i32⟩
  | 14 => ⟨S2048, .i32⟩
  | 15 => ⟨S2048, .i32⟩
  | 16 => ⟨S2048, .i1⟩
  | 17 => ⟨S1, .i32⟩
  | 18 => ⟨S_, .i32⟩
  | 19 => ⟨S2048, .i32⟩
  | 20 => ⟨S2048, .i1⟩
  | 21 => ⟨S2048, .i1⟩
  | 22 => ⟨S2048, .i1⟩
  | 23 => ⟨S1, .i32⟩
  | 24 => ⟨S_, .i32⟩
  | 25 => ⟨S_, .i32⟩
  | 26 => ⟨S2048, .i32⟩
  | 27 => ⟨S2048, .i32⟩
  | 28 => ⟨S2048, .i32⟩
  | 29 => ⟨S2048, .i1⟩
  | 30 => ⟨S1, .i32⟩
  | 31 => ⟨S_, .i32⟩
  | 32 => ⟨S2048, .i32⟩
  | 33 => ⟨S2048, .i1⟩
  | 34 => ⟨S2048, .i1⟩
  | 35 => ⟨S2048, .i1⟩
  | 36 => ⟨S1, .i32⟩
  | 37 => ⟨S_, .i32⟩
  | 38 => ⟨S_, .i32⟩
  | 39 => ⟨S2048, .i32⟩
  | 40 => ⟨S2048, .i32⟩
  | 41 => ⟨S2048, .i32⟩
  | 42 => ⟨S2048, .i1⟩
  | 43 => ⟨S1, .i32⟩
  | 44 => ⟨S_, .i32⟩
  | 45 => ⟨S2048, .i32⟩
  | 46 => ⟨S2048, .i1⟩
  | 47 => ⟨S2048, .i1⟩
  | 48 => ⟨S2048, .i1⟩
  | 49 => ⟨S1, .i32⟩
  | 50 => ⟨S_, .i32⟩
  | 51 => ⟨S_, .i32⟩
  | 52 => ⟨S2048, .i32⟩
  | 53 => ⟨S2048, .i32⟩
  | 54 => ⟨S2048, .i32⟩
  | 55 => ⟨S2048, .i1⟩
  | 56 => ⟨S1, .i32⟩
  | 57 => ⟨S_, .i32⟩
  | 58 => ⟨S2048, .i32⟩
  | 59 => ⟨S2048, .i1⟩
  | 60 => ⟨S2048, .i1⟩
  | 61 => ⟨S2048, .i1⟩
  | 62 => ⟨S1, .i32⟩
  | 63 => ⟨S_, .i32⟩
  | 64 => ⟨S_, .i32⟩
  | 65 => ⟨S2048, .i32⟩
  | 66 => ⟨S2048, .i32⟩
  | 67 => ⟨S2048, .i32⟩
  | 68 => ⟨S2048, .i1⟩
  | 69 => ⟨S1, .i32⟩
  | 70 => ⟨S_, .i32⟩
  | 71 => ⟨S2048, .i32⟩
  | 72 => ⟨S2048, .i1⟩
  | 73 => ⟨S2048, .i1⟩
  | 74 => ⟨S2048, .i1⟩
  | 75 => ⟨S2048, .i32⟩
  | 76 => ⟨S_, .i32⟩
  | 77 => ⟨S2048, .i32⟩
  | 78 => ⟨S2048, .i1⟩
  | 79 => ⟨S1, .i32⟩
  | 80 => ⟨S_, .i32⟩
  | 81 => ⟨S_, .i32⟩
  | 82 => ⟨S2048, .i32⟩
  | 83 => ⟨S2048, .i32⟩
  | 84 => ⟨S2048, .i32⟩
  | 85 => ⟨S2048, .i1⟩
  | 86 => ⟨S1, .i32⟩
  | 87 => ⟨S_, .i32⟩
  | 88 => ⟨S2048, .i32⟩
  | 89 => ⟨S2048, .i1⟩
  | 90 => ⟨S2048, .i1⟩
  | 91 => ⟨S2048, .i1⟩
  | 92 => ⟨S1, .i32⟩
  | 93 => ⟨S_, .i32⟩
  | 94 => ⟨S_, .i32⟩
  | 95 => ⟨S2048, .i32⟩
  | 96 => ⟨S2048, .i32⟩
  | 97 => ⟨S2048, .i32⟩
  | 98 => ⟨S2048, .i1⟩
  | 99 => ⟨S1, .i32⟩
  | 100 => ⟨S_, .i32⟩
  | 101 => ⟨S2048, .i32⟩
  | 102 => ⟨S2048, .i1⟩
  | 103 => ⟨S2048, .i1⟩
  | 104 => ⟨S2048, .i1⟩
  | 105 => ⟨S1, .i32⟩
  | 106 => ⟨S_, .i32⟩
  | 107 => ⟨S_, .i32⟩
  | 108 => ⟨S2048, .i32⟩
  | 109 => ⟨S2048, .i32⟩
  | 110 => ⟨S2048, .i32⟩
  | 111 => ⟨S2048, .i1⟩
  | 112 => ⟨S1, .i32⟩
  | 113 => ⟨S_, .i32⟩
  | 114 => ⟨S2048, .i32⟩
  | 115 => ⟨S2048, .i1⟩
  | 116 => ⟨S2048, .i1⟩
  | 117 => ⟨S2048, .i1⟩
  | 118 => ⟨S1, .i32⟩
  | 119 => ⟨S_, .i32⟩
  | 120 => ⟨S_, .i32⟩
  | 121 => ⟨S2048, .i32⟩
  | 122 => ⟨S2048, .i32⟩
  | 123 => ⟨S2048, .i32⟩
  | 124 => ⟨S2048, .i1⟩
  | 125 => ⟨S1, .i32⟩
  | 126 => ⟨S_, .i32⟩
  | 127 => ⟨S2048, .i32⟩
  | _ => ⟨S8192x2048, .i8⟩

abbrev hbmTy0_1 (i : Nat) : BufTy := match i % 128 with
  | 0 => ⟨S2048, .i1⟩
  | 1 => ⟨S2048, .i1⟩
  | 2 => ⟨S2048, .i1⟩
  | 3 => ⟨S1, .i32⟩
  | 4 => ⟨S_, .i32⟩
  | 5 => ⟨S_, .i32⟩
  | 6 => ⟨S2048, .i32⟩
  | 7 => ⟨S2048, .i32⟩
  | 8 => ⟨S2048, .i32⟩
  | 9 => ⟨S2048, .i1⟩
  | 10 => ⟨S1, .i32⟩
  | 11 => ⟨S_, .i32⟩
  | 12 => ⟨S2048, .i32⟩
  | 13 => ⟨S2048, .i1⟩
  | 14 => ⟨S2048, .i1⟩
  | 15 => ⟨S2048, .i1⟩
  | 16 => ⟨S2048, .i32⟩
  | 17 => ⟨S_, .i32⟩
  | 18 => ⟨S2048, .i32⟩
  | 19 => ⟨S2048, .i1⟩
  | 20 => ⟨S1, .i32⟩
  | 21 => ⟨S_, .i32⟩
  | 22 => ⟨S_, .i32⟩
  | 23 => ⟨S2048, .i32⟩
  | 24 => ⟨S2048, .i32⟩
  | 25 => ⟨S2048, .i32⟩
  | 26 => ⟨S2048, .i1⟩
  | 27 => ⟨S1, .i32⟩
  | 28 => ⟨S_, .i32⟩
  | 29 => ⟨S2048, .i32⟩
  | 30 => ⟨S2048, .i1⟩
  | 31 => ⟨S2048, .i1⟩
  | 32 => ⟨S2048, .i1⟩
  | 33 => ⟨S1, .i32⟩
  | 34 => ⟨S_, .i32⟩
  | 35 => ⟨S_, .i32⟩
  | 36 => ⟨S2048, .i32⟩
  | 37 => ⟨S2048, .i32⟩
  | 38 => ⟨S2048, .i32⟩
  | 39 => ⟨S2048, .i1⟩
  | 40 => ⟨S1, .i32⟩
  | 41 => ⟨S_, .i32⟩
  | 42 => ⟨S2048, .i32⟩
  | 43 => ⟨S2048, .i1⟩
  | 44 => ⟨S2048, .i1⟩
  | 45 => ⟨S2048, .i1⟩
  | 46 => ⟨S1, .i32⟩
  | 47 => ⟨S_, .i32⟩
  | 48 => ⟨S_, .i32⟩
  | 49 => ⟨S2048, .i32⟩
  | 50 => ⟨S2048, .i32⟩
  | 51 => ⟨S2048, .i32⟩
  | 52 => ⟨S2048, .i1⟩
  | 53 => ⟨S1, .i32⟩
  | 54 => ⟨S_, .i32⟩
  | 55 => ⟨S2048, .i32⟩
  | 56 => ⟨S2048, .i1⟩
  | 57 => ⟨S2048, .i1⟩
  | 58 => ⟨S2048, .i1⟩
  | 59 => ⟨S1, .i32⟩
  | 60 => ⟨S_, .i32⟩
  | 61 => ⟨S_, .i32⟩
  | 62 => ⟨S2048, .i32⟩
  | 63 => ⟨S2048, .i32⟩
  | 64 => ⟨S2048, .i32⟩
  | 65 => ⟨S2048, .i1⟩
  | 66 => ⟨S1, .i32⟩
  | 67 => ⟨S_, .i32⟩
  | 68 => ⟨S2048, .i32⟩
  | 69 => ⟨S2048, .i1⟩
  | 70 => ⟨S2048, .i1⟩
  | 71 => ⟨S2048, .i1⟩
  | 72 => ⟨S1, .i32⟩
  | 73 => ⟨S_, .i32⟩
  | 74 => ⟨S_, .i32⟩
  | 75 => ⟨S2048, .i32⟩
  | 76 => ⟨S2048, .i32⟩
  | 77 => ⟨S2048, .i32⟩
  | 78 => ⟨S2048, .i1⟩
  | 79 => ⟨S1, .i32⟩
  | 80 => ⟨S_, .i32⟩
  | 81 => ⟨S2048, .i32⟩
  | 82 => ⟨S2048, .i1⟩
  | 83 => ⟨S2048, .i1⟩
  | 84 => ⟨S2048, .i1⟩
  | 85 => ⟨S2048, .i32⟩
  | 86 => ⟨S1x2048, .i32⟩
  | 87 => ⟨S1x2048, .i32⟩
  | 88 => ⟨S1x2048, .i32⟩
  | 89 => ⟨S3x2048, .i32⟩
  | 90 => ⟨S8192x4, .f32⟩
  | 91 => ⟨S8192, .f32⟩
  | 92 => ⟨S8192x1, .f32⟩
  | 93 => ⟨S8192x2048, .fp8e4m3⟩
  | 94 => ⟨S1x2048, .f32⟩
  | _ => ⟨S8192x2048, .i8⟩

abbrev hbmTy (i : Nat) : BufTy := match i / 128 with
  | 0 => hbmTy0_0 i
  | 1 => hbmTy0_1 i
  | _ => ⟨S8192x2048, .i8⟩

abbrev bufTy : (tb : Table) → Fin (tcTables nBuf tb) → BufTy
  | .hbm, ⟨i, _⟩ => hbmTy i
  | .local _ .vmem, ⟨0, _⟩ => ⟨S8192x2048, .fp8e4m3⟩
  | .local _ .vmem, ⟨1, _⟩ => ⟨S1x2048, .f32⟩
  | .local _ .vmem, ⟨2, _⟩ => ⟨S3x2048, .i32⟩
  | .local _ .vmem, ⟨3, _⟩ => ⟨S8192x4, .f32⟩
  | .local _ .vmem, ⟨4, _⟩ => ⟨S8192x1, .f32⟩
  | .local _ .vmem, ⟨5, _⟩ => ⟨S8192x2048, .fp8e4m3⟩
  | .local _ .vmem, ⟨6, _⟩ => ⟨S1x2048, .f32⟩
  | _, _ => ⟨S8192x2048, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c_2 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_c_3 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_c_4 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_c_5 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_c_6 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_c_7 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_c_8 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_c_9 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_c_10 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_c_11 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_c_12 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_c_13 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_c_14 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_c_15 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_v178 : Ref sig .tc := ⟨.hbm, 200, rfl⟩
abbrev main_v179 : Ref sig .tc := ⟨.hbm, 201, rfl⟩
abbrev main_c_16 : Ref sig .tc := ⟨.hbm, 202, rfl⟩
abbrev main_v180 : Ref sig .tc := ⟨.hbm, 203, rfl⟩
abbrev main_v181 : Ref sig .tc := ⟨.hbm, 204, rfl⟩
abbrev main_v182 : Ref sig .tc := ⟨.hbm, 205, rfl⟩
abbrev main_v183 : Ref sig .tc := ⟨.hbm, 206, rfl⟩
abbrev main_v184 : Ref sig .tc := ⟨.hbm, 207, rfl⟩
abbrev main_v185 : Ref sig .tc := ⟨.hbm, 208, rfl⟩
abbrev main_v186 : Ref sig .tc := ⟨.hbm, 209, rfl⟩
abbrev main_v187 : Ref sig .tc := ⟨.hbm, 210, rfl⟩
abbrev main_v188 : Ref sig .tc := ⟨.hbm, 211, rfl⟩
abbrev main_v189 : Ref sig .tc := ⟨.hbm, 212, rfl⟩
abbrev main_v190 : Ref sig .tc := ⟨.hbm, 213, rfl⟩
abbrev main_v191 : Ref sig .tc := ⟨.hbm, 214, rfl⟩
abbrev main_v192 : Ref sig .tc := ⟨.hbm, 215, rfl⟩
abbrev main_v193 : Ref sig .tc := ⟨.hbm, 216, rfl⟩
abbrev main_v194 : Ref sig .tc := ⟨.hbm, 217, rfl⟩
abbrev main_v195 : Ref sig .tc := ⟨.hbm, 218, rfl⟩
abbrev main_v196 : Ref sig .tc := ⟨.hbm, 219, rfl⟩
abbrev main_v197 : Ref sig .tc := ⟨.hbm, 220, rfl⟩
abbrev main_v198_0 : Ref sig .tc := ⟨.hbm, 221, rfl⟩
abbrev main_v198_1 : Ref sig .tc := ⟨.hbm, 222, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S8192x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x2048 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x2048 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelState.lean ====
module

public import proofs.«01_k».proof.Proof.Gen.Kernel.Launch

/-! The buffers the kernel body works on, as one record of contents, and a Hoare logic over it: one
    rule per memory operation. A proof about the body then speaks of records alone. -/

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [BitOps F]

/-- The memory references the body is called with, each a whole buffer. -/
structure Mems where
  a1 : Memref sig .tc .smem S7 .i32
  h1 : a1.IsWhole
  a2 : Memref sig .tc .smem S1x2048 .f32
  h2 : a2.IsWhole
  a3 : Memref sig .tc .vmem S8192x256 .fp8e4m3
  h3 : a3.IsWhole
  a4 : Memref sig .tc .vmem S1x2048 .f32
  h4 : a4.IsWhole
  a5 : Memref sig .tc .vmem S4x8192 .bf16
  h5 : a5.IsWhole
  a6 : Memref sig .tc .vmem S8192x1 .f32
  h6 : a6.IsWhole
  a7 : Memref sig .tc .vmem S1x8192 .bf16
  h7 : a7.IsWhole
  a8 : Memref sig .tc .vmem S8192x256 .fp8e4m3
  h8 : a8.IsWhole
  a9 : Memref sig .tc .vmem S1x2048 .f32
  h9 : a9.IsWhole
  a10 : Memref sig .tc .vmem S6x3x8192 .f32
  h10 : a10.IsWhole
  a11 : Memref sig .tc .vmem S6x3x8192 .bf16
  h11 : a11.IsWhole
  a12 : Memref sig .tc .vmem S8192x256 .f32
  h12 : a12.IsWhole
  a13 : Memref sig .tc .vmem S8192x256 .bf16
  h13 : a13.IsWhole
  a14 : Memref sig .tc .vmem S8192x128 .bf16
  h14 : a14.IsWhole
  a15 : Memref sig .tc .vmem S8192x128 .f32
  h15 : a15.IsWhole
  a16 : Memref sig .tc .vmem S8x256 .f32
  h16 : a16.IsWhole
  a17 : Memref sig .tc .vmem S8x256 .f32
  h17 : a17.IsWhole

/-- What the seventeen buffers hold. -/
structure St (F : FTy → Type) where
  /-- the boundaries -/
  cu : S7.Idx → Elt F .i32
  /-- the scales of x, in scalar memory -/
  xsS : S1x2048.Idx → Elt F .f32
  /-- the block of codes -/
  xb : S8192x256.Idx → Elt F .fp8e4m3
  /-- the scales of x -/
  xs : S1x2048.Idx → Elt F .f32
  /-- the weights, transposed -/
  wt : S4x8192.Idx → Elt F .bf16
  /-- half the bias, as a column -/
  bh : S8192x1.Idx → Elt F .f32
  /-- the bias, as a row -/
  br : S1x8192.Idx → Elt F .bf16
  /-- the block of quantised codes -/
  y : S8192x256.Idx → Elt F .fp8e4m3
  /-- the scales of y -/
  ysc : S1x2048.Idx → Elt F .f32
  /-- the head rows -/
  head : S6x3x8192.Idx → Elt F .f32
  /-- the final rows -/
  fin : S6x3x8192.Idx → Elt F .bf16
  /-- half the convolution -/
  h : S8192x256.Idx → Elt F .f32
  /-- the diagonal weights -/
  l : S8192x256.Idx → Elt F .bf16
  /-- the last lanes of the block before -/
  halo : S8192x128.Idx → Elt F .bf16
  /-- the gathered lanes -/
  g : S8192x128.Idx → Elt F .f32
  /-- the maxima by sublane -/
  zmax : S8x256.Idx → Elt F .f32
  /-- the inverse scales -/
  inv : S8x256.Idx → Elt F .f32

/-- The core owns the buffers, and they hold what the record says. -/
def OwnSt (c : Dev nD) (M : Mems) (s : St F) : sProp (MT nD τ sig Unit (Elt F) ℕ (UR sig nD τ) ℕ) :=
  iprop(owns (c : Thread nD τ) M.a1 fullShare s.cu ∗ owns (c : Thread nD τ) M.a2 fullShare s.xsS ∗ owns (c : Thread nD τ) M.a3 fullShare s.xb ∗ owns (c : Thread nD τ) M.a4 fullShare s.xs ∗ owns (c : Thread nD τ) M.a5 fullShare s.wt ∗ owns (c : Thread nD τ) M.a6 fullShare s.bh ∗ owns (c : Thread nD τ) M.a7 fullShare s.br ∗ owns (c : Thread nD τ) M.a8 fullShare s.y ∗ owns (c : Thread nD τ) M.a9 fullShare s.ysc ∗ owns (c : Thread nD τ) M.a10 fullShare s.head ∗ owns (c : Thread nD τ) M.a11 fullShare s.fin ∗ owns (c : Thread nD τ) M.a12 fullShare s.h ∗ owns (c : Thread nD τ) M.a13 fullShare s.l ∗ owns (c : Thread nD τ) M.a14 fullShare s.halo ∗ owns (c : Thread nD τ) M.a15 fullShare s.g ∗ owns (c : Thread nD τ) M.a16 fullShare s.zmax ∗ owns (c : Thread nD τ) M.a17 fullShare s.inv)

/-- Every run of `p` from buffers holding `s` is safe and ends with a value and contents of which `Q` holds. -/
def WP (𝒱 : Variants) (c : Dev nD) (bd : Option 𝒱.V) (E : Set ℕ) (M : Mems) {α : Type} (p : Prog (TpuEff nD τ sig (Elt F) Λ₀ .tc) α)
    (Q : α → St F → Prop) (s : St F) : Prop :=
  OwnSt c M s ⊢ wp frame (wpE (defs₀ (F := F)) 𝒱 (c : Thread nD τ) bd) E p fun a => iprop(∃ s', ⌜Q a s'⌝ ∗ OwnSt c M s')

section Rules
variable {𝒱 : Variants} {c : Dev nD} {bd : Option 𝒱.V} {E : Set ℕ} {M : Mems} {α β : Type}

/-- A value ends the program. -/
theorem WP.ret {Q : α → St F → Prop} {s : St F} {a : α} (h : Q a s) : WP 𝒱 c bd E M (.ret a) Q s := by
  unfold WP
  rw [wp_ret]
  iintro H
  imodintro
  iexists s
  isplitr
  · ipureintro; exact h
  · iexact H

/-- The rule of a returned value. -/
theorem WP.pure {Q : α → St F → Prop} {s : St F} {a : α} (h : Q a s) :
    WP 𝒱 c bd E M (Pure.pure a) Q s := WP.ret h

/-- A weaker claim follows. -/
theorem WP.mono {p : Prog (TpuEff nD τ sig (Elt F) Λ₀ .tc) α} {Q Q' : α → St F → Prop} {s : St F}
    (h : WP 𝒱 c bd E M p Q s) (hQ : ∀ a s', Q a s' → Q' a s') : WP 𝒱 c bd E M p Q' s := by
  unfold WP at h ⊢
  refine h.trans (wp_mono _ _ _ fun a => ?_)
  iintro ⟨%s', %hq, H⟩
  iexists s'
  isplitr
  · ipureintro; exact hQ a s' hq
  · iexact H

/-- One program after another. -/
theorem WP.bind {p : Prog (TpuEff nD τ sig (Elt F) Λ₀ .tc) α} {k : α → Prog (TpuEff nD τ sig (Elt F) Λ₀ .tc) β} {Q : β → St F → Prop} {s : St F}
    (h : WP 𝒱 c bd E M p (fun a s' => WP 𝒱 c bd E M (k a) Q s') s) : WP 𝒱 c bd E M (p >>= k) Q s := by
  unfold WP at h ⊢
  rw [wp_bind]
  refine h.trans (wp_mono _ _ _ fun a => ?_)
  iintro ⟨%s', %hq, H⟩
  iapply hq
  iexact H

/-- The rule of a choice. -/
theorem WP.ite {P : Prop} [Decidable P] {p q : Prog (TpuEff nD τ sig (Elt F) Λ₀ .tc) α} {Q : α → St F → Prop} {s : St F}
    (h1 : P → WP 𝒱 c bd E M p Q s) (h2 : ¬ P → WP 𝒱 c bd E M q Q s) : WP 𝒱 c bd E M (if P then p else q) Q s := by
  by_cases h : P
  · rw [if_pos h]; exact h1 h
  · rw [if_neg h]; exact h2 h

/-- The rule of a choice whose branches know the outcome. -/
theorem WP.dite {P : Prop} [Decidable P] {p : P → Prog (TpuEff nD τ sig (Elt F) Λ₀ .tc) α} {q : ¬ P → Prog (TpuEff nD τ sig (Elt F) Λ₀ .tc) α}
    {Q : α → St F → Prop} {s : St F}
    (h1 : ∀ h : P, WP 𝒱 c bd E M (p h) Q s) (h2 : ∀ h : ¬ P, WP 𝒱 c bd E M (q h) Q s) : WP 𝒱 c bd E M (dite P p q) Q s := by
  by_cases h : P
  · rw [dif_pos h]; exact h1 h
  · rw [dif_neg h]; exact h2 h

/-- An assumption that holds is passed. -/
theorem WP.assume {P : Prop} {d : Decidable P} {Q : PLift P → St F → Prop} {s : St F} (h : P) (hQ : Q ⟨h⟩ s) :
    WP 𝒱 c bd E M (Prog.lift (TpuEff.assume P d)) Q s :=
  (WP.ret (𝒱 := 𝒱) (c := c) (bd := bd) (E := E) (M := M) hQ).trans (wp_assume 𝒱 (c : Thread nD τ) bd E h)

/-- A counted loop, by an invariant on the trip, the carried values and the contents. -/
theorem WP.loop {σ : Type} (l : Scf.Loop 32) (hok : l.OK) (init : σ) (body : Fin l.trips → σ → Prog (TpuEff nD τ sig (Elt F) Λ₀ .tc) σ)
    (I : ℕ → σ → St F → Prop) {Q : σ → St F → Prop} {s : St F} (h0 : I 0 init s)
    (hI : ∀ (k : Fin l.trips) acc s', I k acc s' → WP 𝒱 c bd E M (body k acc) (I (k + 1)) s')
    (hQ : ∀ acc s', I l.trips acc s' → Q acc s') : WP 𝒱 c bd E M (l.for hok init body) Q s := by
  unfold WP
  refine BIBase.Entails.trans ?_ (Scf.wp_for frame (wpE (defs₀ (F := F)) 𝒱 (c : Thread nD τ) bd) E l.lb l.ub l.st hok init body
    (fun k acc => iprop(∃ s', ⌜I k acc s'⌝ ∗ OwnSt c M s')) ?_)
  · iintro H
    isplitl
    · iexists s
      isplitr
      · ipureintro; exact h0
      · iexact H
    · iintro %acc ⟨%s', %hi, H⟩
      iexists s'
      isplitr
      · ipureintro; exact hQ acc s' hi
      · iexact H
  · intro k acc
    iintro ⟨%s', %hi, H⟩
    have h' := hI k acc s' hi
    unfold WP at h'
    iapply h'
    iexact H

/-- A load through a buffer that is owned reads its contents. -/
theorem own_load {sp : CoreSpace} {sh : Shape} {e : EltTy} {m : Memref sig .tc sp sh e} {r : LoadRect sh} {hl : m.view.LoadsAt r}
    {k : (r.shape.Idx → Elt F e) → Prog (TpuEff nD τ sig (Elt F) Λ₀ .tc) α} {X : sh.Idx → Elt F e} {Q : α → sProp (MT nD τ sig Unit (Elt F) ℕ (UR sig nD τ) ℕ)} :
    owns (c : Thread nD τ) m fullShare X
      ⊢ iprop((owns (c : Thread nD τ) m fullShare X -∗ wp frame (wpE (defs₀ (F := F)) 𝒱 (c : Thread nD τ) bd) E (k fun x => X (r.idx x)) Q)
        -∗ wp frame (wpE (defs₀ (F := F)) 𝒱 (c : Thread nD τ) bd) E (.op (.load m r hl) k) Q) := by
  unfold owns
  iintro ⟨%f, %hf, H⟩ HK
  subst hf
  iapply (wp_load 𝒱 (c : Thread nD τ) bd E (View.setOn_subset_set _ _)) $$ H
  iintro H
  iapply HK
  iexists f
  isplitr
  · ipureintro; rfl
  · iexact H

/-- What a store of `w` at the positions `Mk` of the rectangle `r` leaves of `X`. -/
def put {sh : Shape} {e : EltTy} (X : sh.Idx → Elt F e) (r : Rect sh) (w : r.shape.Idx → Elt F e) (Mk : Finset r.shape.Idx) : sh.Idx → Elt F e :=
  open Classical in fun y => if h : ∃ x ∈ Mk, r.emb x = y then w h.choose else X y

/-- What a store leaves at a place it covers. -/
theorem put_emb {sh : Shape} {e : EltTy} (X : sh.Idx → Elt F e) (r : Rect sh) (w : r.shape.Idx → Elt F e) (Mk : Finset r.shape.Idx) {x : r.shape.Idx}
    (hx : x ∈ Mk) : put X r w Mk (r.emb x) = w x := by
  have h : ∃ x' ∈ Mk, r.emb x' = r.emb x := ⟨x, hx, rfl⟩
  unfold put
  rw [dif_pos h, r.emb.injective h.choose_spec.2]

/-- What a store leaves at a place it does not cover. -/
theorem put_of_not {sh : Shape} {e : EltTy} (X : sh.Idx → Elt F e) (r : Rect sh) (w : r.shape.Idx → Elt F e) (Mk : Finset r.shape.Idx) {y : sh.Idx}
    (hy : ∀ x ∈ Mk, r.emb x ≠ y) : put X r w Mk y = X y := by
  unfold put
  rw [dif_neg]
  rintro ⟨x, hx, h⟩
  exact hy x hx h

/-- A store through a buffer that is owned leaves the stored values there and the rest alone. -/
theorem own_store {sp : CoreSpace} {sh : Shape} {e : EltTy} {m : Memref sig .tc sp sh e} {r : Rect sh} {w : r.shape.Idx → Elt F e} {Mk : Finset r.shape.Idx}
    {hx : (m.access r).Stores Mk} {hm : Mk = Finset.univ ∨ ∀ a, r.stride a = 1}
    {k : PUnit → Prog (TpuEff nD τ sig (Elt F) Λ₀ .tc) α} {X : sh.Idx → Elt F e} {Q : α → sProp (MT nD τ sig Unit (Elt F) ℕ (UR sig nD τ) ℕ)} :
    owns (c : Thread nD τ) m fullShare X
      ⊢ iprop((owns (c : Thread nD τ) m fullShare (put X r w Mk) -∗ wp frame (wpE (defs₀ (F := F)) 𝒱 (c : Thread nD τ) bd) E (k ⟨⟩) Q)
        -∗ wp frame (wpE (defs₀ (F := F)) 𝒱 (c : Thread nD τ) bd) E (.op (.store m r w Mk hx hm) k) Q) := by
  unfold owns
  iintro ⟨%f, %hf, H⟩ HK
  subst hf
  have hS : (m.access r).setOn Mk ⊆ m.view.set := (View.setOn_subset_set _ _).trans (by rw [View.set_slice]; exact View.setOn_subset_set _ _)
  have hw := wp_store (defs := defs₀ (F := F)) (Γ := .empty) 𝒱 (c : Thread nD τ) bd E (m := m) (r := r) (w := w) (Mk := Mk) (hx := hx) (hm := hm) (k := k) (f := f) (Q := Q) hS
  iapply (show (m.view.loc (c : Thread nD τ) ↦[m.view.set]{fullShare} f) ⊢ _ from hw) $$ H
  iintro H
  iapply HK
  iexists ((m.access r).write (Elt F) f w Mk)
  isplitr
  · ipureintro
    funext y
    by_cases h : ∃ x ∈ Mk, r.emb x = y
    · obtain ⟨x, hx, rfl⟩ := h
      rw [put_emb _ _ _ _ hx]
      exact View.read_slice_write_emb r f w hx
    · rw [put_of_not _ _ _ _ (fun x hx hy => h ⟨x, hx, hy⟩)]
      refine View.read_slice_write_of_not_mem r f w _ ?_
      simp only [Finset.mem_map]
      rintro ⟨x, hx, hy⟩
      exact h ⟨x, hx, hy⟩
  · iexact H

/-- Ownership of everything gives ownership of one part, and takes it back changed. -/
def Focus {β : Type} (P R : β → sProp (MT nD τ sig Unit (Elt F) ℕ (UR sig nD τ) ℕ)) (x : β) : Prop :=
  R x ⊢ iprop(P x ∗ (∀ x', P x' -∗ R x'))

/-- The first of several arrays, singled out. -/
theorem Focus.head {β : Type} {P : β → sProp (MT nD τ sig Unit (Elt F) ℕ (UR sig nD τ) ℕ)} {A : sProp (MT nD τ sig Unit (Elt F) ℕ (UR sig nD τ) ℕ)} {x : β} :
    Focus P (fun x => iprop(P x ∗ A)) x := by
  unfold Focus
  iintro ⟨H, HA⟩
  isplitl [H]
  · iexact H
  · iintro %x' H
    isplitl [H]
    · iexact H
    · iexact HA

/-- The last of several arrays, singled out. -/
theorem Focus.last {β : Type} {P : β → sProp (MT nD τ sig Unit (Elt F) ℕ (UR sig nD τ) ℕ)} {x : β} : Focus P P x := by
  unfold Focus
  iintro H
  isplitl [H]
  · iexact H
  · iintro %x' H
    iexact H

/-- A later one of several arrays, singled out. -/
theorem Focus.tail {β : Type} {P R : β → sProp (MT nD τ sig Unit (Elt F) ℕ (UR sig nD τ) ℕ)} {A : sProp (MT nD τ sig Unit (Elt F) ℕ (UR sig nD τ) ℕ)} {x : β}
    (h : Focus P R x) : Focus P (fun x => iprop(A ∗ R x)) x := by
  unfold Focus at h ⊢
  iintro ⟨HA, H⟩
  ihave H := h $$ H
  icases H with ⟨HP, HK⟩
  isplitl [HP]
  · iexact HP
  · iintro %x' H
    isplitl [HA]
    · iexact HA
    · iapply HK
      iexact H

/-- The rule of a load from the array singled out. -/
theorem Focus.load {sp : CoreSpace} {sh : Shape} {e : EltTy} {m : Memref sig .tc sp sh e} {r : LoadRect sh} {hl : m.view.LoadsAt r}
    {X : sh.Idx → Elt F e} {f : (sh.Idx → Elt F e) → St F} (hf : Focus (fun X => owns (c : Thread nD τ) m fullShare X) (fun X => OwnSt c M (f X)) X)
    {Q : α → St F → Prop} {k : (r.shape.Idx → Elt F e) → α} (h : Q (k fun x => X (r.idx x)) (f X)) :
    WP 𝒱 c bd E M (.op (.load m r hl) fun v => .ret (k v)) Q (f X) := by
  have h' := WP.ret (𝒱 := 𝒱) (c := c) (bd := bd) (E := E) (M := M) h
  unfold WP at h' ⊢
  refine hf.trans ?_
  iintro ⟨H, HK⟩
  iapply own_load $$ H
  iintro H
  iapply h'
  iapply HK
  iexact H

/-- The rule of a store to the array singled out. -/
theorem Focus.store {sp : CoreSpace} {sh : Shape} {e : EltTy} {m : Memref sig .tc sp sh e} {r : Rect sh} {w : r.shape.Idx → Elt F e} {Mk : Finset r.shape.Idx}
    {hx : (m.access r).Stores Mk} {hm : Mk = Finset.univ ∨ ∀ a, r.stride a = 1}
    {X : sh.Idx → Elt F e} {f : (sh.Idx → Elt F e) → St F} (hf : Focus (fun X => owns (c : Thread nD τ) m fullShare X) (fun X => OwnSt c M (f X)) X)
    {Q : PUnit → St F → Prop} (h : Q ⟨⟩ (f (put X r w Mk))) :
    WP 𝒱 c bd E M (Prog.lift (TpuEff.store m r w Mk hx hm)) Q (f X) := by
  have h' := WP.ret (𝒱 := 𝒱) (c := c) (bd := bd) (E := E) (M := M) h
  unfold WP at h' ⊢
  refine hf.trans ?_
  iintro ⟨H, HK⟩
  iapply (show owns (c : Thread nD τ) m fullShare X ⊢ iprop((owns (c : Thread nD τ) m fullShare (put X r w Mk) -∗ _) -∗ wp frame (wpE (defs₀ (F := F)) 𝒱 (c : Thread nD τ) bd) E (Prog.lift (TpuEff.store m r w Mk hx hm)) _) from own_store) $$ H
  iintro H
  iapply h'
  iapply HK
  iexact H

/-- Array 1, singled out of the body's arrays. -/
theorem focus1 (s : St F) : Focus (fun X => owns (c : Thread nD τ) M.a1 fullShare X) (fun X => OwnSt c M { s with cu := X }) s.cu :=
  Focus.head

/-- The rule of a load from array 1. -/
theorem WP.load1 {r : LoadRect S7} {hl : M.a1.view.LoadsAt r} {Q : (r.shape.Idx → Elt F .i32) → St F → Prop} {s : St F}
    (h : Q (fun x => s.cu (r.idx x)) s) : WP 𝒱 c bd E M (Prog.lift (.load M.a1 r hl)) Q s :=
  (focus1 s).load (k := fun v => v) h

/-- Array 2, singled out of the body's arrays. -/
theorem focus2 (s : St F) : Focus (fun X => owns (c : Thread nD τ) M.a2 fullShare X) (fun X => OwnSt c M { s with xsS := X }) s.xsS :=
  Focus.tail <| Focus.head

/-- The rule of a load from array 2. -/
theorem WP.load2 {r : LoadRect S1x2048} {hl : M.a2.view.LoadsAt r} {Q : (r.shape.Idx → Elt F .f32) → St F → Prop} {s : St F}
    (h : Q (fun x => s.xsS (r.idx x)) s) : WP 𝒱 c bd E M (Prog.lift (.load M.a2 r hl)) Q s :=
  (focus2 s).load (k := fun v => v) h

/-- Array 3, singled out of the body's arrays. -/
theorem focus3 (s : St F) : Focus (fun X => owns (c : Thread nD τ) M.a3 fullShare X) (fun X => OwnSt c M { s with xb := X }) s.xb :=
  Focus.tail <| Focus.tail <| Focus.head

/-- The rule of a load from array 3. -/
theorem WP.load3 {r : LoadRect S8192x256} {hl : M.a3.view.LoadsAt r} {Q : (r.shape.Idx → Elt F .fp8e4m3) → St F → Prop} {s : St F}
    (h : Q (fun x => s.xb (r.idx x)) s) : WP 𝒱 c bd E M (Prog.lift (.load M.a3 r hl)) Q s :=
  (focus3 s).load (k := fun v => v) h

/-- Array 4, singled out of the body's arrays. -/
theorem focus4 (s : St F) : Focus (fun X => owns (c : Thread nD τ) M.a4 fullShare X) (fun X => OwnSt c M { s with xs := X }) s.xs :=
  Focus.tail <| Focus.tail <| Focus.tail <| Focus.head

/-- The rule of a load from array 4. -/
theorem WP.load4 {r : LoadRect S1x2048} {hl : M.a4.view.LoadsAt r} {Q : (r.shape.Idx → Elt F .f32) → St F → Prop} {s : St F}
    (h : Q (fun x => s.xs (r.idx x)) s) : WP 𝒱 c bd E M (Prog.lift (.load M.a4 r hl)) Q s :=
  (focus4 s).load (k := fun v => v) h

/-- Array 5, singled out of the body's arrays. -/
theorem focus5 (s : St F) : Focus (fun X => owns (c : Thread nD τ) M.a5 fullShare X) (fun X => OwnSt c M { s with wt := X }) s.wt :=
  Focus.tail <| Focus.tail <| Focus.tail <| Focus.tail <| Focus.head

/-- The rule of a load from array 5. -/
theorem WP.load5 {r : LoadRect S4x8192} {hl : M.a5.view.LoadsAt r} {Q : (r.shape.Idx → Elt F .bf16) → St F → Prop} {s : St F}
    (h : Q (fun x => s.wt (r.idx x)) s) : WP 𝒱 c bd E M (Prog.lift (.load M.a5 r hl)) Q s :=
  (focus5 s).load (k := fun v => v) h

/-- Array 6, singled out of the body's arrays. -/
theorem focus6 (s : St F) : Focus (fun X => owns (c : Thread nD τ) M.a6 fullShare X) (fun X => OwnSt c M { s with bh := X }) s.bh :=
  Focus.tail <| Focus.tail <| Focus.tail <| Focus.tail <| Focus.tail <| Focus.head

/-- The rule of a load from array 6. -/
theorem WP.load6 {r : LoadRect S8192x1} {hl : M.a6.view.LoadsAt r} {Q : (r.shape.Idx → Elt F .f32) → St F → Prop} {s : St F}
    (h : Q (fun x => s.bh (r.idx x)) s) : WP 𝒱 c bd E M (Prog.lift (.load M.a6 r hl)) Q s :=
  (focus6 s).load (k := fun v => v) h

/-- Array 7, singled out of the body's arrays. -/
theorem focus7 (s : St F) : Focus (fun X => owns (c : Thread nD τ) M.a7 fullShare X) (fun X => OwnSt c M { s with br := X }) s.br :=
  Focus.tail <| Focus.tail <| Focus.tail <| Focus.tail <| Focus.tail <| Focus.tail <| Focus.head

/-- The rule of a load from array 7. -/
theorem WP.load7 {r : LoadRect S1x8192} {hl : M.a7.view.LoadsAt r} {Q : (r.shape.Idx → Elt F .bf16) → St F → Prop} {s : St F}
    (h : Q (fun x => s.br (r.idx x)) s) : WP 𝒱 c bd E M (Prog.lift (.load M.a7 r hl)) Q s :=
  (focus7 s).load (k := fun v => v) h

/-- Array 8, singled out of the body's arrays. -/
theorem focus8 (s : St F) : Focus (fun X => owns (c : Thread nD τ) M.a8 fullShare X) (fun X => OwnSt c M { s with y := X }) s.y :=
  Focus.tail <| Focus.tail <| Focus.tail <| Focus.tail <| Focus.tail <| Focus.tail <| Focus.tail <| Focus.head

/-- The rule of a load from array 8. -/
theorem WP.load8 {r : LoadRect S8192x256} {hl : M.a8.view.LoadsAt r} {Q : (r.shape.Idx → Elt F .fp8e4m3) → St F → Prop} {s : St F}
    (h : Q (fun x => s.y (r.idx x)) s) : WP 𝒱 c bd E M (Prog.lift (.load M.a8 r hl)) Q s :=
  (focus8 s).load (k := fun v => v) h

/-- Array 9, singled out of the body's arrays. -/
theorem focus9 (s : St F) : Focus (fun X => owns (c : Thread nD τ) M.a9 fullShare X) (fun X => OwnSt c M { s with ysc := X }) s.ysc :=
  Focus.tail <| Focus.tail <| Focus.tail <| Focus.tail <| Focus.tail <| Focus.tail <| Focus.tail <| Focus.tail <| Focus.head

/-- The rule of a load from array 9. -/
theorem WP.load9 {r : LoadRect S1x2048} {hl : M.a9.view.LoadsAt r} {Q : (r.shape.Idx → Elt F .f32) → St F → Prop} {s : St F}
    (h : Q (fun x => s.ysc (r.idx x)) s) : WP 𝒱 c bd E M (Prog.lift (.load M.a9 r hl)) Q s :=
  (focus9 s).load (k := fun v => v) h

/-- Array 10, singled out of the body's arrays. -/
theorem focus10 (s : St F) : Focus (fun X => owns (c : Thread nD τ) M.a10 fullShare X) (fun X => OwnSt c M { s with head := X }) s.head :=
  Focus.tail <| Focus.tail <| Focus.tail <| Focus.tail <| Focus.tail <| Focus.tail <| Focus.tail <| Focus.tail <| Focus.tail <| Focus.head

/-- The rule of a load from array 10. -/
theorem WP.load10 {r : LoadRect S6x3x8192} {hl : M.a10.view.LoadsAt r} {Q : (r.shape.Idx → Elt F .f32) → St F → Prop} {s : St F}
    (h : Q (fun x => s.head (r.idx x)) s) : WP 𝒱 c bd E M (Prog.lift (.load M.a10 r hl)) Q s :=
  (focus10 s).load (k := fun v => v) h

/-- Array 11, singled out of the body's arrays. -/
theorem focus11 (s : St F) : Focus (fun X => owns (c : Thread nD τ) M.a11 fullShare X) (fun X => OwnSt c M { s with fin := X }) s.fin :=
  Focus.tail <| Focus.tail <| Focus.tail <| Focus.tail <| Focus.tail <| Focus.tail <| Focus.tail <| Focus.tail <| Focus.tail <| Focus.tail <| Focus.head

/-- The rule of a load from array 11. -/
theorem WP.load11 {r : LoadRect S6x3x8192} {hl : M.a11.view.LoadsAt r} {Q : (r.shape.Idx → Elt F .bf16) → St F → Prop} {s : St F}
    (h : Q (fun x => s.fin (r.idx x)) s) : WP 𝒱 c bd E M (Prog.lift (.load M.a11 r hl)) Q s :=
  (focus11 s).load (k := fun v => v) h

/-- Array 12, singled out of the body's arrays. -/
theorem focus12 (s : St F) : Focus (fun X => owns (c : Thread nD τ) M.a12 fullShare X) (fun X => OwnSt c M { s with h := X }) s.h :=
  Focus.tail <| Focus.tail <| Focus.tail <| Focus.tail <| Focus.tail <| Focus.tail <| Focus.tail <| Focus.tail <| Focus.tail <| Focus.tail <| Focus.tail <| Focus.head

/-- The rule of a load from array 12. -/
theorem WP.load12 {r : LoadRect S8192x256} {hl : M.a12.view.LoadsAt r} {Q : (r.shape.Idx → Elt F .f32) → St F → Prop} {s : St F}
    (h : Q (fun x => s.h (r.idx x)) s) : WP 𝒱 c bd E M (Prog.lift (.load M.a12 r hl)) Q s :=
  (focus12 s).load (k := fun v => v) h

/-- Array 13, singled out of the body's arrays. -/
theorem focus13 (s : St F) : Focus (fun X => owns (c : Thread nD τ) M.a13 fullShare X) (fun X => OwnSt c M { s with l := X }) s.l :=
  Focus.tail <| Focus.tail <| Focus.tail <| Focus.tail <| Focus.tail <| Focus.tail <| Focus.tail <| Focus.tail <| Focus.tail <| Focus.tail <| Focus.tail <| Focus.tail <| Focus.head

/-- The rule of a load from array 13. -/
theorem WP.load13 {r : LoadRect S8192x256} {hl : M.a13.view.LoadsAt r} {Q : (r.shape.Idx → Elt F .bf16) → St F → Prop} {s : St F}
    (h : Q (fun x => s.l (r.idx x)) s) : WP 𝒱 c bd E M (Prog.lift (.load M.a13 r hl)) Q s :=
  (focus13 s).load (k := fun v => v) h

/-- Array 14, singled out of the body's arrays. -/
theorem focus14 (s : St F) : Focus (fun X => owns (c : Thread nD τ) M.a14 fullShare X) (fun X => OwnSt c M { s with halo := X }) s.halo :=
  Focus.tail <| Focus.tail <| Focus.tail <| Focus.tail <| Focus.tail <| Focus.tail <| Focus.tail <| Focus.tail <| Focus.tail <| Focus.tail <| Focus.tail <| Focus.tail <| Focus.tail <| Focus.head

/-- The rule of a load from array 14. -/
theorem WP.load14 {r : LoadRect S8192x128} {hl : M.a14.view.LoadsAt r} {Q : (r.shape.Idx → Elt F .bf16) → St F → Prop} {s : St F}
    (h : Q (fun x => s.halo (r.idx x)) s) : WP 𝒱 c bd E M (Prog.lift (.load M.a14 r hl)) Q s :=
  (focus14 s).load (k := fun v => v) h

/-- Array 15, singled out of the body's arrays. -/
theorem focus15 (s : St F) : Focus (fun X => owns (c : Thread nD τ) M.a15 fullShare X) (fun X => OwnSt c M { s with g := X }) s.g :=
  Focus.tail <| Focus.tail <| Focus.tail <| Focus.tail <| Focus.tail <| Focus.tail <| Focus.tail <| Focus.tail <| Focus.tail <| Focus.tail <| Focus.tail <| Focus.tail <| Focus.tail <| Focus.tail <| Focus.head

/-- The rule of a load from array 15. -/
theorem WP.load15 {r : LoadRect S8192x128} {hl : M.a15.view.LoadsAt r} {Q : (r.shape.Idx → Elt F .f32) → St F → Prop} {s : St F}
    (h : Q (fun x => s.g (r.idx x)) s) : WP 𝒱 c bd E M (Prog.lift (.load M.a15 r hl)) Q s :=
  (focus15 s).load (k := fun v => v) h

/-- Array 16, singled out of the body's arrays. -/
theorem focus16 (s : St F) : Focus (fun X => owns (c : Thread nD τ) M.a16 fullShare X) (fun X => OwnSt c M { s with zmax := X }) s.zmax :=
  Focus.tail <| Focus.tail <| Focus.tail <| Focus.tail <| Focus.tail <| Focus.tail <| Focus.tail <| Focus.tail <| Focus.tail <| Focus.tail <| Focus.tail <| Focus.tail <| Focus.tail <| Focus.tail <| Focus.tail <| Focus.head

/-- The rule of a load from array 16. -/
theorem WP.load16 {r : LoadRect S8x256} {hl : M.a16.view.LoadsAt r} {Q : (r.shape.Idx → Elt F .f32) → St F → Prop} {s : St F}
    (h : Q (fun x => s.zmax (r.idx x)) s) : WP 𝒱 c bd E M (Prog.lift (.load M.a16 r hl)) Q s :=
  (focus16 s).load (k := fun v => v) h

/-- Array 17, singled out of the body's arrays. -/
theorem focus17 (s : St F) : Focus (fun X => owns (c : Thread nD τ) M.a17 fullShare X) (fun X => OwnSt c M { s with inv := X }) s.inv :=
  Focus.tail <| Focus.tail <| Focus.tail <| Focus.tail <| Focus.tail <| Focus.tail <| Focus.tail <| Focus.tail <| Focus.tail <| Focus.tail <| Focus.tail <| Focus.tail <| Focus.tail <| Focus.tail <| Focus.tail <| Focus.tail <| Focus.last

/-- The rule of a load from array 17. -/
theorem WP.load17 {r : LoadRect S8x256} {hl : M.a17.view.LoadsAt r} {Q : (r.shape.Idx → Elt F .f32) → St F → Prop} {s : St F}
    (h : Q (fun x => s.inv (r.idx x)) s) : WP 𝒱 c bd E M (Prog.lift (.load M.a17 r hl)) Q s :=
  (focus17 s).load (k := fun v => v) h

/-- The rule of a store to array 8. -/
theorem WP.store8 {r : Rect S8192x256} {w : r.shape.Idx → Elt F .fp8e4m3} {Mk : Finset r.shape.Idx} {hx : (M.a8.access r).Stores Mk}
    {hm : Mk = Finset.univ ∨ ∀ a, r.stride a = 1} {Q : PUnit → St F → Prop} {s : St F}
    (h : Q ⟨⟩ { s with y := put s.y r w Mk }) : WP 𝒱 c bd E M (Prog.lift (TpuEff.store M.a8 r w Mk hx hm)) Q s :=
  (focus8 s).store h

/-- The rule of a store to array 9. -/
theorem WP.store9 {r : Rect S1x2048} {w : r.shape.Idx → Elt F .f32} {Mk : Finset r.shape.Idx} {hx : (M.a9.access r).Stores Mk}
    {hm : Mk = Finset.univ ∨ ∀ a, r.stride a = 1} {Q : PUnit → St F → Prop} {s : St F}
    (h : Q ⟨⟩ { s with ysc := put s.ysc r w Mk }) : WP 𝒱 c bd E M (Prog.lift (TpuEff.store M.a9 r w Mk hx hm)) Q s :=
  (focus9 s).store h

/-- The rule of a store to array 10. -/
theorem WP.store10 {r : Rect S6x3x8192} {w : r.shape.Idx → Elt F .f32} {Mk : Finset r.shape.Idx} {hx : (M.a10.access r).Stores Mk}
    {hm : Mk = Finset.univ ∨ ∀ a, r.stride a = 1} {Q : PUnit → St F → Prop} {s : St F}
    (h : Q ⟨⟩ { s with head := put s.head r w Mk }) : WP 𝒱 c bd E M (Prog.lift (TpuEff.store M.a10 r w Mk hx hm)) Q s :=
  (focus10 s).store h

/-- The rule of a store to array 11. -/
theorem WP.store11 {r : Rect S6x3x8192} {w : r.shape.Idx → Elt F .bf16} {Mk : Finset r.shape.Idx} {hx : (M.a11.access r).Stores Mk}
    {hm : Mk = Finset.univ ∨ ∀ a, r.stride a = 1} {Q : PUnit → St F → Prop} {s : St F}
    (h : Q ⟨⟩ { s with fin := put s.fin r w Mk }) : WP 𝒱 c bd E M (Prog.lift (TpuEff.store M.a11 r w Mk hx hm)) Q s :=
  (focus11 s).store h

/-- The rule of a store to array 12. -/
theorem WP.store12 {r : Rect S8192x256} {w : r.shape.Idx → Elt F .f32} {Mk : Finset r.shape.Idx} {hx : (M.a12.access r).Stores Mk}
    {hm : Mk = Finset.univ ∨ ∀ a, r.stride a = 1} {Q : PUnit → St F → Prop} {s : St F}
    (h : Q ⟨⟩ { s with h := put s.h r w Mk }) : WP 𝒱 c bd E M (Prog.lift (TpuEff.store M.a12 r w Mk hx hm)) Q s :=
  (focus12 s).store h

/-- The rule of a store to array 13. -/
theorem WP.store13 {r : Rect S8192x256} {w : r.shape.Idx → Elt F .bf16} {Mk : Finset r.shape.Idx} {hx : (M.a13.access r).Stores Mk}
    {hm : Mk = Finset.univ ∨ ∀ a, r.stride a = 1} {Q : PUnit → St F → Prop} {s : St F}
    (h : Q ⟨⟩ { s with l := put s.l r w Mk }) : WP 𝒱 c bd E M (Prog.lift (TpuEff.store M.a13 r w Mk hx hm)) Q s :=
  (focus13 s).store h

/-- The rule of a store to array 14. -/
theorem WP.store14 {r : Rect S8192x128} {w : r.shape.Idx → Elt F .bf16} {Mk : Finset r.shape.Idx} {hx : (M.a14.access r).Stores Mk}
    {hm : Mk = Finset.univ ∨ ∀ a, r.stride a = 1} {Q : PUnit → St F → Prop} {s : St F}
    (h : Q ⟨⟩ { s with halo := put s.halo r w Mk }) : WP 𝒱 c bd E M (Prog.lift (TpuEff.store M.a14 r w Mk hx hm)) Q s :=
  (focus14 s).store h

/-- The rule of a store to array 15. -/
theorem WP.store15 {r : Rect S8192x128} {w : r.shape.Idx → Elt F .f32} {Mk : Finset r.shape.Idx} {hx : (M.a15.access r).Stores Mk}
    {hm : Mk = Finset.univ ∨ ∀ a, r.stride a = 1} {Q : PUnit → St F → Prop} {s : St F}
    (h : Q ⟨⟩ { s with g := put s.g r w Mk }) : WP 𝒱 c bd E M (Prog.lift (TpuEff.store M.a15 r w Mk hx hm)) Q s :=
  (focus15 s).store h

/-- The rule of a store to array 16. -/
theorem WP.store16 {r : Rect S8x256} {w : r.shape.Idx → Elt F .f32} {Mk : Finset r.shape.Idx} {hx : (M.a16.access r).Stores Mk}
    {hm : Mk = Finset.univ ∨ ∀ a, r.stride a = 1} {Q : PUnit → St F → Prop} {s : St F}
    (h : Q ⟨⟩ { s with zmax := put s.zmax r w Mk }) : WP 𝒱 c bd E M (Prog.lift (TpuEff.store M.a16 r w Mk hx hm)) Q s :=
  (focus16 s).store h

/-- The rule of a store to array 17. -/
theorem WP.store17 {r : Rect S8x256} {w : r.shape.Idx → Elt F .f32} {Mk : Finset r.shape.Idx} {hx : (M.a17.access r).Stores Mk}
    {hm : Mk = Finset.univ ∨ ∀ a, r.stride a = 1} {Q : PUnit → St F → Prop} {s : St F}
    (h : Q ⟨⟩ { s with inv := put s.inv r w Mk }) : WP 𝒱 c bd E M (Prog.lift (TpuEff.store M.a17 r w Mk hx hm)) Q s :=
  (focus17 s).store h

/-- The rule of a read of one word of array 1. -/
theorem WP.word1 {r : Rect S7} {h1 : r.shape.numel = 1} {hp : EltTy.packing .i32 = 1} {Q : Elt F .i32 → St F → Prop} {s : St F}
    (h : Q (s.cu (r.emb (Shape.Idx.first (h1.symm ▸ Nat.one_pos)))) s) : WP 𝒱 c bd E M (smemLoad M.a1 r h1 hp) Q s :=
  (focus1 s).load (k := fun v => v (Shape.Idx.first (h1.symm ▸ Nat.one_pos))) h

/-- The rule of a read of one word of array 2. -/
theorem WP.word2 {r : Rect S1x2048} {h1 : r.shape.numel = 1} {hp : EltTy.packing .f32 = 1} {Q : Elt F .f32 → St F → Prop} {s : St F}
    (h : Q (s.xsS (r.emb (Shape.Idx.first (h1.symm ▸ Nat.one_pos)))) s) : WP 𝒱 c bd E M (smemLoad M.a2 r h1 hp) Q s :=
  (focus2 s).load (k := fun v => v (Shape.Idx.first (h1.symm ▸ Nat.one_pos))) h

end Rules

end Cert.Kernel.Hand
-- ==== Proof.KernelRegion.lean ====
module

public import proofs.«01_k».proof.Proof.Gen.Kernel.Frame
public import proofs.«01_k».proof.Proof.KernelState

/-! The region as a whole, from a specification of the body at each grid point: what the scratch buffers hold
    before and after it, and what it leaves in the first two results. -/

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen
open Idealize.ShloMosaic.Pipeline (RDat Dat Cfg Window cellOf)

variable {F : FTy → Type} [BitOps F]

/-- The body's scratch buffers. -/
structure Scr (F : FTy → Type) where
  h : S8192x256.Idx → Elt F .f32
  l : S8192x256.Idx → Elt F .bf16
  halo : S8192x128.Idx → Elt F .bf16
  g : S8192x128.Idx → Elt F .f32
  zmax : S8x256.Idx → Elt F .f32
  inv : S8x256.Idx → Elt F .f32

/-- The scratch part of the contents. -/
def St.scr (s : St F) : Scr F := ⟨s.h, s.l, s.halo, s.g, s.zmax, s.inv⟩

/-- What is said of the region: the scratch buffers before each point, and how the body changes the first two results there. -/
structure Spec (F : FTy → Type) where
  P : Fin (cfg0.N + 1) → Scr F → Prop
  y : Fin cfg0.N → (S8192x256.Idx → Elt F .fp8e4m3) → (S8192x256.Idx → Elt F .fp8e4m3) → Prop
  ysc : Fin cfg0.N → (S1x2048.Idx → Elt F .f32) → (S1x2048.Idx → Elt F .f32) → Prop

local notation "𝕄" => MT nD τ sig Unit (Elt F) ℕ (UR sig nD τ) ℕ

variable (m : (ℓ : Loc nD τ sig) → Buf (Elt F) ℓ) (ρ : Dev nD → PrngReg)

/-- The body's invariant: the scratch buffers at some contents of which the specification holds, and the generator register. -/
def Phi (S : Spec F) (c : Dev nD) (t : Fin (cfg0.N + 1)) : sProp 𝕄 :=
  iprop((∃ s : Scr F, ⌜S.P t s⌝ ∗ owns (c : Thread nD τ) (Memref.whole cc0_scratch0) fullShare s.h ∗ owns (c : Thread nD τ) (Memref.whole cc0_scratch1) fullShare s.l ∗ owns (c : Thread nD τ) (Memref.whole cc0_scratch2) fullShare s.halo ∗ owns (c : Thread nD τ) (Memref.whole cc0_scratch3) fullShare s.g ∗ owns (c : Thread nD τ) (Memref.whole cc0_scratch4) fullShare s.zmax ∗ owns (c : Thread nD τ) (Memref.whole cc0_scratch5) fullShare s.inv) ∗ ∃ r, prngReg c r)

/-- The proof data. -/
def rdat (S : Spec F) (c : Dev nD) : RDat τ (Elt F) Unit ℕ (UR sig nD τ) ℕ cfg0 c where
  A w := V m c (Pipeline.arrRef spec0 w)
  after := fun
    | 7 => fun t Y X => S.y t Y X
    | 8 => fun t Y X => S.ysc t Y X
    | 9 => fun _ _ _ => True
    | 10 => fun _ _ _ => True
    | 0 => fun _ Y X => X = Y
    | 1 => fun _ Y X => X = Y
    | 2 => fun _ Y X => X = Y
    | 3 => fun _ Y X => X = Y
    | 4 => fun _ Y X => X = Y
    | 5 => fun _ Y X => X = Y
    | 6 => fun _ Y X => X = Y
  Φ := Phi S c
  q := Pipeline.shareOf spec0
  owed _ := 0

/-- The references the body has at a point. -/
def mems (t : Fin cfg0.N) : Mems where
  a1 := win0_0.stage (cfg0.slots t 0)
  h1 := hstage0_0 ((cfg0.slots t 0).cast nbuf0_0)
  a2 := win0_1.stage (cfg0.slots t 1)
  h2 := hstage0_1 ((cfg0.slots t 1).cast nbuf0_1)
  a3 := win0_2.stage (cfg0.slots t 2)
  h3 := hstage0_2 ((cfg0.slots t 2).cast nbuf0_2)
  a4 := win0_3.stage (cfg0.slots t 3)
  h4 := hstage0_3 ((cfg0.slots t 3).cast nbuf0_3)
  a5 := win0_4.stage (cfg0.slots t 4)
  h5 := hstage0_4 ((cfg0.slots t 4).cast nbuf0_4)
  a6 := win0_5.stage (cfg0.slots t 5)
  h6 := hstage0_5 ((cfg0.slots t 5).cast nbuf0_5)
  a7 := win0_6.stage (cfg0.slots t 6)
  h7 := hstage0_6 ((cfg0.slots t 6).cast nbuf0_6)
  a8 := win0_7.stage (cfg0.slots t 7)
  h8 := hstage0_7 ((cfg0.slots t 7).cast nbuf0_7)
  a9 := win0_8.stage (cfg0.slots t 8)
  h9 := hstage0_8 ((cfg0.slots t 8).cast nbuf0_8)
  a10 := win0_9.stage (cfg0.slots t 9)
  h10 := hstage0_9 ((cfg0.slots t 9).cast nbuf0_9)
  a11 := win0_10.stage (cfg0.slots t 10)
  h11 := hstage0_10 ((cfg0.slots t 10).cast nbuf0_10)
  a12 := Memref.whole cc0_scratch0
  h12 := Memref.isWhole_whole _
  a13 := Memref.whole cc0_scratch1
  h13 := Memref.isWhole_whole _
  a14 := Memref.whole cc0_scratch2
  h14 := Memref.isWhole_whole _
  a15 := Memref.whole cc0_scratch3
  h15 := Memref.isWhole_whole _
  a16 := Memref.whole cc0_scratch4
  h16 := Memref.isWhole_whole _
  a17 := Memref.whole cc0_scratch5
  h17 := Memref.isWhole_whole _

/-- The inputs are the blocks the pipeline fetched. -/
structure Ins (c : Dev nD) (t : Fin cfg0.N) (s : St F) : Prop where
  cu : s.cu = iblk m c 0 t
  xsS : s.xsS = iblk m c 1 t
  xb : s.xb = iblk m c 2 t
  xs : s.xs = iblk m c 3 t
  wt : s.wt = iblk m c 4 t
  bh : s.bh = iblk m c 5 t
  br : s.br = iblk m c 6 t

/-- The body at a point meets the specification. -/
def BodySpec (S : Spec F) (c : Dev nD) (t : Fin cfg0.N) : Prop :=
  ∀ s : St F, Ins m c t s → S.P t.castSucc s.scr → ∀ M : Mems,
    WP Variants.none c none Set.univ M (cc0_conv_silu_quant (F := F) (grid0.coords t) M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17)
      (fun _ s' => Ins m c t s' ∧ S.P t.succ s'.scr ∧ S.y t s.y s'.y ∧ S.ysc t s.ysc s'.ysc) s

/-- The row of the body among the definitions. -/
theorem defs₀_row (t : Fin cfg0.N) : defs₀ (F := F) .tc cfg0.body (cfg0.bodyArgs t (cfg0.slots t)) = bodyAt0 t := by
  unfold defs₀; rw [Defs.onTc_tc]

/-- Whatever the body may find of input 0 is its block. -/
theorem finds0 (S : Spec F) (c : Dev nD) (t : Fin cfg0.N) (Y) (h : (rdat m S c).Finds 0 t Y) : Y = iblk m c 0 t := by
  obtain ⟨d, rfl⟩ := RDat.finds_in_eq_fetched (rdat m S c) 0 rfl (fun _ _ _ => rfl) (fun _ _ _ h => h) t Y h
  unfold RDat.fetched RDat.blockOf iblk
  rfl

/-- Whatever the body may find of input 1 is its block. -/
theorem finds1 (S : Spec F) (c : Dev nD) (t : Fin cfg0.N) (Y) (h : (rdat m S c).Finds 1 t Y) : Y = iblk m c 1 t := by
  obtain ⟨d, rfl⟩ := RDat.finds_in_eq_fetched (rdat m S c) 1 rfl (fun _ _ _ => rfl) (fun _ _ _ h => h) t Y h
  unfold RDat.fetched RDat.blockOf iblk
  rfl

/-- Whatever the body may find of input 2 is its block. -/
theorem finds2 (S : Spec F) (c : Dev nD) (t : Fin cfg0.N) (Y) (h : (rdat m S c).Finds 2 t Y) : Y = iblk m c 2 t := by
  obtain ⟨d, rfl⟩ := RDat.finds_in_eq_fetched (rdat m S c) 2 rfl (fun _ _ _ => rfl) (fun _ _ _ h => h) t Y h
  unfold RDat.fetched RDat.blockOf iblk
  rfl

/-- Whatever the body may find of input 3 is its block. -/
theorem finds3 (S : Spec F) (c : Dev nD) (t : Fin cfg0.N) (Y) (h : (rdat m S c).Finds 3 t Y) : Y = iblk m c 3 t := by
  obtain ⟨d, rfl⟩ := RDat.finds_in_eq_fetched (rdat m S c) 3 rfl (fun _ _ _ => rfl) (fun _ _ _ h => h) t Y h
  unfold RDat.fetched RDat.blockOf iblk
  rfl

/-- Whatever the body may find of input 4 is its block. -/
theorem finds4 (S : Spec F) (c : Dev nD) (t : Fin cfg0.N) (Y) (h : (rdat m S c).Finds 4 t Y) : Y = iblk m c 4 t := by
  obtain ⟨d, rfl⟩ := RDat.finds_in_eq_fetched (rdat m S c) 4 rfl (fun _ _ _ => rfl) (fun _ _ _ h => h) t Y h
  unfold RDat.fetched RDat.blockOf iblk
  rfl

/-- Whatever the body may find of input 5 is its block. -/
theorem finds5 (S : Spec F) (c : Dev nD) (t : Fin cfg0.N) (Y) (h : (rdat m S c).Finds 5 t Y) : Y = iblk m c 5 t := by
  obtain ⟨d, rfl⟩ := RDat.finds_in_eq_fetched (rdat m S c) 5 rfl (fun _ _ _ => rfl) (fun _ _ _ h => h) t Y h
  unfold RDat.fetched RDat.blockOf iblk
  rfl

/-- Whatever the body may find of input 6 is its block. -/
theorem finds6 (S : Spec F) (c : Dev nD) (t : Fin cfg0.N) (Y) (h : (rdat m S c).Finds 6 t Y) : Y = iblk m c 6 t := by
  obtain ⟨d, rfl⟩ := RDat.finds_in_eq_fetched (rdat m S c) 6 rfl (fun _ _ _ => rfl) (fun _ _ _ h => h) t Y h
  unfold RDat.fetched RDat.blockOf iblk
  rfl

/-- The library's body obligation, from the specification at each point. -/
theorem bodyObligation (S : Spec F) (c : Dev nD) (hB : ∀ t, BodySpec m S c t) :
    (rdat m S c).BodyObligation (defs₀ (F := F)) Variants.none () Set.univ := by
  intro t Y hY
  rw [bigSep_W0, bigSep_W0, defs₀_row]
  show iprop(Phi S c t.castSucc ∗ _ ∗ _) ⊢ _
  unfold Phi
  iintro ⟨⟨⟨%s, %hP, S0, S1, S2, S3, S4, S5⟩, Hp⟩, Ho, W0, W1, W2, W3, W4, W5, W6, W7, W8, W9, W10⟩
  have h := hB t ⟨Y 0, Y 1, Y 2, Y 3, Y 4, Y 5, Y 6, Y 7, Y 8, Y 9, Y 10, s.h, s.l, s.halo, s.g, s.zmax, s.inv⟩
    ⟨finds0 m S c t _ (hY 0), finds1 m S c t _ (hY 1), finds2 m S c t _ (hY 2), finds3 m S c t _ (hY 3), finds4 m S c t _ (hY 4), finds5 m S c t _ (hY 5), finds6 m S c t _ (hY 6)⟩ hP (mems t)
  have hi : Ins m c t ⟨Y 0, Y 1, Y 2, Y 3, Y 4, Y 5, Y 6, Y 7, Y 8, Y 9, Y 10, s.h, s.l, s.halo, s.g, s.zmax, s.inv⟩ :=
    ⟨finds0 m S c t _ (hY 0), finds1 m S c t _ (hY 1), finds2 m S c t _ (hY 2), finds3 m S c t _ (hY 3), finds4 m S c t _ (hY 4), finds5 m S c t _ (hY 5), finds6 m S c t _ (hY 6)⟩
  unfold WP at h
  iapply (wp_wand_r frame (wpE (defs₀ (F := F)) Variants.none (c : Thread nD τ) none) Set.univ)
  isplitl [W0 W1 W2 W3 W4 W5 W6 W7 W8 W9 W10 S0 S1 S2 S3 S4 S5]
  · iapply h
    unfold OwnSt
    isplitl [W0]
    · iexact W0
    isplitl [W1]
    · iexact W1
    isplitl [W2]
    · iexact W2
    isplitl [W3]
    · iexact W3
    isplitl [W4]
    · iexact W4
    isplitl [W5]
    · iexact W5
    isplitl [W6]
    · iexact W6
    isplitl [W7]
    · iexact W7
    isplitl [W8]
    · iexact W8
    isplitl [W9]
    · iexact W9
    isplitl [W10]
    · iexact W10
    isplitl [S0]
    · iexact S0
    isplitl [S1]
    · iexact S1
    isplitl [S2]
    · iexact S2
    isplitl [S3]
    · iexact S3
    isplitl [S4]
    · iexact S4
    iexact S5
  · iintro %a ⟨%s', %hs, H⟩
    unfold OwnSt
    icases H with ⟨W0, W1, W2, W3, W4, W5, W6, W7, W8, W9, W10, S0, S1, S2, S3, S4, S5⟩
    isplitl [S0 S1 S2 S3 S4 S5 Hp]
    · rw [show (rdat m S c).Φ t.succ = Phi S c t.succ from rfl]
      unfold Phi
      isplitl [S0 S1 S2 S3 S4 S5]
      · iexists s'.scr
        isplitr
        · ipureintro; exact hs.2.1
        isplitl [S0]
        · iexact S0
        isplitl [S1]
        · iexact S1
        isplitl [S2]
        · iexact S2
        isplitl [S3]
        · iexact S3
        isplitl [S4]
        · iexact S4
        iexact S5
      · iexact Hp
    isplitl [Ho]
    · iexact Ho
    isplitl [W0]
    · iexists s'.cu
      isplitr
      · ipureintro; exact hs.1.cu.trans hi.cu.symm
      · iexact W0
    isplitl [W1]
    · iexists s'.xsS
      isplitr
      · ipureintro; exact hs.1.xsS.trans hi.xsS.symm
      · iexact W1
    isplitl [W2]
    · iexists s'.xb
      isplitr
      · ipureintro; exact hs.1.xb.trans hi.xb.symm
      · iexact W2
    isplitl [W3]
    · iexists s'.xs
      isplitr
      · ipureintro; exact hs.1.xs.trans hi.xs.symm
      · iexact W3
    isplitl [W4]
    · iexists s'.wt
      isplitr
      · ipureintro; exact hs.1.wt.trans hi.wt.symm
      · iexact W4
    isplitl [W5]
    · iexists s'.bh
      isplitr
      · ipureintro; exact hs.1.bh.trans hi.bh.symm
      · iexact W5
    isplitl [W6]
    · iexists s'.br
      isplitr
      · ipureintro; exact hs.1.br.trans hi.br.symm
      · iexact W6
    isplitl [W7]
    · iexists s'.y
      isplitr
      · ipureintro; exact hs.2.2.1
      · iexact W7
    isplitl [W8]
    · iexists s'.ysc
      isplitr
      · ipureintro; exact hs.2.2.2
      · iexact W8
    isplitl [W9]
    · iexists s'.head
      isplitr
      · ipureintro; exact trivial
      · iexact W9
    iexists s'.fin
    isplitr
    · ipureintro; exact trivial
    · iexact W10

/-- A whole buffer held at some contents is owned at some reading. -/
theorem own_of_pts (c : Dev nD) (b : Ref sig .tc) :
    (iprop(∃ f : Buf (Elt F) ((c : Thread nD τ).loc b), ((c : Thread nD τ).loc b) ↦{fullShare} f) : sProp 𝕄)
      ⊢ iprop(∃ X, owns (c : Thread nD τ) (Memref.whole b) fullShare X) := by
  unfold owns
  iintro ⟨%f, H⟩
  iexists ((Memref.whole b).view.read (Elt F) f)
  iexists f
  isplitr
  · ipureintro; rfl
  · rw [View.set_whole]; iexact H

/-- Owning a whole array is holding its buffer with some contents. -/
theorem pts_of_own (c : Dev nD) (b : Ref sig .tc) (X) :
    (owns (c : Thread nD τ) (Memref.whole b) fullShare X : sProp 𝕄)
      ⊢ iprop(∃ f : Buf (Elt F) ((c : Thread nD τ).loc b), ((c : Thread nD τ).loc b) ↦{fullShare} f) := by
  unfold owns
  iintro ⟨%f, %hf, H⟩
  iexists f
  rw [View.set_whole]; iexact H

/-- The scratch buffers at any contents make the invariant at the start. -/
theorem phi_in (S : Spec F) (c : Dev nD) (h0 : ∀ s, S.P 0 s) : Pipeline.ΦA spec0 c ⊢ Phi (F := F) S c 0 := by
  unfold Pipeline.ΦA Phi
  rw [scopedRest0_eq]
  iintro ⟨⟨S0, S1, S2, S3, S4, S5⟩, Hp⟩
  ihave S0 := own_of_pts c cc0_scratch0 $$ S0
  icases S0 with ⟨%x0, S0⟩
  ihave S1 := own_of_pts c cc0_scratch1 $$ S1
  icases S1 with ⟨%x1, S1⟩
  ihave S2 := own_of_pts c cc0_scratch2 $$ S2
  icases S2 with ⟨%x2, S2⟩
  ihave S3 := own_of_pts c cc0_scratch3 $$ S3
  icases S3 with ⟨%x3, S3⟩
  ihave S4 := own_of_pts c cc0_scratch4 $$ S4
  icases S4 with ⟨%x4, S4⟩
  ihave S5 := own_of_pts c cc0_scratch5 $$ S5
  icases S5 with ⟨%x5, S5⟩
  isplitr [Hp]
  · iexists (⟨x0, x1, x2, x3, x4, x5⟩ : Scr F)
    isplitr
    · ipureintro; exact h0 _
    isplitl [S0]
    · iexact S0
    isplitl [S1]
    · iexact S1
    isplitl [S2]
    · iexact S2
    isplitl [S3]
    · iexact S3
    isplitl [S4]
    · iexact S4
    iexact S5
  · iexact Hp

/-- The invariant at the end gives the scratch buffers back. -/
theorem phi_out (S : Spec F) (c : Dev nD) (t) : Phi (F := F) S c t ⊢ Pipeline.ΦA spec0 c := by
  unfold Pipeline.ΦA Phi
  rw [scopedRest0_eq]
  iintro ⟨⟨%s, %hP, S0, S1, S2, S3, S4, S5⟩, Hp⟩
  isplitr [Hp]
  · isplitl [S0]
    · iapply pts_of_own; iexact S0
    isplitl [S1]
    · iapply pts_of_own; iexact S1
    isplitl [S2]
    · iapply pts_of_own; iexact S2
    isplitl [S3]
    · iapply pts_of_own; iexact S3
    isplitl [S4]
    · iapply pts_of_own; iexact S4
    iapply pts_of_own; iexact S5
  · iexact Hp

set_option backward.isDefEq.respectTransparency.types false in
set_option maxHeartbeats 800000 in
/-- The run of @main, from the specification of the body. -/
theorem run_main (S : Spec F) (h0 : ∀ s, S.P 0 s) (hB : ∀ c t, BodySpec m S c t) :
    θ_run defs (onTc (τ := τ) (main (F := F))) (s₀ m ρ) (fun r => RDat.FramePost cfg0 (rdat m S) (V m) r ∧ r.2.sem = fun _ => 0) :=
  Pipeline.RDat.θ_run_frame_track_shared (Q' := _) cfgs (0 : Fin 1) launch₀0 defs₀ Variants.none (rdat m S) m ρ main
    (hbody := fun c => bodyObligation m S c (hB c)) (hq := fun _ _ _ => rfl)
    (howed := fun _ _ => rfl) (V := V m) (hmain := hmain m Variants.none) (hA := fun _ _ => rfl)
    (hin := fun c => phi_in S c h0) (hout := fun c => phi_out S c _)

/-- What the run leaves of the arguments. -/
theorem args_of (S : Spec F) {r : PUnit × MemSt nD τ sig (Elt F)} (h : RDat.FramePost cfg0 (rdat m S) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
    (h.arr_in c 3 rfl).trans (V_main_arg1 m c),
    (h.arr_in c 0 rfl).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

end Cert.Kernel.Hand
-- ==== Proof.KernelKeeps.lean ====
module

public import proofs.«01_k».proof.Proof.Gen.Kernel.Skeleton
public import proofs.«01_k».proof.Proof.KernelState

/-! Invariants: `Keeps` says that a program leaves a property of the buffers true, with one closure rule
    per construct, and that the words of the boundaries it assumes in range are. -/

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [BitOps F]

/-- The boundaries in range: a sequence starts at least three tokens before the end and ends at least three after the start. -/
def CuOk (cu : S7.Idx → BitVec 32) : Prop :=
  ∀ j, ((j 0).val < 6 → 0 ≤ (cu j).toInt ∧ (cu j).toInt ≤ 2045) ∧ (1 ≤ (j 0).val → 3 ≤ (cu j).toInt ∧ (cu j).toInt ≤ 2048)

/-- `p` leaves `R` true and ends with a value of which `φ` holds. -/
structure Keeps (𝒱 : Variants) (c : Dev nD) (bd : Option 𝒱.V) (E : Set ℕ) (M : Mems) {α : Type} (R : St F → Prop)
    (p : Prog (TpuEff nD τ sig (Elt F) Λ₀ .tc) α) (φ : α → Prop) : Prop where
  run : ∀ s, R s → WP 𝒱 c bd E M p (fun a s' => φ a ∧ R s') s

/-- A property that says nothing of the gathered lanes, the head and the final rows, and has the boundaries in range. -/
structure GFree (R : St F → Prop) : Prop where
  cuOk : ∀ s, R s → CuOk s.cu
  head : ∀ s x, R s → R { s with head := x }
  fin : ∀ s x, R s → R { s with fin := x }
  g : ∀ s x, R s → R { s with g := x }

/-- A property of the inputs alone, with the boundaries in range. -/
structure Free (R : St F → Prop) : Prop extends GFree R where
  y : ∀ s x, R s → R { s with y := x }
  ysc : ∀ s x, R s → R { s with ysc := x }
  h : ∀ s x, R s → R { s with h := x }
  l : ∀ s x, R s → R { s with l := x }
  halo : ∀ s x, R s → R { s with halo := x }
  zmax : ∀ s x, R s → R { s with zmax := x }
  inv : ∀ s x, R s → R { s with inv := x }

section Rules
variable {𝒱 : Variants} {c : Dev nD} {bd : Option 𝒱.V} {E : Set ℕ} {M : Mems} {α β : Type} {R : St F → Prop}

/-- A returned value keeps the condition. -/
theorem Keeps.pure {a : α} : Keeps 𝒱 c bd E M R (Pure.pure a) fun _ => True := ⟨fun _ h => WP.pure ⟨trivial, h⟩⟩

/-- A returned value keeps the condition, and is of the kind it is. -/
theorem Keeps.pure_of {a : α} {φ : α → Prop} (h' : φ a) : Keeps 𝒱 c bd E M R (Pure.pure a) φ := ⟨fun _ h => WP.pure ⟨h', h⟩⟩

/-- A program that has returned keeps the condition. -/
theorem Keeps.ret {a : α} : Keeps 𝒱 c bd E M R (.ret a) fun _ => True := ⟨fun _ h => WP.ret ⟨trivial, h⟩⟩

/-- Two programs in turn keep the condition if each does. -/
theorem Keeps.bind {p : Prog (TpuEff nD τ sig (Elt F) Λ₀ .tc) α} {k : α → Prog (TpuEff nD τ sig (Elt F) Λ₀ .tc) β} {φ : α → Prop} {ψ : β → Prop}
    (hp : Keeps 𝒱 c bd E M R p φ) (hk : ∀ a, φ a → Keeps 𝒱 c bd E M R (k a) ψ) : Keeps 𝒱 c bd E M R (p >>= k) ψ :=
  ⟨fun s h => WP.bind ((hp.run s h).mono fun a s' h' => (hk a h'.1).run s' h'.2)⟩

/-- A choice keeps the condition if both branches do. -/
theorem Keeps.ite {P : Prop} [Decidable P] {p q : Prog (TpuEff nD τ sig (Elt F) Λ₀ .tc) α} {φ : α → Prop}
    (hp : Keeps 𝒱 c bd E M R p φ) (hq : Keeps 𝒱 c bd E M R q φ) : Keeps 𝒱 c bd E M R (if P then p else q) φ :=
  ⟨fun s h => WP.ite (fun _ => hp.run s h) fun _ => hq.run s h⟩

/-- A choice whose branches know the outcome keeps the condition if both do. -/
theorem Keeps.dite {P : Prop} [Decidable P] {p : P → Prog (TpuEff nD τ sig (Elt F) Λ₀ .tc) α} {q : ¬ P → Prog (TpuEff nD τ sig (Elt F) Λ₀ .tc) α} {φ : α → Prop}
    (hp : ∀ h, Keeps 𝒱 c bd E M R (p h) φ) (hq : ∀ h, Keeps 𝒱 c bd E M R (q h) φ) : Keeps 𝒱 c bd E M R (dite P p q) φ :=
  ⟨fun s h => WP.dite (fun h' => (hp h').run s h) fun h' => (hq h').run s h⟩

/-- A loop keeps the condition if its body does. -/
theorem Keeps.loop {σ : Type} {l : Scf.Loop 32} {hok : l.OK} {init : σ} {body : Fin l.trips → σ → Prog (TpuEff nD τ sig (Elt F) Λ₀ .tc) σ}
    (hb : ∀ k acc, Keeps 𝒱 c bd E M R (body k acc) fun _ => True) : Keeps 𝒱 c bd E M R (l.for hok init body) fun _ => True :=
  ⟨fun s h => WP.loop l hok init body (fun _ _ s' => R s') h (fun k acc s' h' => ((hb k acc).run s' h').mono fun _ _ h => h.2) fun _ _ h => ⟨trivial, h⟩⟩

/-- A checked side condition that holds keeps the condition. -/
theorem Keeps.assume {P : Prop} {d : Decidable P} (h : P) : Keeps 𝒱 c bd E M R (Prog.lift (TpuEff.assume P d)) fun _ => True :=
  ⟨fun _ hR => WP.assume h ⟨trivial, hR⟩⟩

/-- A boundary read is in range. -/
theorem Keeps.word1 (hR : GFree R) {b : ℕ} {inb : ∀ a, (![b] : Fin 1 → ℕ) a + S1.size a ≤ S7.size a} {h1 : (Rect.unit (s := S7) ![b] S1.size inb).shape.numel = 1} {hp : EltTy.packing .i32 = 1} :
    Keeps 𝒱 c bd E M R (smemLoad M.a1 (Rect.unit (s := S7) ![b] S1.size inb) h1 hp)
      fun v : BitVec 32 => (b < 6 → 0 ≤ v.toInt ∧ v.toInt ≤ 2045) ∧ (1 ≤ b → 3 ≤ v.toInt ∧ v.toInt ≤ 2048) := by
  constructor
  intro s hs
  refine WP.word1 ⟨?_, hs⟩
  have h := hR.cuOk s hs ((Rect.unit (s := S7) ![b] S1.size inb).emb (Shape.Idx.first (h1.symm ▸ Nat.one_pos)))
  have hb : (((Rect.unit (s := S7) ![b] S1.size inb).emb (Shape.Idx.first (h1.symm ▸ Nat.one_pos))) 0).val = b := by
    rw [Rect.emb_apply]
    have h0 : ((Shape.Idx.first (s := (Rect.unit (s := S7) ![b] S1.size inb).shape) (h1.symm ▸ Nat.one_pos)) 0).val < 1 :=
      ((Shape.Idx.first (s := (Rect.unit (s := S7) ![b] S1.size inb).shape) (h1.symm ▸ Nat.one_pos)) 0).isLt
    show b + 1 * _ = b
    omega
  rw [hb] at h
  exact h

/-- A read of one word of array 2 keeps the condition. -/
theorem Keeps.word2 {r : Rect S1x2048} {h1 : r.shape.numel = 1} {hp : EltTy.packing .f32 = 1} :
    Keeps 𝒱 c bd E M R (smemLoad M.a2 r h1 hp) fun _ => True := ⟨fun _ hs => WP.word2 ⟨trivial, hs⟩⟩

/-- A load from array 3 keeps the condition. -/
theorem Keeps.load3 {r : LoadRect S8192x256} {hl : M.a3.view.LoadsAt r} : Keeps 𝒱 c bd E M R (Prog.lift (.load M.a3 r hl)) fun _ => True :=
  ⟨fun _ hs => WP.load3 ⟨trivial, hs⟩⟩

/-- A load from array 4 keeps the condition. -/
theorem Keeps.load4 {r : LoadRect S1x2048} {hl : M.a4.view.LoadsAt r} : Keeps 𝒱 c bd E M R (Prog.lift (.load M.a4 r hl)) fun _ => True :=
  ⟨fun _ hs => WP.load4 ⟨trivial, hs⟩⟩

/-- A load from array 5 keeps the condition. -/
theorem Keeps.load5 {r : LoadRect S4x8192} {hl : M.a5.view.LoadsAt r} : Keeps 𝒱 c bd E M R (Prog.lift (.load M.a5 r hl)) fun _ => True :=
  ⟨fun _ hs => WP.load5 ⟨trivial, hs⟩⟩

/-- A load from array 6 keeps the condition. -/
theorem Keeps.load6 {r : LoadRect S8192x1} {hl : M.a6.view.LoadsAt r} : Keeps 𝒱 c bd E M R (Prog.lift (.load M.a6 r hl)) fun _ => True :=
  ⟨fun _ hs => WP.load6 ⟨trivial, hs⟩⟩

/-- A load from array 7 keeps the condition. -/
theorem Keeps.load7 {r : LoadRect S1x8192} {hl : M.a7.view.LoadsAt r} : Keeps 𝒱 c bd E M R (Prog.lift (.load M.a7 r hl)) fun _ => True :=
  ⟨fun _ hs => WP.load7 ⟨trivial, hs⟩⟩

/-- A load from array 8 keeps the condition. -/
theorem Keeps.load8 {r : LoadRect S8192x256} {hl : M.a8.view.LoadsAt r} : Keeps 𝒱 c bd E M R (Prog.lift (.load M.a8 r hl)) fun _ => True :=
  ⟨fun _ hs => WP.load8 ⟨trivial, hs⟩⟩

/-- A load from array 9 keeps the condition. -/
theorem Keeps.load9 {r : LoadRect S1x2048} {hl : M.a9.view.LoadsAt r} : Keeps 𝒱 c bd E M R (Prog.lift (.load M.a9 r hl)) fun _ => True :=
  ⟨fun _ hs => WP.load9 ⟨trivial, hs⟩⟩

/-- A load from array 10 keeps the condition. -/
theorem Keeps.load10 {r : LoadRect S6x3x8192} {hl : M.a10.view.LoadsAt r} : Keeps 𝒱 c bd E M R (Prog.lift (.load M.a10 r hl)) fun _ => True :=
  ⟨fun _ hs => WP.load10 ⟨trivial, hs⟩⟩

/-- A load from array 11 keeps the condition. -/
theorem Keeps.load11 {r : LoadRect S6x3x8192} {hl : M.a11.view.LoadsAt r} : Keeps 𝒱 c bd E M R (Prog.lift (.load M.a11 r hl)) fun _ => True :=
  ⟨fun _ hs => WP.load11 ⟨trivial, hs⟩⟩

/-- A load from array 12 keeps the condition. -/
theorem Keeps.load12 {r : LoadRect S8192x256} {hl : M.a12.view.LoadsAt r} : Keeps 𝒱 c bd E M R (Prog.lift (.load M.a12 r hl)) fun _ => True :=
  ⟨fun _ hs => WP.load12 ⟨trivial, hs⟩⟩

/-- A load from array 13 keeps the condition. -/
theorem Keeps.load13 {r : LoadRect S8192x256} {hl : M.a13.view.LoadsAt r} : Keeps 𝒱 c bd E M R (Prog.lift (.load M.a13 r hl)) fun _ => True :=
  ⟨fun _ hs => WP.load13 ⟨trivial, hs⟩⟩

/-- A load from array 14 keeps the condition. -/
theorem Keeps.load14 {r : LoadRect S8192x128} {hl : M.a14.view.LoadsAt r} : Keeps 𝒱 c bd E M R (Prog.lift (.load M.a14 r hl)) fun _ => True :=
  ⟨fun _ hs => WP.load14 ⟨trivial, hs⟩⟩

/-- A load from array 15 keeps the condition. -/
theorem Keeps.load15 {r : LoadRect S8192x128} {hl : M.a15.view.LoadsAt r} : Keeps 𝒱 c bd E M R (Prog.lift (.load M.a15 r hl)) fun _ => True :=
  ⟨fun _ hs => WP.load15 ⟨trivial, hs⟩⟩

/-- A load from array 16 keeps the condition. -/
theorem Keeps.load16 {r : LoadRect S8x256} {hl : M.a16.view.LoadsAt r} : Keeps 𝒱 c bd E M R (Prog.lift (.load M.a16 r hl)) fun _ => True :=
  ⟨fun _ hs => WP.load16 ⟨trivial, hs⟩⟩

/-- A load from array 17 keeps the condition. -/
theorem Keeps.load17 {r : LoadRect S8x256} {hl : M.a17.view.LoadsAt r} : Keeps 𝒱 c bd E M R (Prog.lift (.load M.a17 r hl)) fun _ => True :=
  ⟨fun _ hs => WP.load17 ⟨trivial, hs⟩⟩

/-- A store to array 8 keeps the condition. -/
theorem Keeps.store8 (hR : Free R) {r : Rect S8192x256} {w : r.shape.Idx → Elt F .fp8e4m3} {Mk : Finset r.shape.Idx} {hx : (M.a8.access r).Stores Mk}
    {hm : Mk = Finset.univ ∨ ∀ a, r.stride a = 1} : Keeps 𝒱 c bd E M R (Prog.lift (TpuEff.store M.a8 r w Mk hx hm)) fun _ => True :=
  ⟨fun s hs => WP.store8 ⟨trivial, hR.y s _ hs⟩⟩

/-- A store to array 9 keeps the condition. -/
theorem Keeps.store9 (hR : Free R) {r : Rect S1x2048} {w : r.shape.Idx → Elt F .f32} {Mk : Finset r.shape.Idx} {hx : (M.a9.access r).Stores Mk}
    {hm : Mk = Finset.univ ∨ ∀ a, r.stride a = 1} : Keeps 𝒱 c bd E M R (Prog.lift (TpuEff.store M.a9 r w Mk hx hm)) fun _ => True :=
  ⟨fun s hs => WP.store9 ⟨trivial, hR.ysc s _ hs⟩⟩

/-- A store to array 10 keeps the condition. -/
theorem Keeps.store10 (hR : GFree R) {r : Rect S6x3x8192} {w : r.shape.Idx → Elt F .f32} {Mk : Finset r.shape.Idx} {hx : (M.a10.access r).Stores Mk}
    {hm : Mk = Finset.univ ∨ ∀ a, r.stride a = 1} : Keeps 𝒱 c bd E M R (Prog.lift (TpuEff.store M.a10 r w Mk hx hm)) fun _ => True :=
  ⟨fun s hs => WP.store10 ⟨trivial, hR.head s _ hs⟩⟩

/-- A store to array 11 keeps the condition. -/
theorem Keeps.store11 (hR : GFree R) {r : Rect S6x3x8192} {w : r.shape.Idx → Elt F .bf16} {Mk : Finset r.shape.Idx} {hx : (M.a11.access r).Stores Mk}
    {hm : Mk = Finset.univ ∨ ∀ a, r.stride a = 1} : Keeps 𝒱 c bd E M R (Prog.lift (TpuEff.store M.a11 r w Mk hx hm)) fun _ => True :=
  ⟨fun s hs => WP.store11 ⟨trivial, hR.fin s _ hs⟩⟩

/-- A store to array 12 keeps the condition. -/
theorem Keeps.store12 (hR : Free R) {r : Rect S8192x256} {w : r.shape.Idx → Elt F .f32} {Mk : Finset r.shape.Idx} {hx : (M.a12.access r).Stores Mk}
    {hm : Mk = Finset.univ ∨ ∀ a, r.stride a = 1} : Keeps 𝒱 c bd E M R (Prog.lift (TpuEff.store M.a12 r w Mk hx hm)) fun _ => True :=
  ⟨fun s hs => WP.store12 ⟨trivial, hR.h s _ hs⟩⟩

/-- A store to array 13 keeps the condition. -/
theorem Keeps.store13 (hR : Free R) {r : Rect S8192x256} {w : r.shape.Idx → Elt F .bf16} {Mk : Finset r.shape.Idx} {hx : (M.a13.access r).Stores Mk}
    {hm : Mk = Finset.univ ∨ ∀ a, r.stride a = 1} : Keeps 𝒱 c bd E M R (Prog.lift (TpuEff.store M.a13 r w Mk hx hm)) fun _ => True :=
  ⟨fun s hs => WP.store13 ⟨trivial, hR.l s _ hs⟩⟩

/-- A store to array 14 keeps the condition. -/
theorem Keeps.store14 (hR : Free R) {r : Rect S8192x128} {w : r.shape.Idx → Elt F .bf16} {Mk : Finset r.shape.Idx} {hx : (M.a14.access r).Stores Mk}
    {hm : Mk = Finset.univ ∨ ∀ a, r.stride a = 1} : Keeps 𝒱 c bd E M R (Prog.lift (TpuEff.store M.a14 r w Mk hx hm)) fun _ => True :=
  ⟨fun s hs => WP.store14 ⟨trivial, hR.halo s _ hs⟩⟩

/-- A store to array 15 keeps the condition. -/
theorem Keeps.store15 (hR : GFree R) {r : Rect S8192x128} {w : r.shape.Idx → Elt F .f32} {Mk : Finset r.shape.Idx} {hx : (M.a15.access r).Stores Mk}
    {hm : Mk = Finset.univ ∨ ∀ a, r.stride a = 1} : Keeps 𝒱 c bd E M R (Prog.lift (TpuEff.store M.a15 r w Mk hx hm)) fun _ => True :=
  ⟨fun s hs => WP.store15 ⟨trivial, hR.g s _ hs⟩⟩

/-- A store to array 16 keeps the condition. -/
theorem Keeps.store16 (hR : Free R) {r : Rect S8x256} {w : r.shape.Idx → Elt F .f32} {Mk : Finset r.shape.Idx} {hx : (M.a16.access r).Stores Mk}
    {hm : Mk = Finset.univ ∨ ∀ a, r.stride a = 1} : Keeps 𝒱 c bd E M R (Prog.lift (TpuEff.store M.a16 r w Mk hx hm)) fun _ => True :=
  ⟨fun s hs => WP.store16 ⟨trivial, hR.zmax s _ hs⟩⟩

/-- A store to array 17 keeps the condition. -/
theorem Keeps.store17 (hR : Free R) {r : Rect S8x256} {w : r.shape.Idx → Elt F .f32} {Mk : Finset r.shape.Idx} {hx : (M.a17.access r).Stores Mk}
    {hm : Mk = Finset.univ ∨ ∀ a, r.stride a = 1} : Keeps 𝒱 c bd E M R (Prog.lift (TpuEff.store M.a17 r w Mk hx hm)) fun _ => True :=
  ⟨fun s hs => WP.store17 ⟨trivial, hR.inv s _ hs⟩⟩

end Rules

/-- A column at most 2047 is a column of the scales. -/
theorem inb_of_lt {n : ℕ} (h : n < 2048) : ∀ a, (![0, n] : Fin 2 → ℕ) a + S1x1.size a ≤ S1x2048.size a := by
  intro a
  match a with
  | 0 => exact (by decide : (0 + 1 ≤ 1))
  | 1 => exact (by show n + 1 ≤ 2048; omega)

/-- The body's side condition 1 holds at the offsets it is asked for. -/
theorem k0_chk1_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk1 i v := by
  intro _
  unfold k0_off44
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 2 holds at the offsets it is asked for. -/
theorem k0_chk2_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk2 i v := by
  intro _
  unfold k0_off45
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 3 holds at the offsets it is asked for. -/
theorem k0_chk3_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk3 i v := by
  intro _
  unfold k0_off46
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 4 holds at the offsets it is asked for. -/
theorem k0_chk4_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk4 i v := by
  intro _
  unfold k0_off47
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 5 holds at the offsets it is asked for. -/
theorem k0_chk5_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk5 i v := by
  intro _
  unfold k0_off48
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 6 holds at the offsets it is asked for. -/
theorem k0_chk6_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk6 i v := by
  intro _
  unfold k0_off49
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 7 holds at the offsets it is asked for. -/
theorem k0_chk7_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk7 i v := by
  intro _
  unfold k0_off50
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 8 holds at the offsets it is asked for. -/
theorem k0_chk8_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk8 i v := by
  intro _
  unfold k0_off51
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 9 holds at the offsets it is asked for. -/
theorem k0_chk9_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk9 i v := by
  intro _
  unfold k0_off52
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 10 holds at the offsets it is asked for. -/
theorem k0_chk10_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk10 i v := by
  intro _
  unfold k0_off53
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 11 holds at the offsets it is asked for. -/
theorem k0_chk11_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk11 i v := by
  intro _
  unfold k0_off54
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 12 holds at the offsets it is asked for. -/
theorem k0_chk12_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk12 i v := by
  intro _
  unfold k0_off55
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 13 holds at the offsets it is asked for. -/
theorem k0_chk13_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk13 i v := by
  intro _
  unfold k0_off56
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 14 holds at the offsets it is asked for. -/
theorem k0_chk14_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk14 i v := by
  intro _
  unfold k0_off57
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 15 holds at the offsets it is asked for. -/
theorem k0_chk15_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk15 i v := by
  intro _
  unfold k0_off58
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 16 holds at the offsets it is asked for. -/
theorem k0_chk16_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk16 i v := by
  intro _
  unfold k0_off59
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 17 holds at the offsets it is asked for. -/
theorem k0_chk17_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk17 i v := by
  intro _
  unfold k0_off60
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 18 holds at the offsets it is asked for. -/
theorem k0_chk18_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk18 i v := by
  intro _
  unfold k0_off61
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 19 holds at the offsets it is asked for. -/
theorem k0_chk19_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk19 i v := by
  intro _
  unfold k0_off62
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 20 holds at the offsets it is asked for. -/
theorem k0_chk20_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk20 i v := by
  intro _
  unfold k0_off63
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 21 holds at the offsets it is asked for. -/
theorem k0_chk21_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk21 i v := by
  intro _
  unfold k0_off64
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 22 holds at the offsets it is asked for. -/
theorem k0_chk22_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk22 i v := by
  intro _
  unfold k0_off65
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 23 holds at the offsets it is asked for. -/
theorem k0_chk23_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk23 i v := by
  intro _
  unfold k0_off66
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 24 holds at the offsets it is asked for. -/
theorem k0_chk24_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk24 i v := by
  intro _
  unfold k0_off67
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 25 holds at the offsets it is asked for. -/
theorem k0_chk25_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk25 i v := by
  intro _
  unfold k0_off68
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 26 holds at the offsets it is asked for. -/
theorem k0_chk26_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk26 i v := by
  intro _
  unfold k0_off69
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 27 holds at the offsets it is asked for. -/
theorem k0_chk27_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk27 i v := by
  intro _
  unfold k0_off70
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 28 holds at the offsets it is asked for. -/
theorem k0_chk28_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk28 i v := by
  intro _
  unfold k0_off71
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 29 holds at the offsets it is asked for. -/
theorem k0_chk29_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk29 i v := by
  intro _
  unfold k0_off72
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 30 holds at the offsets it is asked for. -/
theorem k0_chk30_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk30 i v := by
  intro _
  unfold k0_off73
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 31 holds at the offsets it is asked for. -/
theorem k0_chk31_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk31 i v := by
  intro _
  unfold k0_off74
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 32 holds at the offsets it is asked for. -/
theorem k0_chk32_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk32 i v := by
  intro _
  unfold k0_off75
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 33 holds at the offsets it is asked for. -/
theorem k0_chk33_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk33 i v := by
  intro _
  unfold k0_off76
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 34 holds at the offsets it is asked for. -/
theorem k0_chk34_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk34 i v := by
  intro _
  unfold k0_off77
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 35 holds at the offsets it is asked for. -/
theorem k0_chk35_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk35 i v := by
  intro _
  unfold k0_off78
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 36 holds at the offsets it is asked for. -/
theorem k0_chk36_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk36 i v := by
  intro _
  unfold k0_off79
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 37 holds at the offsets it is asked for. -/
theorem k0_chk37_of (i : grid0.Coords) {b : ℕ} (v : BitVec 32) (hv : (b < 6 → 0 ≤ v.toInt ∧ v.toInt ≤ 2045) ∧ (1 ≤ b → 3 ≤ v.toInt ∧ v.toInt ≤ 2048))
    (hb : 1 ≤ b) : k0_chk37 i v := by
  intro _
  unfold k0_off80
  apply inb_of_lt
  have h := hv.2 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 38 holds at the offsets it is asked for. -/
theorem k0_chk38_of (i : grid0.Coords) {b : ℕ} (v : BitVec 32) (hv : (b < 6 → 0 ≤ v.toInt ∧ v.toInt ≤ 2045) ∧ (1 ≤ b → 3 ≤ v.toInt ∧ v.toInt ≤ 2048))
    (hb : 1 ≤ b) : k0_chk38 i v := by
  intro _
  unfold k0_off81
  apply inb_of_lt
  have h := hv.2 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 39 holds at the offsets it is asked for. -/
theorem k0_chk39_of (i : grid0.Coords) {b : ℕ} (v : BitVec 32) (hv : (b < 6 → 0 ≤ v.toInt ∧ v.toInt ≤ 2045) ∧ (1 ≤ b → 3 ≤ v.toInt ∧ v.toInt ≤ 2048))
    (hb : 1 ≤ b) : k0_chk39 i v := by
  intro _
  unfold k0_off82
  apply inb_of_lt
  have h := hv.2 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 40 holds at the offsets it is asked for. -/
theorem k0_chk40_of (i : grid0.Coords) {b : ℕ} (v : BitVec 32) (hv : (b < 6 → 0 ≤ v.toInt ∧ v.toInt ≤ 2045) ∧ (1 ≤ b → 3 ≤ v.toInt ∧ v.toInt ≤ 2048))
    (hb : 1 ≤ b) : k0_chk40 i v := by
  intro _
  unfold k0_off83
  apply inb_of_lt
  have h := hv.2 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 41 holds at the offsets it is asked for. -/
theorem k0_chk41_of (i : grid0.Coords) {b : ℕ} (v : BitVec 32) (hv : (b < 6 → 0 ≤ v.toInt ∧ v.toInt ≤ 2045) ∧ (1 ≤ b → 3 ≤ v.toInt ∧ v.toInt ≤ 2048))
    (hb : 1 ≤ b) : k0_chk41 i v := by
  intro _
  unfold k0_off84
  apply inb_of_lt
  have h := hv.2 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 42 holds at the offsets it is asked for. -/
theorem k0_chk42_of (i : grid0.Coords) {b : ℕ} (v : BitVec 32) (hv : (b < 6 → 0 ≤ v.toInt ∧ v.toInt ≤ 2045) ∧ (1 ≤ b → 3 ≤ v.toInt ∧ v.toInt ≤ 2048))
    (hb : 1 ≤ b) : k0_chk42 i v := by
  intro _
  unfold k0_off85
  apply inb_of_lt
  have h := hv.2 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 43 holds at the offsets it is asked for. -/
theorem k0_chk43_of (i : grid0.Coords) {b : ℕ} (v : BitVec 32) (hv : (b < 6 → 0 ≤ v.toInt ∧ v.toInt ≤ 2045) ∧ (1 ≤ b → 3 ≤ v.toInt ∧ v.toInt ≤ 2048))
    (hb : 1 ≤ b) : k0_chk43 i v := by
  intro _
  unfold k0_off86
  apply inb_of_lt
  have h := hv.2 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 44 holds at the offsets it is asked for. -/
theorem k0_chk44_of (i : grid0.Coords) {b : ℕ} (v : BitVec 32) (hv : (b < 6 → 0 ≤ v.toInt ∧ v.toInt ≤ 2045) ∧ (1 ≤ b → 3 ≤ v.toInt ∧ v.toInt ≤ 2048))
    (hb : 1 ≤ b) : k0_chk44 i v := by
  intro _
  unfold k0_off87
  apply inb_of_lt
  have h := hv.2 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 45 holds at the offsets it is asked for. -/
theorem k0_chk45_of (i : grid0.Coords) {b : ℕ} (v : BitVec 32) (hv : (b < 6 → 0 ≤ v.toInt ∧ v.toInt ≤ 2045) ∧ (1 ≤ b → 3 ≤ v.toInt ∧ v.toInt ≤ 2048))
    (hb : 1 ≤ b) : k0_chk45 i v := by
  intro _
  unfold k0_off88
  apply inb_of_lt
  have h := hv.2 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 46 holds at the offsets it is asked for. -/
theorem k0_chk46_of (i : grid0.Coords) {b : ℕ} (v : BitVec 32) (hv : (b < 6 → 0 ≤ v.toInt ∧ v.toInt ≤ 2045) ∧ (1 ≤ b → 3 ≤ v.toInt ∧ v.toInt ≤ 2048))
    (hb : 1 ≤ b) : k0_chk46 i v := by
  intro _
  unfold k0_off89
  apply inb_of_lt
  have h := hv.2 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 47 holds at the offsets it is asked for. -/
theorem k0_chk47_of (i : grid0.Coords) {b : ℕ} (v : BitVec 32) (hv : (b < 6 → 0 ≤ v.toInt ∧ v.toInt ≤ 2045) ∧ (1 ≤ b → 3 ≤ v.toInt ∧ v.toInt ≤ 2048))
    (hb : 1 ≤ b) : k0_chk47 i v := by
  intro _
  unfold k0_off90
  apply inb_of_lt
  have h := hv.2 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 48 holds at the offsets it is asked for. -/
theorem k0_chk48_of (i : grid0.Coords) {b : ℕ} (v : BitVec 32) (hv : (b < 6 → 0 ≤ v.toInt ∧ v.toInt ≤ 2045) ∧ (1 ≤ b → 3 ≤ v.toInt ∧ v.toInt ≤ 2048))
    (hb : 1 ≤ b) : k0_chk48 i v := by
  intro _
  unfold k0_off91
  apply inb_of_lt
  have h := hv.2 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 49 holds at the offsets it is asked for. -/
theorem k0_chk49_of (i : grid0.Coords) {b : ℕ} (v : BitVec 32) (hv : (b < 6 → 0 ≤ v.toInt ∧ v.toInt ≤ 2045) ∧ (1 ≤ b → 3 ≤ v.toInt ∧ v.toInt ≤ 2048))
    (hb : 1 ≤ b) : k0_chk49 i v := by
  intro _
  unfold k0_off92
  apply inb_of_lt
  have h := hv.2 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 50 holds at the offsets it is asked for. -/
theorem k0_chk50_of (i : grid0.Coords) {b : ℕ} (v : BitVec 32) (hv : (b < 6 → 0 ≤ v.toInt ∧ v.toInt ≤ 2045) ∧ (1 ≤ b → 3 ≤ v.toInt ∧ v.toInt ≤ 2048))
    (hb : 1 ≤ b) : k0_chk50 i v := by
  intro _
  unfold k0_off93
  apply inb_of_lt
  have h := hv.2 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 51 holds at the offsets it is asked for. -/
theorem k0_chk51_of (i : grid0.Coords) {b : ℕ} (v : BitVec 32) (hv : (b < 6 → 0 ≤ v.toInt ∧ v.toInt ≤ 2045) ∧ (1 ≤ b → 3 ≤ v.toInt ∧ v.toInt ≤ 2048))
    (hb : 1 ≤ b) : k0_chk51 i v := by
  intro _
  unfold k0_off94
  apply inb_of_lt
  have h := hv.2 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 52 holds at the offsets it is asked for. -/
theorem k0_chk52_of (i : grid0.Coords) {b : ℕ} (v : BitVec 32) (hv : (b < 6 → 0 ≤ v.toInt ∧ v.toInt ≤ 2045) ∧ (1 ≤ b → 3 ≤ v.toInt ∧ v.toInt ≤ 2048))
    (hb : 1 ≤ b) : k0_chk52 i v := by
  intro _
  unfold k0_off95
  apply inb_of_lt
  have h := hv.2 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 53 holds at the offsets it is asked for. -/
theorem k0_chk53_of (i : grid0.Coords) {b : ℕ} (v : BitVec 32) (hv : (b < 6 → 0 ≤ v.toInt ∧ v.toInt ≤ 2045) ∧ (1 ≤ b → 3 ≤ v.toInt ∧ v.toInt ≤ 2048))
    (hb : 1 ≤ b) : k0_chk53 i v := by
  intro _
  unfold k0_off96
  apply inb_of_lt
  have h := hv.2 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 54 holds at the offsets it is asked for. -/
theorem k0_chk54_of (i : grid0.Coords) {b : ℕ} (v : BitVec 32) (hv : (b < 6 → 0 ≤ v.toInt ∧ v.toInt ≤ 2045) ∧ (1 ≤ b → 3 ≤ v.toInt ∧ v.toInt ≤ 2048))
    (hb : 1 ≤ b) : k0_chk54 i v := by
  intro _
  unfold k0_off97
  apply inb_of_lt
  have h := hv.2 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

end Cert.Kernel.Hand
-- ==== Proof.KernelParts.lean ====
module

public import proofs.«01_k».proof.Proof.KernelKeeps

/-! Every part and every loop body of the kernel keeps a property of its inputs alone. -/

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [BitOps F]

variable {𝒱 : Variants} {c : Dev nD} {bd : Option 𝒱.V} {E : Set ℕ} {M : Mems} {R : St F → Prop}

set_option maxHeartbeats 4000000

/-- `k0_t19_body` keeps the property. -/
theorem keeps_k0_t19_body (hR : GFree R) (i : grid0.Coords) (v132 : IVec S8x128 32) (v266 : BitVec 32) (v268 : BitVec 32) (k : Fin k0_t19_loop.trips) (acc : Unit) :
    Keeps 𝒱 c bd E M R (k0_t19_body (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v132 v266 v268 k acc) fun _ => True := by
  dsimp only [k0_t19_body]
  repeat' first
    | with_reducible (intro a ha)
    | with_reducible exact Keeps.pure
    | with_reducible apply Keeps.bind
    | with_reducible exact Keeps.load3
    | with_reducible exact Keeps.load15
    | with_reducible exact Keeps.store15 hR
    | exact Keeps.load3
    | exact Keeps.load15
    | exact Keeps.store15 hR
    | split

/-- `k0_t20_body` keeps the property. -/
theorem keeps_k0_t20_body (hR : GFree R) (i : grid0.Coords) (arg0 : BitVec 32) (v132 : IVec S8x128 32) (v266 : BitVec 32) (k : Fin k0_t20_loop.trips) (acc : Unit) :
    Keeps 𝒱 c bd E M R (k0_t20_body (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 arg0 v132 v266 k acc) fun _ => True := by
  dsimp only [k0_t20_body]
  repeat' first
    | with_reducible (intro a ha)
    | with_reducible exact Keeps.pure
    | with_reducible apply Keeps.bind
    | with_reducible exact Keeps.load3
    | with_reducible exact Keeps.load15
    | with_reducible exact Keeps.store15 hR
    | exact Keeps.load3
    | exact Keeps.load15
    | exact Keeps.store15 hR
    | split

/-- `k0_part8` keeps the property. -/
theorem keeps_k0_part8 (hR : GFree R) (i : grid0.Coords) (k0_h22 : k0_cond22 i = 1#1) (v582 : FVec F S24x1 .f32) (v775 : FVec F S24x1 .f32) (v872 : FVec F S24x1 .f32) (v1161 : FVec F S24x1 .f32) (v1162 : FVec F S96x128 .fp8e4m3) (c0_i32_491 : BitVec 32) (c1_i32_493 : BitVec 32) (k0_t21 : Fin k0_t21_loop.trips) :
    Keeps 𝒱 c bd E M R (k0_part8 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_h22 v582 v775 v872 v1161 v1162 c0_i32_491 c1_i32_493 k0_t21) fun _ => True := by
  rw [k0_part8_eq_skeleton]
  dsimp only [k0_part8_skel]
  repeat' first
    | with_reducible (intro a ha)
    | with_reducible exact Keeps.pure
    | with_reducible apply Keeps.bind
    | with_reducible exact Keeps.load5
    | with_reducible exact Keeps.load7
    | with_reducible exact Keeps.load15
    | exact Keeps.load5
    | exact Keeps.load7
    | exact Keeps.load15
    | split

/-- `k0_part9` keeps the property. -/
theorem keeps_k0_part9 (hR : GFree R) (i : grid0.Coords) (k0_h22 : k0_cond22 i = 1#1) (k0_t21 : Fin k0_t21_loop.trips) (v1165 : BitVec 32) (v1210 : FVec F S24x512 .f32) (v1211 : FVec F S24x512 .bf16) (v1212 : FVec F S3x512 .f32) :
    Keeps 𝒱 c bd E M R (k0_part9 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_h22 k0_t21 v1165 v1210 v1211 v1212) fun _ => True := by
  rw [k0_part9_eq_skeleton]
  dsimp only [k0_part9_skel]
  repeat' first
    | with_reducible (intro a ha)
    | with_reducible exact Keeps.pure
    | with_reducible apply Keeps.bind
    | with_reducible exact Keeps.load10
    | with_reducible exact Keeps.load11
    | with_reducible exact Keeps.store10 hR
    | with_reducible exact Keeps.store11 hR
    | exact Keeps.load10
    | exact Keeps.load11
    | exact Keeps.store10 hR
    | exact Keeps.store11 hR
    | split

/-- `k0_t21_body` keeps the property. -/
theorem keeps_k0_t21_body (hR : GFree R) (i : grid0.Coords) (k0_h22 : k0_cond22 i = 1#1) (v582 : FVec F S24x1 .f32) (v775 : FVec F S24x1 .f32) (v872 : FVec F S24x1 .f32) (v1145 : FVec F S24x1 .f32) (v1155 : FVec F S96x128 .f32) (v1157 : IVec S24x1 1) (v1159 : Elt F .f32) (k : Fin k0_t21_loop.trips) (acc : Unit) :
    Keeps 𝒱 c bd E M R (k0_t21_body (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_h22 v582 v775 v872 v1145 v1155 v1157 v1159 k acc) fun _ => True := by
  dsimp only [k0_t21_body]
  repeat' first
    | with_reducible (intro a ha)
    | with_reducible exact Keeps.pure
    | with_reducible apply keeps_k0_part8 hR
    | with_reducible apply keeps_k0_part9 hR
    | with_reducible apply Keeps.bind
    | with_reducible exact Keeps.load10
    | with_reducible exact Keeps.load11
    | with_reducible exact Keeps.store10 hR
    | with_reducible exact Keeps.store11 hR
    | exact Keeps.load10
    | exact Keeps.load11
    | exact Keeps.store10 hR
    | exact Keeps.store11 hR
    | split

/-- `k0_part1` keeps the property. -/
theorem keeps_k0_part1 (hR : Free R) (i : grid0.Coords) (k0_h1 : k0_cond1 i = 1#1) (v302 : IVec S64x128 1) (v305 : IVec S1x128 1) (c0_i32_122 : BitVec 32) (c1_i32_124 : BitVec 32) (k0_t1 : Fin k0_t1_loop.trips) :
    Keeps 𝒱 c bd E M R (k0_part1 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_h1 v302 v305 c0_i32_122 c1_i32_124 k0_t1) fun _ => True := by
  rw [k0_part1_eq_skeleton]
  dsimp only [k0_part1_skel]
  repeat' first
    | with_reducible (intro a ha)
    | with_reducible exact Keeps.pure
    | with_reducible apply Keeps.bind
    | with_reducible exact Keeps.load5
    | with_reducible exact Keeps.load13
    | with_reducible exact Keeps.store13 hR
    | exact Keeps.load5
    | exact Keeps.load13
    | exact Keeps.store13 hR
    | split

/-- `k0_part2` keeps the property. -/
theorem keeps_k0_part2 (hR : Free R) (i : grid0.Coords) (v15 : FVec F S1x256 .f32) (v29 : BitVec 32) :
    Keeps 𝒱 c bd E M R (k0_part2 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v15 v29) fun _ => True := by
  rw [k0_part2_eq_skeleton]
  dsimp only [k0_part2_skel]
  repeat' first
    | with_reducible (intro a ha)
    | with_reducible exact Keeps.pure
    | with_reducible apply Keeps.bind
    | with_reducible exact Keeps.load9
    | with_reducible exact Keeps.load17
    | with_reducible exact Keeps.store9 hR
    | with_reducible exact Keeps.store17 hR
    | exact Keeps.load9
    | exact Keeps.load17
    | exact Keeps.store9 hR
    | exact Keeps.store17 hR
    | split

/-- `k0_part3` keeps the property. -/
theorem keeps_k0_part3 (hR : Free R) (i : grid0.Coords) (v82 : FVec F S64x256 .bf16) (v83 : IVec S32x128 32) (v113 : IVec S32x128 32) (c0_i32_116 : BitVec 32) (c1_i32_118 : BitVec 32) (k0_t2 : Fin k0_t2_loop.trips) :
    Keeps 𝒱 c bd E M R (k0_part3 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v82 v83 v113 c0_i32_116 c1_i32_118 k0_t2) fun _ => True := by
  rw [k0_part3_eq_skeleton]
  dsimp only [k0_part3_skel]
  repeat' first
    | with_reducible (intro a ha)
    | with_reducible exact Keeps.pure
    | with_reducible apply Keeps.bind
    | with_reducible exact Keeps.load3
    | with_reducible exact Keeps.load8
    | with_reducible exact Keeps.load12
    | with_reducible exact Keeps.load14
    | with_reducible exact Keeps.load17
    | with_reducible exact Keeps.store8 hR
    | with_reducible exact Keeps.store14 hR
    | exact Keeps.load3
    | exact Keeps.load8
    | exact Keeps.load12
    | exact Keeps.load14
    | exact Keeps.load17
    | exact Keeps.store8 hR
    | exact Keeps.store14 hR
    | split

/-- `k0_part4` keeps the property. -/
theorem keeps_k0_part4 (hR : GFree R) (i : grid0.Coords) (v83 : IVec S32x128 32) (v91 : IVec S32x128 32) (v102 : IVec S32x128 32) (v105 : IVec S32x128 32) (v116 : IVec S32x128 32) (v322 : IVec S32x128 32) (v324 : IVec S32x128 32) (v326 : IVec S32x128 32) (v336 : IVec S32x128 1) (v337 : IVec S32x128 32) :
    Keeps 𝒱 c bd E M R (k0_part4 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v83 v91 v102 v105 v116 v322 v324 v326 v336 v337) fun _ => True := by
  rw [k0_part4_eq_skeleton]
  dsimp only [k0_part4_skel]
  repeat' first
    | with_reducible (intro a ha)
    | with_reducible exact Keeps.pure
    | with_reducible apply Keeps.bind
    | split

/-- `k0_t3_body` keeps the property. -/
theorem keeps_k0_t3_body (hR : GFree R) (i : grid0.Coords)  (k : Fin k0_t3_loop.trips) (acc : FVec F S8x256 .f32) :
    Keeps 𝒱 c bd E M R (k0_t3_body (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17  k acc) fun _ => True := by
  dsimp only [k0_t3_body]
  repeat' first
    | with_reducible (intro a ha)
    | with_reducible exact Keeps.pure
    | with_reducible apply Keeps.bind
    | with_reducible exact Keeps.load12
    | exact Keeps.load12
    | split

/-- `k0_part5` keeps the property. -/
theorem keeps_k0_part5 (hR : GFree R) (i : grid0.Coords)  :
    Keeps 𝒱 c bd E M R (k0_part5 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 ) fun _ => True := by
  rw [k0_part5_eq_skeleton]
  dsimp only [k0_part5_skel]
  repeat' first
    | with_reducible (intro a ha)
    | with_reducible exact Keeps.pure
    | with_reducible apply keeps_k0_t3_body hR
    | with_reducible refine Keeps.loop fun _ _ => ?_
    | with_reducible apply Keeps.bind
    | split

/-- `k0_part6` keeps the property. -/
theorem keeps_k0_part6 (hR : Free R) (i : grid0.Coords) (v82 : FVec F S64x256 .bf16) (v83 : IVec S32x128 32) (v102 : IVec S32x128 32) (v113 : IVec S32x128 32) (v116 : IVec S32x128 32) (c0_i32_116 : BitVec 32) (c1_i32_118 : BitVec 32) (k0_t6 : Fin k0_t6_loop.trips) :
    Keeps 𝒱 c bd E M R (k0_part6 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v82 v83 v102 v113 v116 c0_i32_116 c1_i32_118 k0_t6) fun _ => True := by
  rw [k0_part6_eq_skeleton]
  dsimp only [k0_part6_skel]
  repeat' first
    | with_reducible (intro a ha)
    | with_reducible exact Keeps.pure
    | with_reducible apply Keeps.bind
    | with_reducible exact Keeps.load3
    | with_reducible exact Keeps.load14
    | with_reducible exact Keeps.store14 hR
    | exact Keeps.load3
    | exact Keeps.load14
    | exact Keeps.store14 hR
    | split

/-- `k0_part7` keeps the property. -/
theorem keeps_k0_part7 (hR : GFree R) (i : grid0.Coords) (v83 : IVec S32x128 32) (v91 : IVec S32x128 32) (v94 : IVec S32x128 32) (v105 : IVec S32x128 32) (k0_t6 : Fin k0_t6_loop.trips) (arg18 : BitVec 32) (v296 : BitVec 32) (v301 : FVec F S64x256 .bf16) (v304 : IVec S32x128 32) (v306 : IVec S32x128 32) (v308 : IVec S32x128 32) (v332 : FVec F S64x256 .bf16) (v335 : IVec S32x128 32) (v337 : IVec S32x128 1) (c2_i32_133 : BitVec 32) :
    Keeps 𝒱 c bd E M R (k0_part7 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v83 v91 v94 v105 k0_t6 arg18 v296 v301 v304 v306 v308 v332 v335 v337 c2_i32_133) fun _ => True := by
  rw [k0_part7_eq_skeleton]
  dsimp only [k0_part7_skel]
  repeat' first
    | with_reducible (intro a ha)
    | with_reducible exact Keeps.pure
    | with_reducible apply Keeps.bind
    | with_reducible exact Keeps.load6
    | with_reducible exact Keeps.load13
    | exact Keeps.load6
    | exact Keeps.load13
    | split

/-- `k0_part10` keeps the property. -/
theorem keeps_k0_part10 (hR : GFree R) (i : grid0.Coords) (k0_h22 : k0_cond22 i = 1#1) :
    Keeps 𝒱 c bd E M R (k0_part10 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_h22) fun _ => True := by
  rw [k0_part10_eq_skeleton]
  dsimp only [k0_part10_skel]
  repeat' first
    | with_reducible (intro a ha)
    | with_reducible exact Keeps.pure
    | with_reducible apply Keeps.bind
    | with_reducible exact Keeps.word1 hR
    | with_reducible exact Keeps.word2
    | with_reducible exact Keeps.assume (k0_chk1_of i _ (by assumption) (by decide))
    | with_reducible exact Keeps.assume (k0_chk2_of i _ (by assumption) (by decide))
    | with_reducible exact Keeps.assume (k0_chk3_of i _ (by assumption) (by decide))
    | exact Keeps.word1 hR
    | exact Keeps.word2
    | exact Keeps.assume (k0_chk1_of i _ (by assumption) (by decide))
    | exact Keeps.assume (k0_chk2_of i _ (by assumption) (by decide))
    | exact Keeps.assume (k0_chk3_of i _ (by assumption) (by decide))
    | split

/-- `k0_part11` keeps the property. -/
theorem keeps_k0_part11 (hR : GFree R) (i : grid0.Coords) (k0_h22 : k0_cond22 i = 1#1) (v290 : IVec S96x128 32) (v291 : IVec S96x128 32) (v293 : IVec S24x1 32) (v320 : FVec F S96x128 .f32) (v326 : FVec F S24x1 .f32) (v327 : Elt F .i32) (k0_hw3 : k0_chk3 i v327) :
    Keeps 𝒱 c bd E M R (k0_part11 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_h22 v290 v291 v293 v320 v326 v327 k0_hw3) fun _ => True := by
  rw [k0_part11_eq_skeleton]
  dsimp only [k0_part11_skel]
  repeat' first
    | with_reducible (intro a ha)
    | with_reducible exact Keeps.pure
    | with_reducible apply Keeps.bind
    | with_reducible exact Keeps.word1 hR
    | with_reducible exact Keeps.word2
    | with_reducible exact Keeps.assume (k0_chk4_of i _ (by assumption) (by decide))
    | with_reducible exact Keeps.assume (k0_chk5_of i _ (by assumption) (by decide))
    | exact Keeps.word1 hR
    | exact Keeps.word2
    | exact Keeps.assume (k0_chk4_of i _ (by assumption) (by decide))
    | exact Keeps.assume (k0_chk5_of i _ (by assumption) (by decide))
    | split

/-- `k0_part12` keeps the property. -/
theorem keeps_k0_part12 (hR : GFree R) (i : grid0.Coords) (k0_h22 : k0_cond22 i = 1#1) (v290 : IVec S96x128 32) (v291 : IVec S96x128 32) (v293 : IVec S24x1 32) (v352 : FVec F S96x128 .f32) (v358 : FVec F S24x1 .f32) (v359 : Elt F .i32) (k0_hw5 : k0_chk5 i v359) (v361 : BitVec 32) (v363 : IVec S96x128 1) (v365 : IVec S96x128 1) :
    Keeps 𝒱 c bd E M R (k0_part12 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_h22 v290 v291 v293 v352 v358 v359 k0_hw5 v361 v363 v365) fun _ => True := by
  rw [k0_part12_eq_skeleton]
  dsimp only [k0_part12_skel]
  repeat' first
    | with_reducible (intro a ha)
    | with_reducible exact Keeps.pure
    | with_reducible apply Keeps.bind
    | with_reducible exact Keeps.word1 hR
    | with_reducible exact Keeps.word2
    | with_reducible exact Keeps.assume (k0_chk6_of i _ (by assumption) (by decide))
    | with_reducible exact Keeps.assume (k0_chk7_of i _ (by assumption) (by decide))
    | exact Keeps.word1 hR
    | exact Keeps.word2
    | exact Keeps.assume (k0_chk6_of i _ (by assumption) (by decide))
    | exact Keeps.assume (k0_chk7_of i _ (by assumption) (by decide))
    | split

/-- `k0_part13` keeps the property. -/
theorem keeps_k0_part13 (hR : GFree R) (i : grid0.Coords) (k0_h22 : k0_cond22 i = 1#1) (v290 : IVec S96x128 32) (v291 : IVec S96x128 32) (v293 : IVec S24x1 32) (v390 : FVec F S24x1 .f32) (v400 : FVec F S96x128 .f32) (v402 : IVec S24x1 1) (v404 : Elt F .f32) :
    Keeps 𝒱 c bd E M R (k0_part13 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_h22 v290 v291 v293 v390 v400 v402 v404) fun _ => True := by
  rw [k0_part13_eq_skeleton]
  dsimp only [k0_part13_skel]
  repeat' first
    | with_reducible (intro a ha)
    | with_reducible exact Keeps.pure
    | with_reducible apply Keeps.bind
    | with_reducible exact Keeps.word1 hR
    | with_reducible exact Keeps.word2
    | with_reducible exact Keeps.assume (k0_chk8_of i _ (by assumption) (by decide))
    | with_reducible exact Keeps.assume (k0_chk9_of i _ (by assumption) (by decide))
    | with_reducible exact Keeps.assume (k0_chk10_of i _ (by assumption) (by decide))
    | exact Keeps.word1 hR
    | exact Keeps.word2
    | exact Keeps.assume (k0_chk8_of i _ (by assumption) (by decide))
    | exact Keeps.assume (k0_chk9_of i _ (by assumption) (by decide))
    | exact Keeps.assume (k0_chk10_of i _ (by assumption) (by decide))
    | split

/-- `k0_part14` keeps the property. -/
theorem keeps_k0_part14 (hR : GFree R) (i : grid0.Coords) (k0_h22 : k0_cond22 i = 1#1) (v290 : IVec S96x128 32) (v291 : IVec S96x128 32) (v293 : IVec S24x1 32) (v432 : FVec F S96x128 .f32) (v438 : FVec F S24x1 .f32) (v439 : Elt F .i32) (k0_hw10 : k0_chk10 i v439) (v441 : BitVec 32) (c12_i32_183 : BitVec 32) :
    Keeps 𝒱 c bd E M R (k0_part14 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_h22 v290 v291 v293 v432 v438 v439 k0_hw10 v441 c12_i32_183) fun _ => True := by
  rw [k0_part14_eq_skeleton]
  dsimp only [k0_part14_skel]
  repeat' first
    | with_reducible (intro a ha)
    | with_reducible exact Keeps.pure
    | with_reducible apply Keeps.bind
    | with_reducible exact Keeps.word1 hR
    | with_reducible exact Keeps.word2
    | with_reducible exact Keeps.assume (k0_chk11_of i _ (by assumption) (by decide))
    | with_reducible exact Keeps.assume (k0_chk12_of i _ (by assumption) (by decide))
    | exact Keeps.word1 hR
    | exact Keeps.word2
    | exact Keeps.assume (k0_chk11_of i _ (by assumption) (by decide))
    | exact Keeps.assume (k0_chk12_of i _ (by assumption) (by decide))
    | split

/-- `k0_part15` keeps the property. -/
theorem keeps_k0_part15 (hR : GFree R) (i : grid0.Coords) (k0_h22 : k0_cond22 i = 1#1) (v290 : IVec S96x128 32) (v291 : IVec S96x128 32) (v293 : IVec S24x1 32) (v470 : FVec F S24x1 .f32) (v471 : Elt F .i32) (k0_hw12 : k0_chk12 i v471) (v473 : BitVec 32) (v480 : FVec F S96x128 .f32) (c14_i32_198 : BitVec 32) :
    Keeps 𝒱 c bd E M R (k0_part15 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_h22 v290 v291 v293 v470 v471 k0_hw12 v473 v480 c14_i32_198) fun _ => True := by
  rw [k0_part15_eq_skeleton]
  dsimp only [k0_part15_skel]
  repeat' first
    | with_reducible (intro a ha)
    | with_reducible exact Keeps.pure
    | with_reducible apply Keeps.bind
    | with_reducible exact Keeps.word1 hR
    | with_reducible exact Keeps.word2
    | with_reducible exact Keeps.assume (k0_chk13_of i _ (by assumption) (by decide))
    | with_reducible exact Keeps.assume (k0_chk14_of i _ (by assumption) (by decide))
    | with_reducible exact Keeps.assume (k0_chk15_of i _ (by assumption) (by decide))
    | exact Keeps.word1 hR
    | exact Keeps.word2
    | exact Keeps.assume (k0_chk13_of i _ (by assumption) (by decide))
    | exact Keeps.assume (k0_chk14_of i _ (by assumption) (by decide))
    | exact Keeps.assume (k0_chk15_of i _ (by assumption) (by decide))
    | split

/-- `k0_part16` keeps the property. -/
theorem keeps_k0_part16 (hR : GFree R) (i : grid0.Coords) (k0_h22 : k0_cond22 i = 1#1) (v290 : IVec S96x128 32) (v291 : IVec S96x128 32) (v293 : IVec S24x1 32) (v512 : FVec F S96x128 .f32) (v518 : FVec F S24x1 .f32) (v519 : Elt F .i32) (k0_hw15 : k0_chk15 i v519) :
    Keeps 𝒱 c bd E M R (k0_part16 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_h22 v290 v291 v293 v512 v518 v519 k0_hw15) fun _ => True := by
  rw [k0_part16_eq_skeleton]
  dsimp only [k0_part16_skel]
  repeat' first
    | with_reducible (intro a ha)
    | with_reducible exact Keeps.pure
    | with_reducible apply Keeps.bind
    | with_reducible exact Keeps.word1 hR
    | with_reducible exact Keeps.word2
    | with_reducible exact Keeps.assume (k0_chk16_of i _ (by assumption) (by decide))
    | with_reducible exact Keeps.assume (k0_chk17_of i _ (by assumption) (by decide))
    | exact Keeps.word1 hR
    | exact Keeps.word2
    | exact Keeps.assume (k0_chk16_of i _ (by assumption) (by decide))
    | exact Keeps.assume (k0_chk17_of i _ (by assumption) (by decide))
    | split

/-- `k0_part17` keeps the property. -/
theorem keeps_k0_part17 (hR : GFree R) (i : grid0.Coords) (k0_h22 : k0_cond22 i = 1#1) (v290 : IVec S96x128 32) (v291 : IVec S96x128 32) (v293 : IVec S24x1 32) (v544 : FVec F S96x128 .f32) (v550 : FVec F S24x1 .f32) (v551 : Elt F .i32) (k0_hw17 : k0_chk17 i v551) (v553 : BitVec 32) (v555 : IVec S96x128 1) (v557 : IVec S96x128 1) :
    Keeps 𝒱 c bd E M R (k0_part17 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_h22 v290 v291 v293 v544 v550 v551 k0_hw17 v553 v555 v557) fun _ => True := by
  rw [k0_part17_eq_skeleton]
  dsimp only [k0_part17_skel]
  repeat' first
    | with_reducible (intro a ha)
    | with_reducible exact Keeps.pure
    | with_reducible apply Keeps.bind
    | with_reducible exact Keeps.word1 hR
    | with_reducible exact Keeps.word2
    | with_reducible exact Keeps.assume (k0_chk18_of i _ (by assumption) (by decide))
    | with_reducible exact Keeps.assume (k0_chk19_of i _ (by assumption) (by decide))
    | exact Keeps.word1 hR
    | exact Keeps.word2
    | exact Keeps.assume (k0_chk18_of i _ (by assumption) (by decide))
    | exact Keeps.assume (k0_chk19_of i _ (by assumption) (by decide))
    | split

/-- `k0_part18` keeps the property. -/
theorem keeps_k0_part18 (hR : GFree R) (i : grid0.Coords) (k0_h22 : k0_cond22 i = 1#1) (v290 : IVec S96x128 32) (v291 : IVec S96x128 32) (v293 : IVec S24x1 32) (v583 : FVec F S24x1 .f32) (v584 : Elt F .i32) (k0_hw19 : k0_chk19 i v584) (v586 : BitVec 32) (v593 : FVec F S96x128 .f32) (v595 : IVec S24x1 1) :
    Keeps 𝒱 c bd E M R (k0_part18 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_h22 v290 v291 v293 v583 v584 k0_hw19 v586 v593 v595) fun _ => True := by
  rw [k0_part18_eq_skeleton]
  dsimp only [k0_part18_skel]
  repeat' first
    | with_reducible (intro a ha)
    | with_reducible exact Keeps.pure
    | with_reducible apply Keeps.bind
    | with_reducible exact Keeps.word1 hR
    | with_reducible exact Keeps.word2
    | with_reducible exact Keeps.assume (k0_chk20_of i _ (by assumption) (by decide))
    | with_reducible exact Keeps.assume (k0_chk21_of i _ (by assumption) (by decide))
    | with_reducible exact Keeps.assume (k0_chk22_of i _ (by assumption) (by decide))
    | exact Keeps.word1 hR
    | exact Keeps.word2
    | exact Keeps.assume (k0_chk20_of i _ (by assumption) (by decide))
    | exact Keeps.assume (k0_chk21_of i _ (by assumption) (by decide))
    | exact Keeps.assume (k0_chk22_of i _ (by assumption) (by decide))
    | split

/-- `k0_part19` keeps the property. -/
theorem keeps_k0_part19 (hR : GFree R) (i : grid0.Coords) (k0_h22 : k0_cond22 i = 1#1) (v290 : IVec S96x128 32) (v291 : IVec S96x128 32) (v293 : IVec S24x1 32) (v625 : FVec F S96x128 .f32) (v631 : FVec F S24x1 .f32) (v632 : Elt F .i32) (k0_hw22 : k0_chk22 i v632) (v633 : BitVec 32) (c1_i32_263 : BitVec 32) :
    Keeps 𝒱 c bd E M R (k0_part19 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_h22 v290 v291 v293 v625 v631 v632 k0_hw22 v633 c1_i32_263) fun _ => True := by
  rw [k0_part19_eq_skeleton]
  dsimp only [k0_part19_skel]
  repeat' first
    | with_reducible (intro a ha)
    | with_reducible exact Keeps.pure
    | with_reducible apply Keeps.bind
    | with_reducible exact Keeps.word1 hR
    | with_reducible exact Keeps.word2
    | with_reducible exact Keeps.assume (k0_chk23_of i _ (by assumption) (by decide))
    | with_reducible exact Keeps.assume (k0_chk24_of i _ (by assumption) (by decide))
    | exact Keeps.word1 hR
    | exact Keeps.word2
    | exact Keeps.assume (k0_chk23_of i _ (by assumption) (by decide))
    | exact Keeps.assume (k0_chk24_of i _ (by assumption) (by decide))
    | split

/-- `k0_part20` keeps the property. -/
theorem keeps_k0_part20 (hR : GFree R) (i : grid0.Coords) (k0_h22 : k0_cond22 i = 1#1) (v290 : IVec S96x128 32) (v291 : IVec S96x128 32) (v293 : IVec S24x1 32) (v657 : FVec F S96x128 .f32) (v663 : FVec F S24x1 .f32) (v664 : Elt F .i32) (k0_hw24 : k0_chk24 i v664) (v666 : BitVec 32) (v671 : IVec S96x128 1) (v672 : FVec F S96x128 .f32) :
    Keeps 𝒱 c bd E M R (k0_part20 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_h22 v290 v291 v293 v657 v663 v664 k0_hw24 v666 v671 v672) fun _ => True := by
  rw [k0_part20_eq_skeleton]
  dsimp only [k0_part20_skel]
  repeat' first
    | with_reducible (intro a ha)
    | with_reducible exact Keeps.pure
    | with_reducible apply Keeps.bind
    | with_reducible exact Keeps.word1 hR
    | with_reducible exact Keeps.word2
    | with_reducible exact Keeps.assume (k0_chk25_of i _ (by assumption) (by decide))
    | with_reducible exact Keeps.assume (k0_chk26_of i _ (by assumption) (by decide))
    | exact Keeps.word1 hR
    | exact Keeps.word2
    | exact Keeps.assume (k0_chk25_of i _ (by assumption) (by decide))
    | exact Keeps.assume (k0_chk26_of i _ (by assumption) (by decide))
    | split

/-- `k0_part21` keeps the property. -/
theorem keeps_k0_part21 (hR : GFree R) (i : grid0.Coords) (k0_h22 : k0_cond22 i = 1#1) (v290 : IVec S96x128 32) (v291 : IVec S96x128 32) (v293 : IVec S24x1 32) (v705 : FVec F S96x128 .f32) (v711 : FVec F S24x1 .f32) :
    Keeps 𝒱 c bd E M R (k0_part21 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_h22 v290 v291 v293 v705 v711) fun _ => True := by
  rw [k0_part21_eq_skeleton]
  dsimp only [k0_part21_skel]
  repeat' first
    | with_reducible (intro a ha)
    | with_reducible exact Keeps.pure
    | with_reducible apply Keeps.bind
    | with_reducible exact Keeps.word1 hR
    | with_reducible exact Keeps.word2
    | with_reducible exact Keeps.assume (k0_chk27_of i _ (by assumption) (by decide))
    | with_reducible exact Keeps.assume (k0_chk28_of i _ (by assumption) (by decide))
    | with_reducible exact Keeps.assume (k0_chk29_of i _ (by assumption) (by decide))
    | exact Keeps.word1 hR
    | exact Keeps.word2
    | exact Keeps.assume (k0_chk27_of i _ (by assumption) (by decide))
    | exact Keeps.assume (k0_chk28_of i _ (by assumption) (by decide))
    | exact Keeps.assume (k0_chk29_of i _ (by assumption) (by decide))
    | split

/-- `k0_part22` keeps the property. -/
theorem keeps_k0_part22 (hR : GFree R) (i : grid0.Coords) (k0_h22 : k0_cond22 i = 1#1) (v290 : IVec S96x128 32) (v291 : IVec S96x128 32) (v293 : IVec S24x1 32) (v737 : FVec F S96x128 .f32) (v743 : FVec F S24x1 .f32) (v744 : Elt F .i32) (k0_hw29 : k0_chk29 i v744) (v746 : BitVec 32) (v748 : IVec S96x128 1) (c43_i32_315 : BitVec 32) :
    Keeps 𝒱 c bd E M R (k0_part22 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_h22 v290 v291 v293 v737 v743 v744 k0_hw29 v746 v748 c43_i32_315) fun _ => True := by
  rw [k0_part22_eq_skeleton]
  dsimp only [k0_part22_skel]
  repeat' first
    | with_reducible (intro a ha)
    | with_reducible exact Keeps.pure
    | with_reducible apply Keeps.bind
    | with_reducible exact Keeps.word1 hR
    | with_reducible exact Keeps.word2
    | with_reducible exact Keeps.assume (k0_chk30_of i _ (by assumption) (by decide))
    | with_reducible exact Keeps.assume (k0_chk31_of i _ (by assumption) (by decide))
    | exact Keeps.word1 hR
    | exact Keeps.word2
    | exact Keeps.assume (k0_chk30_of i _ (by assumption) (by decide))
    | exact Keeps.assume (k0_chk31_of i _ (by assumption) (by decide))
    | split

/-- `k0_part23` keeps the property. -/
theorem keeps_k0_part23 (hR : GFree R) (i : grid0.Coords) (k0_h22 : k0_cond22 i = 1#1) (v290 : IVec S96x128 32) (v291 : IVec S96x128 32) (v293 : IVec S24x1 32) (v776 : FVec F S24x1 .f32) (v777 : Elt F .i32) (k0_hw31 : k0_chk31 i v777) (v779 : BitVec 32) (v786 : FVec F S96x128 .f32) (v787 : IVec S24x1 32) :
    Keeps 𝒱 c bd E M R (k0_part23 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_h22 v290 v291 v293 v776 v777 k0_hw31 v779 v786 v787) fun _ => True := by
  rw [k0_part23_eq_skeleton]
  dsimp only [k0_part23_skel]
  repeat' first
    | with_reducible (intro a ha)
    | with_reducible exact Keeps.pure
    | with_reducible apply Keeps.bind
    | with_reducible exact Keeps.word1 hR
    | with_reducible exact Keeps.word2
    | with_reducible exact Keeps.assume (k0_chk32_of i _ (by assumption) (by decide))
    | with_reducible exact Keeps.assume (k0_chk33_of i _ (by assumption) (by decide))
    | with_reducible exact Keeps.assume (k0_chk34_of i _ (by assumption) (by decide))
    | exact Keeps.word1 hR
    | exact Keeps.word2
    | exact Keeps.assume (k0_chk32_of i _ (by assumption) (by decide))
    | exact Keeps.assume (k0_chk33_of i _ (by assumption) (by decide))
    | exact Keeps.assume (k0_chk34_of i _ (by assumption) (by decide))
    | split

/-- `k0_part24` keeps the property. -/
theorem keeps_k0_part24 (hR : GFree R) (i : grid0.Coords) (k0_h22 : k0_cond22 i = 1#1) (v290 : IVec S96x128 32) (v291 : IVec S96x128 32) (v293 : IVec S24x1 32) (v818 : FVec F S96x128 .f32) (v824 : FVec F S24x1 .f32) (v825 : Elt F .i32) (k0_hw34 : k0_chk34 i v825) (c2_i32_349 : BitVec 32) :
    Keeps 𝒱 c bd E M R (k0_part24 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_h22 v290 v291 v293 v818 v824 v825 k0_hw34 c2_i32_349) fun _ => True := by
  rw [k0_part24_eq_skeleton]
  dsimp only [k0_part24_skel]
  repeat' first
    | with_reducible (intro a ha)
    | with_reducible exact Keeps.pure
    | with_reducible apply Keeps.bind
    | with_reducible exact Keeps.word1 hR
    | with_reducible exact Keeps.word2
    | with_reducible exact Keeps.assume (k0_chk35_of i _ (by assumption) (by decide))
    | with_reducible exact Keeps.assume (k0_chk36_of i _ (by assumption) (by decide))
    | exact Keeps.word1 hR
    | exact Keeps.word2
    | exact Keeps.assume (k0_chk35_of i _ (by assumption) (by decide))
    | exact Keeps.assume (k0_chk36_of i _ (by assumption) (by decide))
    | split

/-- `k0_part25` keeps the property. -/
theorem keeps_k0_part25 (hR : GFree R) (i : grid0.Coords) (k0_h22 : k0_cond22 i = 1#1) (v290 : IVec S96x128 32) (v291 : IVec S96x128 32) (v293 : IVec S24x1 32) (v850 : FVec F S96x128 .f32) (v856 : FVec F S24x1 .f32) (v857 : Elt F .i32) (k0_hw36 : k0_chk36 i v857) (v859 : BitVec 32) (v864 : IVec S96x128 1) :
    Keeps 𝒱 c bd E M R (k0_part25 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_h22 v290 v291 v293 v850 v856 v857 k0_hw36 v859 v864) fun _ => True := by
  rw [k0_part25_eq_skeleton]
  dsimp only [k0_part25_skel]
  repeat' first
    | with_reducible (intro a ha)
    | with_reducible exact Keeps.pure
    | with_reducible apply Keeps.bind
    | with_reducible exact Keeps.word1 hR
    | with_reducible exact Keeps.word2
    | with_reducible exact Keeps.assume (k0_chk37_of i _ (by assumption) (by decide))
    | with_reducible exact Keeps.assume (k0_chk38_of i _ (by assumption) (by decide))
    | exact Keeps.word1 hR
    | exact Keeps.word2
    | exact Keeps.assume (k0_chk37_of i _ (by assumption) (by decide))
    | exact Keeps.assume (k0_chk38_of i _ (by assumption) (by decide))
    | split

/-- `k0_part26` keeps the property. -/
theorem keeps_k0_part26 (hR : GFree R) (i : grid0.Coords) (k0_h22 : k0_cond22 i = 1#1) (v290 : IVec S96x128 32) (v291 : IVec S96x128 32) (v293 : IVec S24x1 32) (v889 : FVec F S24x1 .f32) (v890 : Elt F .i32) (k0_hw38 : k0_chk38 i v890) (v899 : FVec F S96x128 .f32) (v901 : IVec S24x1 1) :
    Keeps 𝒱 c bd E M R (k0_part26 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_h22 v290 v291 v293 v889 v890 k0_hw38 v899 v901) fun _ => True := by
  rw [k0_part26_eq_skeleton]
  dsimp only [k0_part26_skel]
  repeat' first
    | with_reducible (intro a ha)
    | with_reducible exact Keeps.pure
    | with_reducible apply Keeps.bind
    | with_reducible exact Keeps.word1 hR
    | with_reducible exact Keeps.word2
    | with_reducible exact Keeps.assume (k0_chk39_of i _ (by assumption) (by decide))
    | with_reducible exact Keeps.assume (k0_chk40_of i _ (by assumption) (by decide))
    | with_reducible exact Keeps.assume (k0_chk41_of i _ (by assumption) (by decide))
    | exact Keeps.word1 hR
    | exact Keeps.word2
    | exact Keeps.assume (k0_chk39_of i _ (by assumption) (by decide))
    | exact Keeps.assume (k0_chk40_of i _ (by assumption) (by decide))
    | exact Keeps.assume (k0_chk41_of i _ (by assumption) (by decide))
    | split

/-- `k0_part27` keeps the property. -/
theorem keeps_k0_part27 (hR : GFree R) (i : grid0.Coords) (k0_h22 : k0_cond22 i = 1#1) (v290 : IVec S96x128 32) (v291 : IVec S96x128 32) (v293 : IVec S24x1 32) (v931 : FVec F S96x128 .f32) (v937 : FVec F S24x1 .f32) (v938 : Elt F .i32) (k0_hw41 : k0_chk41 i v938) (v940 : BitVec 32) :
    Keeps 𝒱 c bd E M R (k0_part27 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_h22 v290 v291 v293 v931 v937 v938 k0_hw41 v940) fun _ => True := by
  rw [k0_part27_eq_skeleton]
  dsimp only [k0_part27_skel]
  repeat' first
    | with_reducible (intro a ha)
    | with_reducible exact Keeps.pure
    | with_reducible apply Keeps.bind
    | with_reducible exact Keeps.word1 hR
    | with_reducible exact Keeps.word2
    | with_reducible exact Keeps.assume (k0_chk42_of i _ (by assumption) (by decide))
    | with_reducible exact Keeps.assume (k0_chk43_of i _ (by assumption) (by decide))
    | exact Keeps.word1 hR
    | exact Keeps.word2
    | exact Keeps.assume (k0_chk42_of i _ (by assumption) (by decide))
    | exact Keeps.assume (k0_chk43_of i _ (by assumption) (by decide))
    | split

/-- `k0_part28` keeps the property. -/
theorem keeps_k0_part28 (hR : GFree R) (i : grid0.Coords) (k0_h22 : k0_cond22 i = 1#1) (v290 : IVec S96x128 32) (v291 : IVec S96x128 32) (v293 : IVec S24x1 32) (v969 : FVec F S24x1 .f32) (v970 : Elt F .i32) (k0_hw43 : k0_chk43 i v970) (v972 : BitVec 32) (v979 : FVec F S96x128 .f32) :
    Keeps 𝒱 c bd E M R (k0_part28 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_h22 v290 v291 v293 v969 v970 k0_hw43 v972 v979) fun r => ((4 : ℕ) < 6 → 0 ≤ (r.2.2 : BitVec 32).toInt ∧ (r.2.2 : BitVec 32).toInt ≤ 2045) ∧ (1 ≤ (4 : ℕ) → 3 ≤ (r.2.2 : BitVec 32).toInt ∧ (r.2.2 : BitVec 32).toInt ≤ 2048) := by
  rw [k0_part28_eq_skeleton]
  dsimp only [k0_part28_skel]
  repeat' first
    | with_reducible (intro a ha)
    | with_reducible exact Keeps.pure
    | exact Keeps.pure_of (by assumption)
    | with_reducible apply Keeps.bind
    | with_reducible exact Keeps.word1 hR
    | with_reducible exact Keeps.word2
    | with_reducible exact Keeps.assume (k0_chk44_of i _ (by assumption) (by decide))
    | with_reducible exact Keeps.assume (k0_chk45_of i _ (by assumption) (by decide))
    | exact Keeps.word1 hR
    | exact Keeps.word2
    | exact Keeps.assume (k0_chk44_of i _ (by assumption) (by decide))
    | exact Keeps.assume (k0_chk45_of i _ (by assumption) (by decide))
    | split

/-- `k0_part29` keeps the property. -/
theorem keeps_k0_part29 (hR : GFree R) (i : grid0.Coords) (k0_h22 : k0_cond22 i = 1#1) (v290 : IVec S96x128 32) (v291 : IVec S96x128 32) (v293 : IVec S24x1 32) (v1011 : FVec F S96x128 .f32) (v1017 : FVec F S24x1 .f32) (v1018 : Elt F .i32) (hw : ((4 : ℕ) < 6 → 0 ≤ (v1018 : BitVec 32).toInt ∧ (v1018 : BitVec 32).toInt ≤ 2045) ∧ (1 ≤ (4 : ℕ) → 3 ≤ (v1018 : BitVec 32).toInt ∧ (v1018 : BitVec 32).toInt ≤ 2048)) :
    Keeps 𝒱 c bd E M R (k0_part29 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_h22 v290 v291 v293 v1011 v1017 v1018) fun _ => True := by
  rw [k0_part29_eq_skeleton]
  dsimp only [k0_part29_skel]
  repeat' first
    | with_reducible (intro a ha)
    | with_reducible exact Keeps.pure
    | with_reducible apply Keeps.bind
    | with_reducible exact Keeps.word1 hR
    | with_reducible exact Keeps.word2
    | with_reducible exact Keeps.assume (k0_chk46_of i _ (by assumption) (by decide))
    | with_reducible exact Keeps.assume (k0_chk47_of i _ (by assumption) (by decide))
    | with_reducible exact Keeps.assume (k0_chk48_of i _ (by assumption) (by decide))
    | exact Keeps.word1 hR
    | exact Keeps.word2
    | exact Keeps.assume (k0_chk46_of i _ (by assumption) (by decide))
    | exact Keeps.assume (k0_chk47_of i _ (by assumption) (by decide))
    | exact Keeps.assume (k0_chk48_of i _ (by assumption) (by decide))
    | split

/-- `k0_part30` keeps the property. -/
theorem keeps_k0_part30 (hR : GFree R) (i : grid0.Coords) (k0_h22 : k0_cond22 i = 1#1) (v290 : IVec S96x128 32) (v291 : IVec S96x128 32) (v293 : IVec S24x1 32) (v1043 : FVec F S96x128 .f32) (v1049 : FVec F S24x1 .f32) (v1050 : Elt F .i32) (k0_hw48 : k0_chk48 i v1050) (v1052 : BitVec 32) (v1054 : IVec S96x128 1) (v1055 : IVec S96x128 32) :
    Keeps 𝒱 c bd E M R (k0_part30 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_h22 v290 v291 v293 v1043 v1049 v1050 k0_hw48 v1052 v1054 v1055) fun _ => True := by
  rw [k0_part30_eq_skeleton]
  dsimp only [k0_part30_skel]
  repeat' first
    | with_reducible (intro a ha)
    | with_reducible exact Keeps.pure
    | with_reducible apply Keeps.bind
    | with_reducible exact Keeps.word1 hR
    | with_reducible exact Keeps.word2
    | with_reducible exact Keeps.assume (k0_chk49_of i _ (by assumption) (by decide))
    | with_reducible exact Keeps.assume (k0_chk50_of i _ (by assumption) (by decide))
    | exact Keeps.word1 hR
    | exact Keeps.word2
    | exact Keeps.assume (k0_chk49_of i _ (by assumption) (by decide))
    | exact Keeps.assume (k0_chk50_of i _ (by assumption) (by decide))
    | split

/-- `k0_part31` keeps the property. -/
theorem keeps_k0_part31 (hR : GFree R) (i : grid0.Coords) (k0_h22 : k0_cond22 i = 1#1) (v290 : IVec S96x128 32) (v291 : IVec S96x128 32) (v293 : IVec S24x1 32) (v1081 : FVec F S24x1 .f32) (v1082 : Elt F .i32) (k0_hw50 : k0_chk50 i v1082) (v1091 : FVec F S96x128 .f32) (v1093 : IVec S24x1 1) :
    Keeps 𝒱 c bd E M R (k0_part31 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_h22 v290 v291 v293 v1081 v1082 k0_hw50 v1091 v1093) fun _ => True := by
  rw [k0_part31_eq_skeleton]
  dsimp only [k0_part31_skel]
  repeat' first
    | with_reducible (intro a ha)
    | with_reducible exact Keeps.pure
    | with_reducible apply Keeps.bind
    | with_reducible exact Keeps.word1 hR
    | with_reducible exact Keeps.word2
    | with_reducible exact Keeps.assume (k0_chk51_of i _ (by assumption) (by decide))
    | with_reducible exact Keeps.assume (k0_chk52_of i _ (by assumption) (by decide))
    | with_reducible exact Keeps.assume (k0_chk53_of i _ (by assumption) (by decide))
    | exact Keeps.word1 hR
    | exact Keeps.word2
    | exact Keeps.assume (k0_chk51_of i _ (by assumption) (by decide))
    | exact Keeps.assume (k0_chk52_of i _ (by assumption) (by decide))
    | exact Keeps.assume (k0_chk53_of i _ (by assumption) (by decide))
    | split

/-- `k0_part32` keeps the property. -/
theorem keeps_k0_part32 (hR : GFree R) (i : grid0.Coords) (k0_h22 : k0_cond22 i = 1#1) :
    Keeps 𝒱 c bd E M R (k0_part32 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_h22) fun _ => True := by
  rw [k0_part32_eq_skeleton]
  dsimp only [k0_part32_skel]
  repeat' first
    | with_reducible (intro a ha)
    | with_reducible exact Keeps.pure
    | with_reducible apply keeps_k0_part10 hR
    | with_reducible apply keeps_k0_part11 hR
    | with_reducible apply keeps_k0_part12 hR
    | with_reducible apply keeps_k0_part13 hR
    | with_reducible apply keeps_k0_part14 hR
    | with_reducible apply keeps_k0_part15 hR
    | with_reducible apply keeps_k0_part16 hR
    | with_reducible apply keeps_k0_part17 hR
    | with_reducible apply keeps_k0_part18 hR
    | with_reducible apply keeps_k0_part19 hR
    | with_reducible apply keeps_k0_part20 hR
    | with_reducible apply keeps_k0_part21 hR
    | with_reducible apply keeps_k0_part22 hR
    | with_reducible apply keeps_k0_part23 hR
    | with_reducible apply keeps_k0_part24 hR
    | with_reducible apply keeps_k0_part25 hR
    | with_reducible apply keeps_k0_part26 hR
    | with_reducible apply keeps_k0_part27 hR
    | with_reducible apply keeps_k0_part28 hR
    | with_reducible (apply keeps_k0_part29 hR; assumption)
    | with_reducible apply keeps_k0_part30 hR
    | with_reducible apply keeps_k0_part31 hR
    | with_reducible apply Keeps.bind
    | with_reducible exact Keeps.word1 hR
    | with_reducible exact Keeps.word2
    | with_reducible exact Keeps.assume (k0_chk54_of i _ (by assumption) (by decide))
    | exact Keeps.word1 hR
    | exact Keeps.word2
    | exact Keeps.assume (k0_chk54_of i _ (by assumption) (by decide))
    | split

/-- `k0_t1_body` keeps the property. -/
theorem keeps_k0_t1_body (hR : Free R) (i : grid0.Coords) (k0_h1 : k0_cond1 i = 1#1) (k : Fin k0_t1_loop.trips) (acc : Unit) :
    Keeps 𝒱 c bd E M R (k0_t1_body (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_h1 k acc) fun _ => True := by
  dsimp only [k0_t1_body]
  repeat' first
    | with_reducible (intro a ha)
    | with_reducible exact Keeps.pure
    | with_reducible apply keeps_k0_part1 hR
    | with_reducible apply Keeps.bind
    | with_reducible exact Keeps.load13
    | with_reducible exact Keeps.store13 hR
    | exact Keeps.load13
    | exact Keeps.store13 hR
    | split

/-- `k0_part33` keeps the property. -/
theorem keeps_k0_part33 (hR : Free R) (i : grid0.Coords)  :
    Keeps 𝒱 c bd E M R (k0_part33 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 ) fun _ => True := by
  rw [k0_part33_eq_skeleton]
  dsimp only [k0_part33_skel]
  repeat' first
    | with_reducible (intro a ha)
    | with_reducible exact Keeps.pure
    | with_reducible refine Keeps.dite (fun _ => ?_) (fun _ => ?_)
    | with_reducible refine Keeps.ite ?_ ?_
    | with_reducible apply keeps_k0_t1_body hR
    | with_reducible apply keeps_k0_part2 hR
    | with_reducible refine Keeps.loop fun _ _ => ?_
    | with_reducible apply Keeps.bind
    | with_reducible exact Keeps.load14
    | with_reducible exact Keeps.load15
    | with_reducible exact Keeps.load16
    | with_reducible exact Keeps.store14 hR
    | with_reducible exact Keeps.store15 hR.toGFree
    | exact Keeps.load14
    | exact Keeps.load15
    | exact Keeps.load16
    | exact Keeps.store14 hR
    | exact Keeps.store15 hR.toGFree
    | split

/-- `k0_part34` keeps the property. -/
theorem keeps_k0_part34 (hR : GFree R) (i : grid0.Coords) (v35 : BitVec 32) :
    Keeps 𝒱 c bd E M R (k0_part34 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v35) fun _ => True := by
  rw [k0_part34_eq_skeleton]
  dsimp only [k0_part34_skel]
  repeat' first
    | with_reducible (intro a ha)
    | with_reducible exact Keeps.pure
    | with_reducible apply Keeps.bind
    | with_reducible exact Keeps.load4
    | with_reducible exact Keeps.word1 hR
    | exact Keeps.load4
    | exact Keeps.word1 hR
    | split

/-- `k0_t2_body` keeps the property. -/
theorem keeps_k0_t2_body (hR : Free R) (i : grid0.Coords) (v25 : BitVec 1) (v29 : BitVec 32) (v30 : BitVec 1) (v31 : BitVec 1) (v76 : IVec S1x256 32) (v82 : FVec F S64x256 .bf16) (v83 : IVec S32x128 32) (k : Fin k0_t2_loop.trips) (acc : FVec F S8x256 .f32) :
    Keeps 𝒱 c bd E M R (k0_t2_body (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v25 v29 v30 v31 v76 v82 v83 k acc) fun _ => True := by
  dsimp only [k0_t2_body]
  repeat' first
    | with_reducible (intro a ha)
    | with_reducible exact Keeps.pure
    | with_reducible apply keeps_k0_part3 hR
    | with_reducible apply keeps_k0_part4 hR.toGFree
    | with_reducible apply Keeps.bind
    | with_reducible exact Keeps.load6
    | with_reducible exact Keeps.load12
    | with_reducible exact Keeps.load13
    | with_reducible exact Keeps.store12 hR
    | exact Keeps.load6
    | exact Keeps.load12
    | exact Keeps.load13
    | exact Keeps.store12 hR
    | split

/-- `k0_t4_body` keeps the property. -/
theorem keeps_k0_t4_body (hR : Free R) (i : grid0.Coords) (v25 : BitVec 1) (v29 : BitVec 32) (v30 : BitVec 1) (v31 : BitVec 1) (v76 : IVec S1x256 32) (v82 : FVec F S64x256 .bf16) (k : Fin k0_t4_loop.trips) (acc : Unit) :
    Keeps 𝒱 c bd E M R (k0_t4_body (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v25 v29 v30 v31 v76 v82 k acc) fun _ => True := by
  dsimp only [k0_t4_body]
  repeat' first
    | with_reducible (intro a ha)
    | with_reducible exact Keeps.pure
    | with_reducible apply Keeps.bind
    | with_reducible exact Keeps.load8
    | with_reducible exact Keeps.load12
    | with_reducible exact Keeps.load17
    | with_reducible exact Keeps.store8 hR
    | exact Keeps.load8
    | exact Keeps.load12
    | exact Keeps.load17
    | exact Keeps.store8 hR
    | split

/-- `k0_t5_body` keeps the property. -/
theorem keeps_k0_t5_body (hR : Free R) (i : grid0.Coords) (v25 : BitVec 1) (v29 : BitVec 32) (v30 : BitVec 1) (v31 : BitVec 1) (v76 : IVec S1x256 32) (v82 : FVec F S64x256 .bf16) (k : Fin k0_t5_loop.trips) (acc : Unit) :
    Keeps 𝒱 c bd E M R (k0_t5_body (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v25 v29 v30 v31 v76 v82 k acc) fun _ => True := by
  dsimp only [k0_t5_body]
  repeat' first
    | with_reducible (intro a ha)
    | with_reducible exact Keeps.pure
    | with_reducible apply Keeps.bind
    | with_reducible exact Keeps.load8
    | with_reducible exact Keeps.load12
    | with_reducible exact Keeps.load17
    | with_reducible exact Keeps.store8 hR
    | exact Keeps.load8
    | exact Keeps.load12
    | exact Keeps.load17
    | exact Keeps.store8 hR
    | split

/-- `k0_part35` keeps the property. -/
theorem keeps_k0_part35 (hR : Free R) (i : grid0.Coords) (v25 : BitVec 1) (v29 : BitVec 32) (v30 : BitVec 1) (v31 : BitVec 1) (v76 : IVec S1x256 32) (v82 : FVec F S64x256 .bf16) :
    Keeps 𝒱 c bd E M R (k0_part35 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v25 v29 v30 v31 v76 v82) fun _ => True := by
  rw [k0_part35_eq_skeleton]
  dsimp only [k0_part35_skel]
  repeat' first
    | with_reducible (intro a ha)
    | with_reducible exact Keeps.pure
    | with_reducible refine Keeps.ite ?_ ?_
    | with_reducible apply keeps_k0_t2_body hR
    | with_reducible apply keeps_k0_part5 hR.toGFree
    | with_reducible apply keeps_k0_t4_body hR
    | with_reducible apply keeps_k0_t5_body hR
    | with_reducible refine Keeps.loop fun _ _ => ?_
    | with_reducible apply Keeps.bind
    | with_reducible exact Keeps.load9
    | with_reducible exact Keeps.load16
    | with_reducible exact Keeps.load17
    | with_reducible exact Keeps.store9 hR
    | with_reducible exact Keeps.store16 hR
    | with_reducible exact Keeps.store17 hR
    | exact Keeps.load9
    | exact Keeps.load16
    | exact Keeps.load17
    | exact Keeps.store9 hR
    | exact Keeps.store16 hR
    | exact Keeps.store17 hR
    | split

/-- `k0_t6_body` keeps the property. -/
theorem keeps_k0_t6_body (hR : Free R) (i : grid0.Coords) (arg0 : BitVec 32) (v30 : BitVec 1) (v82 : FVec F S64x256 .bf16) (v83 : IVec S32x128 32) (v91 : IVec S32x128 32) (v94 : IVec S32x128 32) (v102 : IVec S32x128 32) (v105 : IVec S32x128 32) (v113 : IVec S32x128 32) (v116 : IVec S32x128 32) (v117 : FVec F S8x256 .f32) (v127 : BitVec 1) (k : Fin k0_t6_loop.trips) (acc : FVec F S8x256 .f32) :
    Keeps 𝒱 c bd E M R (k0_t6_body (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 arg0 v30 v82 v83 v91 v94 v102 v105 v113 v116 v117 v127 k acc) fun _ => True := by
  dsimp only [k0_t6_body]
  repeat' first
    | with_reducible (intro a ha)
    | with_reducible exact Keeps.pure
    | with_reducible apply keeps_k0_part6 hR
    | with_reducible apply keeps_k0_part7 hR.toGFree
    | with_reducible apply Keeps.bind
    | with_reducible exact Keeps.load12
    | with_reducible exact Keeps.store12 hR
    | exact Keeps.load12
    | exact Keeps.store12 hR
    | split

/-- `k0_t7_body` keeps the property. -/
theorem keeps_k0_t7_body (hR : GFree R) (i : grid0.Coords) (arg0 : BitVec 32) (v30 : BitVec 1) (v82 : FVec F S64x256 .bf16) (v83 : IVec S32x128 32) (v91 : IVec S32x128 32) (v94 : IVec S32x128 32) (v102 : IVec S32x128 32) (v105 : IVec S32x128 32) (v113 : IVec S32x128 32) (v116 : IVec S32x128 32) (v117 : FVec F S8x256 .f32) (v127 : BitVec 1) (v133 : Elt F .i32) (k : Fin k0_t7_loop.trips) (acc : Unit) :
    Keeps 𝒱 c bd E M R (k0_t7_body (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 arg0 v30 v82 v83 v91 v94 v102 v105 v113 v116 v117 v127 v133 k acc) fun _ => True := by
  dsimp only [k0_t7_body]
  repeat' first
    | with_reducible (intro a ha)
    | with_reducible exact Keeps.pure
    | with_reducible apply Keeps.bind
    | with_reducible exact Keeps.load3
    | with_reducible exact Keeps.load15
    | with_reducible exact Keeps.store15 hR
    | exact Keeps.load3
    | exact Keeps.load15
    | exact Keeps.store15 hR
    | split

/-- `k0_t8_body` keeps the property. -/
theorem keeps_k0_t8_body (hR : GFree R) (i : grid0.Coords) (arg0 : BitVec 32) (v30 : BitVec 1) (v82 : FVec F S64x256 .bf16) (v83 : IVec S32x128 32) (v91 : IVec S32x128 32) (v94 : IVec S32x128 32) (v102 : IVec S32x128 32) (v105 : IVec S32x128 32) (v113 : IVec S32x128 32) (v116 : IVec S32x128 32) (v117 : FVec F S8x256 .f32) (v127 : BitVec 1) (v133 : Elt F .i32) (k : Fin k0_t8_loop.trips) (acc : Unit) :
    Keeps 𝒱 c bd E M R (k0_t8_body (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 arg0 v30 v82 v83 v91 v94 v102 v105 v113 v116 v117 v127 v133 k acc) fun _ => True := by
  dsimp only [k0_t8_body]
  repeat' first
    | with_reducible (intro a ha)
    | with_reducible exact Keeps.pure
    | with_reducible apply Keeps.bind
    | with_reducible exact Keeps.load3
    | with_reducible exact Keeps.load15
    | with_reducible exact Keeps.store15 hR
    | exact Keeps.load3
    | exact Keeps.load15
    | exact Keeps.store15 hR
    | split

/-- `k0_part36` keeps the property. -/
theorem keeps_k0_part36 (hR : Free R) (i : grid0.Coords) (arg0 : BitVec 32) (v30 : BitVec 1) (v82 : FVec F S64x256 .bf16) (v83 : IVec S32x128 32) (v91 : IVec S32x128 32) (v94 : IVec S32x128 32) (v102 : IVec S32x128 32) (v105 : IVec S32x128 32) (v113 : IVec S32x128 32) (v116 : IVec S32x128 32) (v117 : FVec F S8x256 .f32) (v127 : BitVec 1) :
    Keeps 𝒱 c bd E M R (k0_part36 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 arg0 v30 v82 v83 v91 v94 v102 v105 v113 v116 v117 v127) fun _ => True := by
  rw [k0_part36_eq_skeleton]
  dsimp only [k0_part36_skel]
  repeat' first
    | with_reducible (intro a ha)
    | with_reducible exact Keeps.pure
    | with_reducible refine Keeps.ite ?_ ?_
    | with_reducible apply keeps_k0_t6_body hR
    | with_reducible apply keeps_k0_t7_body hR.toGFree
    | with_reducible apply keeps_k0_t8_body hR.toGFree
    | with_reducible refine Keeps.loop fun _ _ => ?_
    | with_reducible apply Keeps.bind
    | with_reducible exact Keeps.load16
    | with_reducible exact Keeps.store16 hR
    | with_reducible exact Keeps.word1 hR.toGFree
    | exact Keeps.load16
    | exact Keeps.store16 hR
    | exact Keeps.word1 hR.toGFree
    | split

/-- `k0_t9_body` keeps the property. -/
theorem keeps_k0_t9_body (hR : GFree R) (i : grid0.Coords) (arg0 : BitVec 32) (v30 : BitVec 1) (v132 : IVec S8x128 32) (v156 : BitVec 32) (v158 : BitVec 32) (v164 : BitVec 1) (k : Fin k0_t9_loop.trips) (acc : Unit) :
    Keeps 𝒱 c bd E M R (k0_t9_body (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 arg0 v30 v132 v156 v158 v164 k acc) fun _ => True := by
  dsimp only [k0_t9_body]
  repeat' first
    | with_reducible (intro a ha)
    | with_reducible exact Keeps.pure
    | with_reducible apply Keeps.bind
    | with_reducible exact Keeps.load3
    | with_reducible exact Keeps.load15
    | with_reducible exact Keeps.store15 hR
    | exact Keeps.load3
    | exact Keeps.load15
    | exact Keeps.store15 hR
    | split

/-- `k0_t10_body` keeps the property. -/
theorem keeps_k0_t10_body (hR : GFree R) (i : grid0.Coords) (arg0 : BitVec 32) (v30 : BitVec 1) (v132 : IVec S8x128 32) (v156 : BitVec 32) (v158 : BitVec 32) (v164 : BitVec 1) (k : Fin k0_t10_loop.trips) (acc : Unit) :
    Keeps 𝒱 c bd E M R (k0_t10_body (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 arg0 v30 v132 v156 v158 v164 k acc) fun _ => True := by
  dsimp only [k0_t10_body]
  repeat' first
    | with_reducible (intro a ha)
    | with_reducible exact Keeps.pure
    | with_reducible apply Keeps.bind
    | with_reducible exact Keeps.load3
    | with_reducible exact Keeps.load15
    | with_reducible exact Keeps.store15 hR
    | exact Keeps.load3
    | exact Keeps.load15
    | exact Keeps.store15 hR
    | split

/-- `k0_t11_body` keeps the property. -/
theorem keeps_k0_t11_body (hR : GFree R) (i : grid0.Coords) (arg0 : BitVec 32) (v30 : BitVec 1) (v132 : IVec S8x128 32) (v156 : BitVec 32) (v158 : BitVec 32) (v164 : BitVec 1) (v177 : Elt F .i32) (k : Fin k0_t11_loop.trips) (acc : Unit) :
    Keeps 𝒱 c bd E M R (k0_t11_body (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 arg0 v30 v132 v156 v158 v164 v177 k acc) fun _ => True := by
  dsimp only [k0_t11_body]
  repeat' first
    | with_reducible (intro a ha)
    | with_reducible exact Keeps.pure
    | with_reducible apply Keeps.bind
    | with_reducible exact Keeps.load3
    | with_reducible exact Keeps.load15
    | with_reducible exact Keeps.store15 hR
    | exact Keeps.load3
    | exact Keeps.load15
    | exact Keeps.store15 hR
    | split

/-- `k0_t12_body` keeps the property. -/
theorem keeps_k0_t12_body (hR : GFree R) (i : grid0.Coords) (arg0 : BitVec 32) (v30 : BitVec 1) (v132 : IVec S8x128 32) (v156 : BitVec 32) (v158 : BitVec 32) (v164 : BitVec 1) (v177 : Elt F .i32) (k : Fin k0_t12_loop.trips) (acc : Unit) :
    Keeps 𝒱 c bd E M R (k0_t12_body (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 arg0 v30 v132 v156 v158 v164 v177 k acc) fun _ => True := by
  dsimp only [k0_t12_body]
  repeat' first
    | with_reducible (intro a ha)
    | with_reducible exact Keeps.pure
    | with_reducible apply Keeps.bind
    | with_reducible exact Keeps.load3
    | with_reducible exact Keeps.load15
    | with_reducible exact Keeps.store15 hR
    | exact Keeps.load3
    | exact Keeps.load15
    | exact Keeps.store15 hR
    | split

/-- `k0_part37` keeps the property. -/
theorem keeps_k0_part37 (hR : GFree R) (i : grid0.Coords) (arg0 : BitVec 32) (v30 : BitVec 1) (v132 : IVec S8x128 32) (v156 : BitVec 32) (v158 : BitVec 32) (v164 : BitVec 1) :
    Keeps 𝒱 c bd E M R (k0_part37 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 arg0 v30 v132 v156 v158 v164) fun _ => True := by
  rw [k0_part37_eq_skeleton]
  dsimp only [k0_part37_skel]
  repeat' first
    | with_reducible (intro a ha)
    | with_reducible exact Keeps.pure
    | with_reducible refine Keeps.ite ?_ ?_
    | with_reducible apply keeps_k0_t9_body hR
    | with_reducible apply keeps_k0_t10_body hR
    | with_reducible apply keeps_k0_t11_body hR
    | with_reducible apply keeps_k0_t12_body hR
    | with_reducible refine Keeps.loop fun _ _ => ?_
    | with_reducible apply Keeps.bind
    | with_reducible exact Keeps.word1 hR
    | exact Keeps.word1 hR
    | split

/-- `k0_t13_body` keeps the property. -/
theorem keeps_k0_t13_body (hR : GFree R) (i : grid0.Coords) (arg0 : BitVec 32) (v30 : BitVec 1) (v132 : IVec S8x128 32) (v200 : BitVec 32) (k : Fin k0_t13_loop.trips) (acc : Unit) :
    Keeps 𝒱 c bd E M R (k0_t13_body (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 arg0 v30 v132 v200 k acc) fun _ => True := by
  dsimp only [k0_t13_body]
  repeat' first
    | with_reducible (intro a ha)
    | with_reducible exact Keeps.pure
    | with_reducible apply Keeps.bind
    | with_reducible exact Keeps.load3
    | with_reducible exact Keeps.load15
    | with_reducible exact Keeps.store15 hR
    | exact Keeps.load3
    | exact Keeps.load15
    | exact Keeps.store15 hR
    | split

/-- `k0_t14_body` keeps the property. -/
theorem keeps_k0_t14_body (hR : GFree R) (i : grid0.Coords) (arg0 : BitVec 32) (v30 : BitVec 1) (v132 : IVec S8x128 32) (v200 : BitVec 32) (k : Fin k0_t14_loop.trips) (acc : Unit) :
    Keeps 𝒱 c bd E M R (k0_t14_body (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 arg0 v30 v132 v200 k acc) fun _ => True := by
  dsimp only [k0_t14_body]
  repeat' first
    | with_reducible (intro a ha)
    | with_reducible exact Keeps.pure
    | with_reducible apply Keeps.bind
    | with_reducible exact Keeps.load3
    | with_reducible exact Keeps.load15
    | with_reducible exact Keeps.store15 hR
    | exact Keeps.load3
    | exact Keeps.load15
    | exact Keeps.store15 hR
    | split

/-- `k0_t15_body` keeps the property. -/
theorem keeps_k0_t15_body (hR : GFree R) (i : grid0.Coords) (arg0 : BitVec 32) (v30 : BitVec 1) (v132 : IVec S8x128 32) (v200 : BitVec 32) (v221 : Elt F .i32) (k : Fin k0_t15_loop.trips) (acc : Unit) :
    Keeps 𝒱 c bd E M R (k0_t15_body (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 arg0 v30 v132 v200 v221 k acc) fun _ => True := by
  dsimp only [k0_t15_body]
  repeat' first
    | with_reducible (intro a ha)
    | with_reducible exact Keeps.pure
    | with_reducible apply Keeps.bind
    | with_reducible exact Keeps.load3
    | with_reducible exact Keeps.load15
    | with_reducible exact Keeps.store15 hR
    | exact Keeps.load3
    | exact Keeps.load15
    | exact Keeps.store15 hR
    | split

/-- `k0_part38` keeps the property. -/
theorem keeps_k0_part38 (hR : GFree R) (i : grid0.Coords) (arg0 : BitVec 32) (v30 : BitVec 1) (v132 : IVec S8x128 32) (v200 : BitVec 32) :
    Keeps 𝒱 c bd E M R (k0_part38 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 arg0 v30 v132 v200) fun _ => True := by
  rw [k0_part38_eq_skeleton]
  dsimp only [k0_part38_skel]
  repeat' first
    | with_reducible (intro a ha)
    | with_reducible exact Keeps.pure
    | with_reducible refine Keeps.ite ?_ ?_
    | with_reducible apply keeps_k0_t13_body hR
    | with_reducible apply keeps_k0_t14_body hR
    | with_reducible apply keeps_k0_t15_body hR
    | with_reducible refine Keeps.loop fun _ _ => ?_
    | with_reducible apply Keeps.bind
    | with_reducible exact Keeps.word1 hR
    | exact Keeps.word1 hR
    | split

/-- `k0_t16_body` keeps the property. -/
theorem keeps_k0_t16_body (hR : GFree R) (i : grid0.Coords) (arg0 : BitVec 32) (v30 : BitVec 1) (v132 : IVec S8x128 32) (v222 : BitVec 32) (v234 : BitVec 32) (v237 : BitVec 1) (k : Fin k0_t16_loop.trips) (acc : Unit) :
    Keeps 𝒱 c bd E M R (k0_t16_body (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 arg0 v30 v132 v222 v234 v237 k acc) fun _ => True := by
  dsimp only [k0_t16_body]
  repeat' first
    | with_reducible (intro a ha)
    | with_reducible exact Keeps.pure
    | with_reducible apply Keeps.bind
    | with_reducible exact Keeps.load3
    | with_reducible exact Keeps.load15
    | with_reducible exact Keeps.store15 hR
    | exact Keeps.load3
    | exact Keeps.load15
    | exact Keeps.store15 hR
    | split

/-- `k0_t17_body` keeps the property. -/
theorem keeps_k0_t17_body (hR : GFree R) (i : grid0.Coords) (arg0 : BitVec 32) (v30 : BitVec 1) (v132 : IVec S8x128 32) (v222 : BitVec 32) (v234 : BitVec 32) (v237 : BitVec 1) (v243 : Elt F .i32) (k : Fin k0_t17_loop.trips) (acc : Unit) :
    Keeps 𝒱 c bd E M R (k0_t17_body (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 arg0 v30 v132 v222 v234 v237 v243 k acc) fun _ => True := by
  dsimp only [k0_t17_body]
  repeat' first
    | with_reducible (intro a ha)
    | with_reducible exact Keeps.pure
    | with_reducible apply Keeps.bind
    | with_reducible exact Keeps.load3
    | with_reducible exact Keeps.load15
    | with_reducible exact Keeps.store15 hR
    | exact Keeps.load3
    | exact Keeps.load15
    | exact Keeps.store15 hR
    | split

/-- `k0_t18_body` keeps the property. -/
theorem keeps_k0_t18_body (hR : GFree R) (i : grid0.Coords) (arg0 : BitVec 32) (v30 : BitVec 1) (v132 : IVec S8x128 32) (v222 : BitVec 32) (v234 : BitVec 32) (v237 : BitVec 1) (v243 : Elt F .i32) (k : Fin k0_t18_loop.trips) (acc : Unit) :
    Keeps 𝒱 c bd E M R (k0_t18_body (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 arg0 v30 v132 v222 v234 v237 v243 k acc) fun _ => True := by
  dsimp only [k0_t18_body]
  repeat' first
    | with_reducible (intro a ha)
    | with_reducible exact Keeps.pure
    | with_reducible apply Keeps.bind
    | with_reducible exact Keeps.load3
    | with_reducible exact Keeps.load15
    | with_reducible exact Keeps.store15 hR
    | exact Keeps.load3
    | exact Keeps.load15
    | exact Keeps.store15 hR
    | split

/-- `k0_part39` keeps the property. -/
theorem keeps_k0_part39 (hR : GFree R) (i : grid0.Coords) (arg0 : BitVec 32) (v30 : BitVec 1) (v132 : IVec S8x128 32) (v222 : BitVec 32) (v234 : BitVec 32) (v237 : BitVec 1) :
    Keeps 𝒱 c bd E M R (k0_part39 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 arg0 v30 v132 v222 v234 v237) fun _ => True := by
  rw [k0_part39_eq_skeleton]
  dsimp only [k0_part39_skel]
  repeat' first
    | with_reducible (intro a ha)
    | with_reducible exact Keeps.pure
    | with_reducible refine Keeps.ite ?_ ?_
    | with_reducible apply keeps_k0_t16_body hR
    | with_reducible apply keeps_k0_t17_body hR
    | with_reducible apply keeps_k0_t18_body hR
    | with_reducible refine Keeps.loop fun _ _ => ?_
    | with_reducible apply Keeps.bind
    | with_reducible exact Keeps.word1 hR
    | exact Keeps.word1 hR
    | split

/-- `cc0_conv_silu_quant` keeps the property. -/
theorem keeps_cc0_conv_silu_quant (hR : Free R) (i : grid0.Coords)  :
    Keeps 𝒱 c bd E M R (cc0_conv_silu_quant (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 ) fun _ => True := by
  rw [cc0_conv_silu_quant_eq_skeleton]
  dsimp only [cc0_conv_silu_quant_skel]
  repeat' first
    | with_reducible (intro a ha)
    | with_reducible exact Keeps.pure
    | with_reducible refine Keeps.dite (fun _ => ?_) (fun _ => ?_)
    | with_reducible refine Keeps.ite ?_ ?_
    | with_reducible apply keeps_k0_part33 hR
    | with_reducible apply keeps_k0_part34 hR.toGFree
    | with_reducible apply keeps_k0_part35 hR
    | with_reducible apply keeps_k0_part36 hR
    | with_reducible apply keeps_k0_part37 hR.toGFree
    | with_reducible apply keeps_k0_part38 hR.toGFree
    | with_reducible apply keeps_k0_part39 hR.toGFree
    | with_reducible apply keeps_k0_t19_body hR.toGFree
    | with_reducible apply keeps_k0_t20_body hR.toGFree
    | with_reducible apply keeps_k0_part32 hR.toGFree
    | with_reducible apply keeps_k0_t21_body hR.toGFree
    | with_reducible refine Keeps.loop fun _ _ => ?_
    | with_reducible apply Keeps.bind
    | with_reducible exact Keeps.word2
    | exact Keeps.word2
    | split

end Cert.Kernel.Hand
-- ==== Proof.Pre.lean ====
module

public import proofs.«01_k».proof.Pre_boundaries_in_range
public import Idealize.ShloMosaic.PureOps.Ideal

/-! The first input predicate: its side conditions, and what it says of the boundary words. -/

@[expose] public section

namespace Cert.Hand

open Idealize.ShloMosaic

/-- The side conditions of the first predicate. -/
theorem facts_boundaries : Cert.Pre_boundaries_in_range.Facts where
  slices_S7_S6_0 := by decide
  slices_S7_S6_1 := by decide
  bcast_S_S6 := by decide

/-- And of two truth values, as bits. -/
theorem andi_ofBool (p q : Bool) : IntOp.andi (BitVec.ofBool p) (BitVec.ofBool q) = BitVec.ofBool (p && q) := by
  cases p <;> cases q <;> decide

/-- A truth value's bit is one when it is true. -/
theorem ofBool_eq_one (p : Bool) : (BitVec.ofBool p = 1#1) ↔ p = true := by cases p <;> decide

/-- The first six words are in [0, 2045], the last six in [3, 2048]. -/
theorem range_of_boundaries {F : FTy → Type} [FloatOps F] (a0 a1) (a2 : IVec Cert.Pre_boundaries_in_range.S7 32) (a3 a4)
    [Cert.Pre_boundaries_in_range.Facts]
    (h : Cert.Pre_boundaries_in_range.fn (F := F) a0 a1 a2 a3 a4 = fun _ => 1#1) (j : Cert.Pre_boundaries_in_range.S7.Idx) :
    ((j 0).val < 6 → 0 ≤ (a2 j).toInt ∧ (a2 j).toInt ≤ 2045) ∧ (1 ≤ (j 0).val → 3 ≤ (a2 j).toInt ∧ (a2 j).toInt ≤ 2048) := by
  have key : ∀ y : Cert.Pre_boundaries_in_range.S6.Idx, ∀ j0 j1 : Cert.Pre_boundaries_in_range.S7.Idx, (j0 0).val = (y 0).val → (j1 0).val = (y 0).val + 1 →
      ((0 ≤ (a2 j0).toInt ∧ (a2 j0).toInt ≤ 2045) ∧ 3 ≤ (a2 j1).toInt) ∧ (a2 j1).toInt ≤ 2048 := by
    intro y j0 j1 h0 h1
    have e := congrFun h y
    simp only [Cert.Pre_boundaries_in_range.fn, andi, cmpi, broadcastInDim, constantI, IntOp.cmpi, andi_ofBool, ofBool_eq_one,
      Bool.and_eq_true, extractStridedSlice, BitVec.sle, decide_eq_true_eq] at e
    obtain ⟨⟨⟨e1, e2⟩, e3⟩, e4⟩ := e
    have q : ∀ i i' : Cert.Pre_boundaries_in_range.S7.Idx, (i 0).val = (i' 0).val → i = i' := fun i i' h => by
      funext k; fin_cases k; exact Fin.ext h
    have t0 : ∀ i : Cert.Pre_boundaries_in_range.S7.Idx, (i 0).val = (y 0).val → 0 ≤ (a2 i).toInt ∧ (a2 i).toInt ≤ 2045 →
        0 ≤ (a2 j0).toInt ∧ (a2 j0).toInt ≤ 2045 := fun i hi h => q i j0 (hi.trans h0.symm) ▸ h
    have t1 : ∀ i : Cert.Pre_boundaries_in_range.S7.Idx, (i 0).val = (y 0).val + 1 → 3 ≤ (a2 i).toInt ∧ (a2 i).toInt ≤ 2048 →
        3 ≤ (a2 j1).toInt ∧ (a2 j1).toInt ≤ 2048 := fun i hi h => q i j1 (hi.trans h1.symm) ▸ h
    have r1 := t1 (fun a => ⟨![1] a + (y (Fin.cast rfl a)).val, by have := (y 0).isLt; fin_cases a; show 1 + (y 0).val < 7; change (y 0).val < 6 at this; omega⟩) (Nat.add_comm _ _) ⟨of_decide_eq_true e3, of_decide_eq_true e4⟩
    exact ⟨⟨t0 (fun a => ⟨![0] a + (y (Fin.cast rfl a)).val, by have := (y 0).isLt; fin_cases a; show 0 + (y 0).val < 7; change (y 0).val < 6 at this; omega⟩) (Nat.zero_add _) ⟨of_decide_eq_true e1, of_decide_eq_true e2⟩, r1.1⟩, r1.2⟩
  constructor
  · intro hj
    exact (key (fun k => ⟨(j 0).val, by have := k.isLt; fin_cases k; exact hj⟩) j (fun k => ⟨(j 0).val + 1, by fin_cases k; show _ < 7; omega⟩) rfl rfl).1.1
  · intro hj
    have hlt : (j 0).val < 7 := (j 0).isLt
    exact ⟨(key (fun k => ⟨(j 0).val - 1, by fin_cases k; show _ < 6; omega⟩) (fun k => ⟨(j 0).val - 1, by fin_cases k; show _ < 7; omega⟩) j rfl (by show _ = (j 0).val - 1 + 1; omega)).1.2, (key (fun k => ⟨(j 0).val - 1, by fin_cases k; show _ < 6; omega⟩) (fun k => ⟨(j 0).val - 1, by fin_cases k; show _ < 7; omega⟩) j rfl (by show _ = (j 0).val - 1 + 1; omega)).2⟩

end Cert.Hand
-- ==== Proof.KernelFrame.lean ====
module

public import proofs.«01_k».proof.Proof.KernelRegion
public import proofs.«01_k».proof.Proof.KernelParts
public import proofs.«01_k».proof.Proof.Pre

/-! The frame of the kernel: it terminates, faults nowhere, leaves its arguments and ends every semaphore at zero. -/

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [BitOps F]

variable (m : (ℓ : Loc nD τ sig) → Buf (Elt F) ℓ) (ρ : Dev nD → PrngReg)

/-- The boundary words the body sees are in range. -/
def CuIn (c : Dev nD) : Prop := ∀ t, CuOk (iblk m c 0 t)

/-- The argument's words being in range, the body's are: its block is the whole argument. -/
theorem cuIn_of (c : Dev nD) (h : CuOk (m ((c : Thread nD τ).loc main_arg2))) : CuIn m c := by
  intro t j
  have e : ∃ j' : S7.Idx, iblk m c 0 t j = m ((c : Thread nD τ).loc main_arg2) j' ∧ (j' 0).val = (j 0).val := by
    unfold iblk
    rw [View.read_apply, cast_eq]
    refine ⟨((cfg0.win 0).blk t).view.emb j, ?_, ?_⟩
    · exact congrFun (V_main_arg2 m c) _
    · show (((cfg0.win 0).rect t).emb j 0).val = _
      rw [Rect.emb_apply]
      show 0 + 1 * (j 0).val = (j 0).val
      omega
  obtain ⟨j', e, e'⟩ := e
  rw [e, ← e']
  exact h j'

/-- Nothing said of the scratch buffers or the results. -/
def trivSpec : Spec F := ⟨fun _ _ => True, fun _ _ _ => True, fun _ _ _ => True⟩

/-- The body at a point, with nothing said but that the inputs stay. -/
theorem bodySpec_triv (c : Dev nD) (h : CuIn m c) (t : Fin cfg0.N) : BodySpec m trivSpec c t := by
  intro s hs _ M
  have hF : Free fun s : St F => Ins m c t s :=
    { cuOk := fun s hs => by rw [hs.cu]; exact h t
      head := fun s x hs => ⟨hs.cu, hs.xsS, hs.xb, hs.xs, hs.wt, hs.bh, hs.br⟩
      fin := fun s x hs => ⟨hs.cu, hs.xsS, hs.xb, hs.xs, hs.wt, hs.bh, hs.br⟩
      g := fun s x hs => ⟨hs.cu, hs.xsS, hs.xb, hs.xs, hs.wt, hs.bh, hs.br⟩
      y := fun s x hs => ⟨hs.cu, hs.xsS, hs.xb, hs.xs, hs.wt, hs.bh, hs.br⟩
      ysc := fun s x hs => ⟨hs.cu, hs.xsS, hs.xb, hs.xs, hs.wt, hs.bh, hs.br⟩
      h := fun s x hs => ⟨hs.cu, hs.xsS, hs.xb, hs.xs, hs.wt, hs.bh, hs.br⟩
      l := fun s x hs => ⟨hs.cu, hs.xsS, hs.xb, hs.xs, hs.wt, hs.bh, hs.br⟩
      halo := fun s x hs => ⟨hs.cu, hs.xsS, hs.xb, hs.xs, hs.wt, hs.bh, hs.br⟩
      zmax := fun s x hs => ⟨hs.cu, hs.xsS, hs.xb, hs.xs, hs.wt, hs.bh, hs.br⟩
      inv := fun s x hs => ⟨hs.cu, hs.xsS, hs.xb, hs.xs, hs.wt, hs.bh, hs.br⟩ }
  exact ((keeps_cc0_conv_silu_quant (𝒱 := Variants.none) (c := c) (bd := none) (E := Set.univ) (M := M) hF (grid0.coords t)).run s hs).mono
    fun a s' h => ⟨h.2, trivial, trivial, trivial⟩

/-- The frame: the run terminates with the arguments unchanged and every semaphore at zero. -/
theorem frame (h : ∀ c : Dev nD, CuOk (m ((c : Thread nD τ).loc main_arg2))) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r hr => ⟨fun c => args_of m trivSpec hr.1 c, hr.2⟩)
    (run_main m ρ trivSpec (fun _ => trivial) fun c t => bodySpec_triv m c (cuIn_of m c (h c)) t)

end Cert.Kernel.Hand
-- ==== Proof.KernelIdealState.lean ====
module

public import proofs.«01_k».proof.Proof.Gen.KernelIdeal.Launch

/-! The buffers the kernel body works on, as one record of contents, and a Hoare logic over it: one
    rule per memory operation. A proof about the body then speaks of records alone. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

/-- The memory references the body is called with, each a whole buffer. -/
structure Mems where
  a1 : Memref sig .tc .smem S7 .i32
  h1 : a1.IsWhole
  a2 : Memref sig .tc .smem S1x2048 .f32
  h2 : a2.IsWhole
  a3 : Memref sig .tc .vmem S8192x256 .fp8e4m3
  h3 : a3.IsWhole
  a4 : Memref sig .tc .vmem S1x2048 .f32
  h4 : a4.IsWhole
  a5 : Memref sig .tc .vmem S4x8192 .bf16
  h5 : a5.IsWhole
  a6 : Memref sig .tc .vmem S8192x1 .f32
  h6 : a6.IsWhole
  a7 : Memref sig .tc .vmem S1x8192 .bf16
  h7 : a7.IsWhole
  a8 : Memref sig .tc .vmem S8192x256 .fp8e4m3
  h8 : a8.IsWhole
  a9 : Memref sig .tc .vmem S1x2048 .f32
  h9 : a9.IsWhole
  a10 : Memref sig .tc .vmem S6x3x8192 .f32
  h10 : a10.IsWhole
  a11 : Memref sig .tc .vmem S6x3x8192 .bf16
  h11 : a11.IsWhole
  a12 : Memref sig .tc .vmem S8192x256 .f32
  h12 : a12.IsWhole
  a13 : Memref sig .tc .vmem S8192x256 .bf16
  h13 : a13.IsWhole
  a14 : Memref sig .tc .vmem S8192x128 .bf16
  h14 : a14.IsWhole
  a15 : Memref sig .tc .vmem S8192x128 .f32
  h15 : a15.IsWhole
  a16 : Memref sig .tc .vmem S8x256 .f32
  h16 : a16.IsWhole
  a17 : Memref sig .tc .vmem S8x256 .f32
  h17 : a17.IsWhole

/-- What the seventeen buffers hold. -/
structure St (F : FTy → Type) where
  /-- the boundaries -/
  cu : S7.Idx → Elt F .i32
  /-- the scales of x, in scalar memory -/
  xsS : S1x2048.Idx → Elt F .f32
  /-- the block of codes -/
  xb : S8192x256.Idx → Elt F .fp8e4m3
  /-- the scales of x -/
  xs : S1x2048.Idx → Elt F .f32
  /-- the weights, transposed -/
  wt : S4x8192.Idx → Elt F .bf16
  /-- half the bias, as a column -/
  bh : S8192x1.Idx → Elt F .f32
  /-- the bias, as a row -/
  br : S1x8192.Idx → Elt F .bf16
  /-- the block of quantised codes -/
  y : S8192x256.Idx → Elt F .fp8e4m3
  /-- the scales of y -/
  ysc : S1x2048.Idx → Elt F .f32
  /-- the head rows -/
  head : S6x3x8192.Idx → Elt F .f32
  /-- the final rows -/
  fin : S6x3x8192.Idx → Elt F .bf16
  /-- half the convolution -/
  h : S8192x256.Idx → Elt F .f32
  /-- the diagonal weights -/
  l : S8192x256.Idx → Elt F .bf16
  /-- the last lanes of the block before -/
  halo : S8192x128.Idx → Elt F .bf16
  /-- the gathered lanes -/
  g : S8192x128.Idx → Elt F .f32
  /-- the maxima by sublane -/
  zmax : S8x256.Idx → Elt F .f32
  /-- the inverse scales -/
  inv : S8x256.Idx → Elt F .f32

/-- The core owns the buffers, and they hold what the record says. -/
def OwnSt (c : Dev nD) (M : Mems) (s : St F) : sProp (MT nD τ sig Unit (Elt F) ℕ (UR sig nD τ) ℕ) :=
  iprop(owns (c : Thread nD τ) M.a1 fullShare s.cu ∗ owns (c : Thread nD τ) M.a2 fullShare s.xsS ∗ owns (c : Thread nD τ) M.a3 fullShare s.xb ∗ owns (c : Thread nD τ) M.a4 fullShare s.xs ∗ owns (c : Thread nD τ) M.a5 fullShare s.wt ∗ owns (c : Thread nD τ) M.a6 fullShare s.bh ∗ owns (c : Thread nD τ) M.a7 fullShare s.br ∗ owns (c : Thread nD τ) M.a8 fullShare s.y ∗ owns (c : Thread nD τ) M.a9 fullShare s.ysc ∗ owns (c : Thread nD τ) M.a10 fullShare s.head ∗ owns (c : Thread nD τ) M.a11 fullShare s.fin ∗ owns (c : Thread nD τ) M.a12 fullShare s.h ∗ owns (c : Thread nD τ) M.a13 fullShare s.l ∗ owns (c : Thread nD τ) M.a14 fullShare s.halo ∗ owns (c : Thread nD τ) M.a15 fullShare s.g ∗ owns (c : Thread nD τ) M.a16 fullShare s.zmax ∗ owns (c : Thread nD τ) M.a17 fullShare s.inv)

/-- Every run of `p` from buffers holding `s` is safe and ends with a value and contents of which `Q` holds. -/
def WP (𝒱 : Variants) (c : Dev nD) (bd : Option 𝒱.V) (E : Set ℕ) (M : Mems) {α : Type} (p : Prog (TpuEff nD τ sig (Elt F) Λ₀ .tc) α)
    (Q : α → St F → Prop) (s : St F) : Prop :=
  OwnSt c M s ⊢ wp frame (wpE (defs₀ (F := F)) 𝒱 (c : Thread nD τ) bd) E p fun a => iprop(∃ s', ⌜Q a s'⌝ ∗ OwnSt c M s')

section Rules
variable {𝒱 : Variants} {c : Dev nD} {bd : Option 𝒱.V} {E : Set ℕ} {M : Mems} {α β : Type}

/-- A value ends the program. -/
theorem WP.ret {Q : α → St F → Prop} {s : St F} {a : α} (h : Q a s) : WP 𝒱 c bd E M (.ret a) Q s := by
  unfold WP
  rw [wp_ret]
  iintro H
  imodintro
  iexists s
  isplitr
  · ipureintro; exact h
  · iexact H

/-- The rule of a returned value. -/
theorem WP.pure {Q : α → St F → Prop} {s : St F} {a : α} (h : Q a s) :
    WP 𝒱 c bd E M (Pure.pure a) Q s := WP.ret h

/-- A weaker claim follows. -/
theorem WP.mono {p : Prog (TpuEff nD τ sig (Elt F) Λ₀ .tc) α} {Q Q' : α → St F → Prop} {s : St F}
    (h : WP 𝒱 c bd E M p Q s) (hQ : ∀ a s', Q a s' → Q' a s') : WP 𝒱 c bd E M p Q' s := by
  unfold WP at h ⊢
  refine h.trans (wp_mono _ _ _ fun a => ?_)
  iintro ⟨%s', %hq, H⟩
  iexists s'
  isplitr
  · ipureintro; exact hQ a s' hq
  · iexact H

/-- One program after another. -/
theorem WP.bind {p : Prog (TpuEff nD τ sig (Elt F) Λ₀ .tc) α} {k : α → Prog (TpuEff nD τ sig (Elt F) Λ₀ .tc) β} {Q : β → St F → Prop} {s : St F}
    (h : WP 𝒱 c bd E M p (fun a s' => WP 𝒱 c bd E M (k a) Q s') s) : WP 𝒱 c bd E M (p >>= k) Q s := by
  unfold WP at h ⊢
  rw [wp_bind]
  refine h.trans (wp_mono _ _ _ fun a => ?_)
  iintro ⟨%s', %hq, H⟩
  iapply hq
  iexact H

/-- The rule of a choice. -/
theorem WP.ite {P : Prop} [Decidable P] {p q : Prog (TpuEff nD τ sig (Elt F) Λ₀ .tc) α} {Q : α → St F → Prop} {s : St F}
    (h1 : P → WP 𝒱 c bd E M p Q s) (h2 : ¬ P → WP 𝒱 c bd E M q Q s) : WP 𝒱 c bd E M (if P then p else q) Q s := by
  by_cases h : P
  · rw [if_pos h]; exact h1 h
  · rw [if_neg h]; exact h2 h

/-- The rule of a choice whose branches know the outcome. -/
theorem WP.dite {P : Prop} [Decidable P] {p : P → Prog (TpuEff nD τ sig (Elt F) Λ₀ .tc) α} {q : ¬ P → Prog (TpuEff nD τ sig (Elt F) Λ₀ .tc) α}
    {Q : α → St F → Prop} {s : St F}
    (h1 : ∀ h : P, WP 𝒱 c bd E M (p h) Q s) (h2 : ∀ h : ¬ P, WP 𝒱 c bd E M (q h) Q s) : WP 𝒱 c bd E M (dite P p q) Q s := by
  by_cases h : P
  · rw [dif_pos h]; exact h1 h
  · rw [dif_neg h]; exact h2 h

/-- An assumption that holds is passed. -/
theorem WP.assume {P : Prop} {d : Decidable P} {Q : PLift P → St F → Prop} {s : St F} (h : P) (hQ : Q ⟨h⟩ s) :
    WP 𝒱 c bd E M (Prog.lift (TpuEff.assume P d)) Q s :=
  (WP.ret (𝒱 := 𝒱) (c := c) (bd := bd) (E := E) (M := M) hQ).trans (wp_assume 𝒱 (c : Thread nD τ) bd E h)

/-- A counted loop, by an invariant on the trip, the carried values and the contents. -/
theorem WP.loop {σ : Type} (l : Scf.Loop 32) (hok : l.OK) (init : σ) (body : Fin l.trips → σ → Prog (TpuEff nD τ sig (Elt F) Λ₀ .tc) σ)
    (I : ℕ → σ → St F → Prop) {Q : σ → St F → Prop} {s : St F} (h0 : I 0 init s)
    (hI : ∀ (k : Fin l.trips) acc s', I k acc s' → WP 𝒱 c bd E M (body k acc) (I (k + 1)) s')
    (hQ : ∀ acc s', I l.trips acc s' → Q acc s') : WP 𝒱 c bd E M (l.for hok init body) Q s := by
  unfold WP
  refine BIBase.Entails.trans ?_ (Scf.wp_for frame (wpE (defs₀ (F := F)) 𝒱 (c : Thread nD τ) bd) E l.lb l.ub l.st hok init body
    (fun k acc => iprop(∃ s', ⌜I k acc s'⌝ ∗ OwnSt c M s')) ?_)
  · iintro H
    isplitl
    · iexists s
      isplitr
      · ipureintro; exact h0
      · iexact H
    · iintro %acc ⟨%s', %hi, H⟩
      iexists s'
      isplitr
      · ipureintro; exact hQ acc s' hi
      · iexact H
  · intro k acc
    iintro ⟨%s', %hi, H⟩
    have h' := hI k acc s' hi
    unfold WP at h'
    iapply h'
    iexact H

/-- A load through a buffer that is owned reads its contents. -/
theorem own_load {sp : CoreSpace} {sh : Shape} {e : EltTy} {m : Memref sig .tc sp sh e} {r : LoadRect sh} {hl : m.view.LoadsAt r}
    {k : (r.shape.Idx → Elt F e) → Prog (TpuEff nD τ sig (Elt F) Λ₀ .tc) α} {X : sh.Idx → Elt F e} {Q : α → sProp (MT nD τ sig Unit (Elt F) ℕ (UR sig nD τ) ℕ)} :
    owns (c : Thread nD τ) m fullShare X
      ⊢ iprop((owns (c : Thread nD τ) m fullShare X -∗ wp frame (wpE (defs₀ (F := F)) 𝒱 (c : Thread nD τ) bd) E (k fun x => X (r.idx x)) Q)
        -∗ wp frame (wpE (defs₀ (F := F)) 𝒱 (c : Thread nD τ) bd) E (.op (.load m r hl) k) Q) := by
  unfold owns
  iintro ⟨%f, %hf, H⟩ HK
  subst hf
  iapply (wp_load 𝒱 (c : Thread nD τ) bd E (View.setOn_subset_set _ _)) $$ H
  iintro H
  iapply HK
  iexists f
  isplitr
  · ipureintro; rfl
  · iexact H

/-- What a store of `w` at the positions `Mk` of the rectangle `r` leaves of `X`. -/
def put {sh : Shape} {e : EltTy} (X : sh.Idx → Elt F e) (r : Rect sh) (w : r.shape.Idx → Elt F e) (Mk : Finset r.shape.Idx) : sh.Idx → Elt F e :=
  open Classical in fun y => if h : ∃ x ∈ Mk, r.emb x = y then w h.choose else X y

/-- What a store leaves at a place it covers. -/
theorem put_emb {sh : Shape} {e : EltTy} (X : sh.Idx → Elt F e) (r : Rect sh) (w : r.shape.Idx → Elt F e) (Mk : Finset r.shape.Idx) {x : r.shape.Idx}
    (hx : x ∈ Mk) : put X r w Mk (r.emb x) = w x := by
  have h : ∃ x' ∈ Mk, r.emb x' = r.emb x := ⟨x, hx, rfl⟩
  unfold put
  rw [dif_pos h, r.emb.injective h.choose_spec.2]

/-- What a store leaves at a place it does not cover. -/
theorem put_of_not {sh : Shape} {e : EltTy} (X : sh.Idx → Elt F e) (r : Rect sh) (w : r.shape.Idx → Elt F e) (Mk : Finset r.shape.Idx) {y : sh.Idx}
    (hy : ∀ x ∈ Mk, r.emb x ≠ y) : put X r w Mk y = X y := by
  unfold put
  rw [dif_neg]
  rintro ⟨x, hx, h⟩
  exact hy x hx h

/-- A store through a buffer that is owned leaves the stored values there and the rest alone. -/
theorem own_store {sp : CoreSpace} {sh : Shape} {e : EltTy} {m : Memref sig .tc sp sh e} {r : Rect sh} {w : r.shape.Idx → Elt F e} {Mk : Finset r.shape.Idx}
    {hx : (m.access r).Stores Mk} {hm : Mk = Finset.univ ∨ ∀ a, r.stride a = 1}
    {k : PUnit → Prog (TpuEff nD τ sig (Elt F) Λ₀ .tc) α} {X : sh.Idx → Elt F e} {Q : α → sProp (MT nD τ sig Unit (Elt F) ℕ (UR sig nD τ) ℕ)} :
    owns (c : Thread nD τ) m fullShare X
      ⊢ iprop((owns (c : Thread nD τ) m fullShare (put X r w Mk) -∗ wp frame (wpE (defs₀ (F := F)) 𝒱 (c : Thread nD τ) bd) E (k ⟨⟩) Q)
        -∗ wp frame (wpE (defs₀ (F := F)) 𝒱 (c : Thread nD τ) bd) E (.op (.store m r w Mk hx hm) k) Q) := by
  unfold owns
  iintro ⟨%f, %hf, H⟩ HK
  subst hf
  have hS : (m.access r).setOn Mk ⊆ m.view.set := (View.setOn_subset_set _ _).trans (by rw [View.set_slice]; exact View.setOn_subset_set _ _)
  have hw := wp_store (defs := defs₀ (F := F)) (Γ := .empty) 𝒱 (c : Thread nD τ) bd E (m := m) (r := r) (w := w) (Mk := Mk) (hx := hx) (hm := hm) (k := k) (f := f) (Q := Q) hS
  iapply (show (m.view.loc (c : Thread nD τ) ↦[m.view.set]{fullShare} f) ⊢ _ from hw) $$ H
  iintro H
  iapply HK
  iexists ((m.access r).write (Elt F) f w Mk)
  isplitr
  · ipureintro
    funext y
    by_cases h : ∃ x ∈ Mk, r.emb x = y
    · obtain ⟨x, hx, rfl⟩ := h
      rw [put_emb _ _ _ _ hx]
      exact View.read_slice_write_emb r f w hx
    · rw [put_of_not _ _ _ _ (fun x hx hy => h ⟨x, hx, hy⟩)]
      refine View.read_slice_write_of_not_mem r f w _ ?_
      simp only [Finset.mem_map]
      rintro ⟨x, hx, hy⟩
      exact h ⟨x, hx, hy⟩
  · iexact H

/-- Ownership of everything gives ownership of one part, and takes it back changed. -/
def Focus {β : Type} (P R : β → sProp (MT nD τ sig Unit (Elt F) ℕ (UR sig nD τ) ℕ)) (x : β) : Prop :=
  R x ⊢ iprop(P x ∗ (∀ x', P x' -∗ R x'))

/-- The first of several arrays, singled out. -/
theorem Focus.head {β : Type} {P : β → sProp (MT nD τ sig Unit (Elt F) ℕ (UR sig nD τ) ℕ)} {A : sProp (MT nD τ sig Unit (Elt F) ℕ (UR sig nD τ) ℕ)} {x : β} :
    Focus P (fun x => iprop(P x ∗ A)) x := by
  unfold Focus
  iintro ⟨H, HA⟩
  isplitl [H]
  · iexact H
  · iintro %x' H
    isplitl [H]
    · iexact H
    · iexact HA

/-- The last of several arrays, singled out. -/
theorem Focus.last {β : Type} {P : β → sProp (MT nD τ sig Unit (Elt F) ℕ (UR sig nD τ) ℕ)} {x : β} : Focus P P x := by
  unfold Focus
  iintro H
  isplitl [H]
  · iexact H
  · iintro %x' H
    iexact H

/-- A later one of several arrays, singled out. -/
theorem Focus.tail {β : Type} {P R : β → sProp (MT nD τ sig Unit (Elt F) ℕ (UR sig nD τ) ℕ)} {A : sProp (MT nD τ sig Unit (Elt F) ℕ (UR sig nD τ) ℕ)} {x : β}
    (h : Focus P R x) : Focus P (fun x => iprop(A ∗ R x)) x := by
  unfold Focus at h ⊢
  iintro ⟨HA, H⟩
  ihave H := h $$ H
  icases H with ⟨HP, HK⟩
  isplitl [HP]
  · iexact HP
  · iintro %x' H
    isplitl [HA]
    · iexact HA
    · iapply HK
      iexact H

/-- The rule of a load from the array singled out. -/
theorem Focus.load {sp : CoreSpace} {sh : Shape} {e : EltTy} {m : Memref sig .tc sp sh e} {r : LoadRect sh} {hl : m.view.LoadsAt r}
    {X : sh.Idx → Elt F e} {f : (sh.Idx → Elt F e) → St F} (hf : Focus (fun X => owns (c : Thread nD τ) m fullShare X) (fun X => OwnSt c M (f X)) X)
    {Q : α → St F → Prop} {k : (r.shape.Idx → Elt F e) → α} (h : Q (k fun x => X (r.idx x)) (f X)) :
    WP 𝒱 c bd E M (.op (.load m r hl) fun v => .ret (k v)) Q (f X) := by
  have h' := WP.ret (𝒱 := 𝒱) (c := c) (bd := bd) (E := E) (M := M) h
  unfold WP at h' ⊢
  refine hf.trans ?_
  iintro ⟨H, HK⟩
  iapply own_load $$ H
  iintro H
  iapply h'
  iapply HK
  iexact H

/-- The rule of a store to the array singled out. -/
theorem Focus.store {sp : CoreSpace} {sh : Shape} {e : EltTy} {m : Memref sig .tc sp sh e} {r : Rect sh} {w : r.shape.Idx → Elt F e} {Mk : Finset r.shape.Idx}
    {hx : (m.access r).Stores Mk} {hm : Mk = Finset.univ ∨ ∀ a, r.stride a = 1}
    {X : sh.Idx → Elt F e} {f : (sh.Idx → Elt F e) → St F} (hf : Focus (fun X => owns (c : Thread nD τ) m fullShare X) (fun X => OwnSt c M (f X)) X)
    {Q : PUnit → St F → Prop} (h : Q ⟨⟩ (f (put X r w Mk))) :
    WP 𝒱 c bd E M (Prog.lift (TpuEff.store m r w Mk hx hm)) Q (f X) := by
  have h' := WP.ret (𝒱 := 𝒱) (c := c) (bd := bd) (E := E) (M := M) h
  unfold WP at h' ⊢
  refine hf.trans ?_
  iintro ⟨H, HK⟩
  iapply (show owns (c : Thread nD τ) m fullShare X ⊢ iprop((owns (c : Thread nD τ) m fullShare (put X r w Mk) -∗ _) -∗ wp frame (wpE (defs₀ (F := F)) 𝒱 (c : Thread nD τ) bd) E (Prog.lift (TpuEff.store m r w Mk hx hm)) _) from own_store) $$ H
  iintro H
  iapply h'
  iapply HK
  iexact H

/-- Array 1, singled out of the body's arrays. -/
theorem focus1 (s : St F) : Focus (fun X => owns (c : Thread nD τ) M.a1 fullShare X) (fun X => OwnSt c M { s with cu := X }) s.cu :=
  Focus.head

/-- The rule of a load from array 1. -/
theorem WP.load1 {r : LoadRect S7} {hl : M.a1.view.LoadsAt r} {Q : (r.shape.Idx → Elt F .i32) → St F → Prop} {s : St F}
    (h : Q (fun x => s.cu (r.idx x)) s) : WP 𝒱 c bd E M (Prog.lift (.load M.a1 r hl)) Q s :=
  (focus1 s).load (k := fun v => v) h

/-- Array 2, singled out of the body's arrays. -/
theorem focus2 (s : St F) : Focus (fun X => owns (c : Thread nD τ) M.a2 fullShare X) (fun X => OwnSt c M { s with xsS := X }) s.xsS :=
  Focus.tail <| Focus.head

/-- The rule of a load from array 2. -/
theorem WP.load2 {r : LoadRect S1x2048} {hl : M.a2.view.LoadsAt r} {Q : (r.shape.Idx → Elt F .f32) → St F → Prop} {s : St F}
    (h : Q (fun x => s.xsS (r.idx x)) s) : WP 𝒱 c bd E M (Prog.lift (.load M.a2 r hl)) Q s :=
  (focus2 s).load (k := fun v => v) h

/-- Array 3, singled out of the body's arrays. -/
theorem focus3 (s : St F) : Focus (fun X => owns (c : Thread nD τ) M.a3 fullShare X) (fun X => OwnSt c M { s with xb := X }) s.xb :=
  Focus.tail <| Focus.tail <| Focus.head

/-- The rule of a load from array 3. -/
theorem WP.load3 {r : LoadRect S8192x256} {hl : M.a3.view.LoadsAt r} {Q : (r.shape.Idx → Elt F .fp8e4m3) → St F → Prop} {s : St F}
    (h : Q (fun x => s.xb (r.idx x)) s) : WP 𝒱 c bd E M (Prog.lift (.load M.a3 r hl)) Q s :=
  (focus3 s).load (k := fun v => v) h

/-- Array 4, singled out of the body's arrays. -/
theorem focus4 (s : St F) : Focus (fun X => owns (c : Thread nD τ) M.a4 fullShare X) (fun X => OwnSt c M { s with xs := X }) s.xs :=
  Focus.tail <| Focus.tail <| Focus.tail <| Focus.head

/-- The rule of a load from array 4. -/
theorem WP.load4 {r : LoadRect S1x2048} {hl : M.a4.view.LoadsAt r} {Q : (r.shape.Idx → Elt F .f32) → St F → Prop} {s : St F}
    (h : Q (fun x => s.xs (r.idx x)) s) : WP 𝒱 c bd E M (Prog.lift (.load M.a4 r hl)) Q s :=
  (focus4 s).load (k := fun v => v) h

/-- Array 5, singled out of the body's arrays. -/
theorem focus5 (s : St F) : Focus (fun X => owns (c : Thread nD τ) M.a5 fullShare X) (fun X => OwnSt c M { s with wt := X }) s.wt :=
  Focus.tail <| Focus.tail <| Focus.tail <| Focus.tail <| Focus.head

/-- The rule of a load from array 5. -/
theorem WP.load5 {r : LoadRect S4x8192} {hl : M.a5.view.LoadsAt r} {Q : (r.shape.Idx → Elt F .bf16) → St F → Prop} {s : St F}
    (h : Q (fun x => s.wt (r.idx x)) s) : WP 𝒱 c bd E M (Prog.lift (.load M.a5 r hl)) Q s :=
  (focus5 s).load (k := fun v => v) h

/-- Array 6, singled out of the body's arrays. -/
theorem focus6 (s : St F) : Focus (fun X => owns (c : Thread nD τ) M.a6 fullShare X) (fun X => OwnSt c M { s with bh := X }) s.bh :=
  Focus.tail <| Focus.tail <| Focus.tail <| Focus.tail <| Focus.tail <| Focus.head

/-- The rule of a load from array 6. -/
theorem WP.load6 {r : LoadRect S8192x1} {hl : M.a6.view.LoadsAt r} {Q : (r.shape.Idx → Elt F .f32) → St F → Prop} {s : St F}
    (h : Q (fun x => s.bh (r.idx x)) s) : WP 𝒱 c bd E M (Prog.lift (.load M.a6 r hl)) Q s :=
  (focus6 s).load (k := fun v => v) h

/-- Array 7, singled out of the body's arrays. -/
theorem focus7 (s : St F) : Focus (fun X => owns (c : Thread nD τ) M.a7 fullShare X) (fun X => OwnSt c M { s with br := X }) s.br :=
  Focus.tail <| Focus.tail <| Focus.tail <| Focus.tail <| Focus.tail <| Focus.tail <| Focus.head

/-- The rule of a load from array 7. -/
theorem WP.load7 {r : LoadRect S1x8192} {hl : M.a7.view.LoadsAt r} {Q : (r.shape.Idx → Elt F .bf16) → St F → Prop} {s : St F}
    (h : Q (fun x => s.br (r.idx x)) s) : WP 𝒱 c bd E M (Prog.lift (.load M.a7 r hl)) Q s :=
  (focus7 s).load (k := fun v => v) h

/-- Array 8, singled out of the body's arrays. -/
theorem focus8 (s : St F) : Focus (fun X => owns (c : Thread nD τ) M.a8 fullShare X) (fun X => OwnSt c M { s with y := X }) s.y :=
  Focus.tail <| Focus.tail <| Focus.tail <| Focus.tail <| Focus.tail <| Focus.tail <| Focus.tail <| Focus.head

/-- The rule of a load from array 8. -/
theorem WP.load8 {r : LoadRect S8192x256} {hl : M.a8.view.LoadsAt r} {Q : (r.shape.Idx → Elt F .fp8e4m3) → St F → Prop} {s : St F}
    (h : Q (fun x => s.y (r.idx x)) s) : WP 𝒱 c bd E M (Prog.lift (.load M.a8 r hl)) Q s :=
  (focus8 s).load (k := fun v => v) h

/-- Array 9, singled out of the body's arrays. -/
theorem focus9 (s : St F) : Focus (fun X => owns (c : Thread nD τ) M.a9 fullShare X) (fun X => OwnSt c M { s with ysc := X }) s.ysc :=
  Focus.tail <| Focus.tail <| Focus.tail <| Focus.tail <| Focus.tail <| Focus.tail <| Focus.tail <| Focus.tail <| Focus.head

/-- The rule of a load from array 9. -/
theorem WP.load9 {r : LoadRect S1x2048} {hl : M.a9.view.LoadsAt r} {Q : (r.shape.Idx → Elt F .f32) → St F → Prop} {s : St F}
    (h : Q (fun x => s.ysc (r.idx x)) s) : WP 𝒱 c bd E M (Prog.lift (.load M.a9 r hl)) Q s :=
  (focus9 s).load (k := fun v => v) h

/-- Array 10, singled out of the body's arrays. -/
theorem focus10 (s : St F) : Focus (fun X => owns (c : Thread nD τ) M.a10 fullShare X) (fun X => OwnSt c M { s with head := X }) s.head :=
  Focus.tail <| Focus.tail <| Focus.tail <| Focus.tail <| Focus.tail <| Focus.tail <| Focus.tail <| Focus.tail <| Focus.tail <| Focus.head

/-- The rule of a load from array 10. -/
theorem WP.load10 {r : LoadRect S6x3x8192} {hl : M.a10.view.LoadsAt r} {Q : (r.shape.Idx → Elt F .f32) → St F → Prop} {s : St F}
    (h : Q (fun x => s.head (r.idx x)) s) : WP 𝒱 c bd E M (Prog.lift (.load M.a10 r hl)) Q s :=
  (focus10 s).load (k := fun v => v) h

/-- Array 11, singled out of the body's arrays. -/
theorem focus11 (s : St F) : Focus (fun X => owns (c : Thread nD τ) M.a11 fullShare X) (fun X => OwnSt c M { s with fin := X }) s.fin :=
  Focus.tail <| Focus.tail <| Focus.tail <| Focus.tail <| Focus.tail <| Focus.tail <| Focus.tail <| Focus.tail <| Focus.tail <| Focus.tail <| Focus.head

/-- The rule of a load from array 11. -/
theorem WP.load11 {r : LoadRect S6x3x8192} {hl : M.a11.view.LoadsAt r} {Q : (r.shape.Idx → Elt F .bf16) → St F → Prop} {s : St F}
    (h : Q (fun x => s.fin (r.idx x)) s) : WP 𝒱 c bd E M (Prog.lift (.load M.a11 r hl)) Q s :=
  (focus11 s).load (k := fun v => v) h

/-- Array 12, singled out of the body's arrays. -/
theorem focus12 (s : St F) : Focus (fun X => owns (c : Thread nD τ) M.a12 fullShare X) (fun X => OwnSt c M { s with h := X }) s.h :=
  Focus.tail <| Focus.tail <| Focus.tail <| Focus.tail <| Focus.tail <| Focus.tail <| Focus.tail <| Focus.tail <| Focus.tail <| Focus.tail <| Focus.tail <| Focus.head

/-- The rule of a load from array 12. -/
theorem WP.load12 {r : LoadRect S8192x256} {hl : M.a12.view.LoadsAt r} {Q : (r.shape.Idx → Elt F .f32) → St F → Prop} {s : St F}
    (h : Q (fun x => s.h (r.idx x)) s) : WP 𝒱 c bd E M (Prog.lift (.load M.a12 r hl)) Q s :=
  (focus12 s).load (k := fun v => v) h

/-- Array 13, singled out of the body's arrays. -/
theorem focus13 (s : St F) : Focus (fun X => owns (c : Thread nD τ) M.a13 fullShare X) (fun X => OwnSt c M { s with l := X }) s.l :=
  Focus.tail <| Focus.tail <| Focus.tail <| Focus.tail <| Focus.tail <| Focus.tail <| Focus.tail <| Focus.tail <| Focus.tail <| Focus.tail <| Focus.tail <| Focus.tail <| Focus.head

/-- The rule of a load from array 13. -/
theorem WP.load13 {r : LoadRect S8192x256} {hl : M.a13.view.LoadsAt r} {Q : (r.shape.Idx → Elt F .bf16) → St F → Prop} {s : St F}
    (h : Q (fun x => s.l (r.idx x)) s) : WP 𝒱 c bd E M (Prog.lift (.load M.a13 r hl)) Q s :=
  (focus13 s).load (k := fun v => v) h

/-- Array 14, singled out of the body's arrays. -/
theorem focus14 (s : St F) : Focus (fun X => owns (c : Thread nD τ) M.a14 fullShare X) (fun X => OwnSt c M { s with halo := X }) s.halo :=
  Focus.tail <| Focus.tail <| Focus.tail <| Focus.tail <| Focus.tail <| Focus.tail <| Focus.tail <| Focus.tail <| Focus.tail <| Focus.tail <| Focus.tail <| Focus.tail <| Focus.tail <| Focus.head

/-- The rule of a load from array 14. -/
theorem WP.load14 {r : LoadRect S8192x128} {hl : M.a14.view.LoadsAt r} {Q : (r.shape.Idx → Elt F .bf16) → St F → Prop} {s : St F}
    (h : Q (fun x => s.halo (r.idx x)) s) : WP 𝒱 c bd E M (Prog.lift (.load M.a14 r hl)) Q s :=
  (focus14 s).load (k := fun v => v) h

/-- Array 15, singled out of the body's arrays. -/
theorem focus15 (s : St F) : Focus (fun X => owns (c : Thread nD τ) M.a15 fullShare X) (fun X => OwnSt c M { s with g := X }) s.g :=
  Focus.tail <| Focus.tail <| Focus.tail <| Focus.tail <| Focus.tail <| Focus.tail <| Focus.tail <| Focus.tail <| Focus.tail <| Focus.tail <| Focus.tail <| Focus.tail <| Focus.tail <| Focus.tail <| Focus.head

/-- The rule of a load from array 15. -/
theorem WP.load15 {r : LoadRect S8192x128} {hl : M.a15.view.LoadsAt r} {Q : (r.shape.Idx → Elt F .f32) → St F → Prop} {s : St F}
    (h : Q (fun x => s.g (r.idx x)) s) : WP 𝒱 c bd E M (Prog.lift (.load M.a15 r hl)) Q s :=
  (focus15 s).load (k := fun v => v) h

/-- Array 16, singled out of the body's arrays. -/
theorem focus16 (s : St F) : Focus (fun X => owns (c : Thread nD τ) M.a16 fullShare X) (fun X => OwnSt c M { s with zmax := X }) s.zmax :=
  Focus.tail <| Focus.tail <| Focus.tail <| Focus.tail <| Focus.tail <| Focus.tail <| Focus.tail <| Focus.tail <| Focus.tail <| Focus.tail <| Focus.tail <| Focus.tail <| Focus.tail <| Focus.tail <| Focus.tail <| Focus.head

/-- The rule of a load from array 16. -/
theorem WP.load16 {r : LoadRect S8x256} {hl : M.a16.view.LoadsAt r} {Q : (r.shape.Idx → Elt F .f32) → St F → Prop} {s : St F}
    (h : Q (fun x => s.zmax (r.idx x)) s) : WP 𝒱 c bd E M (Prog.lift (.load M.a16 r hl)) Q s :=
  (focus16 s).load (k := fun v => v) h

/-- Array 17, singled out of the body's arrays. -/
theorem focus17 (s : St F) : Focus (fun X => owns (c : Thread nD τ) M.a17 fullShare X) (fun X => OwnSt c M { s with inv := X }) s.inv :=
  Focus.tail <| Focus.tail <| Focus.tail <| Focus.tail <| Focus.tail <| Focus.tail <| Focus.tail <| Focus.tail <| Focus.tail <| Focus.tail <| Focus.tail <| Focus.tail <| Focus.tail <| Focus.tail <| Focus.tail <| Focus.tail <| Focus.last

/-- The rule of a load from array 17. -/
theorem WP.load17 {r : LoadRect S8x256} {hl : M.a17.view.LoadsAt r} {Q : (r.shape.Idx → Elt F .f32) → St F → Prop} {s : St F}
    (h : Q (fun x => s.inv (r.idx x)) s) : WP 𝒱 c bd E M (Prog.lift (.load M.a17 r hl)) Q s :=
  (focus17 s).load (k := fun v => v) h

/-- The rule of a store to array 8. -/
theorem WP.store8 {r : Rect S8192x256} {w : r.shape.Idx → Elt F .fp8e4m3} {Mk : Finset r.shape.Idx} {hx : (M.a8.access r).Stores Mk}
    {hm : Mk = Finset.univ ∨ ∀ a, r.stride a = 1} {Q : PUnit → St F → Prop} {s : St F}
    (h : Q ⟨⟩ { s with y := put s.y r w Mk }) : WP 𝒱 c bd E M (Prog.lift (TpuEff.store M.a8 r w Mk hx hm)) Q s :=
  (focus8 s).store h

/-- The rule of a store to array 9. -/
theorem WP.store9 {r : Rect S1x2048} {w : r.shape.Idx → Elt F .f32} {Mk : Finset r.shape.Idx} {hx : (M.a9.access r).Stores Mk}
    {hm : Mk = Finset.univ ∨ ∀ a, r.stride a = 1} {Q : PUnit → St F → Prop} {s : St F}
    (h : Q ⟨⟩ { s with ysc := put s.ysc r w Mk }) : WP 𝒱 c bd E M (Prog.lift (TpuEff.store M.a9 r w Mk hx hm)) Q s :=
  (focus9 s).store h

/-- The rule of a store to array 10. -/
theorem WP.store10 {r : Rect S6x3x8192} {w : r.shape.Idx → Elt F .f32} {Mk : Finset r.shape.Idx} {hx : (M.a10.access r).Stores Mk}
    {hm : Mk = Finset.univ ∨ ∀ a, r.stride a = 1} {Q : PUnit → St F → Prop} {s : St F}
    (h : Q ⟨⟩ { s with head := put s.head r w Mk }) : WP 𝒱 c bd E M (Prog.lift (TpuEff.store M.a10 r w Mk hx hm)) Q s :=
  (focus10 s).store h

/-- The rule of a store to array 11. -/
theorem WP.store11 {r : Rect S6x3x8192} {w : r.shape.Idx → Elt F .bf16} {Mk : Finset r.shape.Idx} {hx : (M.a11.access r).Stores Mk}
    {hm : Mk = Finset.univ ∨ ∀ a, r.stride a = 1} {Q : PUnit → St F → Prop} {s : St F}
    (h : Q ⟨⟩ { s with fin := put s.fin r w Mk }) : WP 𝒱 c bd E M (Prog.lift (TpuEff.store M.a11 r w Mk hx hm)) Q s :=
  (focus11 s).store h

/-- The rule of a store to array 12. -/
theorem WP.store12 {r : Rect S8192x256} {w : r.shape.Idx → Elt F .f32} {Mk : Finset r.shape.Idx} {hx : (M.a12.access r).Stores Mk}
    {hm : Mk = Finset.univ ∨ ∀ a, r.stride a = 1} {Q : PUnit → St F → Prop} {s : St F}
    (h : Q ⟨⟩ { s with h := put s.h r w Mk }) : WP 𝒱 c bd E M (Prog.lift (TpuEff.store M.a12 r w Mk hx hm)) Q s :=
  (focus12 s).store h

/-- The rule of a store to array 13. -/
theorem WP.store13 {r : Rect S8192x256} {w : r.shape.Idx → Elt F .bf16} {Mk : Finset r.shape.Idx} {hx : (M.a13.access r).Stores Mk}
    {hm : Mk = Finset.univ ∨ ∀ a, r.stride a = 1} {Q : PUnit → St F → Prop} {s : St F}
    (h : Q ⟨⟩ { s with l := put s.l r w Mk }) : WP 𝒱 c bd E M (Prog.lift (TpuEff.store M.a13 r w Mk hx hm)) Q s :=
  (focus13 s).store h

/-- The rule of a store to array 14. -/
theorem WP.store14 {r : Rect S8192x128} {w : r.shape.Idx → Elt F .bf16} {Mk : Finset r.shape.Idx} {hx : (M.a14.access r).Stores Mk}
    {hm : Mk = Finset.univ ∨ ∀ a, r.stride a = 1} {Q : PUnit → St F → Prop} {s : St F}
    (h : Q ⟨⟩ { s with halo := put s.halo r w Mk }) : WP 𝒱 c bd E M (Prog.lift (TpuEff.store M.a14 r w Mk hx hm)) Q s :=
  (focus14 s).store h

/-- The rule of a store to array 15. -/
theorem WP.store15 {r : Rect S8192x128} {w : r.shape.Idx → Elt F .f32} {Mk : Finset r.shape.Idx} {hx : (M.a15.access r).Stores Mk}
    {hm : Mk = Finset.univ ∨ ∀ a, r.stride a = 1} {Q : PUnit → St F → Prop} {s : St F}
    (h : Q ⟨⟩ { s with g := put s.g r w Mk }) : WP 𝒱 c bd E M (Prog.lift (TpuEff.store M.a15 r w Mk hx hm)) Q s :=
  (focus15 s).store h

/-- The rule of a store to array 16. -/
theorem WP.store16 {r : Rect S8x256} {w : r.shape.Idx → Elt F .f32} {Mk : Finset r.shape.Idx} {hx : (M.a16.access r).Stores Mk}
    {hm : Mk = Finset.univ ∨ ∀ a, r.stride a = 1} {Q : PUnit → St F → Prop} {s : St F}
    (h : Q ⟨⟩ { s with zmax := put s.zmax r w Mk }) : WP 𝒱 c bd E M (Prog.lift (TpuEff.store M.a16 r w Mk hx hm)) Q s :=
  (focus16 s).store h

/-- The rule of a store to array 17. -/
theorem WP.store17 {r : Rect S8x256} {w : r.shape.Idx → Elt F .f32} {Mk : Finset r.shape.Idx} {hx : (M.a17.access r).Stores Mk}
    {hm : Mk = Finset.univ ∨ ∀ a, r.stride a = 1} {Q : PUnit → St F → Prop} {s : St F}
    (h : Q ⟨⟩ { s with inv := put s.inv r w Mk }) : WP 𝒱 c bd E M (Prog.lift (TpuEff.store M.a17 r w Mk hx hm)) Q s :=
  (focus17 s).store h

/-- The rule of a read of one word of array 1. -/
theorem WP.word1 {r : Rect S7} {h1 : r.shape.numel = 1} {hp : EltTy.packing .i32 = 1} {Q : Elt F .i32 → St F → Prop} {s : St F}
    (h : Q (s.cu (r.emb (Shape.Idx.first (h1.symm ▸ Nat.one_pos)))) s) : WP 𝒱 c bd E M (smemLoad M.a1 r h1 hp) Q s :=
  (focus1 s).load (k := fun v => v (Shape.Idx.first (h1.symm ▸ Nat.one_pos))) h

/-- The rule of a read of one word of array 2. -/
theorem WP.word2 {r : Rect S1x2048} {h1 : r.shape.numel = 1} {hp : EltTy.packing .f32 = 1} {Q : Elt F .f32 → St F → Prop} {s : St F}
    (h : Q (s.xsS (r.emb (Shape.Idx.first (h1.symm ▸ Nat.one_pos)))) s) : WP 𝒱 c bd E M (smemLoad M.a2 r h1 hp) Q s :=
  (focus2 s).load (k := fun v => v (Shape.Idx.first (h1.symm ▸ Nat.one_pos))) h

end Rules

end Cert.KernelIdeal.Hand
-- ==== Proof.KernelIdealRegion.lean ====
module

public import proofs.«01_k».proof.Proof.Gen.KernelIdeal.Frame
public import proofs.«01_k».proof.Proof.KernelIdealState

/-! The region as a whole, from a specification of the body at each grid point: what the scratch buffers hold
    before and after it, and what it leaves in the first two results. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen
open Idealize.ShloMosaic.Pipeline (RDat Dat Cfg Window cellOf)

variable {F : FTy → Type} [FloatOps F]

/-- The body's scratch buffers. -/
structure Scr (F : FTy → Type) where
  h : S8192x256.Idx → Elt F .f32
  l : S8192x256.Idx → Elt F .bf16
  halo : S8192x128.Idx → Elt F .bf16
  g : S8192x128.Idx → Elt F .f32
  zmax : S8x256.Idx → Elt F .f32
  inv : S8x256.Idx → Elt F .f32

/-- The scratch part of the contents. -/
def St.scr (s : St F) : Scr F := ⟨s.h, s.l, s.halo, s.g, s.zmax, s.inv⟩

/-- What is said of the region: the scratch buffers before each point, and how the body changes the first two results there. -/
structure Spec (F : FTy → Type) where
  P : Fin (cfg0.N + 1) → Scr F → Prop
  y : Fin cfg0.N → (S8192x256.Idx → Elt F .fp8e4m3) → (S8192x256.Idx → Elt F .fp8e4m3) → Prop
  ysc : Fin cfg0.N → (S1x2048.Idx → Elt F .f32) → (S1x2048.Idx → Elt F .f32) → Prop

local notation "𝕄" => MT nD τ sig Unit (Elt F) ℕ (UR sig nD τ) ℕ

variable (m : (ℓ : Loc nD τ sig) → Buf (Elt F) ℓ) (ρ : Dev nD → PrngReg)

/-- The body's invariant: the scratch buffers at some contents of which the specification holds, and the generator register. -/
def Phi (S : Spec F) (c : Dev nD) (t : Fin (cfg0.N + 1)) : sProp 𝕄 :=
  iprop((∃ s : Scr F, ⌜S.P t s⌝ ∗ owns (c : Thread nD τ) (Memref.whole cc0_scratch0) fullShare s.h ∗ owns (c : Thread nD τ) (Memref.whole cc0_scratch1) fullShare s.l ∗ owns (c : Thread nD τ) (Memref.whole cc0_scratch2) fullShare s.halo ∗ owns (c : Thread nD τ) (Memref.whole cc0_scratch3) fullShare s.g ∗ owns (c : Thread nD τ) (Memref.whole cc0_scratch4) fullShare s.zmax ∗ owns (c : Thread nD τ) (Memref.whole cc0_scratch5) fullShare s.inv) ∗ ∃ r, prngReg c r)

/-- The proof data. -/
def rdat (S : Spec F) (c : Dev nD) : RDat τ (Elt F) Unit ℕ (UR sig nD τ) ℕ cfg0 c where
  A w := V m c (Pipeline.arrRef spec0 w)
  after := fun
    | 7 => fun t Y X => S.y t Y X
    | 8 => fun t Y X => S.ysc t Y X
    | 9 => fun _ _ _ => True
    | 10 => fun _ _ _ => True
    | 0 => fun _ Y X => X = Y
    | 1 => fun _ Y X => X = Y
    | 2 => fun _ Y X => X = Y
    | 3 => fun _ Y X => X = Y
    | 4 => fun _ Y X => X = Y
    | 5 => fun _ Y X => X = Y
    | 6 => fun _ Y X => X = Y
  Φ := Phi S c
  q := Pipeline.shareOf spec0
  owed _ := 0

/-- The references the body has at a point. -/
def mems (t : Fin cfg0.N) : Mems where
  a1 := win0_0.stage (cfg0.slots t 0)
  h1 := hstage0_0 ((cfg0.slots t 0).cast nbuf0_0)
  a2 := win0_1.stage (cfg0.slots t 1)
  h2 := hstage0_1 ((cfg0.slots t 1).cast nbuf0_1)
  a3 := win0_2.stage (cfg0.slots t 2)
  h3 := hstage0_2 ((cfg0.slots t 2).cast nbuf0_2)
  a4 := win0_3.stage (cfg0.slots t 3)
  h4 := hstage0_3 ((cfg0.slots t 3).cast nbuf0_3)
  a5 := win0_4.stage (cfg0.slots t 4)
  h5 := hstage0_4 ((cfg0.slots t 4).cast nbuf0_4)
  a6 := win0_5.stage (cfg0.slots t 5)
  h6 := hstage0_5 ((cfg0.slots t 5).cast nbuf0_5)
  a7 := win0_6.stage (cfg0.slots t 6)
  h7 := hstage0_6 ((cfg0.slots t 6).cast nbuf0_6)
  a8 := win0_7.stage (cfg0.slots t 7)
  h8 := hstage0_7 ((cfg0.slots t 7).cast nbuf0_7)
  a9 := win0_8.stage (cfg0.slots t 8)
  h9 := hstage0_8 ((cfg0.slots t 8).cast nbuf0_8)
  a10 := win0_9.stage (cfg0.slots t 9)
  h10 := hstage0_9 ((cfg0.slots t 9).cast nbuf0_9)
  a11 := win0_10.stage (cfg0.slots t 10)
  h11 := hstage0_10 ((cfg0.slots t 10).cast nbuf0_10)
  a12 := Memref.whole cc0_scratch0
  h12 := Memref.isWhole_whole _
  a13 := Memref.whole cc0_scratch1
  h13 := Memref.isWhole_whole _
  a14 := Memref.whole cc0_scratch2
  h14 := Memref.isWhole_whole _
  a15 := Memref.whole cc0_scratch3
  h15 := Memref.isWhole_whole _
  a16 := Memref.whole cc0_scratch4
  h16 := Memref.isWhole_whole _
  a17 := Memref.whole cc0_scratch5
  h17 := Memref.isWhole_whole _

/-- The inputs are the blocks the pipeline fetched. -/
structure Ins (c : Dev nD) (t : Fin cfg0.N) (s : St F) : Prop where
  cu : s.cu = iblk m c 0 t
  xsS : s.xsS = iblk m c 1 t
  xb : s.xb = iblk m c 2 t
  xs : s.xs = iblk m c 3 t
  wt : s.wt = iblk m c 4 t
  bh : s.bh = iblk m c 5 t
  br : s.br = iblk m c 6 t

/-- The body at a point meets the specification. -/
def BodySpec (S : Spec F) (c : Dev nD) (t : Fin cfg0.N) : Prop :=
  ∀ s : St F, Ins m c t s → S.P t.castSucc s.scr → ∀ M : Mems,
    WP Variants.none c none Set.univ M (cc0_conv_silu_quant (F := F) (grid0.coords t) M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17)
      (fun _ s' => Ins m c t s' ∧ S.P t.succ s'.scr ∧ S.y t s.y s'.y ∧ S.ysc t s.ysc s'.ysc) s

/-- The row of the body among the definitions. -/
theorem defs₀_row (t : Fin cfg0.N) : defs₀ (F := F) .tc cfg0.body (cfg0.bodyArgs t (cfg0.slots t)) = bodyAt0 t := by
  unfold defs₀; rw [Defs.onTc_tc]

/-- Whatever the body may find of input 0 is its block. -/
theorem finds0 (S : Spec F) (c : Dev nD) (t : Fin cfg0.N) (Y) (h : (rdat m S c).Finds 0 t Y) : Y = iblk m c 0 t := by
  obtain ⟨d, rfl⟩ := RDat.finds_in_eq_fetched (rdat m S c) 0 rfl (fun _ _ _ => rfl) (fun _ _ _ h => h) t Y h
  unfold RDat.fetched RDat.blockOf iblk
  rfl

/-- Whatever the body may find of input 1 is its block. -/
theorem finds1 (S : Spec F) (c : Dev nD) (t : Fin cfg0.N) (Y) (h : (rdat m S c).Finds 1 t Y) : Y = iblk m c 1 t := by
  obtain ⟨d, rfl⟩ := RDat.finds_in_eq_fetched (rdat m S c) 1 rfl (fun _ _ _ => rfl) (fun _ _ _ h => h) t Y h
  unfold RDat.fetched RDat.blockOf iblk
  rfl

/-- Whatever the body may find of input 2 is its block. -/
theorem finds2 (S : Spec F) (c : Dev nD) (t : Fin cfg0.N) (Y) (h : (rdat m S c).Finds 2 t Y) : Y = iblk m c 2 t := by
  obtain ⟨d, rfl⟩ := RDat.finds_in_eq_fetched (rdat m S c) 2 rfl (fun _ _ _ => rfl) (fun _ _ _ h => h) t Y h
  unfold RDat.fetched RDat.blockOf iblk
  rfl

/-- Whatever the body may find of input 3 is its block. -/
theorem finds3 (S : Spec F) (c : Dev nD) (t : Fin cfg0.N) (Y) (h : (rdat m S c).Finds 3 t Y) : Y = iblk m c 3 t := by
  obtain ⟨d, rfl⟩ := RDat.finds_in_eq_fetched (rdat m S c) 3 rfl (fun _ _ _ => rfl) (fun _ _ _ h => h) t Y h
  unfold RDat.fetched RDat.blockOf iblk
  rfl

/-- Whatever the body may find of input 4 is its block. -/
theorem finds4 (S : Spec F) (c : Dev nD) (t : Fin cfg0.N) (Y) (h : (rdat m S c).Finds 4 t Y) : Y = iblk m c 4 t := by
  obtain ⟨d, rfl⟩ := RDat.finds_in_eq_fetched (rdat m S c) 4 rfl (fun _ _ _ => rfl) (fun _ _ _ h => h) t Y h
  unfold RDat.fetched RDat.blockOf iblk
  rfl

/-- Whatever the body may find of input 5 is its block. -/
theorem finds5 (S : Spec F) (c : Dev nD) (t : Fin cfg0.N) (Y) (h : (rdat m S c).Finds 5 t Y) : Y = iblk m c 5 t := by
  obtain ⟨d, rfl⟩ := RDat.finds_in_eq_fetched (rdat m S c) 5 rfl (fun _ _ _ => rfl) (fun _ _ _ h => h) t Y h
  unfold RDat.fetched RDat.blockOf iblk
  rfl

/-- Whatever the body may find of input 6 is its block. -/
theorem finds6 (S : Spec F) (c : Dev nD) (t : Fin cfg0.N) (Y) (h : (rdat m S c).Finds 6 t Y) : Y = iblk m c 6 t := by
  obtain ⟨d, rfl⟩ := RDat.finds_in_eq_fetched (rdat m S c) 6 rfl (fun _ _ _ => rfl) (fun _ _ _ h => h) t Y h
  unfold RDat.fetched RDat.blockOf iblk
  rfl

/-- The library's body obligation, from the specification at each point. -/
theorem bodyObligation (S : Spec F) (c : Dev nD) (hB : ∀ t, BodySpec m S c t) :
    (rdat m S c).BodyObligation (defs₀ (F := F)) Variants.none () Set.univ := by
  intro t Y hY
  rw [bigSep_W0, bigSep_W0, defs₀_row]
  show iprop(Phi S c t.castSucc ∗ _ ∗ _) ⊢ _
  unfold Phi
  iintro ⟨⟨⟨%s, %hP, S0, S1, S2, S3, S4, S5⟩, Hp⟩, Ho, W0, W1, W2, W3, W4, W5, W6, W7, W8, W9, W10⟩
  have h := hB t ⟨Y 0, Y 1, Y 2, Y 3, Y 4, Y 5, Y 6, Y 7, Y 8, Y 9, Y 10, s.h, s.l, s.halo, s.g, s.zmax, s.inv⟩
    ⟨finds0 m S c t _ (hY 0), finds1 m S c t _ (hY 1), finds2 m S c t _ (hY 2), finds3 m S c t _ (hY 3), finds4 m S c t _ (hY 4), finds5 m S c t _ (hY 5), finds6 m S c t _ (hY 6)⟩ hP (mems t)
  have hi : Ins m c t ⟨Y 0, Y 1, Y 2, Y 3, Y 4, Y 5, Y 6, Y 7, Y 8, Y 9, Y 10, s.h, s.l, s.halo, s.g, s.zmax, s.inv⟩ :=
    ⟨finds0 m S c t _ (hY 0), finds1 m S c t _ (hY 1), finds2 m S c t _ (hY 2), finds3 m S c t _ (hY 3), finds4 m S c t _ (hY 4), finds5 m S c t _ (hY 5), finds6 m S c t _ (hY 6)⟩
  unfold WP at h
  iapply (wp_wand_r frame (wpE (defs₀ (F := F)) Variants.none (c : Thread nD τ) none) Set.univ)
  isplitl [W0 W1 W2 W3 W4 W5 W6 W7 W8 W9 W10 S0 S1 S2 S3 S4 S5]
  · iapply h
    unfold OwnSt
    isplitl [W0]
    · iexact W0
    isplitl [W1]
    · iexact W1
    isplitl [W2]
    · iexact W2
    isplitl [W3]
    · iexact W3
    isplitl [W4]
    · iexact W4
    isplitl [W5]
    · iexact W5
    isplitl [W6]
    · iexact W6
    isplitl [W7]
    · iexact W7
    isplitl [W8]
    · iexact W8
    isplitl [W9]
    · iexact W9
    isplitl [W10]
    · iexact W10
    isplitl [S0]
    · iexact S0
    isplitl [S1]
    · iexact S1
    isplitl [S2]
    · iexact S2
    isplitl [S3]
    · iexact S3
    isplitl [S4]
    · iexact S4
    iexact S5
  · iintro %a ⟨%s', %hs, H⟩
    unfold OwnSt
    icases H with ⟨W0, W1, W2, W3, W4, W5, W6, W7, W8, W9, W10, S0, S1, S2, S3, S4, S5⟩
    isplitl [S0 S1 S2 S3 S4 S5 Hp]
    · rw [show (rdat m S c).Φ t.succ = Phi S c t.succ from rfl]
      unfold Phi
      isplitl [S0 S1 S2 S3 S4 S5]
      · iexists s'.scr
        isplitr
        · ipureintro; exact hs.2.1
        isplitl [S0]
        · iexact S0
        isplitl [S1]
        · iexact S1
        isplitl [S2]
        · iexact S2
        isplitl [S3]
        · iexact S3
        isplitl [S4]
        · iexact S4
        iexact S5
      · iexact Hp
    isplitl [Ho]
    · iexact Ho
    isplitl [W0]
    · iexists s'.cu
      isplitr
      · ipureintro; exact hs.1.cu.trans hi.cu.symm
      · iexact W0
    isplitl [W1]
    · iexists s'.xsS
      isplitr
      · ipureintro; exact hs.1.xsS.trans hi.xsS.symm
      · iexact W1
    isplitl [W2]
    · iexists s'.xb
      isplitr
      · ipureintro; exact hs.1.xb.trans hi.xb.symm
      · iexact W2
    isplitl [W3]
    · iexists s'.xs
      isplitr
      · ipureintro; exact hs.1.xs.trans hi.xs.symm
      · iexact W3
    isplitl [W4]
    · iexists s'.wt
      isplitr
      · ipureintro; exact hs.1.wt.trans hi.wt.symm
      · iexact W4
    isplitl [W5]
    · iexists s'.bh
      isplitr
      · ipureintro; exact hs.1.bh.trans hi.bh.symm
      · iexact W5
    isplitl [W6]
    · iexists s'.br
      isplitr
      · ipureintro; exact hs.1.br.trans hi.br.symm
      · iexact W6
    isplitl [W7]
    · iexists s'.y
      isplitr
      · ipureintro; exact hs.2.2.1
      · iexact W7
    isplitl [W8]
    · iexists s'.ysc
      isplitr
      · ipureintro; exact hs.2.2.2
      · iexact W8
    isplitl [W9]
    · iexists s'.head
      isplitr
      · ipureintro; exact trivial
      · iexact W9
    iexists s'.fin
    isplitr
    · ipureintro; exact trivial
    · iexact W10

/-- A whole buffer held at some contents is owned at some reading. -/
theorem own_of_pts (c : Dev nD) (b : Ref sig .tc) :
    (iprop(∃ f : Buf (Elt F) ((c : Thread nD τ).loc b), ((c : Thread nD τ).loc b) ↦{fullShare} f) : sProp 𝕄)
      ⊢ iprop(∃ X, owns (c : Thread nD τ) (Memref.whole b) fullShare X) := by
  unfold owns
  iintro ⟨%f, H⟩
  iexists ((Memref.whole b).view.read (Elt F) f)
  iexists f
  isplitr
  · ipureintro; rfl
  · rw [View.set_whole]; iexact H

/-- Owning a whole array is holding its buffer with some contents. -/
theorem pts_of_own (c : Dev nD) (b : Ref sig .tc) (X) :
    (owns (c : Thread nD τ) (Memref.whole b) fullShare X : sProp 𝕄)
      ⊢ iprop(∃ f : Buf (Elt F) ((c : Thread nD τ).loc b), ((c : Thread nD τ).loc b) ↦{fullShare} f) := by
  unfold owns
  iintro ⟨%f, %hf, H⟩
  iexists f
  rw [View.set_whole]; iexact H

/-- The scratch buffers at any contents make the invariant at the start. -/
theorem phi_in (S : Spec F) (c : Dev nD) (h0 : ∀ s, S.P 0 s) : Pipeline.ΦA spec0 c ⊢ Phi (F := F) S c 0 := by
  unfold Pipeline.ΦA Phi
  rw [scopedRest0_eq]
  iintro ⟨⟨S0, S1, S2, S3, S4, S5⟩, Hp⟩
  ihave S0 := own_of_pts c cc0_scratch0 $$ S0
  icases S0 with ⟨%x0, S0⟩
  ihave S1 := own_of_pts c cc0_scratch1 $$ S1
  icases S1 with ⟨%x1, S1⟩
  ihave S2 := own_of_pts c cc0_scratch2 $$ S2
  icases S2 with ⟨%x2, S2⟩
  ihave S3 := own_of_pts c cc0_scratch3 $$ S3
  icases S3 with ⟨%x3, S3⟩
  ihave S4 := own_of_pts c cc0_scratch4 $$ S4
  icases S4 with ⟨%x4, S4⟩
  ihave S5 := own_of_pts c cc0_scratch5 $$ S5
  icases S5 with ⟨%x5, S5⟩
  isplitr [Hp]
  · iexists (⟨x0, x1, x2, x3, x4, x5⟩ : Scr F)
    isplitr
    · ipureintro; exact h0 _
    isplitl [S0]
    · iexact S0
    isplitl [S1]
    · iexact S1
    isplitl [S2]
    · iexact S2
    isplitl [S3]
    · iexact S3
    isplitl [S4]
    · iexact S4
    iexact S5
  · iexact Hp

/-- The invariant at the end gives the scratch buffers back. -/
theorem phi_out (S : Spec F) (c : Dev nD) (t) : Phi (F := F) S c t ⊢ Pipeline.ΦA spec0 c := by
  unfold Pipeline.ΦA Phi
  rw [scopedRest0_eq]
  iintro ⟨⟨%s, %hP, S0, S1, S2, S3, S4, S5⟩, Hp⟩
  isplitr [Hp]
  · isplitl [S0]
    · iapply pts_of_own; iexact S0
    isplitl [S1]
    · iapply pts_of_own; iexact S1
    isplitl [S2]
    · iapply pts_of_own; iexact S2
    isplitl [S3]
    · iapply pts_of_own; iexact S3
    isplitl [S4]
    · iapply pts_of_own; iexact S4
    iapply pts_of_own; iexact S5
  · iexact Hp

set_option backward.isDefEq.respectTransparency.types false in
set_option maxHeartbeats 800000 in
/-- The run of @main, from the specification of the body. -/
theorem run_main (S : Spec F) (h0 : ∀ s, S.P 0 s) (hB : ∀ c t, BodySpec m S c t) :
    θ_run defs (onTc (τ := τ) (main (F := F))) (s₀ m ρ) (fun r => RDat.FramePost cfg0 (rdat m S) (V m) r ∧ r.2.sem = fun _ => 0) :=
  Pipeline.RDat.θ_run_frame_track_shared (Q' := _) cfgs (0 : Fin 1) launch₀0 defs₀ Variants.none (rdat m S) m ρ main
    (hbody := fun c => bodyObligation m S c (hB c)) (hq := fun _ _ _ => rfl)
    (howed := fun _ _ => rfl) (V := V m) (hmain := hmain m Variants.none) (hA := fun _ _ => rfl)
    (hin := fun c => phi_in S c h0) (hout := fun c => phi_out S c _)

/-- What the run leaves of the arguments. -/
theorem args_of (S : Spec F) {r : PUnit × MemSt nD τ sig (Elt F)} (h : RDat.FramePost cfg0 (rdat m S) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
    (h.arr_in c 3 rfl).trans (V_main_arg1 m c),
    (h.arr_in c 0 rfl).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

end Cert.KernelIdeal.Hand
-- ==== Proof.KernelIdealKeeps.lean ====
module

public import proofs.«01_k».proof.Proof.Gen.KernelIdeal.Skeleton
public import proofs.«01_k».proof.Proof.KernelIdealState

/-! Invariants: `Keeps` says that a program leaves a property of the buffers true, with one closure rule
    per construct, and that the words of the boundaries it assumes in range are. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

/-- The boundaries in range: a sequence starts at least three tokens before the end and ends at least three after the start. -/
def CuOk (cu : S7.Idx → BitVec 32) : Prop :=
  ∀ j, ((j 0).val < 6 → 0 ≤ (cu j).toInt ∧ (cu j).toInt ≤ 2045) ∧ (1 ≤ (j 0).val → 3 ≤ (cu j).toInt ∧ (cu j).toInt ≤ 2048)

/-- `p` leaves `R` true and ends with a value of which `φ` holds. -/
structure Keeps (𝒱 : Variants) (c : Dev nD) (bd : Option 𝒱.V) (E : Set ℕ) (M : Mems) {α : Type} (R : St F → Prop)
    (p : Prog (TpuEff nD τ sig (Elt F) Λ₀ .tc) α) (φ : α → Prop) : Prop where
  run : ∀ s, R s → WP 𝒱 c bd E M p (fun a s' => φ a ∧ R s') s

/-- A property that says nothing of the gathered lanes, the head and the final rows, and has the boundaries in range. -/
structure GFree (R : St F → Prop) : Prop where
  cuOk : ∀ s, R s → CuOk s.cu
  head : ∀ s x, R s → R { s with head := x }
  fin : ∀ s x, R s → R { s with fin := x }
  g : ∀ s x, R s → R { s with g := x }

/-- A property of the inputs alone, with the boundaries in range. -/
structure Free (R : St F → Prop) : Prop extends GFree R where
  y : ∀ s x, R s → R { s with y := x }
  ysc : ∀ s x, R s → R { s with ysc := x }
  h : ∀ s x, R s → R { s with h := x }
  l : ∀ s x, R s → R { s with l := x }
  halo : ∀ s x, R s → R { s with halo := x }
  zmax : ∀ s x, R s → R { s with zmax := x }
  inv : ∀ s x, R s → R { s with inv := x }

section Rules
variable {𝒱 : Variants} {c : Dev nD} {bd : Option 𝒱.V} {E : Set ℕ} {M : Mems} {α β : Type} {R : St F → Prop}

/-- A returned value keeps the condition. -/
theorem Keeps.pure {a : α} : Keeps 𝒱 c bd E M R (Pure.pure a) fun _ => True := ⟨fun _ h => WP.pure ⟨trivial, h⟩⟩

/-- A returned value keeps the condition, and is of the kind it is. -/
theorem Keeps.pure_of {a : α} {φ : α → Prop} (h' : φ a) : Keeps 𝒱 c bd E M R (Pure.pure a) φ := ⟨fun _ h => WP.pure ⟨h', h⟩⟩

/-- A program that has returned keeps the condition. -/
theorem Keeps.ret {a : α} : Keeps 𝒱 c bd E M R (.ret a) fun _ => True := ⟨fun _ h => WP.ret ⟨trivial, h⟩⟩

/-- Two programs in turn keep the condition if each does. -/
theorem Keeps.bind {p : Prog (TpuEff nD τ sig (Elt F) Λ₀ .tc) α} {k : α → Prog (TpuEff nD τ sig (Elt F) Λ₀ .tc) β} {φ : α → Prop} {ψ : β → Prop}
    (hp : Keeps 𝒱 c bd E M R p φ) (hk : ∀ a, φ a → Keeps 𝒱 c bd E M R (k a) ψ) : Keeps 𝒱 c bd E M R (p >>= k) ψ :=
  ⟨fun s h => WP.bind ((hp.run s h).mono fun a s' h' => (hk a h'.1).run s' h'.2)⟩

/-- A choice keeps the condition if both branches do. -/
theorem Keeps.ite {P : Prop} [Decidable P] {p q : Prog (TpuEff nD τ sig (Elt F) Λ₀ .tc) α} {φ : α → Prop}
    (hp : Keeps 𝒱 c bd E M R p φ) (hq : Keeps 𝒱 c bd E M R q φ) : Keeps 𝒱 c bd E M R (if P then p else q) φ :=
  ⟨fun s h => WP.ite (fun _ => hp.run s h) fun _ => hq.run s h⟩

/-- A choice whose branches know the outcome keeps the condition if both do. -/
theorem Keeps.dite {P : Prop} [Decidable P] {p : P → Prog (TpuEff nD τ sig (Elt F) Λ₀ .tc) α} {q : ¬ P → Prog (TpuEff nD τ sig (Elt F) Λ₀ .tc) α} {φ : α → Prop}
    (hp : ∀ h, Keeps 𝒱 c bd E M R (p h) φ) (hq : ∀ h, Keeps 𝒱 c bd E M R (q h) φ) : Keeps 𝒱 c bd E M R (dite P p q) φ :=
  ⟨fun s h => WP.dite (fun h' => (hp h').run s h) fun h' => (hq h').run s h⟩

/-- A loop keeps the condition if its body does. -/
theorem Keeps.loop {σ : Type} {l : Scf.Loop 32} {hok : l.OK} {init : σ} {body : Fin l.trips → σ → Prog (TpuEff nD τ sig (Elt F) Λ₀ .tc) σ}
    (hb : ∀ k acc, Keeps 𝒱 c bd E M R (body k acc) fun _ => True) : Keeps 𝒱 c bd E M R (l.for hok init body) fun _ => True :=
  ⟨fun s h => WP.loop l hok init body (fun _ _ s' => R s') h (fun k acc s' h' => ((hb k acc).run s' h').mono fun _ _ h => h.2) fun _ _ h => ⟨trivial, h⟩⟩

/-- A checked side condition that holds keeps the condition. -/
theorem Keeps.assume {P : Prop} {d : Decidable P} (h : P) : Keeps 𝒱 c bd E M R (Prog.lift (TpuEff.assume P d)) fun _ => True :=
  ⟨fun _ hR => WP.assume h ⟨trivial, hR⟩⟩

/-- A boundary read is in range. -/
theorem Keeps.word1 (hR : GFree R) {b : ℕ} {inb : ∀ a, (![b] : Fin 1 → ℕ) a + S1.size a ≤ S7.size a} {h1 : (Rect.unit (s := S7) ![b] S1.size inb).shape.numel = 1} {hp : EltTy.packing .i32 = 1} :
    Keeps 𝒱 c bd E M R (smemLoad M.a1 (Rect.unit (s := S7) ![b] S1.size inb) h1 hp)
      fun v : BitVec 32 => (b < 6 → 0 ≤ v.toInt ∧ v.toInt ≤ 2045) ∧ (1 ≤ b → 3 ≤ v.toInt ∧ v.toInt ≤ 2048) := by
  constructor
  intro s hs
  refine WP.word1 ⟨?_, hs⟩
  have h := hR.cuOk s hs ((Rect.unit (s := S7) ![b] S1.size inb).emb (Shape.Idx.first (h1.symm ▸ Nat.one_pos)))
  have hb : (((Rect.unit (s := S7) ![b] S1.size inb).emb (Shape.Idx.first (h1.symm ▸ Nat.one_pos))) 0).val = b := by
    rw [Rect.emb_apply]
    have h0 : ((Shape.Idx.first (s := (Rect.unit (s := S7) ![b] S1.size inb).shape) (h1.symm ▸ Nat.one_pos)) 0).val < 1 :=
      ((Shape.Idx.first (s := (Rect.unit (s := S7) ![b] S1.size inb).shape) (h1.symm ▸ Nat.one_pos)) 0).isLt
    show b + 1 * _ = b
    omega
  rw [hb] at h
  exact h

/-- A read of one word of array 2 keeps the condition. -/
theorem Keeps.word2 {r : Rect S1x2048} {h1 : r.shape.numel = 1} {hp : EltTy.packing .f32 = 1} :
    Keeps 𝒱 c bd E M R (smemLoad M.a2 r h1 hp) fun _ => True := ⟨fun _ hs => WP.word2 ⟨trivial, hs⟩⟩

/-- A load from array 3 keeps the condition. -/
theorem Keeps.load3 {r : LoadRect S8192x256} {hl : M.a3.view.LoadsAt r} : Keeps 𝒱 c bd E M R (Prog.lift (.load M.a3 r hl)) fun _ => True :=
  ⟨fun _ hs => WP.load3 ⟨trivial, hs⟩⟩

/-- A load from array 4 keeps the condition. -/
theorem Keeps.load4 {r : LoadRect S1x2048} {hl : M.a4.view.LoadsAt r} : Keeps 𝒱 c bd E M R (Prog.lift (.load M.a4 r hl)) fun _ => True :=
  ⟨fun _ hs => WP.load4 ⟨trivial, hs⟩⟩

/-- A load from array 5 keeps the condition. -/
theorem Keeps.load5 {r : LoadRect S4x8192} {hl : M.a5.view.LoadsAt r} : Keeps 𝒱 c bd E M R (Prog.lift (.load M.a5 r hl)) fun _ => True :=
  ⟨fun _ hs => WP.load5 ⟨trivial, hs⟩⟩

/-- A load from array 6 keeps the condition. -/
theorem Keeps.load6 {r : LoadRect S8192x1} {hl : M.a6.view.LoadsAt r} : Keeps 𝒱 c bd E M R (Prog.lift (.load M.a6 r hl)) fun _ => True :=
  ⟨fun _ hs => WP.load6 ⟨trivial, hs⟩⟩

/-- A load from array 7 keeps the condition. -/
theorem Keeps.load7 {r : LoadRect S1x8192} {hl : M.a7.view.LoadsAt r} : Keeps 𝒱 c bd E M R (Prog.lift (.load M.a7 r hl)) fun _ => True :=
  ⟨fun _ hs => WP.load7 ⟨trivial, hs⟩⟩

/-- A load from array 8 keeps the condition. -/
theorem Keeps.load8 {r : LoadRect S8192x256} {hl : M.a8.view.LoadsAt r} : Keeps 𝒱 c bd E M R (Prog.lift (.load M.a8 r hl)) fun _ => True :=
  ⟨fun _ hs => WP.load8 ⟨trivial, hs⟩⟩

/-- A load from array 9 keeps the condition. -/
theorem Keeps.load9 {r : LoadRect S1x2048} {hl : M.a9.view.LoadsAt r} : Keeps 𝒱 c bd E M R (Prog.lift (.load M.a9 r hl)) fun _ => True :=
  ⟨fun _ hs => WP.load9 ⟨trivial, hs⟩⟩

/-- A load from array 10 keeps the condition. -/
theorem Keeps.load10 {r : LoadRect S6x3x8192} {hl : M.a10.view.LoadsAt r} : Keeps 𝒱 c bd E M R (Prog.lift (.load M.a10 r hl)) fun _ => True :=
  ⟨fun _ hs => WP.load10 ⟨trivial, hs⟩⟩

/-- A load from array 11 keeps the condition. -/
theorem Keeps.load11 {r : LoadRect S6x3x8192} {hl : M.a11.view.LoadsAt r} : Keeps 𝒱 c bd E M R (Prog.lift (.load M.a11 r hl)) fun _ => True :=
  ⟨fun _ hs => WP.load11 ⟨trivial, hs⟩⟩

/-- A load from array 12 keeps the condition. -/
theorem Keeps.load12 {r : LoadRect S8192x256} {hl : M.a12.view.LoadsAt r} : Keeps 𝒱 c bd E M R (Prog.lift (.load M.a12 r hl)) fun _ => True :=
  ⟨fun _ hs => WP.load12 ⟨trivial, hs⟩⟩

/-- A load from array 13 keeps the condition. -/
theorem Keeps.load13 {r : LoadRect S8192x256} {hl : M.a13.view.LoadsAt r} : Keeps 𝒱 c bd E M R (Prog.lift (.load M.a13 r hl)) fun _ => True :=
  ⟨fun _ hs => WP.load13 ⟨trivial, hs⟩⟩

/-- A load from array 14 keeps the condition. -/
theorem Keeps.load14 {r : LoadRect S8192x128} {hl : M.a14.view.LoadsAt r} : Keeps 𝒱 c bd E M R (Prog.lift (.load M.a14 r hl)) fun _ => True :=
  ⟨fun _ hs => WP.load14 ⟨trivial, hs⟩⟩

/-- A load from array 15 keeps the condition. -/
theorem Keeps.load15 {r : LoadRect S8192x128} {hl : M.a15.view.LoadsAt r} : Keeps 𝒱 c bd E M R (Prog.lift (.load M.a15 r hl)) fun _ => True :=
  ⟨fun _ hs => WP.load15 ⟨trivial, hs⟩⟩

/-- A load from array 16 keeps the condition. -/
theorem Keeps.load16 {r : LoadRect S8x256} {hl : M.a16.view.LoadsAt r} : Keeps 𝒱 c bd E M R (Prog.lift (.load M.a16 r hl)) fun _ => True :=
  ⟨fun _ hs => WP.load16 ⟨trivial, hs⟩⟩

/-- A load from array 17 keeps the condition. -/
theorem Keeps.load17 {r : LoadRect S8x256} {hl : M.a17.view.LoadsAt r} : Keeps 𝒱 c bd E M R (Prog.lift (.load M.a17 r hl)) fun _ => True :=
  ⟨fun _ hs => WP.load17 ⟨trivial, hs⟩⟩

/-- A store to array 8 keeps the condition. -/
theorem Keeps.store8 (hR : Free R) {r : Rect S8192x256} {w : r.shape.Idx → Elt F .fp8e4m3} {Mk : Finset r.shape.Idx} {hx : (M.a8.access r).Stores Mk}
    {hm : Mk = Finset.univ ∨ ∀ a, r.stride a = 1} : Keeps 𝒱 c bd E M R (Prog.lift (TpuEff.store M.a8 r w Mk hx hm)) fun _ => True :=
  ⟨fun s hs => WP.store8 ⟨trivial, hR.y s _ hs⟩⟩

/-- A store to array 9 keeps the condition. -/
theorem Keeps.store9 (hR : Free R) {r : Rect S1x2048} {w : r.shape.Idx → Elt F .f32} {Mk : Finset r.shape.Idx} {hx : (M.a9.access r).Stores Mk}
    {hm : Mk = Finset.univ ∨ ∀ a, r.stride a = 1} : Keeps 𝒱 c bd E M R (Prog.lift (TpuEff.store M.a9 r w Mk hx hm)) fun _ => True :=
  ⟨fun s hs => WP.store9 ⟨trivial, hR.ysc s _ hs⟩⟩

/-- A store to array 10 keeps the condition. -/
theorem Keeps.store10 (hR : GFree R) {r : Rect S6x3x8192} {w : r.shape.Idx → Elt F .f32} {Mk : Finset r.shape.Idx} {hx : (M.a10.access r).Stores Mk}
    {hm : Mk = Finset.univ ∨ ∀ a, r.stride a = 1} : Keeps 𝒱 c bd E M R (Prog.lift (TpuEff.store M.a10 r w Mk hx hm)) fun _ => True :=
  ⟨fun s hs => WP.store10 ⟨trivial, hR.head s _ hs⟩⟩

/-- A store to array 11 keeps the condition. -/
theorem Keeps.store11 (hR : GFree R) {r : Rect S6x3x8192} {w : r.shape.Idx → Elt F .bf16} {Mk : Finset r.shape.Idx} {hx : (M.a11.access r).Stores Mk}
    {hm : Mk = Finset.univ ∨ ∀ a, r.stride a = 1} : Keeps 𝒱 c bd E M R (Prog.lift (TpuEff.store M.a11 r w Mk hx hm)) fun _ => True :=
  ⟨fun s hs => WP.store11 ⟨trivial, hR.fin s _ hs⟩⟩

/-- A store to array 12 keeps the condition. -/
theorem Keeps.store12 (hR : Free R) {r : Rect S8192x256} {w : r.shape.Idx → Elt F .f32} {Mk : Finset r.shape.Idx} {hx : (M.a12.access r).Stores Mk}
    {hm : Mk = Finset.univ ∨ ∀ a, r.stride a = 1} : Keeps 𝒱 c bd E M R (Prog.lift (TpuEff.store M.a12 r w Mk hx hm)) fun _ => True :=
  ⟨fun s hs => WP.store12 ⟨trivial, hR.h s _ hs⟩⟩

/-- A store to array 13 keeps the condition. -/
theorem Keeps.store13 (hR : Free R) {r : Rect S8192x256} {w : r.shape.Idx → Elt F .bf16} {Mk : Finset r.shape.Idx} {hx : (M.a13.access r).Stores Mk}
    {hm : Mk = Finset.univ ∨ ∀ a, r.stride a = 1} : Keeps 𝒱 c bd E M R (Prog.lift (TpuEff.store M.a13 r w Mk hx hm)) fun _ => True :=
  ⟨fun s hs => WP.store13 ⟨trivial, hR.l s _ hs⟩⟩

/-- A store to array 14 keeps the condition. -/
theorem Keeps.store14 (hR : Free R) {r : Rect S8192x128} {w : r.shape.Idx → Elt F .bf16} {Mk : Finset r.shape.Idx} {hx : (M.a14.access r).Stores Mk}
    {hm : Mk = Finset.univ ∨ ∀ a, r.stride a = 1} : Keeps 𝒱 c bd E M R (Prog.lift (TpuEff.store M.a14 r w Mk hx hm)) fun _ => True :=
  ⟨fun s hs => WP.store14 ⟨trivial, hR.halo s _ hs⟩⟩

/-- A store to array 15 keeps the condition. -/
theorem Keeps.store15 (hR : GFree R) {r : Rect S8192x128} {w : r.shape.Idx → Elt F .f32} {Mk : Finset r.shape.Idx} {hx : (M.a15.access r).Stores Mk}
    {hm : Mk = Finset.univ ∨ ∀ a, r.stride a = 1} : Keeps 𝒱 c bd E M R (Prog.lift (TpuEff.store M.a15 r w Mk hx hm)) fun _ => True :=
  ⟨fun s hs => WP.store15 ⟨trivial, hR.g s _ hs⟩⟩

/-- A store to array 16 keeps the condition. -/
theorem Keeps.store16 (hR : Free R) {r : Rect S8x256} {w : r.shape.Idx → Elt F .f32} {Mk : Finset r.shape.Idx} {hx : (M.a16.access r).Stores Mk}
    {hm : Mk = Finset.univ ∨ ∀ a, r.stride a = 1} : Keeps 𝒱 c bd E M R (Prog.lift (TpuEff.store M.a16 r w Mk hx hm)) fun _ => True :=
  ⟨fun s hs => WP.store16 ⟨trivial, hR.zmax s _ hs⟩⟩

/-- A store to array 17 keeps the condition. -/
theorem Keeps.store17 (hR : Free R) {r : Rect S8x256} {w : r.shape.Idx → Elt F .f32} {Mk : Finset r.shape.Idx} {hx : (M.a17.access r).Stores Mk}
    {hm : Mk = Finset.univ ∨ ∀ a, r.stride a = 1} : Keeps 𝒱 c bd E M R (Prog.lift (TpuEff.store M.a17 r w Mk hx hm)) fun _ => True :=
  ⟨fun s hs => WP.store17 ⟨trivial, hR.inv s _ hs⟩⟩

end Rules

/-- A column at most 2047 is a column of the scales. -/
theorem inb_of_lt {n : ℕ} (h : n < 2048) : ∀ a, (![0, n] : Fin 2 → ℕ) a + S1x1.size a ≤ S1x2048.size a := by
  intro a
  match a with
  | 0 => exact (by decide : (0 + 1 ≤ 1))
  | 1 => exact (by show n + 1 ≤ 2048; omega)

/-- The body's side condition 1 holds at the offsets it is asked for. -/
theorem k0_chk1_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk1 i v := by
  intro _
  unfold k0_off44
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 2 holds at the offsets it is asked for. -/
theorem k0_chk2_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk2 i v := by
  intro _
  unfold k0_off45
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 3 holds at the offsets it is asked for. -/
theorem k0_chk3_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk3 i v := by
  intro _
  unfold k0_off46
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 4 holds at the offsets it is asked for. -/
theorem k0_chk4_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk4 i v := by
  intro _
  unfold k0_off47
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 5 holds at the offsets it is asked for. -/
theorem k0_chk5_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk5 i v := by
  intro _
  unfold k0_off48
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 6 holds at the offsets it is asked for. -/
theorem k0_chk6_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk6 i v := by
  intro _
  unfold k0_off49
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 7 holds at the offsets it is asked for. -/
theorem k0_chk7_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk7 i v := by
  intro _
  unfold k0_off50
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 8 holds at the offsets it is asked for. -/
theorem k0_chk8_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk8 i v := by
  intro _
  unfold k0_off51
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 9 holds at the offsets it is asked for. -/
theorem k0_chk9_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk9 i v := by
  intro _
  unfold k0_off52
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 10 holds at the offsets it is asked for. -/
theorem k0_chk10_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk10 i v := by
  intro _
  unfold k0_off53
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 11 holds at the offsets it is asked for. -/
theorem k0_chk11_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk11 i v := by
  intro _
  unfold k0_off54
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 12 holds at the offsets it is asked for. -/
theorem k0_chk12_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk12 i v := by
  intro _
  unfold k0_off55
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 13 holds at the offsets it is asked for. -/
theorem k0_chk13_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk13 i v := by
  intro _
  unfold k0_off56
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 14 holds at the offsets it is asked for. -/
theorem k0_chk14_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk14 i v := by
  intro _
  unfold k0_off57
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 15 holds at the offsets it is asked for. -/
theorem k0_chk15_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk15 i v := by
  intro _
  unfold k0_off58
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 16 holds at the offsets it is asked for. -/
theorem k0_chk16_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk16 i v := by
  intro _
  unfold k0_off59
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 17 holds at the offsets it is asked for. -/
theorem k0_chk17_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk17 i v := by
  intro _
  unfold k0_off60
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 18 holds at the offsets it is asked for. -/
theorem k0_chk18_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk18 i v := by
  intro _
  unfold k0_off61
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 19 holds at the offsets it is asked for. -/
theorem k0_chk19_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk19 i v := by
  intro _
  unfold k0_off62
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 20 holds at the offsets it is asked for. -/
theorem k0_chk20_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk20 i v := by
  intro _
  unfold k0_off63
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 21 holds at the offsets it is asked for. -/
theorem k0_chk21_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk21 i v := by
  intro _
  unfold k0_off64
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 22 holds at the offsets it is asked for. -/
theorem k0_chk22_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk22 i v := by
  intro _
  unfold k0_off65
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 23 holds at the offsets it is asked for. -/
theorem k0_chk23_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk23 i v := by
  intro _
  unfold k0_off66
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 24 holds at the offsets it is asked for. -/
theorem k0_chk24_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk24 i v := by
  intro _
  unfold k0_off67
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 25 holds at the offsets it is asked for. -/
theorem k0_chk25_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk25 i v := by
  intro _
  unfold k0_off68
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 26 holds at the offsets it is asked for. -/
theorem k0_chk26_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk26 i v := by
  intro _
  unfold k0_off69
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 27 holds at the offsets it is asked for. -/
theorem k0_chk27_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk27 i v := by
  intro _
  unfold k0_off70
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 28 holds at the offsets it is asked for. -/
theorem k0_chk28_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk28 i v := by
  intro _
  unfold k0_off71
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 29 holds at the offsets it is asked for. -/
theorem k0_chk29_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk29 i v := by
  intro _
  unfold k0_off72
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 30 holds at the offsets it is asked for. -/
theorem k0_chk30_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk30 i v := by
  intro _
  unfold k0_off73
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 31 holds at the offsets it is asked for. -/
theorem k0_chk31_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk31 i v := by
  intro _
  unfold k0_off74
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 32 holds at the offsets it is asked for. -/
theorem k0_chk32_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk32 i v := by
  intro _
  unfold k0_off75
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 33 holds at the offsets it is asked for. -/
theorem k0_chk33_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk33 i v := by
  intro _
  unfold k0_off76
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 34 holds at the offsets it is asked for. -/
theorem k0_chk34_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk34 i v := by
  intro _
  unfold k0_off77
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 35 holds at the offsets it is asked for. -/
theorem k0_chk35_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk35 i v := by
  intro _
  unfold k0_off78
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 36 holds at the offsets it is asked for. -/
theorem k0_chk36_of (i : grid0.Coords) {b : ℕ} (v : BitVec 32) (hv : (b < 6 → 0 ≤ v.toInt ∧ v.toInt ≤ 2045) ∧ (1 ≤ b → 3 ≤ v.toInt ∧ v.toInt ≤ 2048))
    (hb : b < 6) : k0_chk36 i v := by
  intro _
  unfold k0_off79
  apply inb_of_lt
  have h := hv.1 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 37 holds at the offsets it is asked for. -/
theorem k0_chk37_of (i : grid0.Coords) {b : ℕ} (v : BitVec 32) (hv : (b < 6 → 0 ≤ v.toInt ∧ v.toInt ≤ 2045) ∧ (1 ≤ b → 3 ≤ v.toInt ∧ v.toInt ≤ 2048))
    (hb : 1 ≤ b) : k0_chk37 i v := by
  intro _
  unfold k0_off80
  apply inb_of_lt
  have h := hv.2 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 38 holds at the offsets it is asked for. -/
theorem k0_chk38_of (i : grid0.Coords) {b : ℕ} (v : BitVec 32) (hv : (b < 6 → 0 ≤ v.toInt ∧ v.toInt ≤ 2045) ∧ (1 ≤ b → 3 ≤ v.toInt ∧ v.toInt ≤ 2048))
    (hb : 1 ≤ b) : k0_chk38 i v := by
  intro _
  unfold k0_off81
  apply inb_of_lt
  have h := hv.2 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 39 holds at the offsets it is asked for. -/
theorem k0_chk39_of (i : grid0.Coords) {b : ℕ} (v : BitVec 32) (hv : (b < 6 → 0 ≤ v.toInt ∧ v.toInt ≤ 2045) ∧ (1 ≤ b → 3 ≤ v.toInt ∧ v.toInt ≤ 2048))
    (hb : 1 ≤ b) : k0_chk39 i v := by
  intro _
  unfold k0_off82
  apply inb_of_lt
  have h := hv.2 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 40 holds at the offsets it is asked for. -/
theorem k0_chk40_of (i : grid0.Coords) {b : ℕ} (v : BitVec 32) (hv : (b < 6 → 0 ≤ v.toInt ∧ v.toInt ≤ 2045) ∧ (1 ≤ b → 3 ≤ v.toInt ∧ v.toInt ≤ 2048))
    (hb : 1 ≤ b) : k0_chk40 i v := by
  intro _
  unfold k0_off83
  apply inb_of_lt
  have h := hv.2 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 41 holds at the offsets it is asked for. -/
theorem k0_chk41_of (i : grid0.Coords) {b : ℕ} (v : BitVec 32) (hv : (b < 6 → 0 ≤ v.toInt ∧ v.toInt ≤ 2045) ∧ (1 ≤ b → 3 ≤ v.toInt ∧ v.toInt ≤ 2048))
    (hb : 1 ≤ b) : k0_chk41 i v := by
  intro _
  unfold k0_off84
  apply inb_of_lt
  have h := hv.2 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 42 holds at the offsets it is asked for. -/
theorem k0_chk42_of (i : grid0.Coords) {b : ℕ} (v : BitVec 32) (hv : (b < 6 → 0 ≤ v.toInt ∧ v.toInt ≤ 2045) ∧ (1 ≤ b → 3 ≤ v.toInt ∧ v.toInt ≤ 2048))
    (hb : 1 ≤ b) : k0_chk42 i v := by
  intro _
  unfold k0_off85
  apply inb_of_lt
  have h := hv.2 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 43 holds at the offsets it is asked for. -/
theorem k0_chk43_of (i : grid0.Coords) {b : ℕ} (v : BitVec 32) (hv : (b < 6 → 0 ≤ v.toInt ∧ v.toInt ≤ 2045) ∧ (1 ≤ b → 3 ≤ v.toInt ∧ v.toInt ≤ 2048))
    (hb : 1 ≤ b) : k0_chk43 i v := by
  intro _
  unfold k0_off86
  apply inb_of_lt
  have h := hv.2 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 44 holds at the offsets it is asked for. -/
theorem k0_chk44_of (i : grid0.Coords) {b : ℕ} (v : BitVec 32) (hv : (b < 6 → 0 ≤ v.toInt ∧ v.toInt ≤ 2045) ∧ (1 ≤ b → 3 ≤ v.toInt ∧ v.toInt ≤ 2048))
    (hb : 1 ≤ b) : k0_chk44 i v := by
  intro _
  unfold k0_off87
  apply inb_of_lt
  have h := hv.2 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 45 holds at the offsets it is asked for. -/
theorem k0_chk45_of (i : grid0.Coords) {b : ℕ} (v : BitVec 32) (hv : (b < 6 → 0 ≤ v.toInt ∧ v.toInt ≤ 2045) ∧ (1 ≤ b → 3 ≤ v.toInt ∧ v.toInt ≤ 2048))
    (hb : 1 ≤ b) : k0_chk45 i v := by
  intro _
  unfold k0_off88
  apply inb_of_lt
  have h := hv.2 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 46 holds at the offsets it is asked for. -/
theorem k0_chk46_of (i : grid0.Coords) {b : ℕ} (v : BitVec 32) (hv : (b < 6 → 0 ≤ v.toInt ∧ v.toInt ≤ 2045) ∧ (1 ≤ b → 3 ≤ v.toInt ∧ v.toInt ≤ 2048))
    (hb : 1 ≤ b) : k0_chk46 i v := by
  intro _
  unfold k0_off89
  apply inb_of_lt
  have h := hv.2 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 47 holds at the offsets it is asked for. -/
theorem k0_chk47_of (i : grid0.Coords) {b : ℕ} (v : BitVec 32) (hv : (b < 6 → 0 ≤ v.toInt ∧ v.toInt ≤ 2045) ∧ (1 ≤ b → 3 ≤ v.toInt ∧ v.toInt ≤ 2048))
    (hb : 1 ≤ b) : k0_chk47 i v := by
  intro _
  unfold k0_off90
  apply inb_of_lt
  have h := hv.2 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 48 holds at the offsets it is asked for. -/
theorem k0_chk48_of (i : grid0.Coords) {b : ℕ} (v : BitVec 32) (hv : (b < 6 → 0 ≤ v.toInt ∧ v.toInt ≤ 2045) ∧ (1 ≤ b → 3 ≤ v.toInt ∧ v.toInt ≤ 2048))
    (hb : 1 ≤ b) : k0_chk48 i v := by
  intro _
  unfold k0_off91
  apply inb_of_lt
  have h := hv.2 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 49 holds at the offsets it is asked for. -/
theorem k0_chk49_of (i : grid0.Coords) {b : ℕ} (v : BitVec 32) (hv : (b < 6 → 0 ≤ v.toInt ∧ v.toInt ≤ 2045) ∧ (1 ≤ b → 3 ≤ v.toInt ∧ v.toInt ≤ 2048))
    (hb : 1 ≤ b) : k0_chk49 i v := by
  intro _
  unfold k0_off92
  apply inb_of_lt
  have h := hv.2 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 50 holds at the offsets it is asked for. -/
theorem k0_chk50_of (i : grid0.Coords) {b : ℕ} (v : BitVec 32) (hv : (b < 6 → 0 ≤ v.toInt ∧ v.toInt ≤ 2045) ∧ (1 ≤ b → 3 ≤ v.toInt ∧ v.toInt ≤ 2048))
    (hb : 1 ≤ b) : k0_chk50 i v := by
  intro _
  unfold k0_off93
  apply inb_of_lt
  have h := hv.2 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 51 holds at the offsets it is asked for. -/
theorem k0_chk51_of (i : grid0.Coords) {b : ℕ} (v : BitVec 32) (hv : (b < 6 → 0 ≤ v.toInt ∧ v.toInt ≤ 2045) ∧ (1 ≤ b → 3 ≤ v.toInt ∧ v.toInt ≤ 2048))
    (hb : 1 ≤ b) : k0_chk51 i v := by
  intro _
  unfold k0_off94
  apply inb_of_lt
  have h := hv.2 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 52 holds at the offsets it is asked for. -/
theorem k0_chk52_of (i : grid0.Coords) {b : ℕ} (v : BitVec 32) (hv : (b < 6 → 0 ≤ v.toInt ∧ v.toInt ≤ 2045) ∧ (1 ≤ b → 3 ≤ v.toInt ∧ v.toInt ≤ 2048))
    (hb : 1 ≤ b) : k0_chk52 i v := by
  intro _
  unfold k0_off95
  apply inb_of_lt
  have h := hv.2 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 53 holds at the offsets it is asked for. -/
theorem k0_chk53_of (i : grid0.Coords) {b : ℕ} (v : BitVec 32) (hv : (b < 6 → 0 ≤ v.toInt ∧ v.toInt ≤ 2045) ∧ (1 ≤ b → 3 ≤ v.toInt ∧ v.toInt ≤ 2048))
    (hb : 1 ≤ b) : k0_chk53 i v := by
  intro _
  unfold k0_off96
  apply inb_of_lt
  have h := hv.2 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

/-- The body's side condition 54 holds at the offsets it is asked for. -/
theorem k0_chk54_of (i : grid0.Coords) {b : ℕ} (v : BitVec 32) (hv : (b < 6 → 0 ≤ v.toInt ∧ v.toInt ≤ 2045) ∧ (1 ≤ b → 3 ≤ v.toInt ∧ v.toInt ≤ 2048))
    (hb : 1 ≤ b) : k0_chk54 i v := by
  intro _
  unfold k0_off97
  apply inb_of_lt
  have h := hv.2 hb
  have ht := BitVec.toInt_eq_toNat_cond v
  simp only [Scalar.addi, Scalar.subi, Scalar.indexCast, IntOp.addi, IntOp.subi, BitVec.toNat_add, BitVec.toNat_sub, BitVec.toNat_ofNat, BitVec.ofNat_eq_ofNat]
  split at ht <;> omega

end Cert.KernelIdeal.Hand
-- ==== Proof.KernelIdealParts.lean ====
module

public import proofs.«01_k».proof.Proof.KernelIdealKeeps

/-! Every part and every loop body of the kernel keeps a property of its inputs alone. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

variable {𝒱 : Variants} {c : Dev nD} {bd : Option 𝒱.V} {E : Set ℕ} {M : Mems} {R : St F → Prop}

set_option maxHeartbeats 4000000

/-- `k0_t19_body` keeps the property. -/
theorem keeps_k0_t19_body (hR : GFree R) (i : grid0.Coords) (v132 : IVec S8x128 32) (v266 : BitVec 32) (v268 : BitVec 32) (k : Fin k0_t19_loop.trips) (acc : Unit) :
    Keeps 𝒱 c bd E M R (k0_t19_body (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v132 v266 v268 k acc) fun _ => True := by
  dsimp only [k0_t19_body]
  repeat' first
    | with_reducible (intro a ha)
    | with_reducible exact Keeps.pure
    | with_reducible apply Keeps.bind
    | with_reducible exact Keeps.load3
    | with_reducible exact Keeps.load15
    | with_reducible exact Keeps.store15 hR
    | exact Keeps.load3
    | exact Keeps.load15
    | exact Keeps.store15 hR
    | split

/-- `k0_t20_body` keeps the property. -/
theorem keeps_k0_t20_body (hR : GFree R) (i : grid0.Coords) (arg0 : BitVec 32) (v132 : IVec S8x128 32) (v266 : BitVec 32) (k : Fin k0_t20_loop.trips) (acc : Unit) :
    Keeps 𝒱 c bd E M R (k0_t20_body (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 arg0 v132 v266 k acc) fun _ => True := by
  dsimp only [k0_t20_body]
  repeat' first
    | with_reducible (intro a ha)
    | with_reducible exact Keeps.pure
    | with_reducible apply Keeps.bind
    | with_reducible exact Keeps.load3
    | with_reducible exact Keeps.load15
    | with_reducible exact Keeps.store15 hR
    | exact Keeps.load3
    | exact Keeps.load15
    | exact Keeps.store15 hR
    | split

/-- `k0_part9` keeps the property. -/
theorem keeps_k0_part9 (hR : GFree R) (i : grid0.Coords) (k0_h22 : k0_cond22 i = 1#1) (v582 : FVec F S24x1 .f32) (v775 : FVec F S24x1 .f32) (v872 : FVec F S24x1 .f32) (v1161 : FVec F S24x1 .f32) (v1162 : FVec F S96x128 .fp8e4m3) (c0_i32_491 : BitVec 32) (c1_i32_493 : BitVec 32) (k0_t21 : Fin k0_t21_loop.trips) :
    Keeps 𝒱 c bd E M R (k0_part9 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_h22 v582 v775 v872 v1161 v1162 c0_i32_491 c1_i32_493 k0_t21) fun _ => True := by
  rw [k0_part9_eq_skeleton]
  dsimp only [k0_part9_skel]
  repeat' first
    | with_reducible (intro a ha)
    | with_reducible exact Keeps.pure
    | with_reducible apply Keeps.bind
    | with_reducible exact Keeps.load5
    | with_reducible exact Keeps.load7
    | with_reducible exact Keeps.load15
    | exact Keeps.load5
    | exact Keeps.load7
    | exact Keeps.load15
    | split

/-- `k0_part10` keeps the property. -/
theorem keeps_k0_part10 (hR : GFree R) (i : grid0.Coords) (k0_h22 : k0_cond22 i = 1#1) (k0_t21 : Fin k0_t21_loop.trips) (v1165 : BitVec 32) (v1210 : FVec F S24x512 .f32) (v1211 : FVec F S24x512 .bf16) (v1212 : FVec F S3x512 .f32) :
    Keeps 𝒱 c bd E M R (k0_part10 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_h22 k0_t21 v1165 v1210 v1211 v1212) fun _ => True := by
  rw [k0_part10_eq_skeleton]
  dsimp only [k0_part10_skel]
  repeat' first
    | with_reducible (intro a ha)
    | with_reducible exact Keeps.pure
    | with_reducible apply Keeps.bind
    | with_reducible exact Keeps.load10
    | with_reducible exact Keeps.load11
    | with_reducible exact Keeps.store10 hR
    | with_reducible exact Keeps.store11 hR
    | exact Keeps.load10
    | exact Keeps.load11
    | exact Keeps.store10 hR
    | exact Keeps.store11 hR
    | split

/-- `k0_t21_body` keeps the property. -/
theorem keeps_k0_t21_body (hR : GFree R) (i : grid0.Coords) (k0_h22 : k0_cond22 i = 1#1) (v582 : FVec F S24x1 .f32) (v775 : FVec F S24x1 .f32) (v872 : FVec F S24x1 .f32) (v1145 : FVec F S24x1 .f32) (v1155 : FVec F S96x128 .f32) (v1157 : IVec S24x1 1) (v1159 : Elt F .f32) (k : Fin k0_t21_loop.trips) (acc : Unit) :
    Keeps 𝒱 c bd E M R (k0_t21_body (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_h22 v582 v775 v872 v1145 v1155 v1157 v1159 k acc) fun _ => True := by
  dsimp only [k0_t21_body]
  repeat' first
    | with_reducible (intro a ha)
    | with_reducible exact Keeps.pure
    | with_reducible apply keeps_k0_part9 hR
    | with_reducible apply keeps_k0_part10 hR
    | with_reducible apply Keeps.bind
    | with_reducible exact Keeps.load10
    | with_reducible exact Keeps.load11
    | with_reducible exact Keeps.store10 hR
    | with_reducible exact Keeps.store11 hR
    | exact Keeps.load10
    | exact Keeps.load11
    | exact Keeps.store10 hR
    | exact Keeps.store11 hR
    | split

/-- `k0_part1` keeps the property. -/
theorem keeps_k0_part1 (hR : Free R) (i : grid0.Coords) (k0_h1 : k0_cond1 i = 1#1) (v302 : IVec S64x128 1) (v305 : IVec S1x128 1) (c0_i32_122 : BitVec 32) (c1_i32_124 : BitVec 32) (k0_t1 : Fin k0_t1_loop.trips) :
    Keeps 𝒱 c bd E M R (k0_part1 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_h1 v302 v305 c0_i32_122 c1_i32_124 k0_t1) fun _ => True := by
  rw [k0_part1_eq_skeleton]
  dsimp only [k0_part1_skel]
  repeat' first
    | with_reducible (intro a ha)
    | with_reducible exact Keeps.pure
    | with_reducible apply Keeps.bind
    | with_reducible exact Keeps.load5
    | with_reducible exact Keeps.load13
    | with_reducible exact Keeps.store13 hR
    | exact Keeps.load5
    | exact Keeps.load13
    | exact Keeps.store13 hR
    | split

/-- `k0_part2` keeps the property. -/
theorem keeps_k0_part2 (hR : Free R) (i : grid0.Coords) (v15 : FVec F S1x256 .f32) (v29 : BitVec 32) :
    Keeps 𝒱 c bd E M R (k0_part2 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v15 v29) fun _ => True := by
  rw [k0_part2_eq_skeleton]
  dsimp only [k0_part2_skel]
  repeat' first
    | with_reducible (intro a ha)
    | with_reducible exact Keeps.pure
    | with_reducible apply Keeps.bind
    | with_reducible exact Keeps.load9
    | with_reducible exact Keeps.load17
    | with_reducible exact Keeps.store9 hR
    | with_reducible exact Keeps.store17 hR
    | exact Keeps.load9
    | exact Keeps.load17
    | exact Keeps.store9 hR
    | exact Keeps.store17 hR
    | split

/-- `k0_part3` keeps the property. -/
theorem keeps_k0_part3 (hR : Free R) (i : grid0.Coords) (v82 : FVec F S64x256 .bf16) (v83 : IVec S32x128 32) (c0_i32_116 : BitVec 32) (c1_i32_118 : BitVec 32) (k0_t2 : Fin k0_t2_loop.trips) :
    Keeps 𝒱 c bd E M R (k0_part3 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v82 v83 c0_i32_116 c1_i32_118 k0_t2) fun _ => True := by
  rw [k0_part3_eq_skeleton]
  dsimp only [k0_part3_skel]
  repeat' first
    | with_reducible (intro a ha)
    | with_reducible exact Keeps.pure
    | with_reducible apply Keeps.bind
    | with_reducible exact Keeps.load3
    | with_reducible exact Keeps.load8
    | with_reducible exact Keeps.load12
    | with_reducible exact Keeps.load14
    | with_reducible exact Keeps.load17
    | with_reducible exact Keeps.store8 hR
    | with_reducible exact Keeps.store14 hR
    | exact Keeps.load3
    | exact Keeps.load8
    | exact Keeps.load12
    | exact Keeps.load14
    | exact Keeps.load17
    | exact Keeps.store8 hR
    | exact Keeps.store14 hR
    | split

/-- `k0_part4` keeps the property. -/
theorem keeps_k0_part4 (hR : GFree R) (i : grid0.Coords) (v83 : IVec S32x128 32) (v102 : IVec S32x128 32) (v105 : IVec S32x128 32) (v113 : IVec S32x128 32) (v116 : IVec S32x128 32) (v322_lo : FVec F S32x128 .bf16) (v322_hi : FVec F S32x128 .bf16) (v324_lo : FVec F S32x128 .bf16) (v324_hi : FVec F S32x128 .bf16) (v326_lo : FVec F S32x128 .bf16) (v326_hi : FVec F S32x128 .bf16) (v334_lo : FVec F S32x128 .bf16) (v334_hi : FVec F S32x128 .bf16) (c0_i32_132 : BitVec 32) :
    Keeps 𝒱 c bd E M R (k0_part4 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v83 v102 v105 v113 v116 v322_lo v322_hi v324_lo v324_hi v326_lo v326_hi v334_lo v334_hi c0_i32_132) fun _ => True := by
  rw [k0_part4_eq_skeleton]
  dsimp only [k0_part4_skel]
  repeat' first
    | with_reducible (intro a ha)
    | with_reducible exact Keeps.pure
    | with_reducible apply Keeps.bind
    | split

/-- `k0_part5` keeps the property. -/
theorem keeps_k0_part5 (hR : Free R) (i : grid0.Coords) (v83 : IVec S32x128 32) (v91 : IVec S32x128 32) (v94 : IVec S32x128 32) (k0_t2 : Fin k0_t2_loop.trips) (arg19 : FVec F S8x256 .f32) (arg18 : BitVec 32) (v314 : BitVec 32) (v319 : FVec F S64x256 .bf16) (v322_lo : FVec F S32x128 .bf16) (v322_hi : FVec F S32x128 .bf16) (v324_lo : FVec F S32x128 .bf16) (v324_hi : FVec F S32x128 .bf16) (v326_lo : FVec F S32x128 .bf16) (v326_hi : FVec F S32x128 .bf16) (v350 : FVec F S64x256 .bf16) (v369 : FVec F S64x256 .bf16) :
    Keeps 𝒱 c bd E M R (k0_part5 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v83 v91 v94 k0_t2 arg19 arg18 v314 v319 v322_lo v322_hi v324_lo v324_hi v326_lo v326_hi v350 v369) fun _ => True := by
  rw [k0_part5_eq_skeleton]
  dsimp only [k0_part5_skel]
  repeat' first
    | with_reducible (intro a ha)
    | with_reducible exact Keeps.pure
    | with_reducible apply Keeps.bind
    | with_reducible exact Keeps.load6
    | with_reducible exact Keeps.load12
    | with_reducible exact Keeps.load13
    | with_reducible exact Keeps.store12 hR
    | exact Keeps.load6
    | exact Keeps.load12
    | exact Keeps.load13
    | exact Keeps.store12 hR
    | split

/-- `k0_t3_body` keeps the property. -/
theorem keeps_k0_t3_body (hR : GFree R) (i : grid0.Coords)  (k : Fin k0_t3_loop.trips) (acc : FVec F S8x256 .f32) :
    Keeps 𝒱 c bd E M R (k0_t3_body (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17  k acc) fun _ => True := by
  dsimp only [k0_t3_body]
  repeat' first
    | with_reducible (intro a ha)
    | with_reducible exact Keeps.pure
    | with_reducible apply Keeps.bind
    | with_reducible exact Keeps.load12
    | exact Keeps.load12
    | split

/-- `k0_part6` keeps the property. -/
theorem keeps_k0_part6 (hR : GFree R) (i : grid0.Coords)  :
    Keeps 𝒱 c bd E M R (k0_part6 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 ) fun _ => True := by
  rw [k0_part6_eq_skeleton]
  dsimp only [k0_part6_skel]
  repeat' first
    | with_reducible (intro a ha)
    | with_reducible exact Keeps.pure
    | with_reducible apply keeps_k0_t3_body hR
    | with_reducible refine Keeps.loop fun _ _ => ?_
    | with_reducible apply Keeps.bind
    | split

/-- `k0_part7` keeps the property. -/
theorem keeps_k0_part7 (hR : Free R) (i : grid0.Coords) (v82 : FVec F S64x256 .bf16) (v83 : IVec S32x128 32) (v113 : IVec S32x128 32) (v116 : IVec S32x128 32) (c0_i32_116 : BitVec 32) (c1_i32_118 : BitVec 32) (k0_t6 : Fin k0_t6_loop.trips) :
    Keeps 𝒱 c bd E M R (k0_part7 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v82 v83 v113 v116 c0_i32_116 c1_i32_118 k0_t6) fun _ => True := by
  rw [k0_part7_eq_skeleton]
  dsimp only [k0_part7_skel]
  repeat' first
    | with_reducible (intro a ha)
    | with_reducible exact Keeps.pure
    | with_reducible apply Keeps.bind
    | with_reducible exact Keeps.load3
    | with_reducible exact Keeps.load14
    | with_reducible exact Keeps.store14 hR
    | exact Keeps.load3
    | exact Keeps.load14
    | exact Keeps.store14 hR
    | split

/-- `k0_part8` keeps the property. -/
theorem keeps_k0_part8 (hR : GFree R) (i : grid0.Coords) (v83 : IVec S32x128 32) (v91 : IVec S32x128 32) (v94 : IVec S32x128 32) (v102 : IVec S32x128 32) (v105 : IVec S32x128 32) (v304_lo : FVec F S32x128 .bf16) (v304_hi : FVec F S32x128 .bf16) (v306_lo : FVec F S32x128 .bf16) (v306_hi : FVec F S32x128 .bf16) (v308_lo : FVec F S32x128 .bf16) (v308_hi : FVec F S32x128 .bf16) (v322 : FVec F S64x128 .bf16) (v331 : FVec F S64x128 .bf16) :
    Keeps 𝒱 c bd E M R (k0_part8 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v83 v91 v94 v102 v105 v304_lo v304_hi v306_lo v306_hi v308_lo v308_hi v322 v331) fun _ => True := by
  rw [k0_part8_eq_skeleton]
  dsimp only [k0_part8_skel]
  repeat' first
    | with_reducible (intro a ha)
    | with_reducible exact Keeps.pure
    | with_reducible apply Keeps.bind
    | split

/-- `k0_part11` keeps the property. -/
theorem keeps_k0_part11 (hR : GFree R) (i : grid0.Coords) (k0_h22 : k0_cond22 i = 1#1) :
    Keeps 𝒱 c bd E M R (k0_part11 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_h22) fun _ => True := by
  rw [k0_part11_eq_skeleton]
  dsimp only [k0_part11_skel]
  repeat' first
    | with_reducible (intro a ha)
    | with_reducible exact Keeps.pure
    | with_reducible apply Keeps.bind
    | with_reducible exact Keeps.word1 hR
    | with_reducible exact Keeps.word2
    | with_reducible exact Keeps.assume (k0_chk1_of i _ (by assumption) (by decide))
    | with_reducible exact Keeps.assume (k0_chk2_of i _ (by assumption) (by decide))
    | with_reducible exact Keeps.assume (k0_chk3_of i _ (by assumption) (by decide))
    | exact Keeps.word1 hR
    | exact Keeps.word2
    | exact Keeps.assume (k0_chk1_of i _ (by assumption) (by decide))
    | exact Keeps.assume (k0_chk2_of i _ (by assumption) (by decide))
    | exact Keeps.assume (k0_chk3_of i _ (by assumption) (by decide))
    | split

/-- `k0_part12` keeps the property. -/
theorem keeps_k0_part12 (hR : GFree R) (i : grid0.Coords) (k0_h22 : k0_cond22 i = 1#1) (v290 : IVec S96x128 32) (v291 : IVec S96x128 32) (v293 : IVec S24x1 32) (v320 : FVec F S96x128 .f32) (v326 : FVec F S24x1 .f32) (v327 : Elt F .i32) (k0_hw3 : k0_chk3 i v327) :
    Keeps 𝒱 c bd E M R (k0_part12 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_h22 v290 v291 v293 v320 v326 v327 k0_hw3) fun _ => True := by
  rw [k0_part12_eq_skeleton]
  dsimp only [k0_part12_skel]
  repeat' first
    | with_reducible (intro a ha)
    | with_reducible exact Keeps.pure
    | with_reducible apply Keeps.bind
    | with_reducible exact Keeps.word1 hR
    | with_reducible exact Keeps.word2
    | with_reducible exact Keeps.assume (k0_chk4_of i _ (by assumption) (by decide))
    | with_reducible exact Keeps.assume (k0_chk5_of i _ (by assumption) (by decide))
    | exact Keeps.word1 hR
    | exact Keeps.word2
    | exact Keeps.assume (k0_chk4_of i _ (by assumption) (by decide))
    | exact Keeps.assume (k0_chk5_of i _ (by assumption) (by decide))
    | split

/-- `k0_part13` keeps the property. -/
theorem keeps_k0_part13 (hR : GFree R) (i : grid0.Coords) (k0_h22 : k0_cond22 i = 1#1) (v290 : IVec S96x128 32) (v291 : IVec S96x128 32) (v293 : IVec S24x1 32) (v352 : FVec F S96x128 .f32) (v358 : FVec F S24x1 .f32) (v359 : Elt F .i32) (k0_hw5 : k0_chk5 i v359) (v361 : BitVec 32) (v363 : IVec S96x128 1) (v365 : IVec S96x128 1) :
    Keeps 𝒱 c bd E M R (k0_part13 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_h22 v290 v291 v293 v352 v358 v359 k0_hw5 v361 v363 v365) fun _ => True := by
  rw [k0_part13_eq_skeleton]
  dsimp only [k0_part13_skel]
  repeat' first
    | with_reducible (intro a ha)
    | with_reducible exact Keeps.pure
    | with_reducible apply Keeps.bind
    | with_reducible exact Keeps.word1 hR
    | with_reducible exact Keeps.word2
    | with_reducible exact Keeps.assume (k0_chk6_of i _ (by assumption) (by decide))
    | with_reducible exact Keeps.assume (k0_chk7_of i _ (by assumption) (by decide))
    | exact Keeps.word1 hR
    | exact Keeps.word2
    | exact Keeps.assume (k0_chk6_of i _ (by assumption) (by decide))
    | exact Keeps.assume (k0_chk7_of i _ (by assumption) (by decide))
    | split

/-- `k0_part14` keeps the property. -/
theorem keeps_k0_part14 (hR : GFree R) (i : grid0.Coords) (k0_h22 : k0_cond22 i = 1#1) (v290 : IVec S96x128 32) (v291 : IVec S96x128 32) (v293 : IVec S24x1 32) (v390 : FVec F S24x1 .f32) (v400 : FVec F S96x128 .f32) (v402 : IVec S24x1 1) (v404 : Elt F .f32) :
    Keeps 𝒱 c bd E M R (k0_part14 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_h22 v290 v291 v293 v390 v400 v402 v404) fun _ => True := by
  rw [k0_part14_eq_skeleton]
  dsimp only [k0_part14_skel]
  repeat' first
    | with_reducible (intro a ha)
    | with_reducible exact Keeps.pure
    | with_reducible apply Keeps.bind
    | with_reducible exact Keeps.word1 hR
    | with_reducible exact Keeps.word2
    | with_reducible exact Keeps.assume (k0_chk8_of i _ (by assumption) (by decide))
    | with_reducible exact Keeps.assume (k0_chk9_of i _ (by assumption) (by decide))
    | with_reducible exact Keeps.assume (k0_chk10_of i _ (by assumption) (by decide))
    | exact Keeps.word1 hR
    | exact Keeps.word2
    | exact Keeps.assume (k0_chk8_of i _ (by assumption) (by decide))
    | exact Keeps.assume (k0_chk9_of i _ (by assumption) (by decide))
    | exact Keeps.assume (k0_chk10_of i _ (by assumption) (by decide))
    | split

/-- `k0_part15` keeps the property. -/
theorem keeps_k0_part15 (hR : GFree R) (i : grid0.Coords) (k0_h22 : k0_cond22 i = 1#1) (v290 : IVec S96x128 32) (v291 : IVec S96x128 32) (v293 : IVec S24x1 32) (v432 : FVec F S96x128 .f32) (v438 : FVec F S24x1 .f32) (v439 : Elt F .i32) (k0_hw10 : k0_chk10 i v439) (v441 : BitVec 32) (c12_i32_183 : BitVec 32) :
    Keeps 𝒱 c bd E M R (k0_part15 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_h22 v290 v291 v293 v432 v438 v439 k0_hw10 v441 c12_i32_183) fun _ => True := by
  rw [k0_part15_eq_skeleton]
  dsimp only [k0_part15_skel]
  repeat' first
    | with_reducible (intro a ha)
    | with_reducible exact Keeps.pure
    | with_reducible apply Keeps.bind
    | with_reducible exact Keeps.word1 hR
    | with_reducible exact Keeps.word2
    | with_reducible exact Keeps.assume (k0_chk11_of i _ (by assumption) (by decide))
    | with_reducible exact Keeps.assume (k0_chk12_of i _ (by assumption) (by decide))
    | exact Keeps.word1 hR
    | exact Keeps.word2
    | exact Keeps.assume (k0_chk11_of i _ (by assumption) (by decide))
    | exact Keeps.assume (k0_chk12_of i _ (by assumption) (by decide))
    | split

/-- `k0_part16` keeps the property. -/
theorem keeps_k0_part16 (hR : GFree R) (i : grid0.Coords) (k0_h22 : k0_cond22 i = 1#1) (v290 : IVec S96x128 32) (v291 : IVec S96x128 32) (v293 : IVec S24x1 32) (v470 : FVec F S24x1 .f32) (v471 : Elt F .i32) (k0_hw12 : k0_chk12 i v471) (v473 : BitVec 32) (v480 : FVec F S96x128 .f32) (c14_i32_198 : BitVec 32) :
    Keeps 𝒱 c bd E M R (k0_part16 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_h22 v290 v291 v293 v470 v471 k0_hw12 v473 v480 c14_i32_198) fun _ => True := by
  rw [k0_part16_eq_skeleton]
  dsimp only [k0_part16_skel]
  repeat' first
    | with_reducible (intro a ha)
    | with_reducible exact Keeps.pure
    | with_reducible apply Keeps.bind
    | with_reducible exact Keeps.word1 hR
    | with_reducible exact Keeps.word2
    | with_reducible exact Keeps.assume (k0_chk13_of i _ (by assumption) (by decide))
    | with_reducible exact Keeps.assume (k0_chk14_of i _ (by assumption) (by decide))
    | with_reducible exact Keeps.assume (k0_chk15_of i _ (by assumption) (by decide))
    | exact Keeps.word1 hR
    | exact Keeps.word2
    | exact Keeps.assume (k0_chk13_of i _ (by assumption) (by decide))
    | exact Keeps.assume (k0_chk14_of i _ (by assumption) (by decide))
    | exact Keeps.assume (k0_chk15_of i _ (by assumption) (by decide))
    | split

/-- `k0_part17` keeps the property. -/
theorem keeps_k0_part17 (hR : GFree R) (i : grid0.Coords) (k0_h22 : k0_cond22 i = 1#1) (v290 : IVec S96x128 32) (v291 : IVec S96x128 32) (v293 : IVec S24x1 32) (v512 : FVec F S96x128 .f32) (v518 : FVec F S24x1 .f32) (v519 : Elt F .i32) (k0_hw15 : k0_chk15 i v519) :
    Keeps 𝒱 c bd E M R (k0_part17 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_h22 v290 v291 v293 v512 v518 v519 k0_hw15) fun _ => True := by
  rw [k0_part17_eq_skeleton]
  dsimp only [k0_part17_skel]
  repeat' first
    | with_reducible (intro a ha)
    | with_reducible exact Keeps.pure
    | with_reducible apply Keeps.bind
    | with_reducible exact Keeps.word1 hR
    | with_reducible exact Keeps.word2
    | with_reducible exact Keeps.assume (k0_chk16_of i _ (by assumption) (by decide))
    | with_reducible exact Keeps.assume (k0_chk17_of i _ (by assumption) (by decide))
    | exact Keeps.word1 hR
    | exact Keeps.word2
    | exact Keeps.assume (k0_chk16_of i _ (by assumption) (by decide))
    | exact Keeps.assume (k0_chk17_of i _ (by assumption) (by decide))
    | split

/-- `k0_part18` keeps the property. -/
theorem keeps_k0_part18 (hR : GFree R) (i : grid0.Coords) (k0_h22 : k0_cond22 i = 1#1) (v290 : IVec S96x128 32) (v291 : IVec S96x128 32) (v293 : IVec S24x1 32) (v544 : FVec F S96x128 .f32) (v550 : FVec F S24x1 .f32) (v551 : Elt F .i32) (k0_hw17 : k0_chk17 i v551) (v553 : BitVec 32) (v555 : IVec S96x128 1) (v557 : IVec S96x128 1) :
    Keeps 𝒱 c bd E M R (k0_part18 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_h22 v290 v291 v293 v544 v550 v551 k0_hw17 v553 v555 v557) fun _ => True := by
  rw [k0_part18_eq_skeleton]
  dsimp only [k0_part18_skel]
  repeat' first
    | with_reducible (intro a ha)
    | with_reducible exact Keeps.pure
    | with_reducible apply Keeps.bind
    | with_reducible exact Keeps.word1 hR
    | with_reducible exact Keeps.word2
    | with_reducible exact Keeps.assume (k0_chk18_of i _ (by assumption) (by decide))
    | with_reducible exact Keeps.assume (k0_chk19_of i _ (by assumption) (by decide))
    | exact Keeps.word1 hR
    | exact Keeps.word2
    | exact Keeps.assume (k0_chk18_of i _ (by assumption) (by decide))
    | exact Keeps.assume (k0_chk19_of i _ (by assumption) (by decide))
    | split

/-- `k0_part19` keeps the property. -/
theorem keeps_k0_part19 (hR : GFree R) (i : grid0.Coords) (k0_h22 : k0_cond22 i = 1#1) (v290 : IVec S96x128 32) (v291 : IVec S96x128 32) (v293 : IVec S24x1 32) (v583 : FVec F S24x1 .f32) (v584 : Elt F .i32) (k0_hw19 : k0_chk19 i v584) (v586 : BitVec 32) (v593 : FVec F S96x128 .f32) (v595 : IVec S24x1 1) :
    Keeps 𝒱 c bd E M R (k0_part19 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_h22 v290 v291 v293 v583 v584 k0_hw19 v586 v593 v595) fun _ => True := by
  rw [k0_part19_eq_skeleton]
  dsimp only [k0_part19_skel]
  repeat' first
    | with_reducible (intro a ha)
    | with_reducible exact Keeps.pure
    | with_reducible apply Keeps.bind
    | with_reducible exact Keeps.word1 hR
    | with_reducible exact Keeps.word2
    | with_reducible exact Keeps.assume (k0_chk20_of i _ (by assumption) (by decide))
    | with_reducible exact Keeps.assume (k0_chk21_of i _ (by assumption) (by decide))
    | with_reducible exact Keeps.assume (k0_chk22_of i _ (by assumption) (by decide))
    | exact Keeps.word1 hR
    | exact Keeps.word2
    | exact Keeps.assume (k0_chk20_of i _ (by assumption) (by decide))
    | exact Keeps.assume (k0_chk21_of i _ (by assumption) (by decide))
    | exact Keeps.assume (k0_chk22_of i _ (by assumption) (by decide))
    | split

/-- `k0_part20` keeps the property. -/
theorem keeps_k0_part20 (hR : GFree R) (i : grid0.Coords) (k0_h22 : k0_cond22 i = 1#1) (v290 : IVec S96x128 32) (v291 : IVec S96x128 32) (v293 : IVec S24x1 32) (v625 : FVec F S96x128 .f32) (v631 : FVec F S24x1 .f32) (v632 : Elt F .i32) (k0_hw22 : k0_chk22 i v632) (v633 : BitVec 32) (c1_i32_263 : BitVec 32) :
    Keeps 𝒱 c bd E M R (k0_part20 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_h22 v290 v291 v293 v625 v631 v632 k0_hw22 v633 c1_i32_263) fun _ => True := by
  rw [k0_part20_eq_skeleton]
  dsimp only [k0_part20_skel]
  repeat' first
    | with_reducible (intro a ha)
    | with_reducible exact Keeps.pure
    | with_reducible apply Keeps.bind
    | with_reducible exact Keeps.word1 hR
    | with_reducible exact Keeps.word2
    | with_reducible exact Keeps.assume (k0_chk23_of i _ (by assumption) (by decide))
    | with_reducible exact Keeps.assume (k0_chk24_of i _ (by assumption) (by decide))
    | exact Keeps.word1 hR
    | exact Keeps.word2
    | exact Keeps.assume (k0_chk23_of i _ (by assumption) (by decide))
    | exact Keeps.assume (k0_chk24_of i _ (by assumption) (by decide))
    | split

/-- `k0_part21` keeps the property. -/
theorem keeps_k0_part21 (hR : GFree R) (i : grid0.Coords) (k0_h22 : k0_cond22 i = 1#1) (v290 : IVec S96x128 32) (v291 : IVec S96x128 32) (v293 : IVec S24x1 32) (v657 : FVec F S96x128 .f32) (v663 : FVec F S24x1 .f32) (v664 : Elt F .i32) (k0_hw24 : k0_chk24 i v664) (v666 : BitVec 32) (v671 : IVec S96x128 1) (v672 : FVec F S96x128 .f32) :
    Keeps 𝒱 c bd E M R (k0_part21 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_h22 v290 v291 v293 v657 v663 v664 k0_hw24 v666 v671 v672) fun _ => True := by
  rw [k0_part21_eq_skeleton]
  dsimp only [k0_part21_skel]
  repeat' first
    | with_reducible (intro a ha)
    | with_reducible exact Keeps.pure
    | with_reducible apply Keeps.bind
    | with_reducible exact Keeps.word1 hR
    | with_reducible exact Keeps.word2
    | with_reducible exact Keeps.assume (k0_chk25_of i _ (by assumption) (by decide))
    | with_reducible exact Keeps.assume (k0_chk26_of i _ (by assumption) (by decide))
    | exact Keeps.word1 hR
    | exact Keeps.word2
    | exact Keeps.assume (k0_chk25_of i _ (by assumption) (by decide))
    | exact Keeps.assume (k0_chk26_of i _ (by assumption) (by decide))
    | split

/-- `k0_part22` keeps the property. -/
theorem keeps_k0_part22 (hR : GFree R) (i : grid0.Coords) (k0_h22 : k0_cond22 i = 1#1) (v290 : IVec S96x128 32) (v291 : IVec S96x128 32) (v293 : IVec S24x1 32) (v705 : FVec F S96x128 .f32) (v711 : FVec F S24x1 .f32) :
    Keeps 𝒱 c bd E M R (k0_part22 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_h22 v290 v291 v293 v705 v711) fun _ => True := by
  rw [k0_part22_eq_skeleton]
  dsimp only [k0_part22_skel]
  repeat' first
    | with_reducible (intro a ha)
    | with_reducible exact Keeps.pure
    | with_reducible apply Keeps.bind
    | with_reducible exact Keeps.word1 hR
    | with_reducible exact Keeps.word2
    | with_reducible exact Keeps.assume (k0_chk27_of i _ (by assumption) (by decide))
    | with_reducible exact Keeps.assume (k0_chk28_of i _ (by assumption) (by decide))
    | with_reducible exact Keeps.assume (k0_chk29_of i _ (by assumption) (by decide))
    | exact Keeps.word1 hR
    | exact Keeps.word2
    | exact Keeps.assume (k0_chk27_of i _ (by assumption) (by decide))
    | exact Keeps.assume (k0_chk28_of i _ (by assumption) (by decide))
    | exact Keeps.assume (k0_chk29_of i _ (by assumption) (by decide))
    | split

/-- `k0_part23` keeps the property. -/
theorem keeps_k0_part23 (hR : GFree R) (i : grid0.Coords) (k0_h22 : k0_cond22 i = 1#1) (v290 : IVec S96x128 32) (v291 : IVec S96x128 32) (v293 : IVec S24x1 32) (v737 : FVec F S96x128 .f32) (v743 : FVec F S24x1 .f32) (v744 : Elt F .i32) (k0_hw29 : k0_chk29 i v744) (v746 : BitVec 32) (v748 : IVec S96x128 1) (c43_i32_315 : BitVec 32) :
    Keeps 𝒱 c bd E M R (k0_part23 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_h22 v290 v291 v293 v737 v743 v744 k0_hw29 v746 v748 c43_i32_315) fun _ => True := by
  rw [k0_part23_eq_skeleton]
  dsimp only [k0_part23_skel]
  repeat' first
    | with_reducible (intro a ha)
    | with_reducible exact Keeps.pure
    | with_reducible apply Keeps.bind
    | with_reducible exact Keeps.word1 hR
    | with_reducible exact Keeps.word2
    | with_reducible exact Keeps.assume (k0_chk30_of i _ (by assumption) (by decide))
    | with_reducible exact Keeps.assume (k0_chk31_of i _ (by assumption) (by decide))
    | exact Keeps.word1 hR
    | exact Keeps.word2
    | exact Keeps.assume (k0_chk30_of i _ (by assumption) (by decide))
    | exact Keeps.assume (k0_chk31_of i _ (by assumption) (by decide))
    | split

/-- `k0_part24` keeps the property. -/
theorem keeps_k0_part24 (hR : GFree R) (i : grid0.Coords) (k0_h22 : k0_cond22 i = 1#1) (v290 : IVec S96x128 32) (v291 : IVec S96x128 32) (v293 : IVec S24x1 32) (v776 : FVec F S24x1 .f32) (v777 : Elt F .i32) (k0_hw31 : k0_chk31 i v777) (v779 : BitVec 32) (v786 : FVec F S96x128 .f32) (v787 : IVec S24x1 32) :
    Keeps 𝒱 c bd E M R (k0_part24 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_h22 v290 v291 v293 v776 v777 k0_hw31 v779 v786 v787) fun _ => True := by
  rw [k0_part24_eq_skeleton]
  dsimp only [k0_part24_skel]
  repeat' first
    | with_reducible (intro a ha)
    | with_reducible exact Keeps.pure
    | with_reducible apply Keeps.bind
    | with_reducible exact Keeps.word1 hR
    | with_reducible exact Keeps.word2
    | with_reducible exact Keeps.assume (k0_chk32_of i _ (by assumption) (by decide))
    | with_reducible exact Keeps.assume (k0_chk33_of i _ (by assumption) (by decide))
    | with_reducible exact Keeps.assume (k0_chk34_of i _ (by assumption) (by decide))
    | exact Keeps.word1 hR
    | exact Keeps.word2
    | exact Keeps.assume (k0_chk32_of i _ (by assumption) (by decide))
    | exact Keeps.assume (k0_chk33_of i _ (by assumption) (by decide))
    | exact Keeps.assume (k0_chk34_of i _ (by assumption) (by decide))
    | split

/-- `k0_part25` keeps the property. -/
theorem keeps_k0_part25 (hR : GFree R) (i : grid0.Coords) (k0_h22 : k0_cond22 i = 1#1) (v290 : IVec S96x128 32) (v291 : IVec S96x128 32) (v293 : IVec S24x1 32) (v818 : FVec F S96x128 .f32) (v824 : FVec F S24x1 .f32) (v825 : Elt F .i32) (k0_hw34 : k0_chk34 i v825) (c2_i32_349 : BitVec 32) :
    Keeps 𝒱 c bd E M R (k0_part25 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_h22 v290 v291 v293 v818 v824 v825 k0_hw34 c2_i32_349) fun _ => True := by
  rw [k0_part25_eq_skeleton]
  dsimp only [k0_part25_skel]
  repeat' first
    | with_reducible (intro a ha)
    | with_reducible exact Keeps.pure
    | with_reducible apply Keeps.bind
    | with_reducible exact Keeps.word1 hR
    | with_reducible exact Keeps.word2
    | with_reducible exact Keeps.assume (k0_chk35_of i _ (by assumption) (by decide))
    | with_reducible exact Keeps.assume (k0_chk36_of i _ (by assumption) (by decide))
    | exact Keeps.word1 hR
    | exact Keeps.word2
    | exact Keeps.assume (k0_chk35_of i _ (by assumption) (by decide))
    | exact Keeps.assume (k0_chk36_of i _ (by assumption) (by decide))
    | split

/-- `k0_part26` keeps the property. -/
theorem keeps_k0_part26 (hR : GFree R) (i : grid0.Coords) (k0_h22 : k0_cond22 i = 1#1) (v290 : IVec S96x128 32) (v291 : IVec S96x128 32) (v293 : IVec S24x1 32) (v850 : FVec F S96x128 .f32) (v856 : FVec F S24x1 .f32) (v857 : Elt F .i32) (k0_hw36 : k0_chk36 i v857) (v859 : BitVec 32) (v864 : IVec S96x128 1) :
    Keeps 𝒱 c bd E M R (k0_part26 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_h22 v290 v291 v293 v850 v856 v857 k0_hw36 v859 v864) fun _ => True := by
  rw [k0_part26_eq_skeleton]
  dsimp only [k0_part26_skel]
  repeat' first
    | with_reducible (intro a ha)
    | with_reducible exact Keeps.pure
    | with_reducible apply Keeps.bind
    | with_reducible exact Keeps.word1 hR
    | with_reducible exact Keeps.word2
    | with_reducible exact Keeps.assume (k0_chk37_of i _ (by assumption) (by decide))
    | with_reducible exact Keeps.assume (k0_chk38_of i _ (by assumption) (by decide))
    | exact Keeps.word1 hR
    | exact Keeps.word2
    | exact Keeps.assume (k0_chk37_of i _ (by assumption) (by decide))
    | exact Keeps.assume (k0_chk38_of i _ (by assumption) (by decide))
    | split

/-- `k0_part27` keeps the property. -/
theorem keeps_k0_part27 (hR : GFree R) (i : grid0.Coords) (k0_h22 : k0_cond22 i = 1#1) (v290 : IVec S96x128 32) (v291 : IVec S96x128 32) (v293 : IVec S24x1 32) (v889 : FVec F S24x1 .f32) (v890 : Elt F .i32) (k0_hw38 : k0_chk38 i v890) (v899 : FVec F S96x128 .f32) (v901 : IVec S24x1 1) :
    Keeps 𝒱 c bd E M R (k0_part27 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_h22 v290 v291 v293 v889 v890 k0_hw38 v899 v901) fun _ => True := by
  rw [k0_part27_eq_skeleton]
  dsimp only [k0_part27_skel]
  repeat' first
    | with_reducible (intro a ha)
    | with_reducible exact Keeps.pure
    | with_reducible apply Keeps.bind
    | with_reducible exact Keeps.word1 hR
    | with_reducible exact Keeps.word2
    | with_reducible exact Keeps.assume (k0_chk39_of i _ (by assumption) (by decide))
    | with_reducible exact Keeps.assume (k0_chk40_of i _ (by assumption) (by decide))
    | with_reducible exact Keeps.assume (k0_chk41_of i _ (by assumption) (by decide))
    | exact Keeps.word1 hR
    | exact Keeps.word2
    | exact Keeps.assume (k0_chk39_of i _ (by assumption) (by decide))
    | exact Keeps.assume (k0_chk40_of i _ (by assumption) (by decide))
    | exact Keeps.assume (k0_chk41_of i _ (by assumption) (by decide))
    | split

/-- `k0_part28` keeps the property. -/
theorem keeps_k0_part28 (hR : GFree R) (i : grid0.Coords) (k0_h22 : k0_cond22 i = 1#1) (v290 : IVec S96x128 32) (v291 : IVec S96x128 32) (v293 : IVec S24x1 32) (v931 : FVec F S96x128 .f32) (v937 : FVec F S24x1 .f32) (v938 : Elt F .i32) (k0_hw41 : k0_chk41 i v938) (v940 : BitVec 32) :
    Keeps 𝒱 c bd E M R (k0_part28 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_h22 v290 v291 v293 v931 v937 v938 k0_hw41 v940) fun _ => True := by
  rw [k0_part28_eq_skeleton]
  dsimp only [k0_part28_skel]
  repeat' first
    | with_reducible (intro a ha)
    | with_reducible exact Keeps.pure
    | with_reducible apply Keeps.bind
    | with_reducible exact Keeps.word1 hR
    | with_reducible exact Keeps.word2
    | with_reducible exact Keeps.assume (k0_chk42_of i _ (by assumption) (by decide))
    | with_reducible exact Keeps.assume (k0_chk43_of i _ (by assumption) (by decide))
    | exact Keeps.word1 hR
    | exact Keeps.word2
    | exact Keeps.assume (k0_chk42_of i _ (by assumption) (by decide))
    | exact Keeps.assume (k0_chk43_of i _ (by assumption) (by decide))
    | split

/-- `k0_part29` keeps the property. -/
theorem keeps_k0_part29 (hR : GFree R) (i : grid0.Coords) (k0_h22 : k0_cond22 i = 1#1) (v290 : IVec S96x128 32) (v291 : IVec S96x128 32) (v293 : IVec S24x1 32) (v969 : FVec F S24x1 .f32) (v970 : Elt F .i32) (k0_hw43 : k0_chk43 i v970) (v972 : BitVec 32) (v979 : FVec F S96x128 .f32) :
    Keeps 𝒱 c bd E M R (k0_part29 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_h22 v290 v291 v293 v969 v970 k0_hw43 v972 v979) fun r => ((4 : ℕ) < 6 → 0 ≤ (r.2.2 : BitVec 32).toInt ∧ (r.2.2 : BitVec 32).toInt ≤ 2045) ∧ (1 ≤ (4 : ℕ) → 3 ≤ (r.2.2 : BitVec 32).toInt ∧ (r.2.2 : BitVec 32).toInt ≤ 2048) := by
  rw [k0_part29_eq_skeleton]
  dsimp only [k0_part29_skel]
  repeat' first
    | with_reducible (intro a ha)
    | with_reducible exact Keeps.pure
    | exact Keeps.pure_of (by assumption)
    | with_reducible apply Keeps.bind
    | with_reducible exact Keeps.word1 hR
    | with_reducible exact Keeps.word2
    | with_reducible exact Keeps.assume (k0_chk44_of i _ (by assumption) (by decide))
    | with_reducible exact Keeps.assume (k0_chk45_of i _ (by assumption) (by decide))
    | exact Keeps.word1 hR
    | exact Keeps.word2
    | exact Keeps.assume (k0_chk44_of i _ (by assumption) (by decide))
    | exact Keeps.assume (k0_chk45_of i _ (by assumption) (by decide))
    | split

/-- `k0_part30` keeps the property. -/
theorem keeps_k0_part30 (hR : GFree R) (i : grid0.Coords) (k0_h22 : k0_cond22 i = 1#1) (v290 : IVec S96x128 32) (v291 : IVec S96x128 32) (v293 : IVec S24x1 32) (v1011 : FVec F S96x128 .f32) (v1017 : FVec F S24x1 .f32) (v1018 : Elt F .i32) (hw : ((4 : ℕ) < 6 → 0 ≤ (v1018 : BitVec 32).toInt ∧ (v1018 : BitVec 32).toInt ≤ 2045) ∧ (1 ≤ (4 : ℕ) → 3 ≤ (v1018 : BitVec 32).toInt ∧ (v1018 : BitVec 32).toInt ≤ 2048)) :
    Keeps 𝒱 c bd E M R (k0_part30 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_h22 v290 v291 v293 v1011 v1017 v1018) fun _ => True := by
  rw [k0_part30_eq_skeleton]
  dsimp only [k0_part30_skel]
  repeat' first
    | with_reducible (intro a ha)
    | with_reducible exact Keeps.pure
    | with_reducible apply Keeps.bind
    | with_reducible exact Keeps.word1 hR
    | with_reducible exact Keeps.word2
    | with_reducible exact Keeps.assume (k0_chk46_of i _ (by assumption) (by decide))
    | with_reducible exact Keeps.assume (k0_chk47_of i _ (by assumption) (by decide))
    | with_reducible exact Keeps.assume (k0_chk48_of i _ (by assumption) (by decide))
    | exact Keeps.word1 hR
    | exact Keeps.word2
    | exact Keeps.assume (k0_chk46_of i _ (by assumption) (by decide))
    | exact Keeps.assume (k0_chk47_of i _ (by assumption) (by decide))
    | exact Keeps.assume (k0_chk48_of i _ (by assumption) (by decide))
    | split

/-- `k0_part31` keeps the property. -/
theorem keeps_k0_part31 (hR : GFree R) (i : grid0.Coords) (k0_h22 : k0_cond22 i = 1#1) (v290 : IVec S96x128 32) (v291 : IVec S96x128 32) (v293 : IVec S24x1 32) (v1043 : FVec F S96x128 .f32) (v1049 : FVec F S24x1 .f32) (v1050 : Elt F .i32) (k0_hw48 : k0_chk48 i v1050) (v1052 : BitVec 32) (v1054 : IVec S96x128 1) (v1055 : IVec S96x128 32) :
    Keeps 𝒱 c bd E M R (k0_part31 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_h22 v290 v291 v293 v1043 v1049 v1050 k0_hw48 v1052 v1054 v1055) fun _ => True := by
  rw [k0_part31_eq_skeleton]
  dsimp only [k0_part31_skel]
  repeat' first
    | with_reducible (intro a ha)
    | with_reducible exact Keeps.pure
    | with_reducible apply Keeps.bind
    | with_reducible exact Keeps.word1 hR
    | with_reducible exact Keeps.word2
    | with_reducible exact Keeps.assume (k0_chk49_of i _ (by assumption) (by decide))
    | with_reducible exact Keeps.assume (k0_chk50_of i _ (by assumption) (by decide))
    | exact Keeps.word1 hR
    | exact Keeps.word2
    | exact Keeps.assume (k0_chk49_of i _ (by assumption) (by decide))
    | exact Keeps.assume (k0_chk50_of i _ (by assumption) (by decide))
    | split

/-- `k0_part32` keeps the property. -/
theorem keeps_k0_part32 (hR : GFree R) (i : grid0.Coords) (k0_h22 : k0_cond22 i = 1#1) (v290 : IVec S96x128 32) (v291 : IVec S96x128 32) (v293 : IVec S24x1 32) (v1081 : FVec F S24x1 .f32) (v1082 : Elt F .i32) (k0_hw50 : k0_chk50 i v1082) (v1091 : FVec F S96x128 .f32) (v1093 : IVec S24x1 1) :
    Keeps 𝒱 c bd E M R (k0_part32 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_h22 v290 v291 v293 v1081 v1082 k0_hw50 v1091 v1093) fun _ => True := by
  rw [k0_part32_eq_skeleton]
  dsimp only [k0_part32_skel]
  repeat' first
    | with_reducible (intro a ha)
    | with_reducible exact Keeps.pure
    | with_reducible apply Keeps.bind
    | with_reducible exact Keeps.word1 hR
    | with_reducible exact Keeps.word2
    | with_reducible exact Keeps.assume (k0_chk51_of i _ (by assumption) (by decide))
    | with_reducible exact Keeps.assume (k0_chk52_of i _ (by assumption) (by decide))
    | with_reducible exact Keeps.assume (k0_chk53_of i _ (by assumption) (by decide))
    | exact Keeps.word1 hR
    | exact Keeps.word2
    | exact Keeps.assume (k0_chk51_of i _ (by assumption) (by decide))
    | exact Keeps.assume (k0_chk52_of i _ (by assumption) (by decide))
    | exact Keeps.assume (k0_chk53_of i _ (by assumption) (by decide))
    | split

/-- `k0_part33` keeps the property. -/
theorem keeps_k0_part33 (hR : GFree R) (i : grid0.Coords) (k0_h22 : k0_cond22 i = 1#1) :
    Keeps 𝒱 c bd E M R (k0_part33 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_h22) fun _ => True := by
  rw [k0_part33_eq_skeleton]
  dsimp only [k0_part33_skel]
  repeat' first
    | with_reducible (intro a ha)
    | with_reducible exact Keeps.pure
    | with_reducible apply keeps_k0_part11 hR
    | with_reducible apply keeps_k0_part12 hR
    | with_reducible apply keeps_k0_part13 hR
    | with_reducible apply keeps_k0_part14 hR
    | with_reducible apply keeps_k0_part15 hR
    | with_reducible apply keeps_k0_part16 hR
    | with_reducible apply keeps_k0_part17 hR
    | with_reducible apply keeps_k0_part18 hR
    | with_reducible apply keeps_k0_part19 hR
    | with_reducible apply keeps_k0_part20 hR
    | with_reducible apply keeps_k0_part21 hR
    | with_reducible apply keeps_k0_part22 hR
    | with_reducible apply keeps_k0_part23 hR
    | with_reducible apply keeps_k0_part24 hR
    | with_reducible apply keeps_k0_part25 hR
    | with_reducible apply keeps_k0_part26 hR
    | with_reducible apply keeps_k0_part27 hR
    | with_reducible apply keeps_k0_part28 hR
    | with_reducible apply keeps_k0_part29 hR
    | with_reducible (apply keeps_k0_part30 hR; assumption)
    | with_reducible apply keeps_k0_part31 hR
    | with_reducible apply keeps_k0_part32 hR
    | with_reducible apply Keeps.bind
    | with_reducible exact Keeps.word1 hR
    | with_reducible exact Keeps.word2
    | with_reducible exact Keeps.assume (k0_chk54_of i _ (by assumption) (by decide))
    | exact Keeps.word1 hR
    | exact Keeps.word2
    | exact Keeps.assume (k0_chk54_of i _ (by assumption) (by decide))
    | split

/-- `k0_t1_body` keeps the property. -/
theorem keeps_k0_t1_body (hR : Free R) (i : grid0.Coords) (k0_h1 : k0_cond1 i = 1#1) (k : Fin k0_t1_loop.trips) (acc : Unit) :
    Keeps 𝒱 c bd E M R (k0_t1_body (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_h1 k acc) fun _ => True := by
  dsimp only [k0_t1_body]
  repeat' first
    | with_reducible (intro a ha)
    | with_reducible exact Keeps.pure
    | with_reducible apply keeps_k0_part1 hR
    | with_reducible apply Keeps.bind
    | with_reducible exact Keeps.load13
    | with_reducible exact Keeps.store13 hR
    | exact Keeps.load13
    | exact Keeps.store13 hR
    | split

/-- `k0_part34` keeps the property. -/
theorem keeps_k0_part34 (hR : Free R) (i : grid0.Coords)  :
    Keeps 𝒱 c bd E M R (k0_part34 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 ) fun _ => True := by
  rw [k0_part34_eq_skeleton]
  dsimp only [k0_part34_skel]
  repeat' first
    | with_reducible (intro a ha)
    | with_reducible exact Keeps.pure
    | with_reducible refine Keeps.dite (fun _ => ?_) (fun _ => ?_)
    | with_reducible refine Keeps.ite ?_ ?_
    | with_reducible apply keeps_k0_t1_body hR
    | with_reducible apply keeps_k0_part2 hR
    | with_reducible refine Keeps.loop fun _ _ => ?_
    | with_reducible apply Keeps.bind
    | with_reducible exact Keeps.load14
    | with_reducible exact Keeps.load15
    | with_reducible exact Keeps.load16
    | with_reducible exact Keeps.store14 hR
    | with_reducible exact Keeps.store15 hR.toGFree
    | exact Keeps.load14
    | exact Keeps.load15
    | exact Keeps.load16
    | exact Keeps.store14 hR
    | exact Keeps.store15 hR.toGFree
    | split

/-- `k0_part35` keeps the property. -/
theorem keeps_k0_part35 (hR : GFree R) (i : grid0.Coords) (v35 : BitVec 32) :
    Keeps 𝒱 c bd E M R (k0_part35 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v35) fun _ => True := by
  rw [k0_part35_eq_skeleton]
  dsimp only [k0_part35_skel]
  repeat' first
    | with_reducible (intro a ha)
    | with_reducible exact Keeps.pure
    | with_reducible apply Keeps.bind
    | with_reducible exact Keeps.load4
    | with_reducible exact Keeps.word1 hR
    | exact Keeps.load4
    | exact Keeps.word1 hR
    | split

/-- `k0_t2_body` keeps the property. -/
theorem keeps_k0_t2_body (hR : Free R) (i : grid0.Coords) (v25 : BitVec 1) (v29 : BitVec 32) (v30 : BitVec 1) (v31 : BitVec 1) (v76 : IVec S1x256 32) (v82 : FVec F S64x256 .bf16) (v83 : IVec S32x128 32) (k : Fin k0_t2_loop.trips) (acc : FVec F S8x256 .f32) :
    Keeps 𝒱 c bd E M R (k0_t2_body (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v25 v29 v30 v31 v76 v82 v83 k acc) fun _ => True := by
  dsimp only [k0_t2_body]
  repeat' first
    | with_reducible (intro a ha)
    | with_reducible exact Keeps.pure
    | with_reducible apply keeps_k0_part3 hR
    | with_reducible apply keeps_k0_part4 hR.toGFree
    | with_reducible apply keeps_k0_part5 hR
    | with_reducible apply Keeps.bind
    | split

/-- `k0_t4_body` keeps the property. -/
theorem keeps_k0_t4_body (hR : Free R) (i : grid0.Coords) (v25 : BitVec 1) (v29 : BitVec 32) (v30 : BitVec 1) (v31 : BitVec 1) (v76 : IVec S1x256 32) (v82 : FVec F S64x256 .bf16) (k : Fin k0_t4_loop.trips) (acc : Unit) :
    Keeps 𝒱 c bd E M R (k0_t4_body (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v25 v29 v30 v31 v76 v82 k acc) fun _ => True := by
  dsimp only [k0_t4_body]
  repeat' first
    | with_reducible (intro a ha)
    | with_reducible exact Keeps.pure
    | with_reducible apply Keeps.bind
    | with_reducible exact Keeps.load8
    | with_reducible exact Keeps.load12
    | with_reducible exact Keeps.load17
    | with_reducible exact Keeps.store8 hR
    | exact Keeps.load8
    | exact Keeps.load12
    | exact Keeps.load17
    | exact Keeps.store8 hR
    | split

/-- `k0_t5_body` keeps the property. -/
theorem keeps_k0_t5_body (hR : Free R) (i : grid0.Coords) (v25 : BitVec 1) (v29 : BitVec 32) (v30 : BitVec 1) (v31 : BitVec 1) (v76 : IVec S1x256 32) (v82 : FVec F S64x256 .bf16) (k : Fin k0_t5_loop.trips) (acc : Unit) :
    Keeps 𝒱 c bd E M R (k0_t5_body (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v25 v29 v30 v31 v76 v82 k acc) fun _ => True := by
  dsimp only [k0_t5_body]
  repeat' first
    | with_reducible (intro a ha)
    | with_reducible exact Keeps.pure
    | with_reducible apply Keeps.bind
    | with_reducible exact Keeps.load8
    | with_reducible exact Keeps.load12
    | with_reducible exact Keeps.load17
    | with_reducible exact Keeps.store8 hR
    | exact Keeps.load8
    | exact Keeps.load12
    | exact Keeps.load17
    | exact Keeps.store8 hR
    | split

/-- `k0_part36` keeps the property. -/
theorem keeps_k0_part36 (hR : Free R) (i : grid0.Coords) (v25 : BitVec 1) (v29 : BitVec 32) (v30 : BitVec 1) (v31 : BitVec 1) (v76 : IVec S1x256 32) (v82 : FVec F S64x256 .bf16) :
    Keeps 𝒱 c bd E M R (k0_part36 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v25 v29 v30 v31 v76 v82) fun _ => True := by
  rw [k0_part36_eq_skeleton]
  dsimp only [k0_part36_skel]
  repeat' first
    | with_reducible (intro a ha)
    | with_reducible exact Keeps.pure
    | with_reducible refine Keeps.ite ?_ ?_
    | with_reducible apply keeps_k0_t2_body hR
    | with_reducible apply keeps_k0_part6 hR.toGFree
    | with_reducible apply keeps_k0_t4_body hR
    | with_reducible apply keeps_k0_t5_body hR
    | with_reducible refine Keeps.loop fun _ _ => ?_
    | with_reducible apply Keeps.bind
    | with_reducible exact Keeps.load9
    | with_reducible exact Keeps.load16
    | with_reducible exact Keeps.load17
    | with_reducible exact Keeps.store9 hR
    | with_reducible exact Keeps.store16 hR
    | with_reducible exact Keeps.store17 hR
    | exact Keeps.load9
    | exact Keeps.load16
    | exact Keeps.load17
    | exact Keeps.store9 hR
    | exact Keeps.store16 hR
    | exact Keeps.store17 hR
    | split

/-- `k0_t6_body` keeps the property. -/
theorem keeps_k0_t6_body (hR : Free R) (i : grid0.Coords) (arg0 : BitVec 32) (v30 : BitVec 1) (v82 : FVec F S64x256 .bf16) (v83 : IVec S32x128 32) (v91 : IVec S32x128 32) (v94 : IVec S32x128 32) (v102 : IVec S32x128 32) (v105 : IVec S32x128 32) (v113 : IVec S32x128 32) (v116 : IVec S32x128 32) (v117 : FVec F S8x256 .f32) (v127 : BitVec 1) (k : Fin k0_t6_loop.trips) (acc : FVec F S8x256 .f32) :
    Keeps 𝒱 c bd E M R (k0_t6_body (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 arg0 v30 v82 v83 v91 v94 v102 v105 v113 v116 v117 v127 k acc) fun _ => True := by
  dsimp only [k0_t6_body]
  repeat' first
    | with_reducible (intro a ha)
    | with_reducible exact Keeps.pure
    | with_reducible apply keeps_k0_part7 hR
    | with_reducible apply keeps_k0_part8 hR.toGFree
    | with_reducible apply Keeps.bind
    | with_reducible exact Keeps.load6
    | with_reducible exact Keeps.load12
    | with_reducible exact Keeps.load13
    | with_reducible exact Keeps.store12 hR
    | exact Keeps.load6
    | exact Keeps.load12
    | exact Keeps.load13
    | exact Keeps.store12 hR
    | split

/-- `k0_t7_body` keeps the property. -/
theorem keeps_k0_t7_body (hR : GFree R) (i : grid0.Coords) (arg0 : BitVec 32) (v30 : BitVec 1) (v82 : FVec F S64x256 .bf16) (v83 : IVec S32x128 32) (v91 : IVec S32x128 32) (v94 : IVec S32x128 32) (v102 : IVec S32x128 32) (v105 : IVec S32x128 32) (v113 : IVec S32x128 32) (v116 : IVec S32x128 32) (v117 : FVec F S8x256 .f32) (v127 : BitVec 1) (v133 : Elt F .i32) (k : Fin k0_t7_loop.trips) (acc : Unit) :
    Keeps 𝒱 c bd E M R (k0_t7_body (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 arg0 v30 v82 v83 v91 v94 v102 v105 v113 v116 v117 v127 v133 k acc) fun _ => True := by
  dsimp only [k0_t7_body]
  repeat' first
    | with_reducible (intro a ha)
    | with_reducible exact Keeps.pure
    | with_reducible apply Keeps.bind
    | with_reducible exact Keeps.load3
    | with_reducible exact Keeps.load15
    | with_reducible exact Keeps.store15 hR
    | exact Keeps.load3
    | exact Keeps.load15
    | exact Keeps.store15 hR
    | split

/-- `k0_t8_body` keeps the property. -/
theorem keeps_k0_t8_body (hR : GFree R) (i : grid0.Coords) (arg0 : BitVec 32) (v30 : BitVec 1) (v82 : FVec F S64x256 .bf16) (v83 : IVec S32x128 32) (v91 : IVec S32x128 32) (v94 : IVec S32x128 32) (v102 : IVec S32x128 32) (v105 : IVec S32x128 32) (v113 : IVec S32x128 32) (v116 : IVec S32x128 32) (v117 : FVec F S8x256 .f32) (v127 : BitVec 1) (v133 : Elt F .i32) (k : Fin k0_t8_loop.trips) (acc : Unit) :
    Keeps 𝒱 c bd E M R (k0_t8_body (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 arg0 v30 v82 v83 v91 v94 v102 v105 v113 v116 v117 v127 v133 k acc) fun _ => True := by
  dsimp only [k0_t8_body]
  repeat' first
    | with_reducible (intro a ha)
    | with_reducible exact Keeps.pure
    | with_reducible apply Keeps.bind
    | with_reducible exact Keeps.load3
    | with_reducible exact Keeps.load15
    | with_reducible exact Keeps.store15 hR
    | exact Keeps.load3
    | exact Keeps.load15
    | exact Keeps.store15 hR
    | split

/-- `k0_part37` keeps the property. -/
theorem keeps_k0_part37 (hR : Free R) (i : grid0.Coords) (arg0 : BitVec 32) (v30 : BitVec 1) (v82 : FVec F S64x256 .bf16) (v83 : IVec S32x128 32) (v91 : IVec S32x128 32) (v94 : IVec S32x128 32) (v102 : IVec S32x128 32) (v105 : IVec S32x128 32) (v113 : IVec S32x128 32) (v116 : IVec S32x128 32) (v117 : FVec F S8x256 .f32) (v127 : BitVec 1) :
    Keeps 𝒱 c bd E M R (k0_part37 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 arg0 v30 v82 v83 v91 v94 v102 v105 v113 v116 v117 v127) fun _ => True := by
  rw [k0_part37_eq_skeleton]
  dsimp only [k0_part37_skel]
  repeat' first
    | with_reducible (intro a ha)
    | with_reducible exact Keeps.pure
    | with_reducible refine Keeps.ite ?_ ?_
    | with_reducible apply keeps_k0_t6_body hR
    | with_reducible apply keeps_k0_t7_body hR.toGFree
    | with_reducible apply keeps_k0_t8_body hR.toGFree
    | with_reducible refine Keeps.loop fun _ _ => ?_
    | with_reducible apply Keeps.bind
    | with_reducible exact Keeps.load16
    | with_reducible exact Keeps.store16 hR
    | with_reducible exact Keeps.word1 hR.toGFree
    | exact Keeps.load16
    | exact Keeps.store16 hR
    | exact Keeps.word1 hR.toGFree
    | split

/-- `k0_t9_body` keeps the property. -/
theorem keeps_k0_t9_body (hR : GFree R) (i : grid0.Coords) (arg0 : BitVec 32) (v30 : BitVec 1) (v132 : IVec S8x128 32) (v156 : BitVec 32) (v158 : BitVec 32) (v164 : BitVec 1) (k : Fin k0_t9_loop.trips) (acc : Unit) :
    Keeps 𝒱 c bd E M R (k0_t9_body (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 arg0 v30 v132 v156 v158 v164 k acc) fun _ => True := by
  dsimp only [k0_t9_body]
  repeat' first
    | with_reducible (intro a ha)
    | with_reducible exact Keeps.pure
    | with_reducible apply Keeps.bind
    | with_reducible exact Keeps.load3
    | with_reducible exact Keeps.load15
    | with_reducible exact Keeps.store15 hR
    | exact Keeps.load3
    | exact Keeps.load15
    | exact Keeps.store15 hR
    | split

/-- `k0_t10_body` keeps the property. -/
theorem keeps_k0_t10_body (hR : GFree R) (i : grid0.Coords) (arg0 : BitVec 32) (v30 : BitVec 1) (v132 : IVec S8x128 32) (v156 : BitVec 32) (v158 : BitVec 32) (v164 : BitVec 1) (k : Fin k0_t10_loop.trips) (acc : Unit) :
    Keeps 𝒱 c bd E M R (k0_t10_body (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 arg0 v30 v132 v156 v158 v164 k acc) fun _ => True := by
  dsimp only [k0_t10_body]
  repeat' first
    | with_reducible (intro a ha)
    | with_reducible exact Keeps.pure
    | with_reducible apply Keeps.bind
    | with_reducible exact Keeps.load3
    | with_reducible exact Keeps.load15
    | with_reducible exact Keeps.store15 hR
    | exact Keeps.load3
    | exact Keeps.load15
    | exact Keeps.store15 hR
    | split

/-- `k0_t11_body` keeps the property. -/
theorem keeps_k0_t11_body (hR : GFree R) (i : grid0.Coords) (arg0 : BitVec 32) (v30 : BitVec 1) (v132 : IVec S8x128 32) (v156 : BitVec 32) (v158 : BitVec 32) (v164 : BitVec 1) (v177 : Elt F .i32) (k : Fin k0_t11_loop.trips) (acc : Unit) :
    Keeps 𝒱 c bd E M R (k0_t11_body (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 arg0 v30 v132 v156 v158 v164 v177 k acc) fun _ => True := by
  dsimp only [k0_t11_body]
  repeat' first
    | with_reducible (intro a ha)
    | with_reducible exact Keeps.pure
    | with_reducible apply Keeps.bind
    | with_reducible exact Keeps.load3
    | with_reducible exact Keeps.load15
    | with_reducible exact Keeps.store15 hR
    | exact Keeps.load3
    | exact Keeps.load15
    | exact Keeps.store15 hR
    | split

/-- `k0_t12_body` keeps the property. -/
theorem keeps_k0_t12_body (hR : GFree R) (i : grid0.Coords) (arg0 : BitVec 32) (v30 : BitVec 1) (v132 : IVec S8x128 32) (v156 : BitVec 32) (v158 : BitVec 32) (v164 : BitVec 1) (v177 : Elt F .i32) (k : Fin k0_t12_loop.trips) (acc : Unit) :
    Keeps 𝒱 c bd E M R (k0_t12_body (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 arg0 v30 v132 v156 v158 v164 v177 k acc) fun _ => True := by
  dsimp only [k0_t12_body]
  repeat' first
    | with_reducible (intro a ha)
    | with_reducible exact Keeps.pure
    | with_reducible apply Keeps.bind
    | with_reducible exact Keeps.load3
    | with_reducible exact Keeps.load15
    | with_reducible exact Keeps.store15 hR
    | exact Keeps.load3
    | exact Keeps.load15
    | exact Keeps.store15 hR
    | split

/-- `k0_part38` keeps the property. -/
theorem keeps_k0_part38 (hR : GFree R) (i : grid0.Coords) (arg0 : BitVec 32) (v30 : BitVec 1) (v132 : IVec S8x128 32) (v156 : BitVec 32) (v158 : BitVec 32) (v164 : BitVec 1) :
    Keeps 𝒱 c bd E M R (k0_part38 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 arg0 v30 v132 v156 v158 v164) fun _ => True := by
  rw [k0_part38_eq_skeleton]
  dsimp only [k0_part38_skel]
  repeat' first
    | with_reducible (intro a ha)
    | with_reducible exact Keeps.pure
    | with_reducible refine Keeps.ite ?_ ?_
    | with_reducible apply keeps_k0_t9_body hR
    | with_reducible apply keeps_k0_t10_body hR
    | with_reducible apply keeps_k0_t11_body hR
    | with_reducible apply keeps_k0_t12_body hR
    | with_reducible refine Keeps.loop fun _ _ => ?_
    | with_reducible apply Keeps.bind
    | with_reducible exact Keeps.word1 hR
    | exact Keeps.word1 hR
    | split

/-- `k0_t13_body` keeps the property. -/
theorem keeps_k0_t13_body (hR : GFree R) (i : grid0.Coords) (arg0 : BitVec 32) (v30 : BitVec 1) (v132 : IVec S8x128 32) (v200 : BitVec 32) (k : Fin k0_t13_loop.trips) (acc : Unit) :
    Keeps 𝒱 c bd E M R (k0_t13_body (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 arg0 v30 v132 v200 k acc) fun _ => True := by
  dsimp only [k0_t13_body]
  repeat' first
    | with_reducible (intro a ha)
    | with_reducible exact Keeps.pure
    | with_reducible apply Keeps.bind
    | with_reducible exact Keeps.load3
    | with_reducible exact Keeps.load15
    | with_reducible exact Keeps.store15 hR
    | exact Keeps.load3
    | exact Keeps.load15
    | exact Keeps.store15 hR
    | split

/-- `k0_t14_body` keeps the property. -/
theorem keeps_k0_t14_body (hR : GFree R) (i : grid0.Coords) (arg0 : BitVec 32) (v30 : BitVec 1) (v132 : IVec S8x128 32) (v200 : BitVec 32) (k : Fin k0_t14_loop.trips) (acc : Unit) :
    Keeps 𝒱 c bd E M R (k0_t14_body (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 arg0 v30 v132 v200 k acc) fun _ => True := by
  dsimp only [k0_t14_body]
  repeat' first
    | with_reducible (intro a ha)
    | with_reducible exact Keeps.pure
    | with_reducible apply Keeps.bind
    | with_reducible exact Keeps.load3
    | with_reducible exact Keeps.load15
    | with_reducible exact Keeps.store15 hR
    | exact Keeps.load3
    | exact Keeps.load15
    | exact Keeps.store15 hR
    | split

/-- `k0_t15_body` keeps the property. -/
theorem keeps_k0_t15_body (hR : GFree R) (i : grid0.Coords) (arg0 : BitVec 32) (v30 : BitVec 1) (v132 : IVec S8x128 32) (v200 : BitVec 32) (v221 : Elt F .i32) (k : Fin k0_t15_loop.trips) (acc : Unit) :
    Keeps 𝒱 c bd E M R (k0_t15_body (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 arg0 v30 v132 v200 v221 k acc) fun _ => True := by
  dsimp only [k0_t15_body]
  repeat' first
    | with_reducible (intro a ha)
    | with_reducible exact Keeps.pure
    | with_reducible apply Keeps.bind
    | with_reducible exact Keeps.load3
    | with_reducible exact Keeps.load15
    | with_reducible exact Keeps.store15 hR
    | exact Keeps.load3
    | exact Keeps.load15
    | exact Keeps.store15 hR
    | split

/-- `k0_part39` keeps the property. -/
theorem keeps_k0_part39 (hR : GFree R) (i : grid0.Coords) (arg0 : BitVec 32) (v30 : BitVec 1) (v132 : IVec S8x128 32) (v200 : BitVec 32) :
    Keeps 𝒱 c bd E M R (k0_part39 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 arg0 v30 v132 v200) fun _ => True := by
  rw [k0_part39_eq_skeleton]
  dsimp only [k0_part39_skel]
  repeat' first
    | with_reducible (intro a ha)
    | with_reducible exact Keeps.pure
    | with_reducible refine Keeps.ite ?_ ?_
    | with_reducible apply keeps_k0_t13_body hR
    | with_reducible apply keeps_k0_t14_body hR
    | with_reducible apply keeps_k0_t15_body hR
    | with_reducible refine Keeps.loop fun _ _ => ?_
    | with_reducible apply Keeps.bind
    | with_reducible exact Keeps.word1 hR
    | exact Keeps.word1 hR
    | split

/-- `k0_t16_body` keeps the property. -/
theorem keeps_k0_t16_body (hR : GFree R) (i : grid0.Coords) (arg0 : BitVec 32) (v30 : BitVec 1) (v132 : IVec S8x128 32) (v222 : BitVec 32) (v234 : BitVec 32) (v237 : BitVec 1) (k : Fin k0_t16_loop.trips) (acc : Unit) :
    Keeps 𝒱 c bd E M R (k0_t16_body (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 arg0 v30 v132 v222 v234 v237 k acc) fun _ => True := by
  dsimp only [k0_t16_body]
  repeat' first
    | with_reducible (intro a ha)
    | with_reducible exact Keeps.pure
    | with_reducible apply Keeps.bind
    | with_reducible exact Keeps.load3
    | with_reducible exact Keeps.load15
    | with_reducible exact Keeps.store15 hR
    | exact Keeps.load3
    | exact Keeps.load15
    | exact Keeps.store15 hR
    | split

/-- `k0_t17_body` keeps the property. -/
theorem keeps_k0_t17_body (hR : GFree R) (i : grid0.Coords) (arg0 : BitVec 32) (v30 : BitVec 1) (v132 : IVec S8x128 32) (v222 : BitVec 32) (v234 : BitVec 32) (v237 : BitVec 1) (v243 : Elt F .i32) (k : Fin k0_t17_loop.trips) (acc : Unit) :
    Keeps 𝒱 c bd E M R (k0_t17_body (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 arg0 v30 v132 v222 v234 v237 v243 k acc) fun _ => True := by
  dsimp only [k0_t17_body]
  repeat' first
    | with_reducible (intro a ha)
    | with_reducible exact Keeps.pure
    | with_reducible apply Keeps.bind
    | with_reducible exact Keeps.load3
    | with_reducible exact Keeps.load15
    | with_reducible exact Keeps.store15 hR
    | exact Keeps.load3
    | exact Keeps.load15
    | exact Keeps.store15 hR
    | split

/-- `k0_t18_body` keeps the property. -/
theorem keeps_k0_t18_body (hR : GFree R) (i : grid0.Coords) (arg0 : BitVec 32) (v30 : BitVec 1) (v132 : IVec S8x128 32) (v222 : BitVec 32) (v234 : BitVec 32) (v237 : BitVec 1) (v243 : Elt F .i32) (k : Fin k0_t18_loop.trips) (acc : Unit) :
    Keeps 𝒱 c bd E M R (k0_t18_body (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 arg0 v30 v132 v222 v234 v237 v243 k acc) fun _ => True := by
  dsimp only [k0_t18_body]
  repeat' first
    | with_reducible (intro a ha)
    | with_reducible exact Keeps.pure
    | with_reducible apply Keeps.bind
    | with_reducible exact Keeps.load3
    | with_reducible exact Keeps.load15
    | with_reducible exact Keeps.store15 hR
    | exact Keeps.load3
    | exact Keeps.load15
    | exact Keeps.store15 hR
    | split

/-- `k0_part40` keeps the property. -/
theorem keeps_k0_part40 (hR : GFree R) (i : grid0.Coords) (arg0 : BitVec 32) (v30 : BitVec 1) (v132 : IVec S8x128 32) (v222 : BitVec 32) (v234 : BitVec 32) (v237 : BitVec 1) :
    Keeps 𝒱 c bd E M R (k0_part40 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 arg0 v30 v132 v222 v234 v237) fun _ => True := by
  rw [k0_part40_eq_skeleton]
  dsimp only [k0_part40_skel]
  repeat' first
    | with_reducible (intro a ha)
    | with_reducible exact Keeps.pure
    | with_reducible refine Keeps.ite ?_ ?_
    | with_reducible apply keeps_k0_t16_body hR
    | with_reducible apply keeps_k0_t17_body hR
    | with_reducible apply keeps_k0_t18_body hR
    | with_reducible refine Keeps.loop fun _ _ => ?_
    | with_reducible apply Keeps.bind
    | with_reducible exact Keeps.word1 hR
    | exact Keeps.word1 hR
    | split

/-- `cc0_conv_silu_quant` keeps the property. -/
theorem keeps_cc0_conv_silu_quant (hR : Free R) (i : grid0.Coords)  :
    Keeps 𝒱 c bd E M R (cc0_conv_silu_quant (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 ) fun _ => True := by
  rw [cc0_conv_silu_quant_eq_skeleton]
  dsimp only [cc0_conv_silu_quant_skel]
  repeat' first
    | with_reducible (intro a ha)
    | with_reducible exact Keeps.pure
    | with_reducible refine Keeps.dite (fun _ => ?_) (fun _ => ?_)
    | with_reducible refine Keeps.ite ?_ ?_
    | with_reducible apply keeps_k0_part34 hR
    | with_reducible apply keeps_k0_part35 hR.toGFree
    | with_reducible apply keeps_k0_part36 hR
    | with_reducible apply keeps_k0_part37 hR
    | with_reducible apply keeps_k0_part38 hR.toGFree
    | with_reducible apply keeps_k0_part39 hR.toGFree
    | with_reducible apply keeps_k0_part40 hR.toGFree
    | with_reducible apply keeps_k0_t19_body hR.toGFree
    | with_reducible apply keeps_k0_t20_body hR.toGFree
    | with_reducible apply keeps_k0_part33 hR.toGFree
    | with_reducible apply keeps_k0_t21_body hR.toGFree
    | with_reducible refine Keeps.loop fun _ _ => ?_
    | with_reducible apply Keeps.bind
    | with_reducible exact Keeps.word2
    | exact Keeps.word2
    | split

end Cert.KernelIdeal.Hand
-- ==== Proof.KernelIdealFrame.lean ====
module

public import proofs.«01_k».proof.Proof.KernelIdealRegion
public import proofs.«01_k».proof.Proof.KernelIdealParts
public import proofs.«01_k».proof.Proof.Pre

/-! The frame of the kernel: it terminates, faults nowhere, leaves its arguments and ends every semaphore at zero. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

variable (m : (ℓ : Loc nD τ sig) → Buf (Elt F) ℓ) (ρ : Dev nD → PrngReg)

/-- The boundary words the body sees are in range. -/
def CuIn (c : Dev nD) : Prop := ∀ t, CuOk (iblk m c 0 t)

/-- The argument's words being in range, the body's are: its block is the whole argument. -/
theorem cuIn_of (c : Dev nD) (h : CuOk (m ((c : Thread nD τ).loc main_arg2))) : CuIn m c := by
  intro t j
  have e : ∃ j' : S7.Idx, iblk m c 0 t j = m ((c : Thread nD τ).loc main_arg2) j' ∧ (j' 0).val = (j 0).val := by
    unfold iblk
    rw [View.read_apply, cast_eq]
    refine ⟨((cfg0.win 0).blk t).view.emb j, ?_, ?_⟩
    · exact congrFun (V_main_arg2 m c) _
    · show (((cfg0.win 0).rect t).emb j 0).val = _
      rw [Rect.emb_apply]
      show 0 + 1 * (j 0).val = (j 0).val
      omega
  obtain ⟨j', e, e'⟩ := e
  rw [e, ← e']
  exact h j'

/-- Nothing said of the scratch buffers or the results. -/
def trivSpec : Spec F := ⟨fun _ _ => True, fun _ _ _ => True, fun _ _ _ => True⟩

/-- The body at a point, with nothing said but that the inputs stay. -/
theorem bodySpec_triv (c : Dev nD) (h : CuIn m c) (t : Fin cfg0.N) : BodySpec m trivSpec c t := by
  intro s hs _ M
  have hF : Free fun s : St F => Ins m c t s :=
    { cuOk := fun s hs => by rw [hs.cu]; exact h t
      head := fun s x hs => ⟨hs.cu, hs.xsS, hs.xb, hs.xs, hs.wt, hs.bh, hs.br⟩
      fin := fun s x hs => ⟨hs.cu, hs.xsS, hs.xb, hs.xs, hs.wt, hs.bh, hs.br⟩
      g := fun s x hs => ⟨hs.cu, hs.xsS, hs.xb, hs.xs, hs.wt, hs.bh, hs.br⟩
      y := fun s x hs => ⟨hs.cu, hs.xsS, hs.xb, hs.xs, hs.wt, hs.bh, hs.br⟩
      ysc := fun s x hs => ⟨hs.cu, hs.xsS, hs.xb, hs.xs, hs.wt, hs.bh, hs.br⟩
      h := fun s x hs => ⟨hs.cu, hs.xsS, hs.xb, hs.xs, hs.wt, hs.bh, hs.br⟩
      l := fun s x hs => ⟨hs.cu, hs.xsS, hs.xb, hs.xs, hs.wt, hs.bh, hs.br⟩
      halo := fun s x hs => ⟨hs.cu, hs.xsS, hs.xb, hs.xs, hs.wt, hs.bh, hs.br⟩
      zmax := fun s x hs => ⟨hs.cu, hs.xsS, hs.xb, hs.xs, hs.wt, hs.bh, hs.br⟩
      inv := fun s x hs => ⟨hs.cu, hs.xsS, hs.xb, hs.xs, hs.wt, hs.bh, hs.br⟩ }
  exact ((keeps_cc0_conv_silu_quant (𝒱 := Variants.none) (c := c) (bd := none) (E := Set.univ) (M := M) hF (grid0.coords t)).run s hs).mono
    fun a s' h => ⟨h.2, trivial, trivial, trivial⟩

/-- The frame: the run terminates with the arguments unchanged and every semaphore at zero. -/
theorem frame (h : ∀ c : Dev nD, CuOk (m ((c : Thread nD τ).loc main_arg2))) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r hr => ⟨fun c => args_of m trivSpec hr.1 c, hr.2⟩)
    (run_main m ρ trivSpec (fun _ => trivial) fun c t => bodySpec_triv m c (cuIn_of m c (h c)) t)

end Cert.KernelIdeal.Hand
-- ==== Proof.KernelIdealBlock.lean ====
module

public import proofs.«01_k».proof.Proof.KernelIdealState
public import Idealize.ShloMosaic.Lib.Pointwise

/-! Loads and stores of a rectangle of a two-dimensional buffer, element by element. -/

@[expose] public section

set_option maxRecDepth 16384

noncomputable section

namespace Cert.KernelIdeal.Hand

open Idealize.ShloMosaic Idealize.ShloMosaic.TcCoe

variable {F : FTy → Type} [FloatOps F]

/-- A load of a rectangle reads the elements from its corner on. -/
theorem ld_blk {a b p q : ℕ} {e : EltTy} (X : (⟨2, ![a, b]⟩ : Shape).Idx → Elt F e) {off : Fin 2 → ℕ}
    {inb : ∀ x, off x + (⟨2, ![p, q]⟩ : Shape).size x ≤ (⟨2, ![a, b]⟩ : Shape).size x} (o0 o1 : ℕ) (ho : off = ![o0, o1])
    (i : Fin p) (j : Fin q) (h0 : o0 + i.1 < a) (h1 : o1 + j.1 < b) :
    X ((Rect.unit (s := ⟨2, ![a, b]⟩) off (⟨2, ![p, q]⟩ : Shape).size inb).toLoadRect.idx (ix2 i j))
      = X (ix2 ⟨o0 + i.1, h0⟩ ⟨o1 + j.1, h1⟩) := by
  subst ho
  congr 1
  funext x
  fin_cases x
  · apply Fin.ext
    show o0 + 1 * i.1 = o0 + i.1
    omega
  · apply Fin.ext
    show o1 + 1 * j.1 = o1 + j.1
    omega

/-- A store of a rectangle replaces the elements from its corner on and keeps the others. -/
theorem put_blk {a b p q : ℕ} {e : EltTy} (X : (⟨2, ![a, b]⟩ : Shape).Idx → Elt F e) {off : Fin 2 → ℕ}
    {inb : ∀ x, off x + (⟨2, ![p, q]⟩ : Shape).size x ≤ (⟨2, ![a, b]⟩ : Shape).size x}
    (w : (⟨2, ![p, q]⟩ : Shape).Idx → Elt F e) (o0 o1 : ℕ) (ho : off = ![o0, o1]) (r : Fin a) (c : Fin b) :
    put X (Rect.unit (s := ⟨2, ![a, b]⟩) off (⟨2, ![p, q]⟩ : Shape).size inb) w Finset.univ (ix2 r c)
      = if h : (o0 ≤ r.1 ∧ r.1 < o0 + p) ∧ (o1 ≤ c.1 ∧ c.1 < o1 + q) then
          w (ix2 ⟨r.1 - o0, by omega⟩ ⟨c.1 - o1, by omega⟩) else X (ix2 r c) := by
  subst ho
  by_cases h : (o0 ≤ r.1 ∧ r.1 < o0 + p) ∧ (o1 ≤ c.1 ∧ c.1 < o1 + q)
  · rw [dif_pos h]
    have he : (Rect.unit (s := ⟨2, ![a, b]⟩) ![o0, o1] (⟨2, ![p, q]⟩ : Shape).size inb).emb
        (ix2 (⟨r.1 - o0, by omega⟩ : Fin p) (⟨c.1 - o1, by omega⟩ : Fin q)) = ix2 r c := by
      funext x
      fin_cases x
      · apply Fin.ext
        show o0 + 1 * (r.1 - o0) = r.1
        omega
      · apply Fin.ext
        show o1 + 1 * (c.1 - o1) = c.1
        omega
    rw [← he]
    exact put_emb X (Rect.unit (s := ⟨2, ![a, b]⟩) ![o0, o1] (⟨2, ![p, q]⟩ : Shape).size inb) w Finset.univ (Finset.mem_univ _)
  · rw [dif_neg h]
    apply put_of_not
    intro x _ hx
    apply h
    have e0 : o0 + 1 * (x 0).1 = r.1 := congrArg (fun z : (⟨2, ![a, b]⟩ : Shape).Idx => (z 0).1) hx
    have e1 : o1 + 1 * (x 1).1 = c.1 := congrArg (fun z : (⟨2, ![a, b]⟩ : Shape).Idx => (z 1).1) hx
    have l0 : (x 0).1 < p := (x 0).2
    have l1 : (x 1).1 < q := (x 1).2
    omega

/-- The rows below `n` from `new`, the others from `old`. -/
def rowsTo {a b : ℕ} {α : Type} (n : ℕ) (new old : (⟨2, ![a, b]⟩ : Shape).Idx → α) : (⟨2, ![a, b]⟩ : Shape).Idx → α :=
  fun i => if (i 0).1 < n then new i else old i

/-- No rows. -/
theorem rowsTo_zero {a b : ℕ} {α : Type} (new old : (⟨2, ![a, b]⟩ : Shape).Idx → α) : rowsTo 0 new old = old := rfl

/-- All rows. -/
theorem rowsTo_all {a b : ℕ} {α : Type} {n : ℕ} (hn : a ≤ n) (new old : (⟨2, ![a, b]⟩ : Shape).Idx → α) : rowsTo n new old = new := by
  funext i
  have h : (i 0).1 < a := (i 0).2
  exact if_pos (lt_of_lt_of_le h hn)

/-- One element. -/
theorem rowsTo_ix2 {a b : ℕ} {α : Type} (n : ℕ) (new old : (⟨2, ![a, b]⟩ : Shape).Idx → α) (r : Fin a) (c : Fin b) :
    rowsTo n new old (ix2 r c) = if r.1 < n then new (ix2 r c) else old (ix2 r c) := rfl

/-- A load of rows not yet replaced. -/
theorem ld_rows {a b p : ℕ} {e : EltTy} (new old : (⟨2, ![a, b]⟩ : Shape).Idx → Elt F e) {off : Fin 2 → ℕ}
    {inb : ∀ x, off x + (⟨2, ![p, b]⟩ : Shape).size x ≤ (⟨2, ![a, b]⟩ : Shape).size x} (n : ℕ) (ho : off = ![n, 0])
    (i : Fin p) (j : Fin b) (h0 : n + i.1 < a) :
    rowsTo n new old ((Rect.unit (s := ⟨2, ![a, b]⟩) off (⟨2, ![p, b]⟩ : Shape).size inb).toLoadRect.idx (ix2 i j))
      = old (ix2 ⟨n + i.1, h0⟩ j) := by
  rw [ld_blk (F := F) (rowsTo n new old) n 0 ho i j h0 (by omega), rowsTo_ix2, if_neg (by simp)]
  congr 2
  exact Fin.ext (Nat.zero_add _)

/-- A store of the next rows. -/
theorem put_rows {a b p : ℕ} {e : EltTy} (new old : (⟨2, ![a, b]⟩ : Shape).Idx → Elt F e) {off : Fin 2 → ℕ}
    {inb : ∀ x, off x + (⟨2, ![p, b]⟩ : Shape).size x ≤ (⟨2, ![a, b]⟩ : Shape).size x}
    (w : (⟨2, ![p, b]⟩ : Shape).Idx → Elt F e) (n : ℕ) (ho : off = ![n, 0]) (hn : n + p ≤ a)
    (hw : ∀ (i : Fin p) (j : Fin b), w (ix2 i j) = new (ix2 ⟨n + i.1, by omega⟩ j)) :
    put (rowsTo n new old) (Rect.unit (s := ⟨2, ![a, b]⟩) off (⟨2, ![p, b]⟩ : Shape).size inb) w Finset.univ
      = rowsTo (n + p) new old := by
  funext y
  obtain ⟨r, c, rfl⟩ : ∃ (r : Fin a) (c : Fin b), y = ix2 r c := ⟨y 0, y 1, Idealize.ShloMosaic.eq_ix2 y⟩
  rw [put_blk (rowsTo n new old) w n 0 ho r c, rowsTo_ix2, rowsTo_ix2]
  by_cases h1 : r.1 < n
  · rw [dif_neg (by omega), if_pos h1, if_pos (by omega)]
  by_cases h2 : r.1 < n + p
  · rw [dif_pos ⟨⟨by omega, h2⟩, by omega, by have := c.2; omega⟩, if_pos h2, hw]
    congr 2
    exact Fin.ext (by show n + (r.1 - n) = r.1; omega)
  · rw [dif_neg (by omega), if_neg h1, if_neg h2]

end Cert.KernelIdeal.Hand
-- ==== Proof.KernelIdealTile.lean ====
module

public import proofs.«01_k».proof.Proof.Gen.KernelIdeal.Skeleton
public import Idealize.ShloMosaic.Lib.Pointwise
public import Idealize.ShloMosaic.Lib.WordCmp

/-! The convolution of one row block, element by element: the matrix product with the diagonal weights is
    the sum of the four masked taps, and the row block's maxima are maxima of its elements. -/

@[expose] public section

set_option maxRecDepth 16384

noncomputable section

namespace Cert.KernelIdeal.Hand

open Idealize.ShloMosaic Cert.KernelIdeal.Gen

/-- The lane numbers of a half tile. -/
def lanes : IVec S32x128 32 := iota .tc S32x128 32 [1] iota_S32x128_d1_w32

/-- The scaled input `d` tokens before lane `c` of a row block: from the halo for the first `d` lanes. -/
def prevV (x : Vec Ideal S64x256 .fp8e4m3) (v : FVec Ideal S64x256 .bf16) (u : Vec Ideal S64x128 .bf16) (d : ℕ)
    (r : Fin 64) (c : Fin 256) : EReal :=
  if h : c.1 < d ∧ d ≤ 3 then u (ix2 r ⟨128 + c.1 - d, by omega⟩)
  else x (ix2 r ⟨c.1 - d, by omega⟩) * v (ix2 r ⟨c.1 - d, by omega⟩)

/-- The first lanes read the halo. -/
theorem prevV_lt (x : Vec Ideal S64x256 .fp8e4m3) (v : FVec Ideal S64x256 .bf16) (u : Vec Ideal S64x128 .bf16) {d : ℕ}
    {r : Fin 64} {c : Fin 256} (hd : d ≤ 3) (h : c.1 < d) : prevV x v u d r c = u (ix2 r ⟨128 + c.1 - d, by omega⟩) :=
  dif_pos ⟨h, hd⟩

/-- The other lanes read the block itself. -/
theorem prevV_ge (x : Vec Ideal S64x256 .fp8e4m3) (v : FVec Ideal S64x256 .bf16) (u : Vec Ideal S64x128 .bf16) {d : ℕ}
    {r : Fin 64} {c : Fin 256} (h : ¬ c.1 < d) :
    prevV x v u d r c = x (ix2 r ⟨c.1 - d, by omega⟩) * v (ix2 r ⟨c.1 - d, by omega⟩) :=
  dif_neg fun h' => h h'.1

/-- A mask built by comparison, read as a condition. -/
theorem sel_mask (p d : BitVec 32) (a : EReal) :
    Scalar.select (IntOp.cmpi .ne (Scalar.select (IntOp.cmpi .sge p d) 4294967295#32 0#32) 0#32) a 0
      = if d.toInt ≤ p.toInt then a else 0 := by
  rw [WordCmp.cmpi_sge_eq, WordCmp.cmpi_ne_eq]
  by_cases h : d.toInt ≤ p.toInt <;> simp [Scalar.select, h]

/-- A choice by lane number, read as a condition. -/
theorem sel_lane (a b : ℕ) (ha : a < 256) (hb : b < 256) (p q : EReal) :
    Scalar.select (IntOp.cmpi .slt (BitVec.ofNat 32 a) (BitVec.ofNat 32 b)) p q = if a < b then p else q := by
  rw [WordCmp.cmpi_slt_ofNat (by omega) (by omega)]
  by_cases h : a < b <;> simp [Scalar.select, h]

/-- Equal positions hold equal scaled inputs. -/
theorem xv_congr (x : Vec Ideal S64x256 .fp8e4m3) (v : FVec Ideal S64x256 .bf16) {r r' : Fin 64} {i j : Fin 256}
    (hr : r.1 = r'.1) (h : i.1 = j.1) : x (ix2 r i) * v (ix2 r i) = x (ix2 r' j) * v (ix2 r' j) := by
  rw [Fin.ext hr, Fin.ext h]

/-- Equal positions hold equal halo values. -/
theorem u_congr (u : Vec Ideal S64x128 .bf16) {r r' : Fin 64} {i j : Fin 128}
    (hr : r.1 = r'.1) (h : i.1 = j.1) : u (ix2 r i) = u (ix2 r' j) := by
  rw [Fin.ext hr, Fin.ext h]

/-- The taps three tokens back. -/
theorem tap3 (v76 v82 x u) (r : Fin 64) (c : Fin 256) :
    k0_pay33 (F := Ideal) lanes (k0_pay156 v76) (k0_pay157 v76) (k0_pay24 v82 x) (k0_pay25 v82 x) (k0_pay27 v82 x)
        (k0_pay28 v82 x) (k0_pay31 v82 lanes x u) (k0_pay32 v82 lanes x u) 0#32 (ix2 r c)
      = if (3#32).toInt ≤ (v76 (ix2 0 c)).toInt then prevV x v82 u 3 r c else 0 := by
  pointwise [k0_pay33, lanes, k0_pay155, k0_pay156, k0_pay157, k0_pay24, k0_pay25, k0_pay27, k0_pay28, k0_pay31, k0_pay32, k0_pay21, k0_pay22, k0_pay30, k0_pay20, k0_pay23, k0_pay26]
  have hc := c.2
  have e1 : (c.1 + 128 - 3) % 128 < 256 := lt_of_lt_of_le (Nat.mod_lt _ (by decide)) (by decide)
  have e2 : (c.1 - 128 + 128 - 3) % 128 < 256 := lt_of_lt_of_le (Nat.mod_lt _ (by decide)) (by decide)
  simp only [sel_mask, sel_lane _ _ e1 (show 125 < 256 by decide), sel_lane _ _ e2 (show 125 < 256 by decide)]
  clear e1 e2
  by_cases h : c.1 < 128
  · rw [dif_pos h]
    by_cases h3 : c.1 < 3
    · have m : (c.1 + 128 - 3) % 128 = 128 + c.1 - 3 := by omega
      have n : ¬ 128 + c.1 - 3 < 125 := by omega
      rw [prevV_lt x v82 u (by decide) h3]
      simp only [m, if_neg n]
      by_cases hp : r.1 % 2 = 0
      · rw [if_pos hp]
        exact if_congr Iff.rfl (u_congr u (show 2 * (r.1 / 2) = r.1 by omega) rfl) rfl
      · rw [if_neg hp]
        exact if_congr Iff.rfl (u_congr u (show 2 * (r.1 / 2) + 1 = r.1 by omega) rfl) rfl
    · have m : (c.1 + 128 - 3) % 128 = c.1 - 3 := by omega
      have n : c.1 - 3 < 125 := by omega
      rw [prevV_ge x v82 u h3]
      simp only [m, if_pos n]
      by_cases hp : r.1 % 2 = 0
      · rw [if_pos hp]
        exact if_congr Iff.rfl (xv_congr x v82 (show 2 * (r.1 / 2) = r.1 by omega) rfl) rfl
      · rw [if_neg hp]
        exact if_congr Iff.rfl (xv_congr x v82 (show 2 * (r.1 / 2) + 1 = r.1 by omega) rfl) rfl
  · have h3 : ¬ c.1 < 3 := by omega
    have ec : 128 + (c.1 - 128) = c.1 := by omega
    simp only [dif_neg h, ec, prevV_ge x v82 u h3]
    by_cases h4 : c.1 < 128 + 3
    · have m : (c.1 - 128 + 128 - 3) % 128 = c.1 - 3 := by omega
      have n : ¬ c.1 - 3 < 125 := by omega
      simp only [m, if_neg n]
      by_cases hp : r.1 % 2 = 0
      · rw [if_pos hp]
        exact if_congr Iff.rfl (xv_congr x v82 (show 2 * (r.1 / 2) = r.1 by omega) rfl) rfl
      · rw [if_neg hp]
        exact if_congr Iff.rfl (xv_congr x v82 (show 2 * (r.1 / 2) + 1 = r.1 by omega) rfl) rfl
    · have m : (c.1 - 128 + 128 - 3) % 128 = c.1 - 128 - 3 := by omega
      have n : c.1 - 128 - 3 < 125 := by omega
      have m' : 128 + (c.1 - 128 - 3) = c.1 - 3 := by omega
      simp only [m, if_pos n]
      by_cases hp : r.1 % 2 = 0
      · rw [if_pos hp]
        exact if_congr Iff.rfl (xv_congr x v82 (show 2 * (r.1 / 2) = r.1 by omega) m') rfl
      · rw [if_neg hp]
        exact if_congr Iff.rfl (xv_congr x v82 (show 2 * (r.1 / 2) + 1 = r.1 by omega) m') rfl

/-- The taps two tokens back. -/
theorem tap2 (v76 v82 x u) (r : Fin 64) (c : Fin 256) :
    k0_pay34 (F := Ideal) lanes (k0_pay153 v76) (k0_pay154 v76) (k0_pay21 u) (k0_pay22 u) (k0_pay24 v82 x)
        (k0_pay25 v82 x) (k0_pay27 v82 x) (k0_pay28 v82 x) (ix2 r c)
      = if (2#32).toInt ≤ (v76 (ix2 0 c)).toInt then prevV x v82 u 2 r c else 0 := by
  pointwise [k0_pay34, lanes, k0_pay152, k0_pay153, k0_pay154, k0_pay24, k0_pay25, k0_pay27, k0_pay28, k0_pay31, k0_pay32, k0_pay21, k0_pay22, k0_pay30, k0_pay20, k0_pay23, k0_pay26]
  have hc := c.2
  have e1 : (c.1 + 128 - 2) % 128 < 256 := lt_of_lt_of_le (Nat.mod_lt _ (by decide)) (by decide)
  have e2 : (c.1 - 128 + 128 - 2) % 128 < 256 := lt_of_lt_of_le (Nat.mod_lt _ (by decide)) (by decide)
  simp only [sel_mask, sel_lane _ _ e1 (show 126 < 256 by decide), sel_lane _ _ e2 (show 126 < 256 by decide)]
  clear e1 e2
  by_cases h : c.1 < 128
  · rw [dif_pos h]
    by_cases h3 : c.1 < 2
    · have m : (c.1 + 128 - 2) % 128 = 128 + c.1 - 2 := by omega
      have n : ¬ 128 + c.1 - 2 < 126 := by omega
      rw [prevV_lt x v82 u (by decide) h3]
      simp only [m, if_neg n]
      by_cases hp : r.1 % 2 = 0
      · rw [if_pos hp]
        exact if_congr Iff.rfl (u_congr u (show 2 * (r.1 / 2) = r.1 by omega) rfl) rfl
      · rw [if_neg hp]
        exact if_congr Iff.rfl (u_congr u (show 2 * (r.1 / 2) + 1 = r.1 by omega) rfl) rfl
    · have m : (c.1 + 128 - 2) % 128 = c.1 - 2 := by omega
      have n : c.1 - 2 < 126 := by omega
      rw [prevV_ge x v82 u h3]
      simp only [m, if_pos n]
      by_cases hp : r.1 % 2 = 0
      · rw [if_pos hp]
        exact if_congr Iff.rfl (xv_congr x v82 (show 2 * (r.1 / 2) = r.1 by omega) rfl) rfl
      · rw [if_neg hp]
        exact if_congr Iff.rfl (xv_congr x v82 (show 2 * (r.1 / 2) + 1 = r.1 by omega) rfl) rfl
  · have h3 : ¬ c.1 < 2 := by omega
    have ec : 128 + (c.1 - 128) = c.1 := by omega
    simp only [dif_neg h, ec, prevV_ge x v82 u h3]
    by_cases h4 : c.1 < 128 + 2
    · have m : (c.1 - 128 + 128 - 2) % 128 = c.1 - 2 := by omega
      have n : ¬ c.1 - 2 < 126 := by omega
      simp only [m, if_neg n]
      by_cases hp : r.1 % 2 = 0
      · rw [if_pos hp]
        exact if_congr Iff.rfl (xv_congr x v82 (show 2 * (r.1 / 2) = r.1 by omega) rfl) rfl
      · rw [if_neg hp]
        exact if_congr Iff.rfl (xv_congr x v82 (show 2 * (r.1 / 2) + 1 = r.1 by omega) rfl) rfl
    · have m : (c.1 - 128 + 128 - 2) % 128 = c.1 - 128 - 2 := by omega
      have n : c.1 - 128 - 2 < 126 := by omega
      have m' : 128 + (c.1 - 128 - 2) = c.1 - 2 := by omega
      simp only [m, if_pos n]
      by_cases hp : r.1 % 2 = 0
      · rw [if_pos hp]
        exact if_congr Iff.rfl (xv_congr x v82 (show 2 * (r.1 / 2) = r.1 by omega) m') rfl
      · rw [if_neg hp]
        exact if_congr Iff.rfl (xv_congr x v82 (show 2 * (r.1 / 2) + 1 = r.1 by omega) m') rfl

/-- The masked taps one token back, of both halves. -/
def tap1V (v83 v91 v94 : IVec S32x128 32) (v322_lo v322_hi v324_lo v324_hi v326_lo v326_hi : FVec Ideal S32x128 .bf16) :
    FVec Ideal S64x256 .bf16 :=
  have v370 : IVec S32x128 32 := broadcast S32x128 127#32
  have v371 : IVec S32x128 1 := cmpi .slt v83 v370
  have v372_lo : FVec Ideal S32x128 .bf16 := select v371 v324_lo v322_lo
  have v372_hi : FVec Ideal S32x128 .bf16 := select v371 v324_hi v322_hi
  have v373 : IVec S32x128 32 := broadcast S32x128 0#32
  have v374 : IVec S32x128 1 := cmpi .ne v91 v373
  have v375_lo : FVec Ideal S32x128 .bf16 := dynamicRotate 1 1#32 none v372_lo rotates_S32x128_d1
  have v375_hi : FVec Ideal S32x128 .bf16 := dynamicRotate 1 1#32 none v372_hi rotates_S32x128_d1
  have v377_lo : FVec Ideal S32x128 .bf16 := select v374 v375_lo (constant S32x128 .bf16 0x0000#16)
  have v377_hi : FVec Ideal S32x128 .bf16 := select v374 v375_hi (constant S32x128 .bf16 0x0000#16)
  have v378 : FVec Ideal S64x128 .bf16 := interleaveRows S64x128 v377_lo v377_hi bitcasts_S64x128_w16_S32x128_w32
  have v379 : IVec S32x128 32 := broadcast S32x128 127#32
  have v380 : IVec S32x128 1 := cmpi .slt v83 v379
  have v381_lo : FVec Ideal S32x128 .bf16 := select v380 v326_lo v324_lo
  have v381_hi : FVec Ideal S32x128 .bf16 := select v380 v326_hi v324_hi
  have v382 : IVec S32x128 32 := broadcast S32x128 0#32
  have v383 : IVec S32x128 1 := cmpi .ne v94 v382
  have v384_lo : FVec Ideal S32x128 .bf16 := dynamicRotate 1 1#32 none v381_lo rotates_S32x128_d1
  have v384_hi : FVec Ideal S32x128 .bf16 := dynamicRotate 1 1#32 none v381_hi rotates_S32x128_d1
  have v386_lo : FVec Ideal S32x128 .bf16 := select v383 v384_lo (constant S32x128 .bf16 0x0000#16)
  have v386_hi : FVec Ideal S32x128 .bf16 := select v383 v384_hi (constant S32x128 .bf16 0x0000#16)
  have v387 : FVec Ideal S64x128 .bf16 := interleaveRows S64x128 v386_lo v386_hi bitcasts_S64x128_w16_S32x128_w32
  have v388 : FVec Ideal S64x256 .bf16 := concatenate S64x256 1 [⟨S64x128, v378⟩, ⟨S64x128, v387⟩] concatenates_S64x128_S64x128_S64x256_d1
  v388

/-- The product of the weights with the stacked taps, plus the bias. -/
def outerV (v319 v350 v369 v388 : FVec Ideal S64x256 .bf16) (v391 : FVec Ideal S64x256 .bf16) (v394 : Vec Ideal S64x1 .f32) :
    FVec Ideal S64x256 .f32 :=
  have v389 : FVec Ideal S256x256 .bf16 := concatenate S256x256 0 [⟨S64x256, v350⟩, ⟨S64x256, v369⟩, ⟨S64x256, v388⟩, ⟨S64x256, v319⟩] concatenates_S64x256_S64x256_S64x256_S64x256_S256x256_d0
  have cst_154 : FVec Ideal S64x256 .f32 := constant S64x256 .f32 0x00000000#32
  have v392 : FVec Ideal S64x256 .f32 := matmul dot_S64x256_S256x256_S64x256_1_0_0_1_n_n none v391 v389 cst_154
  have v395 : FVec Ideal S64x1 .f32 := shapeCast S64x1 v394 shapeCasts_S64x1_S64x1
  have v396 : FVec Ideal S64x256 .f32 := broadcastTo S64x256 v395 broadcasts_S64x1_S64x256
  have v397 : FVec Ideal S64x256 .f32 := addf v392 v396
  v397

/-- One row of the stacked taps: three, two, one and no tokens back. -/
def stackV (v350 v369 v388 v319 : FVec Ideal S64x256 .bf16) (k : Fin 256) (c : Fin 256) : EReal :=
  if h : k.1 < 64 then v350 (ix2 ⟨k.1, h⟩ c)
  else if h : k.1 - 64 < 64 then v369 (ix2 ⟨k.1 - 64, h⟩ c)
  else if h : k.1 - 64 - 64 < 64 then v388 (ix2 ⟨k.1 - 64 - 64, h⟩ c)
  else v319 (ix2 ⟨k.1 - 64 - 64 - 64, by omega⟩ c)

/-- The product as a sum over the stacked taps. -/
theorem outerV_apply (v319 v350 v369 v388 l b) (r : Fin 64) (c : Fin 256) :
    outerV v319 v350 v369 v388 l b (ix2 r c) = (∑ k, l (ix2 r k) * stackV v350 v369 v388 v319 k c) + b (ix2 r 0) := by
  pointwise [outerV, stackV]

/-- The row block: its taps and their product with the weights. -/
theorem pay35_eq (v83 v91 v94 v319 v322_lo v322_hi v324_lo v324_hi v326_lo v326_hi v350 v369 l b) :
    k0_pay35 (F := Ideal) v83 v91 v94 v319 v322_lo v322_hi v324_lo v324_hi v326_lo v326_hi v350 v369 l b
      = outerV v319 v350 v369 (tap1V v83 v91 v94 v322_lo v322_hi v324_lo v324_hi v326_lo v326_hi) l b := rfl

/-- The taps one token back. -/
theorem tap1 (v76 v82 x u) (r : Fin 64) (c : Fin 256) :
    tap1V lanes (k0_pay150 v76) (k0_pay151 v76) (k0_pay21 u) (k0_pay22 u) (k0_pay24 v82 x)
        (k0_pay25 v82 x) (k0_pay27 v82 x) (k0_pay28 v82 x) (ix2 r c)
      = if (1#32).toInt ≤ (v76 (ix2 0 c)).toInt then prevV x v82 u 1 r c else 0 := by
  pointwise [tap1V, lanes, k0_pay149, k0_pay150, k0_pay151, k0_pay24, k0_pay25, k0_pay27, k0_pay28, k0_pay31, k0_pay32, k0_pay21, k0_pay22, k0_pay30, k0_pay20, k0_pay23, k0_pay26]
  have hc := c.2
  have e1 : (c.1 + 128 - 1) % 128 < 256 := lt_of_lt_of_le (Nat.mod_lt _ (by decide)) (by decide)
  have e2 : (c.1 - 128 + 128 - 1) % 128 < 256 := lt_of_lt_of_le (Nat.mod_lt _ (by decide)) (by decide)
  simp only [sel_mask, sel_lane _ _ e1 (show 127 < 256 by decide), sel_lane _ _ e2 (show 127 < 256 by decide)]
  clear e1 e2
  by_cases h : c.1 < 128
  · rw [dif_pos h]
    by_cases h3 : c.1 < 1
    · have m : (c.1 + 128 - 1) % 128 = 128 + c.1 - 1 := by omega
      have n : ¬ 128 + c.1 - 1 < 127 := by omega
      rw [prevV_lt x v82 u (by decide) h3]
      simp only [m, if_neg n]
      by_cases hp : r.1 % 2 = 0
      · rw [if_pos hp]
        exact if_congr Iff.rfl (u_congr u (show 2 * (r.1 / 2) = r.1 by omega) rfl) rfl
      · rw [if_neg hp]
        exact if_congr Iff.rfl (u_congr u (show 2 * (r.1 / 2) + 1 = r.1 by omega) rfl) rfl
    · have m : (c.1 + 128 - 1) % 128 = c.1 - 1 := by omega
      have n : c.1 - 1 < 127 := by omega
      rw [prevV_ge x v82 u h3]
      simp only [m, if_pos n]
      by_cases hp : r.1 % 2 = 0
      · rw [if_pos hp]
        exact if_congr Iff.rfl (xv_congr x v82 (show 2 * (r.1 / 2) = r.1 by omega) rfl) rfl
      · rw [if_neg hp]
        exact if_congr Iff.rfl (xv_congr x v82 (show 2 * (r.1 / 2) + 1 = r.1 by omega) rfl) rfl
  · have h3 : ¬ c.1 < 1 := by omega
    have ec : 128 + (c.1 - 128) = c.1 := by omega
    simp only [dif_neg h, ec, prevV_ge x v82 u h3]
    by_cases h4 : c.1 < 128 + 1
    · have m : (c.1 - 128 + 128 - 1) % 128 = c.1 - 1 := by omega
      have n : ¬ c.1 - 1 < 127 := by omega
      simp only [m, if_neg n]
      by_cases hp : r.1 % 2 = 0
      · rw [if_pos hp]
        exact if_congr Iff.rfl (xv_congr x v82 (show 2 * (r.1 / 2) = r.1 by omega) rfl) rfl
      · rw [if_neg hp]
        exact if_congr Iff.rfl (xv_congr x v82 (show 2 * (r.1 / 2) + 1 = r.1 by omega) rfl) rfl
    · have m : (c.1 - 128 + 128 - 1) % 128 = c.1 - 128 - 1 := by omega
      have n : c.1 - 128 - 1 < 127 := by omega
      have m' : 128 + (c.1 - 128 - 1) = c.1 - 1 := by omega
      simp only [m, if_pos n]
      by_cases hp : r.1 % 2 = 0
      · rw [if_pos hp]
        exact if_congr Iff.rfl (xv_congr x v82 (show 2 * (r.1 / 2) = r.1 by omega) m') rfl
      · rw [if_neg hp]
        exact if_congr Iff.rfl (xv_congr x v82 (show 2 * (r.1 / 2) + 1 = r.1 by omega) m') rfl

/-- The scaled block. -/
theorem tap0 (v82 x) (r : Fin 64) (c : Fin 256) : k0_pay20 (F := Ideal) v82 x (ix2 r c) = x (ix2 r c) * v82 (ix2 r c) := by
  pointwise [k0_pay20]

/-- A row block of half the convolution, from the boundaries' distances, the scales, the codes, the halo, the weights and half the bias. -/
def tileV (v76 : IVec S1x256 32) (v82 : FVec Ideal S64x256 .bf16) (x : Vec Ideal S64x256 .fp8e4m3) (u : Vec Ideal S64x128 .bf16)
    (l : Vec Ideal S64x256 .bf16) (b : Vec Ideal S64x1 .f32) : FVec Ideal S64x256 .f32 :=
  k0_pay35 (F := Ideal) lanes (k0_pay150 v76) (k0_pay151 v76) (k0_pay20 v82 x) (k0_pay21 u) (k0_pay22 u) (k0_pay24 v82 x)
    (k0_pay25 v82 x) (k0_pay27 v82 x) (k0_pay28 v82 x)
    (k0_pay33 lanes (k0_pay156 v76) (k0_pay157 v76) (k0_pay24 v82 x) (k0_pay25 v82 x) (k0_pay27 v82 x) (k0_pay28 v82 x)
      (k0_pay31 v82 lanes x u) (k0_pay32 v82 lanes x u) 0#32)
    (k0_pay34 lanes (k0_pay153 v76) (k0_pay154 v76) (k0_pay21 u) (k0_pay22 u) (k0_pay24 v82 x) (k0_pay25 v82 x) (k0_pay27 v82 x)
      (k0_pay28 v82 x)) l b

/-- The two places that compute a row block compute the same. -/
theorem tile6_eq (v76 v82 x u l b) :
    k0_pay165 (F := Ideal) (k0_pay43 v82 x) (k0_pay55 (k0_pay53 v82 lanes (k0_pay156 v76) x u) (k0_pay54 v82 lanes (k0_pay157 v76) x))
        (k0_pay56 lanes (k0_pay153 v76) (k0_pay154 v76) (k0_pay44 u) (k0_pay45 u) (k0_pay47 v82 x) (k0_pay48 v82 x) (k0_pay50 v82 x) (k0_pay51 v82 x))
        (k0_pay57 lanes (k0_pay150 v76) (k0_pay44 u) (k0_pay45 u) (k0_pay47 v82 x) (k0_pay48 v82 x))
        (k0_pay59 lanes (k0_pay48 v82 x) (k0_pay51 v82 x)) (k0_pay60 (k0_pay151 v76)) 1#32
        (k0_pay61 lanes (k0_pay47 v82 x) (k0_pay50 v82 x)) l b
      = tileV v76 v82 x u l b := rfl

/-- A sum over 256 positions of which only one in each group of 64 counts. -/
theorem sum_diag (g : Fin 256 → EReal) (r : Fin 64) (h : ∀ k, k.1 % 64 ≠ r.1 → g k = 0) :
    ∑ k, g k = g ⟨r.1, by omega⟩ + (g ⟨64 + r.1, by omega⟩ + (g ⟨128 + r.1, by omega⟩ + g ⟨192 + r.1, by omega⟩)) := by
  rw [← Finset.sum_subset (s₁ := {(⟨r.1, by omega⟩ : Fin 256), ⟨64 + r.1, by omega⟩, ⟨128 + r.1, by omega⟩, ⟨192 + r.1, by omega⟩})
    (Finset.subset_univ _)]
  · rw [Finset.sum_insert, Finset.sum_insert, Finset.sum_insert, Finset.sum_singleton]
    all_goals simp only [Finset.mem_insert, Finset.mem_singleton, Fin.mk.injEq]; omega
  · intro k _ hk
    apply h
    intro hr
    apply hk
    simp only [Finset.mem_insert, Finset.mem_singleton, Fin.ext_iff]
    have := k.2
    omega

/-- Half the convolution at one row and token: the four masked taps and half the bias. -/
def convN (XD : ℕ → ℕ → EReal) (pos : ℕ → BitVec 32) (wg : ℕ → ℕ → EReal) (hb : ℕ → EReal) (r t : ℕ) : EReal :=
  (wg r 0 * (if (3#32).toInt ≤ (pos t).toInt then XD r (t - 3) else 0)
    + (wg r 1 * (if (2#32).toInt ≤ (pos t).toInt then XD r (t - 2) else 0)
      + (wg r 2 * (if (1#32).toInt ≤ (pos t).toInt then XD r (t - 1) else 0) + wg r 3 * XD r t))) + hb r

/-- A tap, from the halo or the block. -/
theorem prevV_eq (XD : ℕ → ℕ → EReal) (x : Vec Ideal S64x256 .fp8e4m3) (v82 : FVec Ideal S64x256 .bf16) (u : Vec Ideal S64x128 .bf16) (q j d : ℕ)
    (hd : d ≤ 3) (r : Fin 64) (c : Fin 256) (hdt : d ≤ 256 * j + c.1)
    (hx : ∀ (r : Fin 64) (c : Fin 256), x (ix2 r c) * v82 (ix2 r c) = XD (q + r.1) (256 * j + c.1))
    (hu : 0 < j → ∀ (r : Fin 64) (l : Fin 128), u (ix2 r l) = XD (q + r.1) (256 * (j - 1) + 128 + l.1)) :
    prevV x v82 u d r c = XD (q + r.1) (256 * j + c.1 - d) := by
  by_cases h : c.1 < d
  · rw [prevV_lt x v82 u hd h, hu (by omega)]
    congr 1
    show 256 * (j - 1) + 128 + (128 + c.1 - d) = 256 * j + c.1 - d
    omega
  · rw [prevV_ge x v82 u h, hx]
    congr 1
    show 256 * j + (c.1 - d) = 256 * j + c.1 - d
    omega

/-- A row block holds half the convolution. -/
theorem tileV_eq (XD : ℕ → ℕ → EReal) (pos : ℕ → BitVec 32) (wg : ℕ → ℕ → EReal) (hb : ℕ → EReal) (q j : ℕ) (v76 v82 x u l b)
    (hpos : ∀ t d : ℕ, d ≤ 3 → (BitVec.ofNat 32 d).toInt ≤ (pos t).toInt → d ≤ t)
    (hp : ∀ c : Fin 256, v76 (ix2 0 c) = pos (256 * j + c.1))
    (hx : ∀ (r : Fin 64) (c : Fin 256), x (ix2 r c) * v82 (ix2 r c) = XD (q + r.1) (256 * j + c.1))
    (hu : 0 < j → ∀ (r : Fin 64) (l : Fin 128), u (ix2 r l) = XD (q + r.1) (256 * (j - 1) + 128 + l.1))
    (hl : ∀ (r : Fin 64) (k : Fin 256), l (ix2 r k) = if k.1 % 64 = r.1 then wg (q + r.1) (k.1 / 64) else 0)
    (hbb : ∀ r : Fin 64, b (ix2 r 0) = hb (q + r.1)) (r : Fin 64) (c : Fin 256) :
    tileV v76 v82 x u l b (ix2 r c) = convN XD pos wg hb (q + r.1) (256 * j + c.1) := by
  have hr := r.2
  have tap (d : ℕ) (hd : d ≤ 3) : (if (BitVec.ofNat 32 d).toInt ≤ (v76 (ix2 0 c)).toInt then prevV x v82 u d r c else 0)
      = if (BitVec.ofNat 32 d).toInt ≤ (pos (256 * j + c.1)).toInt then XD (q + r.1) (256 * j + c.1 - d) else 0 := by
    rw [hp c]
    by_cases h : (BitVec.ofNat 32 d).toInt ≤ (pos (256 * j + c.1)).toInt
    · rw [if_pos h, if_pos h, prevV_eq XD x v82 u q j d hd r c (hpos _ d hd h) hx hu]
    · rw [if_neg h, if_neg h]
  unfold tileV
  rw [pay35_eq, outerV_apply, sum_diag _ r, hbb]
  · unfold convN
    congr 1
    have s0 : stackV (k0_pay33 (F := Ideal) lanes (k0_pay156 v76) (k0_pay157 v76) (k0_pay24 v82 x) (k0_pay25 v82 x) (k0_pay27 v82 x) (k0_pay28 v82 x)
        (k0_pay31 v82 lanes x u) (k0_pay32 v82 lanes x u) 0#32)
        (k0_pay34 lanes (k0_pay153 v76) (k0_pay154 v76) (k0_pay21 u) (k0_pay22 u) (k0_pay24 v82 x) (k0_pay25 v82 x) (k0_pay27 v82 x)
        (k0_pay28 v82 x)) (tap1V lanes (k0_pay150 v76) (k0_pay151 v76) (k0_pay21 u) (k0_pay22 u) (k0_pay24 v82 x)
        (k0_pay25 v82 x) (k0_pay27 v82 x) (k0_pay28 v82 x)) (k0_pay20 v82 x) = fun k c =>
          if h : k.1 < 64 then (if (3#32).toInt ≤ (v76 (ix2 0 c)).toInt then prevV x v82 u 3 ⟨k.1, h⟩ c else 0)
          else if h : k.1 - 64 < 64 then (if (2#32).toInt ≤ (v76 (ix2 0 c)).toInt then prevV x v82 u 2 ⟨k.1 - 64, h⟩ c else 0)
          else if h : k.1 - 64 - 64 < 64 then (if (1#32).toInt ≤ (v76 (ix2 0 c)).toInt then prevV x v82 u 1 ⟨k.1 - 64 - 64, h⟩ c else 0)
          else x (ix2 ⟨k.1 - 64 - 64 - 64, by omega⟩ c) * v82 (ix2 ⟨k.1 - 64 - 64 - 64, by omega⟩ c) := by
      funext k c
      unfold stackV
      refine dite_congr rfl (fun h => tap3 v76 v82 x u _ c) fun h => dite_congr rfl (fun h => tap2 v76 v82 x u _ c) fun h =>
        dite_congr rfl (fun h => tap1 v76 v82 x u _ c) fun h => tap0 v82 x _ c
    rw [s0, hl, hl, hl, hl]
    dsimp only
    have r1 : 64 + r.1 - 64 = r.1 := by omega
    have r2 : 128 + r.1 - 64 - 64 = r.1 := by omega
    have r3 : 192 + r.1 - 64 - 64 - 64 = r.1 := by omega
    rw [if_pos (Nat.mod_eq_of_lt hr), if_pos (by omega : (64 + r.1) % 64 = r.1), if_pos (by omega : (128 + r.1) % 64 = r.1),
      if_pos (by omega : (192 + r.1) % 64 = r.1), Nat.div_eq_of_lt hr, (by omega : (64 + r.1) / 64 = 1), (by omega : (128 + r.1) / 64 = 2),
      (by omega : (192 + r.1) / 64 = 3), dif_pos hr,
      dif_neg (by omega : ¬ 64 + r.1 < 64), dif_neg (by omega : ¬ 128 + r.1 < 64), dif_neg (by omega : ¬ 192 + r.1 < 64),
      dif_pos (by omega : 64 + r.1 - 64 < 64), dif_neg (by omega : ¬ 128 + r.1 - 64 < 64), dif_neg (by omega : ¬ 192 + r.1 - 64 < 64),
      dif_pos (by omega : 128 + r.1 - 64 - 64 < 64), dif_neg (by omega : ¬ 192 + r.1 - 64 - 64 < 64)]
    simp only [r1, r2, r3]
    rw [tap 3 (by decide), tap 2 (by decide), tap 1 (by decide), hx]
  · intro k hk
    rw [hl, if_neg hk, zero_mul]

end Cert.KernelIdeal.Hand
-- ==== Proof.KernelIdealValue.lean ====
module

public import proofs.«01_k».proof.Proof.KernelIdealBlock
public import proofs.«01_k».proof.Proof.KernelIdealTile

/-! The payloads of the kernel, element by element, and what its buffers hold between the points. -/

@[expose] public section

set_option maxRecDepth 16384

noncomputable section

namespace Cert.KernelIdeal.Hand

open Idealize.ShloMosaic Idealize.ShloMosaic.TcCoe Idealize.ShloMosaic.Tactic
open Cert.KernelIdeal.Gen

/-- The maximum of a value and eight more, in order. -/
def max8 (a : EReal) (g : Fin 8 → EReal) : EReal :=
  max (max (max (max (max (max (max (max a (g 0)) (g 1)) (g 2)) (g 3)) (g 4)) (g 5)) (g 6)) (g 7)

/-- The first value is below. -/
theorem max8_left (a : EReal) (g : Fin 8 → EReal) : a ≤ max8 a g := by simp [max8]

/-- Each of the eight is below. -/
theorem max8_get (a : EReal) (g : Fin 8 → EReal) (k : Fin 8) : g k ≤ max8 a g := by fin_cases k <;> simp [max8]

/-- It is one of them. -/
theorem max8_or (a : EReal) (g : Fin 8 → EReal) : max8 a g = a ∨ ∃ k, max8 a g = g k := by
  have key : ∀ x y : EReal, (x = a ∨ ∃ k, x = g k) → (∃ k, y = g k) → (max x y = a ∨ ∃ k, max x y = g k) := by
    intro x y hx hy
    rcases max_choice x y with h | h
    · rw [h]; exact hx
    · rw [h]; exact .inr hy
  unfold max8
  exact key _ _ (key _ _ (key _ _ (key _ _ (key _ _ (key _ _ (key _ _ (key _ _ (.inl rfl) ⟨0, rfl⟩) ⟨1, rfl⟩) ⟨2, rfl⟩) ⟨3, rfl⟩) ⟨4, rfl⟩) ⟨5, rfl⟩) ⟨6, rfl⟩) ⟨7, rfl⟩

/-- The maxima by sublane over the rows below `R`: each row is below one of them, and each is a row or the value begun with. -/
structure AccOk (R : ℕ) (T : S8192x256.Idx → EReal) (z : EReal) (acc : FVec Ideal S8x256 .f32) : Prop where
  le : ∀ (r : Fin 8192) (c : Fin 256), r.1 < R → ∃ a : Fin 8, T (ix2 r c) ≤ acc (ix2 a c)
  eq : ∀ (a : Fin 8) (c : Fin 256), acc (ix2 a c) = z ∨ ∃ r : Fin 8192, acc (ix2 a c) = T (ix2 r c)

/-- Another sixty-four rows. -/
theorem AccOk.step {R : ℕ} {T : S8192x256.Idx → EReal} {z : EReal} {acc acc' : FVec Ideal S8x256 .f32} (h : AccOk R T z acc) (hR : R + 64 ≤ 8192)
    (h' : ∀ (a : Fin 8) (c : Fin 256), acc' (ix2 a c) = max8 (acc (ix2 a c)) fun k => T (ix2 ⟨R + (8 * k.1 + a.1), by omega⟩ c)) :
    AccOk (R + 64) T z acc' := by
  constructor
  · intro r c hr
    by_cases h1 : r.1 < R
    · obtain ⟨a, ha⟩ := h.le r c h1
      exact ⟨a, ha.trans (by rw [h']; exact max8_left _ _)⟩
    · refine ⟨⟨(r.1 - R) % 8, by omega⟩, ?_⟩
      rw [h']
      have := max8_get (acc (ix2 ⟨(r.1 - R) % 8, by omega⟩ c)) (fun k => T (ix2 ⟨R + (8 * k.1 + (r.1 - R) % 8), by omega⟩ c)) ⟨(r.1 - R) / 8, by omega⟩
      refine le_trans (le_of_eq ?_) this
      dsimp only
      congr 2
      apply Fin.ext
      show r.1 = R + (8 * ((r.1 - R) / 8) + (r.1 - R) % 8)
      omega
  · intro a c
    rw [h']
    rcases max8_or (acc (ix2 a c)) (fun k => T (ix2 ⟨R + (8 * k.1 + a.1), by omega⟩ c)) with h1 | ⟨k, h1⟩
    · rw [h1]; exact h.eq a c
    · rw [h1]; exact .inr ⟨_, rfl⟩

/-- Nothing yet. -/
theorem AccOk.zero {T : S8192x256.Idx → EReal} {z : EReal} {acc : FVec Ideal S8x256 .f32} (h : ∀ a c, acc (ix2 a c) = z) : AccOk 0 T z acc :=
  ⟨fun _ _ h => absurd h (Nat.not_lt_zero _), fun a c => .inl (h a c)⟩

/-- SiLU of twice a value. -/
def silu2 (h : EReal) : EReal := Ideal.ofBits .f32 1073741824#32 * h * Ideal.div 1 (1 + Ideal.exp (0 - Ideal.ofBits .f32 1073741824#32 * h))

/-- The clip to the range of the codes. -/
def clip (a : EReal) : EReal := min (Ideal.ofBits .f32 1138753536#32) (max (Ideal.ofBits .f32 3286237184#32) a)

/-- The code of the fast path. -/
def fastY (h w : EReal) : EReal := clip (h * w * Ideal.tanh h + h * w)

/-- The code of the slow path. -/
def slowY (h w : EReal) : EReal := clip (silu2 h * w)

/-- The scale's exponent as a word, from the largest magnitude. -/
def kexp (a : EReal) : BitVec 32 :=
  Scalar.select (IntOp.cmpi .eq (IntOp.subi 255#32 (Finset.fold IntOp.addi 0#32 (fun x : Fin 256 =>
      if a * Ideal.ofBits .f32 991054117#32 < Ideal.ofBits .f32 (IntOp.shli .vector (BitVec.ofNat 32 x.1) 23#32) then 1#32 else 0#32) Finset.univ)) 0#32) 0#32
    (IntOp.subi (IntOp.subi 255#32 (Finset.fold IntOp.addi 0#32 (fun x : Fin 256 =>
      if a * Ideal.ofBits .f32 991054117#32 < Ideal.ofBits .f32 (IntOp.shli .vector (BitVec.ofNat 32 x.1) 23#32) then 1#32 else 0#32) Finset.univ)) 126#32)

/-- The inverse scale. -/
def invOf (a : EReal) : EReal := Ideal.ofBits .f32 (IntOp.shli .vector (IntOp.subi 127#32 (kexp a)) 23#32)

/-- The scale. -/
def scOf (a : EReal) : EReal := Ideal.ofBits .f32 (IntOp.shli .vector (IntOp.addi (kexp a) 127#32) 23#32)

/-- The largest of eight sublanes. -/
def max8r (v : FVec Ideal S8x256 .f32) (c : Fin 256) : EReal := Finset.fold max (Ideal.ofBits .f32 4286578688#32) (fun x : Fin 8 => v (ix2 x c)) Finset.univ

/-- The maxima after a tile, in the first loop. -/
theorem acc2_apply (acc : FVec Ideal S8x256 .f32) (v76 v82 x u l b) (a : Fin 8) (c : Fin 256) :
    k0_pay159 (F := Ideal) (tileV v76 v82 x u l b) (k0_pay37 lanes (k0_pay150 v76) (k0_pay151 v76) acc (k0_pay20 v82 x) (k0_pay21 u) (k0_pay22 u) (k0_pay24 v82 x)
      (k0_pay25 v82 x) (k0_pay27 v82 x) (k0_pay28 v82 x)
      (k0_pay33 lanes (k0_pay156 v76) (k0_pay157 v76) (k0_pay24 v82 x) (k0_pay25 v82 x) (k0_pay27 v82 x) (k0_pay28 v82 x)
        (k0_pay31 v82 lanes x u) (k0_pay32 v82 lanes x u) 0#32)
      (k0_pay34 lanes (k0_pay153 v76) (k0_pay154 v76) (k0_pay21 u) (k0_pay22 u) (k0_pay24 v82 x) (k0_pay25 v82 x) (k0_pay27 v82 x)
        (k0_pay28 v82 x)) l b) (ix2 a c)
      = max8 (acc (ix2 a c)) fun k => tileV v76 v82 x u l b (ix2 ⟨8 * k.1 + a.1, by omega⟩ c) := by
  unfold tileV
  generalize k0_pay33 (F := Ideal) lanes (k0_pay156 v76) (k0_pay157 v76) (k0_pay24 v82 x) (k0_pay25 v82 x) (k0_pay27 v82 x) (k0_pay28 v82 x)
        (k0_pay31 v82 lanes x u) (k0_pay32 v82 lanes x u) 0#32 = w1
  generalize (k0_pay34 (F := Ideal) lanes (k0_pay153 v76) (k0_pay154 v76) (k0_pay21 u) (k0_pay22 u) (k0_pay24 v82 x) (k0_pay25 v82 x) (k0_pay27 v82 x)
        (k0_pay28 v82 x)) = w2
  unfold k0_pay37
  dsimp only
  generalize k0_pay35 (F := Ideal) lanes (k0_pay150 v76) (k0_pay151 v76) (k0_pay20 v82 x) (k0_pay21 u) (k0_pay22 u) (k0_pay24 v82 x)
      (k0_pay25 v82 x) (k0_pay27 v82 x) (k0_pay28 v82 x) w1 w2 l b = T
  unfold max8
  pointwise [k0_pay159]

/-- The maxima after a tile, in the last loop. -/
theorem acc6_apply (acc : FVec Ideal S8x256 .f32) (v301 v332 v351 v360 v363 v365 b1 v366 l b) (a : Fin 8) (c : Fin 256) :
    k0_pay167 (F := Ideal) acc v301 v332 v351 v360 v363 v365 b1 v366 l b (ix2 a c)
      = max8 (acc (ix2 a c)) fun k => k0_pay165 (F := Ideal) v301 v332 v351 v360 v363 v365 b1 v366 l b (ix2 ⟨8 * k.1 + a.1, by omega⟩ c) := by
  unfold k0_pay167
  generalize k0_pay165 (F := Ideal) v301 v332 v351 v360 v363 v365 b1 v366 l b = T
  unfold max8
  pointwise

/-- The maxima of the magnitudes of a row block, in the loop over them. -/
theorem acc3_apply (acc : FVec Ideal S8x256 .f32) (w : Vec Ideal S64x256 .f32) (a : Fin 8) (c : Fin 256) :
    k0_pay39 (F := Ideal) acc w (ix2 a c)
      = max8 (acc (ix2 a c)) fun k => FloatOps.absf (φ := .f32) (F := Ideal) (silu2 (w (ix2 ⟨8 * k.1 + a.1, by omega⟩ c))) := by
  unfold max8 silu2
  pointwise [k0_pay39]

/-- The fast path's codes. -/
theorem pay19_apply (v : Vec Ideal S64x256 .f32) (w : Vec Ideal S1x256 .f32) (r : Fin 64) (c : Fin 256) :
    k0_pay19 (F := Ideal) v w (ix2 r c) = fastY (v (ix2 r c)) (w (ix2 0 c)) := by
  unfold fastY clip
  pointwise [k0_pay19]

/-- The fast path's codes at the last point. -/
theorem pay164_apply (v : Vec Ideal S64x256 .f32) (w : Vec Ideal S1x256 .f32) (r : Fin 64) (c : Fin 256) :
    k0_pay164 (F := Ideal) v w (ix2 r c) = fastY (v (ix2 r c)) (w (ix2 0 c)) := by
  unfold fastY clip
  pointwise [k0_pay164]

/-- The slow path's codes. -/
theorem pay163_apply (v : Vec Ideal S64x256 .f32) (w : Vec Ideal S1x256 .f32) (r : Fin 64) (c : Fin 256) :
    k0_pay163 (F := Ideal) v w (ix2 r c) = slowY (v (ix2 r c)) (w (ix2 0 c)) := by
  unfold slowY clip silu2
  pointwise [k0_pay163]

/-- The fast path's inverse scales. -/
theorem pay17_apply (v : FVec Ideal S1x256 .f32) (a : Fin 8) (c : Fin 256) : k0_pay17 (F := Ideal) v (ix2 a c) = invOf (v (ix2 0 c)) := by
  unfold invOf kexp
  pointwise [k0_pay17, k0_pay16]

/-- The fast path's scales. -/
theorem pay18_apply (v : FVec Ideal S1x256 .f32) (c : Fin 256) : k0_pay18 (F := Ideal) v (ix2 0 c) = scOf (v (ix2 0 c)) := by
  unfold scOf kexp
  pointwise [k0_pay18, k0_pay16]

/-- The slow path's inverse scales. -/
theorem pay42_apply (v : FVec Ideal S8x256 .f32) (a : Fin 8) (c : Fin 256) : k0_pay161 (F := Ideal) (k0_pay42 v) (ix2 a c) = invOf (max8r v c) := by
  unfold invOf kexp max8r
  pointwise [k0_pay161, k0_pay42, k0_pay40]

/-- The slow path's scales. -/
theorem pay41_apply (v : FVec Ideal S8x256 .f32) (c : Fin 256) : k0_pay162 (F := Ideal) (k0_pay41 v) (ix2 0 c) = scOf (max8r v c) := by
  unfold scOf kexp max8r
  pointwise [k0_pay162, k0_pay41, k0_pay40]

/-- The largest value of the column through the activation. -/
theorem pay145_apply (v : FVec Ideal S8x256 .f32) (c : Fin 256) : k0_pay145 (F := Ideal) v (ix2 0 c) = silu2 (max8r v c) := by
  unfold silu2 max8r
  pointwise [k0_pay145]

/-- The block's last lanes, scaled. -/
theorem pay29_apply (v x) (r : Fin 64) (c : Fin 128) : k0_pay29 (F := Ideal) v x (ix2 r c) = x (ix2 r ⟨128 + c.1, by omega⟩) * v (ix2 r ⟨128 + c.1, by omega⟩) := by
  pointwise [k0_pay29, k0_pay20]

/-- The same in the last loop. -/
theorem pay52_apply (v x) (r : Fin 64) (c : Fin 128) : k0_pay52 (F := Ideal) v x (ix2 r c) = x (ix2 r ⟨128 + c.1, by omega⟩) * v (ix2 r ⟨128 + c.1, by omega⟩) := by
  pointwise [k0_pay52, k0_pay43]

/-- The scales of a block, on every row. -/
theorem pay148_apply (v) (r : Fin 64) (c : Fin 256) : k0_pay148 (F := Ideal) v (ix2 r c) = v (ix2 0 c) := by
  pointwise [k0_pay148]

/-- A tile is stored as it is. -/
theorem pay36_eq (v83 v91 v94 v319 v322_lo v322_hi v324_lo v324_hi v326_lo v326_hi v350 v369 l b) :
    k0_pay36 (F := Ideal) v83 v91 v94 v319 v322_lo v322_hi v324_lo v324_hi v326_lo v326_hi v350 v369 l b
      = k0_pay35 (F := Ideal) v83 v91 v94 v319 v322_lo v322_hi v324_lo v324_hi v326_lo v326_hi v350 v369 l b := by
  unfold k0_pay36
  dsimp only
  generalize k0_pay35 (F := Ideal) v83 v91 v94 v319 v322_lo v322_hi v324_lo v324_hi v326_lo v326_hi v350 v369 l b = T
  funext y
  obtain ⟨r, c, rfl⟩ : ∃ (r : Fin 64) (c : Fin 256), y = ix2 r c := ⟨y 0, y 1, Idealize.ShloMosaic.eq_ix2 y⟩
  pointwise

/-- The same in the last loop. -/
theorem pay166_eq (v301 v332 v351 v360 v363 v365 b1 v366 l b) :
    k0_pay166 (F := Ideal) v301 v332 v351 v360 v363 v365 b1 v366 l b = k0_pay165 (F := Ideal) v301 v332 v351 v360 v363 v365 b1 v366 l b := by
  unfold k0_pay166
  generalize k0_pay165 (F := Ideal) v301 v332 v351 v360 v363 v365 b1 v366 l b = T
  funext y
  obtain ⟨r, c, rfl⟩ : ∃ (r : Fin 64) (c : Fin 256), y = ix2 r c := ⟨y 0, y 1, Idealize.ShloMosaic.eq_ix2 y⟩
  pointwise

/-- The maxima are stored as they are. -/
theorem pay160_eq (v : FVec Ideal S8x256 .f32) : k0_pay160 (F := Ideal) v = v := by
  funext y
  obtain ⟨r, c, rfl⟩ : ∃ (r : Fin 8) (c : Fin 256), y = ix2 r c := ⟨y 0, y 1, Idealize.ShloMosaic.eq_ix2 y⟩
  pointwise [k0_pay160]

/-- The same in the last loop. -/
theorem pay168_eq (v : FVec Ideal S8x256 .f32) : k0_pay168 (F := Ideal) v = v := by
  funext y
  obtain ⟨r, c, rfl⟩ : ∃ (r : Fin 8) (c : Fin 256), y = ix2 r c := ⟨y 0, y 1, Idealize.ShloMosaic.eq_ix2 y⟩
  pointwise [k0_pay168]

end Cert.KernelIdeal.Hand
-- ==== Proof.KernelIdealLoops.lean ====
module

public import proofs.«01_k».proof.Proof.KernelIdealValue

/-! What each loop of the kernel leaves in the buffers. -/

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI Idealize.SL.Sem
open Cert.KernelIdeal.Gen

variable {𝒱 : Variants} {c : Dev nD} {bd : Option 𝒱.V} {E : Set ℕ} {M : Mems}
variable (XD : ℕ → ℕ → EReal) (pos : ℕ → BitVec 32) (wg : ℕ → ℕ → EReal) (hb : ℕ → EReal)

/-- Half the convolution of block `j`. -/
def HN (j : ℕ) : S8192x256.Idx → EReal := fun x => convN XD pos wg hb (x 0).1 (256 * j + (x 1).1)

/-- The diagonal half weights. -/
def LN : S8192x256.Idx → EReal := fun x => if (x 1).1 % 64 = (x 0).1 % 64 then wg (x 0).1 ((x 1).1 / 64) else 0

/-- The scaled input of the last lanes of block `j`. -/
def UN (j : ℕ) : S8192x128.Idx → EReal := fun x => XD (x 0).1 (256 * j + 128 + (x 1).1)

/-- The codes of the fast path from a block and the inverse scales. -/
def fastB (h : S8192x256.Idx → EReal) (w : S8x256.Idx → EReal) : S8192x256.Idx → EReal := fun x => fastY (h x) (w (ix2 (0 : Fin 8) (x 1 : Fin 256)))

/-- The codes of the slow path. -/
def slowB (h : S8192x256.Idx → EReal) (w : S8x256.Idx → EReal) : S8192x256.Idx → EReal := fun x => slowY (h x) (w (ix2 (0 : Fin 8) (x 1 : Fin 256)))

/-- The magnitudes of a block's activations. -/
def absB (h : S8192x256.Idx → EReal) : S8192x256.Idx → EReal := fun x => FloatOps.absf (φ := .f32) (F := Ideal) (silu2 (h x))

/-- What a tile of block `j` needs of the inputs and of what the point before left. -/
structure TileIn (j : ℕ) (s : St Ideal) (v76 : IVec S1x256 32) (v82 : FVec Ideal S64x256 .bf16) : Prop where
  hpos : ∀ t d : ℕ, d ≤ 3 → (BitVec.ofNat 32 d).toInt ≤ (pos t).toInt → d ≤ t
  hp : ∀ c : Fin 256, v76 (ix2 0 c) = pos (256 * j + c.1)
  hx : ∀ (r : Fin 8192) (a : Fin 64) (c : Fin 256), s.xb (ix2 r c) * v82 (ix2 a c) = XD r.1 (256 * j + c.1)
  hu : 0 < j → ∀ (r : Fin 8192) (l : Fin 128), s.halo (ix2 r l) = XD r.1 (256 * (j - 1) + 128 + l.1)
  hl : s.l = LN wg
  hb : ∀ r : Fin 8192, s.bh (ix2 r 0) = hb r.1

variable {XD pos wg hb}

/-- A tile read from the buffers holds its rows of half the convolution. -/
theorem TileIn.tile {j : ℕ} {s : St Ideal} {v76 : IVec S1x256 32} {v82 : FVec Ideal S64x256 .bf16} (h : TileIn XD pos wg hb j s v76 v82)
    (q : ℕ) (hq : 64 * q + 64 ≤ 8192) {x u l b}
    (hx : ∀ (r : Fin 64) (c : Fin 256), x (ix2 r c) = s.xb (ix2 ⟨64 * q + r.1, by omega⟩ c))
    (hu : ∀ (r : Fin 64) (c : Fin 128), u (ix2 r c) = s.halo (ix2 ⟨64 * q + r.1, by omega⟩ c))
    (hl : ∀ (r : Fin 64) (c : Fin 256), l (ix2 r c) = s.l (ix2 ⟨64 * q + r.1, by omega⟩ c))
    (hb' : ∀ (r : Fin 64), b (ix2 r 0) = s.bh (ix2 ⟨64 * q + r.1, by omega⟩ 0)) (r : Fin 64) (c : Fin 256) :
    tileV v76 v82 x u l b (ix2 r c) = HN XD pos wg hb j (ix2 ⟨64 * q + r.1, by omega⟩ c) := by
  refine tileV_eq XD pos wg hb (64 * q) j v76 v82 x u l b h.hpos h.hp ?_ ?_ ?_ ?_ r c
  · intro r c; rw [hx]; exact h.hx _ r c
  · intro hj r c; rw [hu]; exact h.hu hj _ c
  · intro r k
    rw [hl, h.hl]
    show (if k.1 % 64 = (64 * q + r.1) % 64 then _ else _) = _
    rw [(by omega : (64 * q + r.1) % 64 = r.1)]
    rfl
  · intro r; rw [hb', h.hb]

/-- The last lanes of a tile, scaled. -/
theorem TileIn.last {j : ℕ} {s : St Ideal} {v76 : IVec S1x256 32} {v82 : FVec Ideal S64x256 .bf16} (h : TileIn XD pos wg hb j s v76 v82)
    (q : ℕ) (hq : 64 * q + 64 ≤ 8192) {x : Vec Ideal S64x256 .fp8e4m3}
    (hx : ∀ (r : Fin 64) (c : Fin 256), x (ix2 r c) = s.xb (ix2 ⟨64 * q + r.1, by omega⟩ c)) (r : Fin 64) (c : Fin 128) :
    x (ix2 r ⟨128 + c.1, by omega⟩) * v82 (ix2 r ⟨128 + c.1, by omega⟩) = UN XD j (ix2 ⟨64 * q + r.1, by omega⟩ c) := by
  rw [hx]
  refine (h.hx _ r _).trans ?_
  show XD (64 * q + r.1) (256 * j + (128 + c.1)) = XD (64 * q + r.1) (256 * j + 128 + c.1)
  rw [Nat.add_assoc]

/-- A load of whole rows. -/
theorem ld_full {a b p : ℕ} {e : EltTy} (X : (⟨2, ![a, b]⟩ : Shape).Idx → Elt Ideal e) {off : Fin 2 → ℕ}
    {inb : ∀ x, off x + (⟨2, ![p, b]⟩ : Shape).size x ≤ (⟨2, ![a, b]⟩ : Shape).size x} (n : ℕ) (ho : off = ![n, 0])
    (i : Fin p) (j : Fin b) (h0 : n + i.1 < a) :
    X ((Rect.unit (s := ⟨2, ![a, b]⟩) off (⟨2, ![p, b]⟩ : Shape).size inb).toLoadRect.idx (ix2 i j)) = X (ix2 ⟨n + i.1, h0⟩ j) := by
  rw [ld_blk (F := Ideal) X n 0 ho i j h0 (by omega)]
  congr 2
  exact Fin.ext (Nat.zero_add _)

/-- Contents that agree in the three buffers a loop writes. -/
theorem st_upd (s : St Ideal) {y y' : S8192x256.Idx → Elt Ideal .fp8e4m3} {h h' : S8192x256.Idx → Elt Ideal .f32} {u u' : S8192x128.Idx → Elt Ideal .bf16}
    (e1 : y = y') (e2 : h = h') (e3 : u = u') : ({ s with y := y, h := h, halo := u } : St Ideal) = { s with y := y', h := h', halo := u' } := by
  subst e1 e2 e3
  rfl

/-- The first loop: the codes of the block before and half the convolution of this block. -/
theorem wp_t2 {j : ℕ} {s : St Ideal} {v76 : IVec S1x256 32} {v82 : FVec Ideal S64x256 .bf16} (h : TileIn XD pos wg hb j s v76 v82)
    (i : grid0.Coords) (v25 : BitVec 1) (v29 : BitVec 32) (v30 v31 : BitVec 1) (Q : FVec Ideal S8x256 .f32 → St Ideal → Prop)
    (hQ : ∀ acc, AccOk 8192 (HN XD pos wg hb j) (Ideal.ofBits .f32 0xFF800000#32) acc →
      Q acc { s with y := fastB s.h s.inv, h := HN XD pos wg hb j, halo := UN XD j }) :
    WP 𝒱 c bd E M (Scf.Loop.for k0_t2_loop k0_t2_ok (k0_pay158 (F := Ideal)) (k0_t2_body i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v25 v29 v30 v31 v76 v82 lanes)) Q s := by
  refine WP.loop _ _ _ _ (fun n acc s' => s' = { s with
      y := rowsTo (64 * n) (fastB s.h s.inv) s.y
      h := rowsTo (64 * n) (HN XD pos wg hb j) s.h
      halo := rowsTo (64 * n) (UN XD j) s.halo } ∧ AccOk (64 * n) (HN XD pos wg hb j) (Ideal.ofBits .f32 0xFF800000#32) acc) ⟨rfl, AccOk.zero fun _ _ => rfl⟩ ?_ ?_
  · rintro k acc s' ⟨rfl, hacc⟩
    have hk : k.1 < 128 := k.2
    have hq : 64 * k.1 + 64 ≤ 8192 := by omega
    have o6 := k0_off6_eq k
    have o7 := k0_off7_eq k
    have o8 := k0_off8_eq k
    dsimp only [k0_t2_body]
    refine WP.bind ?_
    rw [k0_part3_eq_skeleton]
    dsimp only [k0_part3_skel]
    refine WP.bind (WP.load12 ?_)
    refine WP.bind (WP.load17 ?_)
    refine WP.bind (WP.load8 ?_)
    refine WP.bind (WP.store8 ?_)
    refine WP.bind (WP.load3 ?_)
    refine WP.bind (WP.load14 ?_)
    refine WP.bind (WP.load14 ?_)
    refine WP.bind (WP.store14 ?_)
    refine WP.pure ?_
    refine WP.bind ?_
    rw [k0_part4_eq_skeleton]
    dsimp only [k0_part4_skel]
    refine WP.pure ?_
    refine WP.bind ?_
    rw [k0_part5_eq_skeleton]
    dsimp only [k0_part5_skel]
    refine WP.bind (WP.load13 ?_)
    refine WP.bind (WP.load6 ?_)
    refine WP.bind (WP.load12 ?_)
    refine WP.bind (WP.store12 ?_)
    refine WP.pure ?_
    refine WP.pure ?_
    dsimp only
    have ht := h.tile (q := k.1) hq
      (x := fun x => s.xb ((Rect.unit (s := S8192x256) (k0_off6 k) S64x256.size (k0_off6_inb k)).toLoadRect.idx x))
      (u := fun x => rowsTo (64 * k.1) (UN XD j) s.halo ((Rect.unit (s := S8192x128) (k0_off7 k) S64x128.size (k0_off7_inb k)).toLoadRect.idx x))
      (l := fun x => s.l ((Rect.unit (s := S8192x256) (k0_off6 k) S64x256.size (k0_off6_inb k)).toLoadRect.idx x))
      (b := fun x => s.bh ((Rect.unit (s := S8192x1) (k0_off8 k) S64x1.size (k0_off8_inb k)).toLoadRect.idx x))
      (fun r c => ld_full s.xb _ o6 r c (by omega))
      (fun r c => ld_rows (F := Ideal) (UN XD j) s.halo _ o7 r c (by omega))
      (fun r c => ld_full s.l _ o6 r c (by omega))
      (fun r => (ld_blk (F := Ideal) s.bh _ _ o8 r 0 (by omega) (by omega)).trans rfl)
    refine ⟨?_, ?_⟩
    · rw [Nat.mul_succ]
      refine st_upd s ?_ ?_ ?_
      · refine put_rows (F := Ideal) (fastB s.h s.inv) s.y _ (64 * k.1) o6 hq fun r c => ?_
        rw [pay19_apply, ld_rows (F := Ideal) (HN XD pos wg hb j) s.h _ o6 r c (by omega), ld_blk (F := Ideal) s.inv 0 0 rfl 0 c (by decide) (by omega)]
        unfold fastB
        congr 3
        exact Fin.ext (Nat.zero_add _)
      · rw [pay36_eq]
        exact put_rows (F := Ideal) (HN XD pos wg hb j) s.h _ (64 * k.1) o6 hq ht
      · refine put_rows (F := Ideal) (UN XD j) s.halo _ (64 * k.1) o7 hq fun r c => ?_
        rw [pay29_apply]
        exact h.last k.1 hq (x := fun x => s.xb ((Rect.unit (s := S8192x256) (k0_off6 k) S64x256.size (k0_off6_inb k)).toLoadRect.idx x))
          (fun r c => ld_full s.xb _ o6 r c (by omega)) r c
    · rw [Nat.mul_succ]
      refine hacc.step hq fun a c => ?_
      refine (acc2_apply acc v76 v82 _ _ _ _ a c).trans ?_
      congr 1
      funext k'
      exact ht _ c
  · rintro acc s' ⟨rfl, hacc⟩
    have := hQ acc hacc
    rw [rowsTo_all (by decide), rowsTo_all (by decide), rowsTo_all (by decide)]
    exact this

end Cert.KernelIdeal.Hand
-- ==== Proof.KernelIdealLoops2.lean ====
module

public import proofs.«01_k».proof.Proof.KernelIdealLoops

/-! What the other loops of the kernel leave in the buffers. -/

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI Idealize.SL.Sem
open Cert.KernelIdeal.Gen

variable {𝒱 : Variants} {c : Dev nD} {bd : Option 𝒱.V} {E : Set ℕ} {M : Mems}
variable {XD : ℕ → ℕ → EReal} {pos : ℕ → BitVec 32} {wg : ℕ → ℕ → EReal} {hb : ℕ → EReal}

/-- The loop of the points that quantise nothing by the fast path: half the convolution of this block. -/
theorem wp_t6 {j : ℕ} {s : St Ideal} {v76 : IVec S1x256 32} {v82 : FVec Ideal S64x256 .bf16} (h : TileIn XD pos wg hb j s v76 v82)
    (i : grid0.Coords) (arg0 : BitVec 32) (v30 v127 : BitVec 1) (Q : FVec Ideal S8x256 .f32 → St Ideal → Prop)
    (hQ : ∀ acc, AccOk 8192 (HN XD pos wg hb j) (Ideal.ofBits .f32 0xFF800000#32) acc →
      Q acc { s with h := HN XD pos wg hb j, halo := UN XD j }) :
    WP 𝒱 c bd E M (Scf.Loop.for k0_t6_loop k0_t6_ok (k0_pay158 (F := Ideal)) (k0_t6_body i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 arg0 v30 v82 lanes (k0_pay150 v76) (k0_pay151 v76) (k0_pay153 v76) (k0_pay154 v76) (k0_pay156 v76) (k0_pay157 v76) (k0_pay158 (F := Ideal)) v127)) Q s := by
  refine WP.loop _ _ _ _ (fun n acc s' => s' = { s with
      h := rowsTo (64 * n) (HN XD pos wg hb j) s.h
      halo := rowsTo (64 * n) (UN XD j) s.halo } ∧ AccOk (64 * n) (HN XD pos wg hb j) (Ideal.ofBits .f32 0xFF800000#32) acc) ⟨rfl, AccOk.zero fun _ _ => rfl⟩ ?_ ?_
  · rintro k acc s' ⟨rfl, hacc⟩
    have hk : k.1 < 128 := k.2
    have hq : 64 * k.1 + 64 ≤ 8192 := by omega
    have o13 := k0_off13_eq k
    have o14 := k0_off14_eq k
    have o15 := k0_off15_eq k
    dsimp only [k0_t6_body]
    refine WP.bind ?_
    rw [k0_part7_eq_skeleton]
    dsimp only [k0_part7_skel]
    refine WP.bind (WP.load3 ?_)
    refine WP.bind (WP.load14 ?_)
    refine WP.bind (WP.load14 ?_)
    refine WP.bind (WP.store14 ?_)
    refine WP.pure ?_
    refine WP.bind ?_
    rw [k0_part8_eq_skeleton]
    dsimp only [k0_part8_skel]
    refine WP.pure ?_
    refine WP.bind (WP.load13 ?_)
    refine WP.bind (WP.load6 ?_)
    refine WP.bind (WP.load12 ?_)
    refine WP.bind (WP.store12 ?_)
    refine WP.pure ?_
    dsimp only
    have ht := h.tile (q := k.1) hq
      (x := fun x => s.xb ((Rect.unit (s := S8192x256) (k0_off13 k) S64x256.size (k0_off13_inb k)).toLoadRect.idx x))
      (u := fun x => rowsTo (64 * k.1) (UN XD j) s.halo ((Rect.unit (s := S8192x128) (k0_off14 k) S64x128.size (k0_off14_inb k)).toLoadRect.idx x))
      (l := fun x => s.l ((Rect.unit (s := S8192x256) (k0_off13 k) S64x256.size (k0_off13_inb k)).toLoadRect.idx x))
      (b := fun x => s.bh ((Rect.unit (s := S8192x1) (k0_off15 k) S64x1.size (k0_off15_inb k)).toLoadRect.idx x))
      (fun r c => ld_full s.xb _ o13 r c (by omega))
      (fun r c => ld_rows (F := Ideal) (UN XD j) s.halo _ o14 r c (by omega))
      (fun r c => ld_full s.l _ o13 r c (by omega))
      (fun r => (ld_blk (F := Ideal) s.bh _ _ o15 r 0 (by omega) (by omega)).trans rfl)
    refine ⟨?_, ?_⟩
    · rw [Nat.mul_succ]
      refine st_upd s ?_ ?_ ?_
      · rfl
      · rw [pay166_eq, tile6_eq]
        exact put_rows (F := Ideal) (HN XD pos wg hb j) s.h _ (64 * k.1) o13 hq ht
      · refine put_rows (F := Ideal) (UN XD j) s.halo _ (64 * k.1) o14 hq fun r c => ?_
        rw [pay52_apply]
        exact h.last k.1 hq (x := fun x => s.xb ((Rect.unit (s := S8192x256) (k0_off13 k) S64x256.size (k0_off13_inb k)).toLoadRect.idx x))
          (fun r c => ld_full s.xb _ o13 r c (by omega)) r c
    · rw [Nat.mul_succ]
      refine hacc.step hq fun a c => ?_
      refine (acc6_apply _ _ _ _ _ _ _ _ _ _ _ a c).trans ?_
      congr 1
      funext k'
      rw [tile6_eq]
      exact ht _ c
  · rintro acc s' ⟨rfl, hacc⟩
    have := hQ acc hacc
    rw [rowsTo_all (by decide), rowsTo_all (by decide)]
    exact this

/-- The loop that quantises by the slow path. -/
theorem wp_t4 (s : St Ideal) (i : grid0.Coords) (v25 : BitVec 1) (v29 : BitVec 32) (v30 v31 : BitVec 1) (v76 : IVec S1x256 32) (v82 : FVec Ideal S64x256 .bf16)
    (Q : Unit → St Ideal → Prop) (hQ : Q ⟨⟩ { s with y := slowB s.h s.inv }) :
    WP 𝒱 c bd E M (Scf.Loop.for k0_t4_loop k0_t4_ok ⟨⟩ (k0_t4_body i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v25 v29 v30 v31 v76 v82)) Q s := by
  refine WP.loop _ _ _ _ (fun n acc s' => s' = { s with y := rowsTo (64 * n) (slowB s.h s.inv) s.y }) rfl ?_ ?_
  · rintro k acc s' rfl
    have hk : k.1 < 128 := k.2
    have hq : 64 * k.1 + 64 ≤ 8192 := by omega
    have o6 := k0_off11_eq k
    dsimp only [k0_t4_body]
    refine WP.bind (WP.load12 ?_)
    refine WP.bind (WP.load17 ?_)
    refine WP.bind (WP.load8 ?_)
    refine WP.bind (WP.store8 ?_)
    refine WP.pure ?_
    dsimp only
    rw [Nat.mul_succ]
    refine st_upd s ?_ rfl rfl
    refine put_rows (F := Ideal) (slowB s.h s.inv) s.y _ (64 * k.1) o6 hq fun r c => ?_
    rw [pay163_apply, ld_full s.h _ o6 r c (by omega), ld_blk (F := Ideal) s.inv 0 0 rfl 0 c (by decide) (by omega)]
    unfold slowB
    congr 3
    exact Fin.ext (Nat.zero_add _)
  · rintro acc s' rfl
    rw [rowsTo_all (by decide)]
    exact hQ

/-- The loop that quantises by the fast path at the last point. -/
theorem wp_t5 (s : St Ideal) (i : grid0.Coords) (v25 : BitVec 1) (v29 : BitVec 32) (v30 v31 : BitVec 1) (v76 : IVec S1x256 32) (v82 : FVec Ideal S64x256 .bf16)
    (Q : Unit → St Ideal → Prop) (hQ : Q ⟨⟩ { s with y := fastB s.h s.inv }) :
    WP 𝒱 c bd E M (Scf.Loop.for k0_t5_loop k0_t5_ok ⟨⟩ (k0_t5_body i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v25 v29 v30 v31 v76 v82)) Q s := by
  refine WP.loop _ _ _ _ (fun n acc s' => s' = { s with y := rowsTo (64 * n) (fastB s.h s.inv) s.y }) rfl ?_ ?_
  · rintro k acc s' rfl
    have hk : k.1 < 128 := k.2
    have hq : 64 * k.1 + 64 ≤ 8192 := by omega
    have o6 := k0_off12_eq k
    dsimp only [k0_t5_body]
    refine WP.bind (WP.load12 ?_)
    refine WP.bind (WP.load17 ?_)
    refine WP.bind (WP.load8 ?_)
    refine WP.bind (WP.store8 ?_)
    refine WP.pure ?_
    dsimp only
    rw [Nat.mul_succ]
    refine st_upd s ?_ rfl rfl
    refine put_rows (F := Ideal) (fastB s.h s.inv) s.y _ (64 * k.1) o6 hq fun r c => ?_
    rw [pay164_apply, ld_full s.h _ o6 r c (by omega), ld_blk (F := Ideal) s.inv 0 0 rfl 0 c (by decide) (by omega)]
    unfold fastB
    congr 3
    exact Fin.ext (Nat.zero_add _)
  · rintro acc s' rfl
    rw [rowsTo_all (by decide)]
    exact hQ

/-- The loop over the magnitudes. -/
theorem wp_t3 (s : St Ideal) (i : grid0.Coords) (Q : FVec Ideal S8x256 .f32 → St Ideal → Prop)
    (hQ : ∀ acc, AccOk 8192 (absB s.h) (Ideal.ofBits .f32 0#32) acc → Q acc s) :
    WP 𝒱 c bd E M (Scf.Loop.for k0_t3_loop k0_t3_ok (k0_pay38 (F := Ideal)) (k0_t3_body i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17)) Q s := by
  refine WP.loop _ _ _ _ (fun n acc s' => s' = s ∧ AccOk (64 * n) (absB s.h) (Ideal.ofBits .f32 0#32) acc) ⟨rfl, AccOk.zero fun _ _ => rfl⟩ ?_ ?_
  · rintro k acc s' ⟨rfl, hacc⟩
    have hk : k.1 < 128 := k.2
    have hq : 64 * k.1 + 64 ≤ 8192 := by omega
    have o6 := k0_off9_eq k
    dsimp only [k0_t3_body]
    refine WP.bind (WP.load12 ?_)
    refine WP.pure ⟨rfl, ?_⟩
    rw [Nat.mul_succ]
    refine hacc.step hq fun a c => ?_
    rw [acc3_apply]
    congr 1
    funext k'
    rw [ld_full s'.h _ o6 _ c (by dsimp only; omega)]
    rfl
  · rintro acc s' ⟨rfl, hacc⟩
    exact hQ acc hacc

end Cert.KernelIdeal.Hand
-- ==== Proof.KernelIdealWeights.lean ====
module

public import proofs.«01_k».proof.Proof.KernelIdealLoops

/-! The loop that lays out the weights on diagonals. -/

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI Idealize.SL.Sem
open Cert.KernelIdeal.Gen

variable {𝒱 : Variants} {c : Dev nD} {bd : Option 𝒱.V} {E : Set ℕ} {M : Mems}
/-- Choosing the diagonal and the half. -/
theorem sel_diag (r : Fin 64) (c : Fin 128) (a b : EReal) :
    Scalar.select (IntOp.cmpi .eq (IntOp.andi (BitVec.ofNat 32 c.1) 63#32) (BitVec.ofNat 32 r.1))
      (Scalar.select (IntOp.cmpi .slt (BitVec.ofNat 32 c.1) 64#32) a b) 0 = if c.1 % 64 = r.1 then (if c.1 < 64 then a else b) else (0 : EReal) := by
  have e1 : ∀ c : Fin 128, IntOp.andi (BitVec.ofNat 32 c.1) 63#32 = BitVec.ofNat 32 (c.1 % 64) := by decide +kernel
  have e2 : ∀ x y : Fin 64, IntOp.cmpi .eq (BitVec.ofNat 32 x.1) (BitVec.ofNat 32 y.1) = BitVec.ofBool (decide (x.1 = y.1)) := by decide +kernel
  have e3 : ∀ c : Fin 128, IntOp.cmpi .slt (BitVec.ofNat 32 c.1) 64#32 = BitVec.ofBool (decide (c.1 < 64)) := by decide +kernel
  rw [e1, e2 ⟨c.1 % 64, by omega⟩ r, e3]
  by_cases h1 : c.1 % 64 = r.1 <;> by_cases h2 : c.1 < 64 <;> simp [h1, h2, Scalar.select]

/-- A quarter of the diagonal weights of 128 rows. -/
theorem pay13_apply (v : Vec Ideal S4x128 .bf16) (r : Fin 64) (c : Fin 128) :
    k0_pay13 (F := Ideal) k0_pay141 k0_pay142 v (ix2 r c) = if c.1 % 64 = r.1 then Ideal.ofBits .f32 1056964608#32 * v (ix2 ⟨c.1 / 64, by omega⟩ ⟨r.1, by omega⟩) else 0 := by
  pointwise [k0_pay13, k0_pay11, k0_pay12, k0_pay141, k0_pay142]
  refine (sel_diag r c _ _).trans ?_
  by_cases h : c.1 % 64 = r.1
  · rw [if_pos h, if_pos h]
    split
    · congr 3
      all_goals (apply Fin.ext; first | (show 0 = _; dsimp only; omega) | (show 1 = _; dsimp only; omega) | (dsimp only; omega))
    · congr 3
      all_goals (apply Fin.ext; first | (show 0 = _; dsimp only; omega) | (show 1 = _; dsimp only; omega) | (dsimp only; omega))
  · rw [if_neg h, if_neg h]

/-- A quarter of the diagonal weights of 128 rows. -/
theorem pay14_apply (v : Vec Ideal S4x128 .bf16) (r : Fin 64) (c : Fin 128) :
    k0_pay14 (F := Ideal) k0_pay141 k0_pay142 v (ix2 r c) = if c.1 % 64 = r.1 then Ideal.ofBits .f32 1056964608#32 * v (ix2 ⟨2 + c.1 / 64, by omega⟩ ⟨r.1, by omega⟩) else 0 := by
  pointwise [k0_pay14, k0_pay11, k0_pay12, k0_pay141, k0_pay142]
  refine (sel_diag r c _ _).trans ?_
  by_cases h : c.1 % 64 = r.1
  · rw [if_pos h, if_pos h]
    split
    · congr 3
      all_goals (apply Fin.ext; first | (show 0 = _; dsimp only; omega) | (show 1 = _; dsimp only; omega) | (dsimp only; omega))
    · congr 3
      all_goals (apply Fin.ext; first | (show 0 = _; dsimp only; omega) | (show 1 = _; dsimp only; omega) | (dsimp only; omega))
  · rw [if_neg h, if_neg h]

/-- A quarter of the diagonal weights of 128 rows. -/
theorem pay143_apply (v : Vec Ideal S4x128 .bf16) (r : Fin 64) (c : Fin 128) :
    k0_pay143 (F := Ideal) (Scalar.ofBits .f32 0#32) (k0_pay15 k0_pay142 v) (ix2 r c) = if c.1 % 64 = r.1 then Ideal.ofBits .f32 1056964608#32 * v (ix2 ⟨c.1 / 64, by omega⟩ ⟨64 + r.1, by omega⟩) else 0 := by
  pointwise [k0_pay143, k0_pay15, k0_pay11, k0_pay12, k0_pay141, k0_pay142]
  refine (sel_diag r c _ _).trans ?_
  by_cases h : c.1 % 64 = r.1
  · rw [if_pos h, if_pos h]
    split
    · congr 3
      all_goals (apply Fin.ext; first | (show 0 = _; dsimp only; omega) | (show 1 = _; dsimp only; omega) | (dsimp only; omega))
    · congr 3
      all_goals (apply Fin.ext; first | (show 0 = _; dsimp only; omega) | (show 1 = _; dsimp only; omega) | (dsimp only; omega))
  · rw [if_neg h, if_neg h]

/-- A quarter of the diagonal weights of 128 rows. -/
theorem pay144_apply (v : Vec Ideal S4x128 .bf16) (r : Fin 64) (c : Fin 128) :
    k0_pay144 (F := Ideal) (k0_pay11 v) (k0_pay12 v) (ix2 r c) = if c.1 % 64 = r.1 then Ideal.ofBits .f32 1056964608#32 * v (ix2 ⟨2 + c.1 / 64, by omega⟩ ⟨64 + r.1, by omega⟩) else 0 := by
  pointwise [k0_pay144, k0_pay11, k0_pay12, k0_pay141, k0_pay142]
  refine (sel_diag r c _ _).trans ?_
  by_cases h : c.1 % 64 = r.1
  · rw [if_pos h, if_pos h]
    split
    · congr 3
      all_goals (apply Fin.ext; first | (show 0 = _; dsimp only; omega) | (show 1 = _; dsimp only; omega) | (dsimp only; omega))
    · congr 3
      all_goals (apply Fin.ext; first | (show 0 = _; dsimp only; omega) | (show 1 = _; dsimp only; omega) | (dsimp only; omega))
  · rw [if_neg h, if_neg h]

/-- Four quarters stored are 128 rows of diagonal weights. -/
theorem put_quads (new old : S8192x256.Idx → Elt Ideal .bf16) (n : ℕ) (hn : n + 128 ≤ 8192) {off1 off2 off3 off4 : Fin 2 → ℕ} {i1 i2 i3 i4}
    (w1 w2 w3 w4 : S64x128.Idx → Elt Ideal .bf16) (ho1 : off1 = ![n, 0]) (ho2 : off2 = ![n, 128]) (ho3 : off3 = ![n + 64, 0]) (ho4 : off4 = ![n + 64, 128])
    (h1 : ∀ (r : Fin 64) (c : Fin 128), w1 (ix2 r c) = new (ix2 ⟨n + r.1, by omega⟩ ⟨c.1, by omega⟩))
    (h2 : ∀ (r : Fin 64) (c : Fin 128), w2 (ix2 r c) = new (ix2 ⟨n + r.1, by omega⟩ ⟨128 + c.1, by omega⟩))
    (h3 : ∀ (r : Fin 64) (c : Fin 128), w3 (ix2 r c) = new (ix2 ⟨n + 64 + r.1, by omega⟩ ⟨c.1, by omega⟩))
    (h4 : ∀ (r : Fin 64) (c : Fin 128), w4 (ix2 r c) = new (ix2 ⟨n + 64 + r.1, by omega⟩ ⟨128 + c.1, by omega⟩)) :
    put (put (put (put (rowsTo n new old) (Rect.unit (s := S8192x256) off1 S64x128.size i1) w1 Finset.univ)
      (Rect.unit (s := S8192x256) off2 S64x128.size i2) w2 Finset.univ) (Rect.unit (s := S8192x256) off3 S64x128.size i3) w3 Finset.univ)
      (Rect.unit (s := S8192x256) off4 S64x128.size i4) w4 Finset.univ = rowsTo (n + 128) new old := by
  funext y
  obtain ⟨r, c, rfl⟩ : ∃ (r : Fin 8192) (c : Fin 256), y = ix2 r c := ⟨y 0, y 1, Idealize.ShloMosaic.eq_ix2 y⟩
  have hc := c.2
  rw [rowsTo_ix2]
  refine (put_blk (F := Ideal) _ w4 (n + 64) 128 ho4 r c).trans ?_
  by_cases a4 : (n + 64 ≤ r.1 ∧ r.1 < n + 64 + 64) ∧ (128 ≤ c.1 ∧ c.1 < 128 + 128)
  · rw [dif_pos a4, h4, if_pos (by omega)]
    congr 2 <;> (apply Fin.ext; dsimp only; omega)
  rw [dif_neg a4]
  refine (put_blk (F := Ideal) _ w3 (n + 64) 0 ho3 r c).trans ?_
  by_cases a3 : (n + 64 ≤ r.1 ∧ r.1 < n + 64 + 64) ∧ (0 ≤ c.1 ∧ c.1 < 0 + 128)
  · rw [dif_pos a3, h3, if_pos (by omega)]
    congr 2 <;> (apply Fin.ext; dsimp only; omega)
  rw [dif_neg a3]
  refine (put_blk (F := Ideal) _ w2 n 128 ho2 r c).trans ?_
  by_cases a2 : (n ≤ r.1 ∧ r.1 < n + 64) ∧ (128 ≤ c.1 ∧ c.1 < 128 + 128)
  · rw [dif_pos a2, h2, if_pos (by omega)]
    congr 2 <;> (apply Fin.ext; dsimp only; omega)
  rw [dif_neg a2]
  refine (put_blk (F := Ideal) _ w1 n 0 ho1 r c).trans ?_
  by_cases a1 : (n ≤ r.1 ∧ r.1 < n + 64) ∧ (0 ≤ c.1 ∧ c.1 < 0 + 128)
  · rw [dif_pos a1, h1, if_pos (by omega)]
    congr 2 <;> (apply Fin.ext; dsimp only; omega)
  rw [dif_neg a1, rowsTo_ix2]
  by_cases b : r.1 < n
  · rw [if_pos b, if_pos (by omega)]
  · rw [if_neg b, if_neg (by omega)]

/-- The loop that lays out the diagonal half weights. -/
theorem wp_t1 {wg : ℕ → ℕ → EReal} (s : St Ideal) (i : grid0.Coords) (k0_h1 : k0_cond1 i = 1#1)
    (hw : ∀ (k : Fin 4) (r : Fin 8192), Ideal.ofBits .f32 1056964608#32 * s.wt (ix2 k r) = wg r.1 k.1)
    (Q : Unit → St Ideal → Prop) (hQ : Q ⟨⟩ { s with l := LN wg }) :
    WP 𝒱 c bd E M (Scf.Loop.for k0_t1_loop (k0_t1_ok i k0_h1) ⟨⟩ (k0_t1_body i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 k0_h1)) Q s := by
  refine WP.loop _ _ _ _ (fun n acc s' => s' = { s with l := rowsTo (128 * n) (LN wg) s.l }) rfl ?_ ?_
  · rintro k acc s' rfl
    have hk : k.1 < 64 := k.2
    have hq : 128 * k.1 + 128 ≤ 8192 := by omega
    have o1 := k0_off1_eq k
    have o2 := k0_off2_eq k 0
    have o2' := k0_off2_eq k 1
    have o3 := k0_off3_eq k 0
    have o3' := k0_off3_eq k 1
    dsimp only [k0_t1_body]
    refine WP.bind ?_
    rw [k0_part1_eq_skeleton]
    dsimp only [k0_part1_skel]
    refine WP.bind (WP.load5 ?_)
    refine WP.bind (WP.load13 ?_)
    refine WP.bind (WP.store13 ?_)
    refine WP.bind (WP.load13 ?_)
    refine WP.bind (WP.store13 ?_)
    refine WP.pure ?_
    refine WP.bind (WP.load13 ?_)
    refine WP.bind (WP.store13 ?_)
    refine WP.bind (WP.load13 ?_)
    refine WP.bind (WP.store13 ?_)
    refine WP.pure ?_
    dsimp only
    rw [Nat.mul_succ]
    have hld : ∀ (a : Fin 4) (b : Fin 128), s.wt ((Rect.unit (s := S4x8192) (k0_off1 k) S4x128.size (k0_off1_inb i k k0_h1)).toLoadRect.idx (ix2 a b))
        = s.wt (ix2 a ⟨128 * k.1 + b.1, by omega⟩) := by
      intro a b
      rw [ld_blk (F := Ideal) s.wt 0 _ o1 a b (by omega) (by omega)]
      congr 2
      exact Fin.ext (Nat.zero_add _)
    have key : ∀ (p o : ℕ) (hp : p < 4) (r : ℕ) (hr : 128 * k.1 + r < 8192) (hr' : r < 128) (cc : ℕ) (hcc : cc < 256) (P : Prop) [Decidable P] (hP : P ↔ cc % 64 = (128 * k.1 + r) % 64)
        (hpk : p = cc / 64), (if P then Ideal.ofBits .f32 1056964608#32 * s.wt ((Rect.unit (s := S4x8192) (k0_off1 k) S4x128.size (k0_off1_inb i k k0_h1)).toLoadRect.idx (ix2 ⟨p, hp⟩ ⟨r, hr'⟩)) else (0 : EReal))
          = LN wg (ix2 ⟨128 * k.1 + r, hr⟩ ⟨cc, hcc⟩) := by
      intro p o hp r hr hr' cc hcc P _ hP hpk
      rw [hld, hw]
      show _ = if cc % 64 = (128 * k.1 + r) % 64 then wg (128 * k.1 + r) (cc / 64) else 0
      rw [← hpk]
      by_cases h : P
      · rw [if_pos h, if_pos (hP.1 h)]
      · rw [if_neg h, if_neg (fun h' => h (hP.2 h'))]
    have e := put_quads (LN wg) s.l (128 * k.1) hq (i1 := k0_off2_inb i k k0_h1 0) (i2 := k0_off3_inb i k k0_h1 0) (i3 := k0_off2_inb i k k0_h1 1) (i4 := k0_off3_inb i k k0_h1 1)
      (k0_pay13 (F := Ideal) k0_pay141 k0_pay142 fun x => s.wt ((Rect.unit (s := S4x8192) (k0_off1 k) S4x128.size (k0_off1_inb i k k0_h1)).toLoadRect.idx x))
      (k0_pay14 (F := Ideal) k0_pay141 k0_pay142 fun x => s.wt ((Rect.unit (s := S4x8192) (k0_off1 k) S4x128.size (k0_off1_inb i k k0_h1)).toLoadRect.idx x))
      (k0_pay143 (F := Ideal) (Scalar.ofBits .f32 0#32) (k0_pay15 k0_pay142 fun x => s.wt ((Rect.unit (s := S4x8192) (k0_off1 k) S4x128.size (k0_off1_inb i k k0_h1)).toLoadRect.idx x)))
      (k0_pay144 (F := Ideal) (k0_pay11 fun x => s.wt ((Rect.unit (s := S4x8192) (k0_off1 k) S4x128.size (k0_off1_inb i k k0_h1)).toLoadRect.idx x))
        (k0_pay12 fun x => s.wt ((Rect.unit (s := S4x8192) (k0_off1 k) S4x128.size (k0_off1_inb i k k0_h1)).toLoadRect.idx x)))
      o2 o3 o2' o3'
      (fun r cc => (pay13_apply _ r cc).trans (key _ 0 _ r.1 _ _ cc.1 _ _ (by omega) rfl))
      (fun r cc => (pay14_apply _ r cc).trans (key _ 0 _ r.1 _ _ (128 + cc.1) _ _ (by omega) (by omega)))
      (fun r cc => (pay143_apply _ r cc).trans ((key _ 0 _ (64 + r.1) (by omega) _ cc.1 _ _ (by omega) rfl).trans (by congr 2; exact Fin.ext (by dsimp only; omega))))
      (fun r cc => (pay144_apply _ r cc).trans ((key _ 0 _ (64 + r.1) (by omega) _ (128 + cc.1) _ _ (by omega) (by omega)).trans (by congr 2; exact Fin.ext (by dsimp only; omega))))
    exact congrArg (fun l => ({ s with l := l } : St Ideal)) e
  · rintro acc s' rfl
    rw [rowsTo_all (by decide)]
    exact hQ

end Cert.KernelIdeal.Hand
-- ==== Proof.KernelIdealBody.lean ====
module

public import proofs.«01_k».proof.Proof.KernelIdealLoops2
public import proofs.«01_k».proof.Proof.KernelIdealWeights
public import proofs.«01_k».proof.Proof.KernelIdealParts

/-! What the first half of the kernel body leaves in the buffers at each point. -/

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI Idealize.SL.Sem
open Cert.KernelIdeal.Gen

variable {𝒱 : Variants} {c : Dev nD} {bd : Option 𝒱.V} {E : Set ℕ} {M : Mems}
variable {XD : ℕ → ℕ → EReal} {pos : ℕ → BitVec 32} {wg : ℕ → ℕ → EReal} {hb : ℕ → EReal}

/-- The first offset of the previous block. -/
theorem off4_eq : ∀ i : grid0.Coords, k0_off4 i = ![0, 256 * ((i 0).val - 1)] := by decide +kernel
/-- The second offset of the previous block. -/
theorem off10_eq : ∀ i : grid0.Coords, k0_off10 i = ![0, 256 * ((i 0).val - 1)] := by decide +kernel
/-- The first point takes the first branch. -/
theorem cond1_zero : ∀ i : grid0.Coords, (i 0).val = 0 → k0_cond1 i = 1#1 := by decide +kernel
/-- Later points do not. -/
theorem cond1_pos : ∀ i : grid0.Coords, 0 < (i 0).val → k0_cond1 i ≠ 1#1 := by decide +kernel
/-- At the first point there is no block before. -/
theorem v31_zero : ∀ i : grid0.Coords, (i 0).val = 0 → Scalar.cmpi .sgt (BitVec.ofNat 32 (i 0).val) 0#32 = 0#1 := by decide +kernel
/-- At later points there is one. -/
theorem v31_pos : ∀ i : grid0.Coords, 0 < (i 0).val → Scalar.cmpi .sgt (BitVec.ofNat 32 (i 0).val) 0#32 = 1#1 := by decide +kernel
/-- Before the last point there is a block to convolve. -/
theorem v30_lt : ∀ i : grid0.Coords, (i 0).val < 8 → Scalar.cmpi .slt (BitVec.ofNat 32 (i 0).val) 8#32 = 1#1 := by decide +kernel
/-- At the last point there is none. -/
theorem v30_eq : ∀ i : grid0.Coords, (i 0).val = 8 → Scalar.cmpi .slt (BitVec.ofNat 32 (i 0).val) 8#32 = 0#1 := by decide +kernel
/-- A bit is zero or one. -/
theorem bit_or (b : BitVec 1) : b = 0#1 ∨ b = 1#1 := by revert b; decide

/-- Whether the fast path is taken, from the maxima of the block before. -/
def fastBit (z : S8x256.Idx → EReal) : BitVec 1 := Scalar.cmpf (F := Ideal) .ogt (k0_pay146 (F := Ideal) z) (Scalar.ofBits .f32 0x3F000000#32)

/-- A block of columns of the scales replaced. -/
def scB (o : ℕ) (f : Fin 256 → EReal) (old : S1x2048.Idx → EReal) : S1x2048.Idx → EReal :=
  fun x => if h : o ≤ (x 1).1 ∧ (x 1).1 < o + 256 then f ⟨(x 1).1 - o, by omega⟩ else old x

/-- The inverse scales on every sublane. -/
def invB (f : Fin 256 → EReal) : S8x256.Idx → EReal := fun x => invOf (f (x 1))

/-- The scales stored. -/
theorem put_sc (X : S1x2048.Idx → Elt Ideal .f32) {off : Fin 2 → ℕ} {inb} (o : ℕ) (ho : off = ![0, o]) (w : S1x256.Idx → Elt Ideal .f32) (f : Fin 256 → EReal)
    (hw : ∀ c : Fin 256, w (ix2 0 c) = f c) : put X (Rect.unit (s := S1x2048) off S1x256.size inb) w Finset.univ = scB o f X := by
  funext y
  obtain ⟨r, c, rfl⟩ : ∃ (r : Fin 1) (c : Fin 2048), y = ix2 r c := ⟨y 0, y 1, Idealize.ShloMosaic.eq_ix2 y⟩
  refine (put_blk (F := Ideal) X w 0 o ho r c).trans ?_
  unfold scB
  by_cases h : o ≤ c.1 ∧ c.1 < o + 256
  · rw [dif_pos ⟨⟨by omega, by omega⟩, h⟩]
    refine Eq.trans ?_ (dif_pos (c := o ≤ ((ix2 r c : S1x2048.Idx) 1).1 ∧ ((ix2 r c : S1x2048.Idx) 1).1 < o + 256) h).symm
    rw [← hw]
    congr 2
    exact Fin.ext (by dsimp only; omega)
  · rw [dif_neg (fun h' => h h'.2)]
    split
    · next h' => exact absurd h' h
    · rfl

/-- A whole buffer stored. -/
theorem put_whole {a b : ℕ} {e : EltTy} (X w : (⟨2, ![a, b]⟩ : Shape).Idx → Elt Ideal e) {inb} :
    put X (Rect.unit (s := ⟨2, ![a, b]⟩) ![0, 0] (⟨2, ![a, b]⟩ : Shape).size inb) w Finset.univ = w := by
  have := put_rows (F := Ideal) (inb := inb) w X w 0 rfl (by omega) (fun i j => by congr 2; exact Fin.ext (Nat.zero_add _).symm)
  rw [rowsTo_zero, rowsTo_all (by omega)] at this
  exact this

/-- A whole buffer loaded. -/
theorem ld_whole {a b : ℕ} {e : EltTy} (X : (⟨2, ![a, b]⟩ : Shape).Idx → Elt Ideal e) {inb} :
    (fun x => X ((Rect.unit (s := ⟨2, ![a, b]⟩) ![0, 0] (⟨2, ![a, b]⟩ : Shape).size inb).toLoadRect.idx x)) = X := by
  funext y
  obtain ⟨r, c, rfl⟩ : ∃ (r : Fin a) (c : Fin b), y = ix2 r c := ⟨y 0, y 1, Idealize.ShloMosaic.eq_ix2 y⟩
  rw [ld_full X 0 rfl r c (by omega)]
  congr 2
  exact Fin.ext (Nat.zero_add _)

/-- The inverse scales of the fast path. -/
theorem pay17_eq (z : FVec Ideal S8x256 .f32) : k0_pay17 (F := Ideal) (k0_pay145 z) = invB fun c => silu2 (max8r z c) := by
  funext y
  obtain ⟨r, c, rfl⟩ : ∃ (r : Fin 8) (c : Fin 256), y = ix2 r c := ⟨y 0, y 1, Idealize.ShloMosaic.eq_ix2 y⟩
  rw [pay17_apply, pay145_apply]
  rfl

/-- The inverse scales of the slow path. -/
theorem pay42_eq (z : FVec Ideal S8x256 .f32) : k0_pay161 (F := Ideal) (k0_pay42 z) = invB fun c => max8r z c := by
  funext y
  obtain ⟨r, c, rfl⟩ : ∃ (r : Fin 8) (c : Fin 256), y = ix2 r c := ⟨y 0, y 1, Idealize.ShloMosaic.eq_ix2 y⟩
  rw [pay42_apply]
  rfl

/-- The first part at the first point. -/
theorem wp_part34_zero (s : St Ideal) (i : grid0.Coords) (hi : (i 0).val = 0)
    (hw : ∀ (k : Fin 4) (r : Fin 8192), Ideal.ofBits .f32 1056964608#32 * s.wt (ix2 k r) = wg r.1 k.1)
    (Q : (Σ' (arg0 : BitVec 32) (v25 : BitVec 1) (v29 : BitVec 32) (v30 : BitVec 1) (v31 : BitVec 1), BitVec 32) → St Ideal → Prop)
    (hQ : ∀ v25 v29 g u, Q ⟨BitVec.ofNat 32 (i 0).val, v25, v29, 1#1, 0#1, Scalar.minsi (BitVec.ofNat 32 (i 0).val) 7#32⟩ { s with g := g, halo := u, l := LN wg }) :
    WP 𝒱 c bd E M (k0_part34 (F := Ideal) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17) Q s := by
  have e31 := v31_zero i hi
  have e30 := v30_lt i (by omega)
  rw [k0_part34_eq_skeleton (F := Ideal)]
  dsimp only [k0_part34_skel]
  refine WP.dite (fun h => ?_) (fun h => absurd (cond1_zero i hi) h)
  refine WP.bind (WP.load15 ?_)
  refine WP.bind (WP.store15 ?_)
  refine WP.bind (WP.load14 ?_)
  refine WP.bind (WP.store14 ?_)
  refine WP.bind ?_
  refine wp_t1 (wg := wg) _ i h ?_ _ ?_
  · exact hw
  refine WP.bind (WP.load16 ?_)
  dsimp only
  rw [e30, e31]
  refine WP.ite (fun h => absurd h ?_) (fun _ => ?_)
  · have : ∀ b : BitVec 1, ¬ Scalar.cmpi .ne (Scalar.extui (Scalar.andi 0#1 b) : BitVec 32) 0#32 = 1#1 := by decide
    exact this _
  refine WP.pure ?_
  exact hQ _ _ _ _

/-- The first part at a later point. -/
theorem wp_part34_pos (s : St Ideal) (i : grid0.Coords) (hi : 0 < (i 0).val)
    (Q : (Σ' (arg0 : BitVec 32) (v25 : BitVec 1) (v29 : BitVec 32) (v30 : BitVec 1) (v31 : BitVec 1), BitVec 32) → St Ideal → Prop)
    (hQ1 : fastBit s.zmax = 1#1 → ∀ v29, Q ⟨BitVec.ofNat 32 (i 0).val, 1#1, v29, Scalar.cmpi .slt (BitVec.ofNat 32 (i 0).val) 8#32, 1#1, Scalar.minsi (BitVec.ofNat 32 (i 0).val) 7#32⟩
      { s with inv := invB fun c => silu2 (max8r s.zmax c), ysc := scB (256 * ((i 0).val - 1)) (fun c => scOf (silu2 (max8r s.zmax c))) s.ysc })
    (hQ0 : fastBit s.zmax = 0#1 → ∀ v29, Q ⟨BitVec.ofNat 32 (i 0).val, 0#1, v29, Scalar.cmpi .slt (BitVec.ofNat 32 (i 0).val) 8#32, 1#1, Scalar.minsi (BitVec.ofNat 32 (i 0).val) 7#32⟩ s) :
    WP 𝒱 c bd E M (k0_part34 (F := Ideal) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17) Q s := by
  have e31 := v31_pos i hi
  rw [k0_part34_eq_skeleton (F := Ideal)]
  dsimp only [k0_part34_skel]
  refine WP.dite (fun h => absurd h (cond1_pos i hi)) (fun h => ?_)
  refine WP.bind (WP.load16 ?_)
  rw [e31]
  rw [show (fun x => s.zmax ((Rect.unit (s := S8x256) ![0, 0] S8x256.size inb_S8x256_S8x256_0_0).toLoadRect.idx x)) = s.zmax from ld_whole s.zmax]
  rw [show Scalar.cmpf (F := Ideal) .ogt (k0_pay146 (F := Ideal) s.zmax) (Scalar.ofBits .f32 0x3F000000#32) = fastBit s.zmax from rfl]
  have n0 : ¬ Scalar.cmpi .ne (Scalar.extui (Scalar.andi 1#1 0#1) : BitVec 32) 0#32 = 1#1 := by decide
  have n1 : Scalar.cmpi .ne (Scalar.extui (Scalar.andi 1#1 1#1) : BitVec 32) 0#32 = 1#1 := by decide
  rcases bit_or (fastBit s.zmax) with hf | hf
  · rw [hf]
    refine WP.ite (fun h => absurd h n0) (fun _ => ?_)
    refine WP.pure ?_
    exact hQ0 hf _
  · rw [hf]
    refine WP.ite (fun _ => ?_) (fun h => absurd n1 h)
    refine WP.bind ?_
    rw [k0_part2_eq_skeleton]
    dsimp only [k0_part2_skel]
    refine WP.bind (WP.load17 ?_)
    refine WP.bind (WP.store17 ?_)
    refine WP.bind (WP.load9 ?_)
    refine WP.bind (WP.store9 ?_)
    refine WP.pure ?_
    refine WP.pure ?_
    dsimp only
    have a := hQ1 hf (Scalar.muli (Scalar.maxsi (Scalar.subi (BitVec.ofNat 32 (i 0).val) 1#32) 0#32) 256#32)
    have e1 := put_whole (e := .f32) (inb := inb_S8x256_S8x256_0_0) s.inv (k0_pay17 (F := Ideal) (k0_pay145 s.zmax))
    have e2 := put_sc s.ysc (inb := k0_off4_inb i) _ (off4_eq i) (k0_pay18 (F := Ideal) (k0_pay145 s.zmax)) (fun c => scOf (silu2 (max8r s.zmax c)))
      (fun c => by rw [pay18_apply, pay145_apply])
    rw [← pay17_eq, ← e1, ← e2] at a
    exact a

/-- The place of a boundary. -/
def iw (b : ℕ) (hb : b < 7) : S7.Idx := fun a => ⟨b, by fin_cases a; exact hb⟩

/-- Positions in the sequence, and the scales of the block. -/
theorem wp_part35 (s : St Ideal) (i : grid0.Coords) (v35 : BitVec 32)
    (Q : (Σ' (v76 : IVec S1x256 32), FVec Ideal S64x256 .bf16) → St Ideal → Prop)
    (hQ : ∀ v82 : FVec Ideal S64x256 .bf16, (∀ (a : Fin 64) (c : Fin 256), v82 (ix2 a c) = s.xs (ix2 0 ⟨256 * min (i 0).val 7 + c.1, by omega⟩)) →
      Q ⟨k0_pay147 (F := Ideal) v35 (s.cu (iw 1 (by decide))) (s.cu (iw 1 (by decide))) (s.cu (iw 2 (by decide))) (s.cu (iw 2 (by decide))) (s.cu (iw 3 (by decide))) (s.cu (iw 3 (by decide)))
        (s.cu (iw 4 (by decide))) (s.cu (iw 4 (by decide))) (s.cu (iw 5 (by decide))) (s.cu (iw 5 (by decide))), v82⟩ s) :
    WP 𝒱 c bd E M (k0_part35 (F := Ideal) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v35) Q s := by
  have w : ∀ (b : ℕ) (hb : b < 7) (inb : ∀ a, (![b] : Fin 1 → ℕ) a + S1.size a ≤ S7.size a) (h1 : 0 < (Rect.unit (s := S7) ![b] S1.size inb).shape.numel),
      s.cu ((Rect.unit (s := S7) ![b] S1.size inb).emb (Shape.Idx.first h1)) = s.cu (iw b hb) := by
    intro b hb inb h1
    congr 1
    funext a
    apply Fin.ext
    rw [Rect.emb_apply]
    have : (Shape.Idx.first h1 a).val < 1 := (Shape.Idx.first h1 a).isLt.trans_le (by fin_cases a; exact le_refl _)
    fin_cases a
    show b + 1 * _ = b
    omega
  rw [k0_part35_eq_skeleton]
  dsimp only [k0_part35_skel]
  iterate 10 refine WP.bind (WP.word1 ?_)
  refine WP.bind (WP.load4 ?_)
  refine WP.pure ?_
  rw [w 1 (by decide), w 2 (by decide), w 3 (by decide), w 4 (by decide), w 5 (by decide)]
  refine hQ _ fun a c => ?_
  rw [pay148_apply, ld_blk (F := Ideal) s.xs 0 _ (k0_off5_eq i) 0 c (by decide) (by omega)]
  rfl

end Cert.KernelIdeal.Hand
-- ==== Proof.KernelIdealBody2.lean ====
module

public import proofs.«01_k».proof.Proof.KernelIdealBody

/-! What the second half of the kernel body leaves in the buffers at each point. -/

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI Idealize.SL.Sem
open Cert.KernelIdeal.Gen

variable {𝒱 : Variants} {c : Dev nD} {bd : Option 𝒱.V} {E : Set ℕ} {M : Mems}
variable {XD : ℕ → ℕ → EReal} {pos : ℕ → BitVec 32} {wg : ℕ → ℕ → EReal} {hb : ℕ → EReal}

/-- The type of what the third part passes on. -/
abbrev T36 := Σ' (v83 : IVec S32x128 32) (v91 : IVec S32x128 32) (v94 : IVec S32x128 32) (v102 : IVec S32x128 32) (v105 : IVec S32x128 32) (v113 : IVec S32x128 32) (v116 : IVec S32x128 32) (v117 : FVec Ideal S8x256 .f32), BitVec 1

/-- What the third part passes on. -/
abbrev r36 (v76 : IVec S1x256 32) (b : BitVec 1) : T36 :=
  ⟨lanes, k0_pay150 v76, k0_pay151 v76, k0_pay153 v76, k0_pay154 v76, k0_pay156 v76, k0_pay157 v76, k0_pay158 (F := Ideal), b⟩

/-- The third part at the first point. -/
theorem wp_part36_zero (s : St Ideal) (i : grid0.Coords) (v25 : BitVec 1) (v29 : BitVec 32) (v30 : BitVec 1) (v76 : IVec S1x256 32) (v82 : FVec Ideal S64x256 .bf16)
    (Q : T36 → St Ideal → Prop) (hQ : Q (r36 v76 0#1) s) :
    WP 𝒱 c bd E M (k0_part36 (F := Ideal) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 v25 v29 v30 0#1 v76 v82) Q s := by
  rw [k0_part36_eq_skeleton]
  dsimp only [k0_part36_skel]
  have n1 : ∀ a b : BitVec 1, ¬ Scalar.cmpi .ne (Scalar.extui (Scalar.andi (Scalar.andi 0#1 a) b) : BitVec 32) 0#32 = 1#1 := by decide
  have n2 : ∀ a b : BitVec 1, ¬ Scalar.cmpi .ne (Scalar.extui (Scalar.andi 0#1 (Scalar.xori (Scalar.andi a b) 1#1)) : BitVec 32) 0#32 = 1#1 := by decide
  have n3 : Scalar.andi 0#1 v25 = 0#1 := by revert v25; decide
  refine WP.ite (fun h => absurd h (n1 _ _)) (fun _ => ?_)
  refine WP.ite (fun h => absurd h (n2 _ _)) (fun _ => ?_)
  refine WP.pure ?_
  rw [n3]
  exact hQ

/-- The third part at a later point before the last, the fast path taken. -/
theorem wp_part36_fast {j : ℕ} (s : St Ideal) (i : grid0.Coords) (v29 : BitVec 32) (v76 : IVec S1x256 32) (v82 : FVec Ideal S64x256 .bf16)
    (h : TileIn XD pos wg hb j s v76 v82)
    (Q : T36 → St Ideal → Prop) (hQ : ∀ acc, AccOk 8192 (HN XD pos wg hb j) (Ideal.ofBits .f32 0xFF800000#32) acc →
      Q (r36 v76 1#1) { s with y := fastB s.h s.inv, h := HN XD pos wg hb j, halo := UN XD j, zmax := acc }) :
    WP 𝒱 c bd E M (k0_part36 (F := Ideal) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 1#1 v29 1#1 1#1 v76 v82) Q s := by
  rw [k0_part36_eq_skeleton]
  dsimp only [k0_part36_skel]
  refine WP.ite (fun _ => ?_) (fun h => absurd (by decide) h)
  refine WP.bind ?_
  refine wp_t2 h i 1#1 v29 1#1 1#1 _ fun acc hacc => ?_
  refine WP.bind (WP.load16 ?_)
  refine WP.bind (WP.store16 ?_)
  refine WP.ite (fun h => absurd h (by decide)) (fun _ => ?_)
  refine WP.pure ?_
  have a := hQ acc hacc
  have e1 := put_whole (e := .f32) (inb := inb_S8x256_S8x256_0_0) s.zmax (k0_pay160 (F := Ideal) acc)
  replace e1 := e1.trans (pay160_eq acc)
  rw [← e1] at a
  exact a

/-- The third part at a later point, the slow path taken. -/
theorem wp_part36_slow (s : St Ideal) (i : grid0.Coords) (v29 : BitVec 32) (v30 : BitVec 1) (v76 : IVec S1x256 32) (v82 : FVec Ideal S64x256 .bf16)
    (Q : T36 → St Ideal → Prop) (hQ : ∀ acc, AccOk 8192 (absB s.h) (Ideal.ofBits .f32 0#32) acc →
      Q (r36 v76 0#1) { s with inv := invB fun c => max8r acc c, ysc := scB (256 * ((i 0).val - 1)) (fun c => scOf (max8r acc c)) s.ysc, y := slowB s.h (invB fun c => max8r acc c) }) :
    WP 𝒱 c bd E M (k0_part36 (F := Ideal) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 0#1 v29 v30 1#1 v76 v82) Q s := by
  rw [k0_part36_eq_skeleton]
  dsimp only [k0_part36_skel]
  have n1 : ∀ a : BitVec 1, ¬ Scalar.cmpi .ne (Scalar.extui (Scalar.andi (Scalar.andi 1#1 a) 0#1) : BitVec 32) 0#32 = 1#1 := by decide
  have n2 : ∀ a : BitVec 1, Scalar.cmpi .ne (Scalar.extui (Scalar.andi 1#1 (Scalar.xori (Scalar.andi a 0#1) 1#1)) : BitVec 32) 0#32 = 1#1 := by decide
  refine WP.ite (fun h => absurd h (n1 _)) (fun _ => ?_)
  refine WP.ite (fun _ => ?_) (fun h => absurd (n2 _) h)
  refine WP.ite (fun _ => ?_) (fun h => absurd (by decide) h)
  refine WP.bind ?_
  rw [k0_part6_eq_skeleton]
  dsimp only [k0_part6_skel]
  refine WP.bind ?_
  refine wp_t3 s i _ fun acc hacc => ?_
  refine WP.pure ?_
  refine WP.bind (WP.load17 ?_)
  refine WP.bind (WP.store17 ?_)
  refine WP.bind (WP.load9 ?_)
  refine WP.bind (WP.store9 ?_)
  refine WP.bind ?_
  refine wp_t4 _ i 0#1 v29 v30 1#1 v76 v82 _ ?_
  refine WP.ite (fun h => absurd h (by decide)) (fun _ => ?_)
  refine WP.pure ?_
  dsimp only
  have a := hQ acc hacc
  have e1 := put_whole (e := .f32) (inb := inb_S8x256_S8x256_0_0) s.inv (k0_pay161 (F := Ideal) (k0_pay42 acc))
  have e2 := put_sc s.ysc (inb := k0_off10_inb i) _ (off10_eq i) (k0_pay162 (F := Ideal) (k0_pay41 acc)) (fun c => scOf (max8r acc c))
    (fun c => by rw [pay41_apply])
  rw [← pay42_eq, ← e1, ← e2] at a
  exact a

/-- The third part at the last point, the fast path taken. -/
theorem wp_part36_last (s : St Ideal) (i : grid0.Coords) (v29 : BitVec 32) (v76 : IVec S1x256 32) (v82 : FVec Ideal S64x256 .bf16)
    (Q : T36 → St Ideal → Prop) (hQ : Q (r36 v76 1#1) { s with y := fastB s.h s.inv }) :
    WP 𝒱 c bd E M (k0_part36 (F := Ideal) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 1#1 v29 0#1 1#1 v76 v82) Q s := by
  rw [k0_part36_eq_skeleton]
  dsimp only [k0_part36_skel]
  refine WP.ite (fun h => absurd h (by decide)) (fun _ => ?_)
  refine WP.ite (fun _ => ?_) (fun h => absurd (by decide) h)
  refine WP.ite (fun h => absurd h (by decide)) (fun _ => ?_)
  refine WP.ite (fun _ => ?_) (fun h => absurd (by decide) h)
  refine WP.bind ?_
  refine wp_t5 _ i 1#1 v29 0#1 1#1 v76 v82 _ ?_
  refine WP.pure ?_
  exact hQ

/-- Contents that differ at most in the two state results and the gather scratch. -/
structure Same (s0 s : St Ideal) : Prop where
  cu : s.cu = s0.cu
  xsS : s.xsS = s0.xsS
  xb : s.xb = s0.xb
  xs : s.xs = s0.xs
  wt : s.wt = s0.wt
  bh : s.bh = s0.bh
  br : s.br = s0.br
  y : s.y = s0.y
  ysc : s.ysc = s0.ysc
  h : s.h = s0.h
  l : s.l = s0.l
  halo : s.halo = s0.halo
  zmax : s.zmax = s0.zmax

/-- Contents agree with themselves. -/
theorem Same.refl (s : St Ideal) : Same s s := ⟨rfl, rfl, rfl, rfl, rfl, rfl, rfl, rfl, rfl, rfl, rfl, rfl, rfl⟩

/-- What the rest of the body writes leaves the agreement. -/
theorem Same.free {s0 : St Ideal} (h : CuOk s0.cu) : GFree (Same s0) where
  cuOk s hs := by rw [hs.cu]; exact h
  head s x hs := ⟨hs.cu, hs.xsS, hs.xb, hs.xs, hs.wt, hs.bh, hs.br, hs.y, hs.ysc, hs.h, hs.l, hs.halo, hs.zmax⟩
  fin s x hs := ⟨hs.cu, hs.xsS, hs.xb, hs.xs, hs.wt, hs.bh, hs.br, hs.y, hs.ysc, hs.h, hs.l, hs.halo, hs.zmax⟩
  g s x hs := ⟨hs.cu, hs.xsS, hs.xb, hs.xs, hs.wt, hs.bh, hs.br, hs.y, hs.ysc, hs.h, hs.l, hs.halo, hs.zmax⟩

/-- The fourth part where the tile loop runs. -/
theorem wp_part37_conv {j : ℕ} (s : St Ideal) (i : grid0.Coords) (arg0 : BitVec 32) (v76 : IVec S1x256 32) (v82 : FVec Ideal S64x256 .bf16)
    (h : TileIn XD pos wg hb j s v76 v82) (hcu : CuOk s.cu)
    (Q : (Σ' (v132 : IVec S8x128 32) (v156 : BitVec 32) (v158 : BitVec 32), BitVec 1) → St Ideal → Prop)
    (hQ : ∀ acc, AccOk 8192 (HN XD pos wg hb j) (Ideal.ofBits .f32 0xFF800000#32) acc → ∀ a s',
      Same { s with h := HN XD pos wg hb j, halo := UN XD j, zmax := acc } s' → Q a s') :
    WP 𝒱 c bd E M (k0_part37 (F := Ideal) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 arg0 1#1 v82 lanes (k0_pay150 v76) (k0_pay151 v76) (k0_pay153 v76) (k0_pay154 v76) (k0_pay156 v76) (k0_pay157 v76) (k0_pay158 (F := Ideal)) 0#1) Q s := by
  rw [k0_part37_eq_skeleton]
  dsimp only [k0_part37_skel]
  refine WP.ite (fun _ => ?_) (fun h => absurd (by decide) h)
  refine WP.bind ?_
  refine wp_t6 h i arg0 1#1 0#1 _ fun acc hacc => ?_
  refine WP.bind (WP.load16 ?_)
  refine WP.bind (WP.store16 ?_)
  have a := hQ acc hacc
  have e1 := put_whole (e := .f32) (inb := inb_S8x256_S8x256_0_0) s.zmax (k0_pay168 (F := Ideal) acc)
  replace e1 := e1.trans (pay168_eq acc)
  rw [← e1] at a
  have hR := Same.free (s0 := { s with h := HN XD pos wg hb j, halo := UN XD j, zmax := put s.zmax (Rect.unit (s := S8x256) ![0, 0] S8x256.size inb_S8x256_S8x256_0_0) (k0_pay168 (F := Ideal) acc) Finset.univ }) hcu
  refine WP.mono (Keeps.run (φ := fun _ => True) (R := Same _) ?_ _ (Same.refl _)) (fun b s' h => a b s' h.2)
  dsimp only at hR ⊢
  repeat' first
    | with_reducible (intro a ha)
    | with_reducible exact Keeps.pure
    | with_reducible refine Keeps.ite ?_ ?_
    | with_reducible apply keeps_k0_t7_body hR
    | with_reducible apply keeps_k0_t8_body hR
    | with_reducible refine Keeps.loop fun _ _ => ?_
    | with_reducible apply Keeps.bind
    | with_reducible exact Keeps.word1 hR
    | exact Keeps.word1 hR
    | split

/-- The fourth part where the tile loop does not run. -/
theorem wp_part37_skip (s : St Ideal) (i : grid0.Coords) (arg0 : BitVec 32) (v30 v127 : BitVec 1) (h : Scalar.andi v30 (Scalar.xori v127 1#1) = 0#1) (v82 : FVec Ideal S64x256 .bf16)
    (v83 v91 v94 v102 v105 v113 v116 : IVec S32x128 32) (v117 : FVec Ideal S8x256 .f32) (hcu : CuOk s.cu)
    (Q : (Σ' (v132 : IVec S8x128 32) (v156 : BitVec 32) (v158 : BitVec 32), BitVec 1) → St Ideal → Prop)
    (hQ : ∀ a s', Same s s' → Q a s') :
    WP 𝒱 c bd E M (k0_part37 (F := Ideal) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 arg0 v30 v82 v83 v91 v94 v102 v105 v113 v116 v117 v127) Q s := by
  rw [k0_part37_eq_skeleton]
  dsimp only [k0_part37_skel]
  rw [h]
  refine WP.ite (fun h => absurd h (by decide)) (fun _ => ?_)
  have hR := Same.free (s0 := s) hcu
  refine WP.mono (Keeps.run (φ := fun _ => True) (R := Same s) ?_ s (Same.refl _)) (fun b s' h => hQ b s' h.2)
  repeat' first
    | with_reducible (intro a ha)
    | with_reducible exact Keeps.pure
    | with_reducible refine Keeps.ite ?_ ?_
    | with_reducible apply keeps_k0_t7_body hR
    | with_reducible apply keeps_k0_t8_body hR
    | with_reducible refine Keeps.loop fun _ _ => ?_
    | with_reducible apply Keeps.bind
    | with_reducible exact Keeps.word1 hR
    | exact Keeps.word1 hR
    | split

end Cert.KernelIdeal.Hand
-- ==== Proof.KernelIdealPoint.lean ====
module

public import proofs.«01_k».proof.Proof.KernelIdealBody2

/-! The body at a point of the grid: what it leaves of the convolved block, the codes and the scales. -/

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI Idealize.SL.Sem
open Cert.KernelIdeal.Gen

variable {𝒱 : Variants} {c : Dev nD} {bd : Option 𝒱.V} {E : Set ℕ} {M : Mems}

/-- The word of minus infinity. -/
theorem ofBits_bot : Ideal.ofBits .f32 4286578688#32 = ⊥ := by simp [Ideal.ofBits, Ideal.ieee]
/-- The word of infinity. -/
theorem ofBits_top : Ideal.ofBits .f32 2139095040#32 = ⊤ := by simp [Ideal.ofBits, Ideal.ieee]
/-- The word of a half. -/
theorem ofBits_half : Ideal.ofBits .f32 1056964608#32 = ((1 / 2 : ℝ) : EReal) := by
  simp [Ideal.ofBits, Ideal.ieee, -EReal.coe_mul]; norm_num
/-- The word of two. -/
theorem ofBits_two : Ideal.ofBits .f32 1073741824#32 = ((2 : ℝ) : EReal) := by
  simp [Ideal.ofBits, Ideal.ieee, -EReal.coe_mul]; norm_num
/-- The word of the fast path's threshold. -/
theorem ofBits_cut : Ideal.ofBits .f32 1049532301#32 = ((9344909 / 33554432 : ℝ) : EReal) := by
  simp [Ideal.ofBits, Ideal.ieee, -EReal.coe_mul]; norm_num

/-- The fast path is taken only where every column's largest activation is over the threshold. -/
theorem fastBit_le (z : S8x256.Idx → EReal) (h : fastBit z = 1#1) (c : Fin 256) : Ideal.ofBits .f32 1049532301#32 ≤ silu2 (max8r z c) := by
  have e : k0_pay146 (F := Ideal) z = Finset.univ.fold min (Ideal.ofBits .f32 2139095040#32) (fun x : Fin 1 × Fin 256 => if Ideal.ofBits .f32 1049532301#32 ≤ k0_pay145 (F := Ideal) z (ix2 0 x.2) then (1 : EReal) else 0) := by
    pointwise [k0_pay146]
  by_contra hc
  rw [← pay145_apply] at hc
  unfold fastBit at h
  rw [e] at h
  have h2 : (Finset.univ.fold min (Ideal.ofBits .f32 2139095040#32) (fun x : Fin 1 × Fin 256 => if Ideal.ofBits .f32 1049532301#32 ≤ k0_pay145 (F := Ideal) z (ix2 0 x.2) then (1 : EReal) else 0)) ≤ 0 := by
    rw [Finset.fold_min_le]
    refine Or.inr ⟨(0, c), Finset.mem_univ _, ?_⟩
    rw [if_neg hc]
  have h3 : ((1 / 2 : ℝ) : EReal) < Finset.univ.fold min (Ideal.ofBits .f32 2139095040#32) (fun x : Fin 1 × Fin 256 => if Ideal.ofBits .f32 1049532301#32 ≤ k0_pay145 (F := Ideal) z (ix2 0 x.2) then (1 : EReal) else 0) := by
    rw [← ofBits_half]
    by_contra h4
    refine absurd h ?_
    show ¬ BitVec.ofBool (decide (Ideal.ofBits .f32 1056964608#32 < _)) = 1#1
    rw [decide_eq_false h4]
    decide
  have h4 := h3.trans_le h2
  rw [← EReal.coe_zero, EReal.coe_lt_coe_iff] at h4
  norm_num at h4

/-- A running maximum over the rows is the maximum. -/
theorem max8r_eq {T : S8192x256.Idx → EReal} {z : EReal} {acc : FVec Ideal S8x256 .f32} (h : AccOk 8192 T z acc) (c : Fin 256)
    (hz : ∃ r : Fin 8192, z ≤ T (ix2 r c)) : max8r acc c = Finset.univ.fold max (Ideal.ofBits .f32 4286578688#32) (fun r : Fin 8192 => T (ix2 r c)) := by
  rw [max8r, ofBits_bot]
  apply le_antisymm
  · rw [Finset.fold_max_le]
    refine ⟨bot_le, fun a _ => ?_⟩
    rw [Finset.le_fold_max]
    rcases h.eq a c with e | ⟨r, e⟩
    · obtain ⟨r, hr⟩ := hz
      exact Or.inr ⟨r, Finset.mem_univ _, e ▸ hr⟩
    · exact Or.inr ⟨r, Finset.mem_univ _, e.le⟩
  · rw [Finset.fold_max_le]
    refine ⟨bot_le, fun r _ => ?_⟩
    rw [Finset.le_fold_max]
    obtain ⟨a, ha⟩ := h.le r c r.2
    exact Or.inr ⟨a, Finset.mem_univ _, ha⟩

/-- The maximum is one of the rows. -/
theorem max8r_row {T : S8192x256.Idx → EReal} {acc : FVec Ideal S8x256 .f32} (h : AccOk 8192 T (Ideal.ofBits .f32 0xFF800000#32) acc) (c : Fin 256) :
    ∃ r : Fin 8192, max8r acc c = T (ix2 r c) ∧ ∀ r', T (ix2 r' c) ≤ T (ix2 r c) := by
  have e := max8r_eq h c ⟨0, by rw [show (0xFF800000#32 : BitVec 32) = 4286578688#32 from rfl, ofBits_bot]; exact bot_le⟩
  obtain ⟨r, _, hr⟩ := Finset.exists_max_image (Finset.univ : Finset (Fin 8192)) (fun r => T (ix2 r c)) ⟨0, Finset.mem_univ _⟩
  refine ⟨r, ?_, fun r' => hr r' (Finset.mem_univ _)⟩
  rw [e, ofBits_bot]
  apply le_antisymm
  · rw [Finset.fold_max_le]
    exact ⟨bot_le, fun r' _ => hr r' (Finset.mem_univ _)⟩
  · rw [Finset.le_fold_max]
    exact Or.inr ⟨r, Finset.mem_univ _, le_refl _⟩

variable (XD : ℕ → ℕ → EReal) (pos : ℕ → BitVec 32) (wg : ℕ → ℕ → EReal) (hb : ℕ → EReal)

/-- The largest magnitude of a token's activations. -/
def AM (t : ℕ) : EReal := Finset.univ.fold max (Ideal.ofBits .f32 4286578688#32) (fun r : Fin 8192 => FloatOps.absf (φ := .f32) (F := Ideal) (silu2 (convN XD pos wg hb r.1 t)))

/-- The codes of block `j`. -/
def YB (j : ℕ) : S8192x256.Idx → EReal := fun x => slowY (convN XD pos wg hb (x 0).1 (256 * j + (x 1).1)) (invOf (AM XD pos wg hb (256 * j + (x 1).1)))

/-- What the body needs of its inputs. -/
structure BIn (i : grid0.Coords) (s : St Ideal) : Prop where
  hpos : ∀ t d : ℕ, d ≤ 3 → (BitVec.ofNat 32 d).toInt ≤ (pos t).toInt → d ≤ t
  hp : ∀ c : Fin 256, k0_pay147 (F := Ideal) (Scalar.minsi (BitVec.ofNat 32 (i 0).val) 7#32) (s.cu (iw 1 (by decide))) (s.cu (iw 1 (by decide))) (s.cu (iw 2 (by decide))) (s.cu (iw 2 (by decide))) (s.cu (iw 3 (by decide))) (s.cu (iw 3 (by decide)))
        (s.cu (iw 4 (by decide))) (s.cu (iw 4 (by decide))) (s.cu (iw 5 (by decide))) (s.cu (iw 5 (by decide))) (ix2 0 c) = pos (256 * min (i 0).val 7 + c.1)
  hx : ∀ (r : Fin 8192) (c : Fin 256), s.xb (ix2 r c) * s.xs (ix2 0 ⟨256 * min (i 0).val 7 + c.1, by omega⟩) = XD r.1 (256 * min (i 0).val 7 + c.1)
  hw : ∀ (k : Fin 4) (r : Fin 8192), Ideal.ofBits .f32 1056964608#32 * s.wt (ix2 k r) = wg r.1 k.1
  hb : ∀ r : Fin 8192, s.bh (ix2 r 0) = hb r.1
  hcu : CuOk s.cu

/-- What a point leaves for the next. -/
structure BPrev (j : ℕ) (s : St Ideal) : Prop where
  h : s.h = HN XD pos wg hb j
  l : s.l = LN wg
  halo : s.halo = UN XD j
  zmax : AccOk 8192 (HN XD pos wg hb j) (Ideal.ofBits .f32 0xFF800000#32) s.zmax

/-- What the numbers must satisfy for the fast path to give the codes and scales of the slow one. -/
structure Fast : Prop where
  am : ∀ (t : ℕ) (r : Fin 8192), (∀ r' : Fin 8192, convN XD pos wg hb r'.1 t ≤ convN XD pos wg hb r.1 t) →
    Ideal.ofBits .f32 1049532301#32 ≤ silu2 (convN XD pos wg hb r.1 t) → silu2 (convN XD pos wg hb r.1 t) = AM XD pos wg hb t
  y : ∀ (t : ℕ) (r : Fin 8192), fastY (convN XD pos wg hb r.1 t) (invOf (AM XD pos wg hb t)) = slowY (convN XD pos wg hb r.1 t) (invOf (AM XD pos wg hb t))

/-- What a point leaves, as against what it found. -/
structure BOut (i : grid0.Coords) (s s' : St Ideal) : Prop where
  cu : s'.cu = s.cu
  xsS : s'.xsS = s.xsS
  xb : s'.xb = s.xb
  xs : s'.xs = s.xs
  wt : s'.wt = s.wt
  bh : s'.bh = s.bh
  br : s'.br = s.br
  prev : (i 0).val < 8 → BPrev XD pos wg hb (i 0).val s'
  y : 0 < (i 0).val → s'.y = YB XD pos wg hb ((i 0).val - 1)
  ysc : 0 < (i 0).val → s'.ysc = scB (256 * ((i 0).val - 1)) (fun c => scOf (AM XD pos wg hb (256 * ((i 0).val - 1) + c.1))) s.ysc

variable {XD pos wg hb}

/-- The maximum on the fast path. -/
theorem BPrev.fast {j : ℕ} {s : St Ideal} (h : BPrev XD pos wg hb j s) (hf : Fast XD pos wg hb) (hz : fastBit s.zmax = 1#1) (c : Fin 256) :
    silu2 (max8r s.zmax c) = AM XD pos wg hb (256 * j + c.1) := by
  obtain ⟨r, e, hr⟩ := max8r_row h.zmax c
  have hc := fastBit_le _ hz c
  rw [e] at hc ⊢
  exact hf.am (256 * j + c.1) r hr hc

/-- The magnitude of an extended real is not negative. -/
theorem absf_nonneg (x : EReal) : 0 ≤ FloatOps.absf (φ := .f32) (F := Ideal) x := by
  show 0 ≤ max x (-x)
  rcases le_total 0 x with h | h
  · exact h.trans (le_max_left _ _)
  · exact (EReal.neg_nonneg.mpr h).trans (le_max_right _ _)

/-- The maximum on the slow path. -/
theorem slow_max {j : ℕ} {h : S8192x256.Idx → EReal} (e : h = HN XD pos wg hb j) {acc} (ha : AccOk 8192 (absB h) (Ideal.ofBits .f32 0#32) acc) (c : Fin 256) :
    max8r acc c = AM XD pos wg hb (256 * j + c.1) := by
  subst e
  exact max8r_eq ha c ⟨0, by rw [Ideal.ofBits_zero_f32]; exact absf_nonneg _⟩

/-- The codes on the fast path. -/
theorem fastB_eq (hf : Fast XD pos wg hb) (j : ℕ) (f : Fin 256 → EReal) (hfe : ∀ c, f c = AM XD pos wg hb (256 * j + c.1)) :
    fastB (HN XD pos wg hb j) (invB f) = YB XD pos wg hb j := by
  funext x
  have a := hf.y (256 * j + (x 1).1) (x 0)
  rw [← hfe (x 1)] at a
  show fastY (convN XD pos wg hb (x 0).1 (256 * j + (x 1).1)) (invOf (f (x 1))) = slowY _ (invOf _)
  rw [a, hfe (x 1)]

/-- The codes on the slow path. -/
theorem slowB_eq (j : ℕ) (f : Fin 256 → EReal) (hfe : ∀ c, f c = AM XD pos wg hb (256 * j + c.1)) :
    slowB (HN XD pos wg hb j) (invB f) = YB XD pos wg hb j := by
  funext x
  show slowY (convN XD pos wg hb (x 0).1 (256 * j + (x 1).1)) (invOf (f (x 1))) = slowY _ (invOf _)
  rw [hfe (x 1)]

end Cert.KernelIdeal.Hand
-- ==== Proof.KernelIdealScale.lean ====
module

public import proofs.«01_k».proof.Proof.KernelIdealPoint

/-! The power-of-two scale: the count of thresholds the kernel takes is the floor of the binary logarithm that the reference takes. -/

@[expose] public section

set_option maxRecDepth 16384
set_option maxHeartbeats 4000000

noncomputable section

namespace Cert.KernelIdeal.Hand

open Idealize.ShloMosaic
open Cert.KernelIdeal.Gen

/-- What a word with a zero significand denotes. -/
def thrR (x : ℕ) : EReal := if x = 0 then 0 else if x = 255 then ⊤ else (((2 : ℝ) ^ ((x : ℤ) - 127) : ℝ) : EReal)

/-- A word with a zero significand. -/
theorem ofBits_shl (x : Fin 256) : Ideal.ofBits .f32 (IntOp.shli .vector (BitVec.ofNat 32 x.1) 23#32) = thrR x.1 := by
  have h := (by decide +kernel : ∀ x : Fin 256,
    ((IntOp.shli .vector (BitVec.ofNat 32 x.1) 23#32).extractLsb' (8 + 23) 1 == 1#1) = false
    ∧ ((IntOp.shli .vector (BitVec.ofNat 32 x.1) 23#32).extractLsb' 23 8).toNat = x.1
    ∧ ((IntOp.shli .vector (BitVec.ofNat 32 x.1) 23#32).extractLsb' 0 23).toNat = 0) x
  obtain ⟨h1, h2, h3⟩ := h
  show Ideal.ieee 8 23 _ = _
  generalize IntOp.shli .vector (BitVec.ofNat 32 x.1) 23#32 = b at h1 h2 h3
  unfold Ideal.ieee thrR
  dsimp only
  rw [h1, h2, h3]
  have hx := x.2
  generalize x.1 = n at hx
  have h255 : (2 ^ 8 - 1 : ℕ) = 255 := rfl
  rw [h255]
  by_cases h0 : n = 0
  · subst h0
    simp
  · by_cases h5 : n = 255
    · subst h5
      simp
    · rw [if_neg h5, if_neg h0, if_neg h0, if_neg h5]
      congr 1
      have e : ((n : ℤ) - (2 ^ (8 - 1) - 1) - (23 : ℕ) : ℤ) = ((n : ℤ) - 127) + (-23) := by norm_num; ring
      rw [e, zpow_add₀ (by norm_num : (2 : ℝ) ≠ 0)]
      norm_num
      ring

/-- The exponent word, from the number of the last threshold passed. -/
theorem kexp_of (a : EReal) (n : Fin 253) (h : ∀ x : Fin 256, a * Ideal.ofBits .f32 991054117#32 < thrR x.1 ↔ n.1 < x.1) :
    IntOp.subi 127#32 (kexp a) = BitVec.ofNat 32 (if n.1 = 0 then 127 else 253 - n.1)
    ∧ IntOp.addi (kexp a) 127#32 = BitVec.ofNat 32 (if n.1 = 0 then 127 else n.1 + 1) := by
  have e : (fun x : Fin 256 => if a * Ideal.ofBits .f32 991054117#32 < Ideal.ofBits .f32 (IntOp.shli .vector (BitVec.ofNat 32 x.1) 23#32) then 1#32 else 0#32)
      = fun x : Fin 256 => if n.1 < x.1 then 1#32 else 0#32 := by
    funext x
    rw [ofBits_shl]
    by_cases hx : n.1 < x.1
    · rw [if_pos ((h x).2 hx), if_pos hx]
    · rw [if_neg (fun h' => hx ((h x).1 h')), if_neg hx]
  unfold kexp
  rw [e]
  exact (by decide +kernel : ∀ n : Fin 253,
    IntOp.subi 127#32 (Scalar.select (IntOp.cmpi .eq (IntOp.subi 255#32 (Finset.fold IntOp.addi 0#32 (fun x : Fin 256 => if n.1 < x.1 then 1#32 else 0#32) Finset.univ)) 0#32) 0#32
      (IntOp.subi (IntOp.subi 255#32 (Finset.fold IntOp.addi 0#32 (fun x : Fin 256 => if n.1 < x.1 then 1#32 else 0#32) Finset.univ)) 126#32)) = BitVec.ofNat 32 (if n.1 = 0 then 127 else 253 - n.1)
    ∧ IntOp.addi (Scalar.select (IntOp.cmpi .eq (IntOp.subi 255#32 (Finset.fold IntOp.addi 0#32 (fun x : Fin 256 => if n.1 < x.1 then 1#32 else 0#32) Finset.univ)) 0#32) 0#32
      (IntOp.subi (IntOp.subi 255#32 (Finset.fold IntOp.addi 0#32 (fun x : Fin 256 => if n.1 < x.1 then 1#32 else 0#32) Finset.univ)) 126#32)) 127#32 = BitVec.ofNat 32 (if n.1 = 0 then 127 else n.1 + 1)) n

/-- The exponent as the reference states it. -/
def expRef (a : EReal) : EReal :=
  if a * Ideal.ofBits .f32 991054117#32 < Ideal.ofBits .f32 8388608#32 then Ideal.ofBits .f32 0#32
  else Ideal.liftRound Int.floor (Ideal.div (Ideal.log (a * Ideal.ofBits .f32 991054117#32)) (Ideal.log (Ideal.ofBits .f32 1073741824#32))) + Ideal.ofBits .f32 1065353216#32

/-- The word of one. -/
theorem ofBits_one : Ideal.ofBits .f32 1065353216#32 = ((1 : ℝ) : EReal) := by
  simp [Ideal.ofBits, Ideal.ieee, -EReal.coe_mul]; norm_num
/-- The word of zero. -/
theorem ofBits_zero : Ideal.ofBits .f32 0#32 = ((0 : ℝ) : EReal) := by
  simp [Ideal.ofBits, Ideal.ieee]
/-- The word of the least normal number. -/
theorem ofBits_min : Ideal.ofBits .f32 8388608#32 = (((2 : ℝ) ^ (-126 : ℤ) : ℝ) : EReal) := by
  have := ofBits_shl 1
  rw [show IntOp.shli .vector (BitVec.ofNat 32 ((1 : Fin 256) : Fin 256).1) 23#32 = 8388608#32 by decide] at this
  rw [this]; rfl
/-- The word of the inverse of the largest code. -/
theorem ofBits_448 : ∃ q : ℝ, Ideal.ofBits .f32 991054117#32 = ((q : ℝ) : EReal) ∧ 0 < q ∧ q ≤ 1 := by
  refine ⟨9586981 / 4294967296, ?_, by norm_num, by norm_num⟩
  simp [Ideal.ofBits, Ideal.ieee, -EReal.coe_mul]; norm_num

/-- A scale is a power of two, that of the reference. -/
theorem scale_eq (a : ℝ) (h0 : 0 ≤ a) (h1 : a < 2 ^ (126 : ℤ)) :
    scOf (a : EReal) = Ideal.exp2 (expRef a) ∧ invOf (a : EReal) = Ideal.exp2 (Ideal.ofBits .f32 0#32 - expRef a) ∧ ∃ w : ℝ, invOf (a : EReal) = (w : EReal) := by
  obtain ⟨q, hq, hq0, hq1⟩ := ofBits_448
  have hv0 : 0 ≤ a * q := mul_nonneg h0 hq0.le
  have hv1 : a * q < 2 ^ (126 : ℤ) := (mul_le_of_le_one_right h0 hq1).trans_lt h1
  have ev : (a : EReal) * Ideal.ofBits .f32 991054117#32 = ((a * q : ℝ) : EReal) := by rw [hq, EReal.coe_mul]
  have key : ∀ (n : Fin 253) (k : ℤ) (hn : ∀ x : Fin 256, ((a * q : ℝ) : EReal) < thrR x.1 ↔ n.1 < x.1)
      (hk : k = if n.1 = 0 then (0 : ℤ) else (n.1 : ℤ) - 126) (he : expRef a = ((k : ℝ) : EReal)),
      scOf (a : EReal) = Ideal.exp2 (expRef a) ∧ invOf (a : EReal) = Ideal.exp2 (Ideal.ofBits .f32 0#32 - expRef a) ∧ ∃ w : ℝ, invOf (a : EReal) = (w : EReal) := by
    intro n k hn hk he
    have hn' := n.2
    obtain ⟨w1, w2⟩ := kexp_of (a : EReal) n (by intro x; rw [ev]; exact hn x)
    have s1 : scOf (a : EReal) = (((2 : ℝ) ^ k : ℝ) : EReal) := by
      unfold scOf
      rw [w2]
      have := ofBits_shl ⟨if n.1 = 0 then 127 else n.1 + 1, by split <;> omega⟩
      dsimp only at this
      rw [this]
      unfold thrR
      rw [if_neg (by split <;> omega), if_neg (by split <;> omega)]
      congr 2
      rw [hk]; split
      · rfl
      · push_cast; ring
    have s2 : invOf (a : EReal) = (((2 : ℝ) ^ (-k) : ℝ) : EReal) := by
      unfold invOf
      rw [w1]
      have := ofBits_shl ⟨if n.1 = 0 then 127 else 253 - n.1, by split <;> omega⟩
      dsimp only at this
      rw [this]
      unfold thrR
      rw [if_neg (by split <;> omega), if_neg (by split <;> omega)]
      congr 2
      rw [hk]; split
      · rfl
      · omega
    refine ⟨?_, ?_, _, s2⟩
    · rw [s1, he, Ideal.exp2_coe]
      congr 1
      exact (Real.rpow_intCast 2 k).symm
    · rw [s2, he, ofBits_zero, ← EReal.coe_sub, Ideal.exp2_coe]
      congr 1
      rw [zero_sub, ← Int.cast_neg]
      exact (Real.rpow_intCast 2 (-k)).symm
  have top : ∀ r : ℝ, (r : EReal) < ⊤ := EReal.coe_lt_top
  by_cases hs : a * q < 2 ^ (-126 : ℤ)
  · refine key ⟨0, by decide⟩ 0 (fun x => ?_) rfl ?_
    · unfold thrR
      by_cases hx0 : x.1 = 0
      · rw [if_pos hx0, hx0, ← EReal.coe_zero, EReal.coe_lt_coe_iff]
        exact ⟨fun h => absurd h (not_lt.2 hv0), fun h => absurd h (lt_irrefl _)⟩
      · rw [if_neg hx0]
        refine ⟨fun _ => Nat.pos_of_ne_zero hx0, fun _ => ?_⟩
        by_cases hx5 : x.1 = 255
        · rw [if_pos hx5]; exact top _
        · rw [if_neg hx5, EReal.coe_lt_coe_iff]
          exact hs.trans_le (zpow_le_zpow_right₀ (by norm_num) (by omega))
    · unfold expRef
      rw [ev, ofBits_min, if_pos (EReal.coe_lt_coe_iff.2 hs), ofBits_zero, Int.cast_zero]
  · have hs' := not_lt.1 hs
    have hvp : 0 < a * q := lt_of_lt_of_le (by positivity) hs'
    have hl2 : 0 < Real.log 2 := Real.log_pos (by norm_num)
    obtain ⟨e, he⟩ : ∃ e : ℤ, e = ⌊Real.log (a * q) * (1 / Real.log 2)⌋ := ⟨_, rfl⟩
    have b1 : (2 : ℝ) ^ e ≤ a * q := by
      rw [← Real.log_le_log_iff (by positivity) hvp, Real.log_zpow]
      have := Int.floor_le (Real.log (a * q) * (1 / Real.log 2))
      rw [← he, mul_one_div, le_div_iff₀ hl2] at this
      exact this
    have b2 : a * q < (2 : ℝ) ^ (e + 1) := by
      rw [← Real.log_lt_log_iff hvp (by positivity), Real.log_zpow]
      have := Int.lt_floor_add_one (Real.log (a * q) * (1 / Real.log 2))
      rw [← he, mul_one_div, div_lt_iff₀ hl2] at this
      push_cast
      exact this
    have two1 : (1 : ℝ) < 2 := by norm_num
    have e1 : -126 < e + 1 := (zpow_lt_zpow_iff_right₀ two1).1 (hs'.trans_lt b2)
    have e2 : e < 126 := (zpow_lt_zpow_iff_right₀ two1).1 (b1.trans_lt hv1)
    refine key ⟨(e + 127).toNat, by omega⟩ (e + 1) (fun x => ?_) ?_ ?_
    · unfold thrR
      dsimp only
      have hx := x.2
      by_cases hx0 : x.1 = 0
      · rw [if_pos hx0, hx0, ← EReal.coe_zero, EReal.coe_lt_coe_iff]
        exact ⟨fun h => absurd h (not_lt.2 hv0), fun h => absurd h (Nat.not_lt_zero _)⟩
      · rw [if_neg hx0]
        by_cases hx5 : x.1 = 255
        · rw [if_pos hx5]; exact ⟨fun _ => by omega, fun _ => top _⟩
        · rw [if_neg hx5, EReal.coe_lt_coe_iff]
          constructor
          · intro h
            have := (zpow_lt_zpow_iff_right₀ two1).1 (b1.trans_lt h)
            omega
          · intro h
            exact b2.trans_le (zpow_le_zpow_right₀ two1.le (by omega))
    · dsimp only
      rw [if_neg (by omega)]; omega
    · unfold expRef
      rw [ev, ofBits_min, if_neg (by rw [EReal.coe_lt_coe_iff]; exact hs), ofBits_two, ofBits_one, Ideal.log_coe, Ideal.log_coe, if_neg (not_le.2 hvp), if_neg (by norm_num),
        Ideal.div_coe hl2.ne', ← EReal.coe_mul, Ideal.liftRound_coe, ← he, ← EReal.coe_add]
      push_cast
      rfl

end Cert.KernelIdeal.Hand
-- ==== Proof.PreBounded.lean ====
module

public import proofs.«01_k».proof.Proof.Pre
public import proofs.«01_k».proof.Pre_bounded
public import Idealize.ShloMosaic.Lib.WordCmp
public import proofs.«01_k».proof.Proof.KernelIdealScale

/-! The second input predicate: its side conditions, and what it says. -/

@[expose] public section

set_option maxRecDepth 16384
set_option maxHeartbeats 1000000

namespace Cert.Hand

open Idealize.ShloMosaic

/-- The side conditions of the second predicate. -/
theorem facts_bounded : Cert.Pre_bounded.Facts where
  slices_S7_S6_0 := by decide
  slices_S7_S6_1 := by decide
  bcast_S_S6 := by decide
  bcast_S_S8192x2048 := by decide
  bcast_S_S1x2048 := by decide
  bitsLt_bf16_f32 := by decide
  bcast_S_S8192x4 := by decide
  bcast_S_S8192 := by decide

/-- The second predicate's first component is the first predicate. -/
theorem boundaries_of_bounded {F : FTy → Type} [FloatOps F] (a0 a1 a2 a3 a4) [Cert.Pre_boundaries_in_range.Facts] [Cert.Pre_bounded.Facts] :
    (Cert.Pre_bounded.fn (F := F) a0 a1 a2 a3 a4).1 = Cert.Pre_boundaries_in_range.fn (F := F) a0 a1 a2 a3 a4 := rfl

/-- A byte that is not one of the two NaN codes is not all ones below its sign. -/
theorem not_nan : ∀ b : BitVec 8, b ≠ 127#8 → b ≠ 255#8 → ¬((b.extractLsb' 3 4).toNat = 15 ∧ (b.extractLsb' 0 3).toNat = 7) := by decide +kernel

/-- Such a byte is a real number below 512. -/
theorem e4m3_real (b : BitVec 8) (h1 : b ≠ 127#8) (h2 : b ≠ 255#8) : ∃ v : ℝ, Ideal.ofBits .fp8e4m3 b = ((v : ℝ) : EReal) ∧ |v| ≤ 2 ^ 9 := by
  show ∃ v : ℝ, Ideal.e4m3fn b = ((v : ℝ) : EReal) ∧ |v| ≤ 2 ^ 9
  have hn := not_nan b h1 h2
  have hex : (b.extractLsb' 3 4).toNat < 16 := (b.extractLsb' 3 4).isLt
  have hfr : (b.extractLsb' 0 3).toNat < 8 := (b.extractLsb' 0 3).isLt
  unfold Ideal.e4m3fn
  dsimp only
  generalize (b.extractLsb' 3 4).toNat = ex at *
  generalize (b.extractLsb' 0 3).toNat = fr at *
  generalize (b.extractLsb' 7 1 == 1#1) = neg
  rw [if_neg hn]
  have hs : |(if neg = true then (-1 : ℝ) else 1)| = 1 := by split <;> simp
  have hf : ((fr : ℕ) : ℝ) ≤ 8 := by exact_mod_cast hfr.le
  have hf0 : (0 : ℝ) ≤ ((fr : ℕ) : ℝ) := Nat.cast_nonneg _
  split
  · refine ⟨_, rfl, ?_⟩
    rw [abs_mul, abs_mul, hs, abs_of_nonneg hf0, one_mul, abs_of_nonneg (by positivity)]
    have : (2 : ℝ) ^ (-9 : ℤ) ≤ 1 := by norm_num
    nlinarith
  · refine ⟨_, rfl, ?_⟩
    have hf2 : (((8 + fr : ℕ)) : ℝ) ≤ 16 := by exact_mod_cast (by omega : 8 + fr ≤ 16)
    have hf3 : (0 : ℝ) ≤ (((8 + fr : ℕ)) : ℝ) := Nat.cast_nonneg _
    rw [abs_mul, abs_mul, hs, abs_of_nonneg hf3, one_mul, abs_of_nonneg (by positivity)]
    have e : (2 : ℝ) ^ ((ex : ℤ) - 10) ≤ 2 ^ (5 : ℤ) := zpow_le_zpow_right₀ (by norm_num) (by omega)
    have e0 : (0 : ℝ) ≤ (2 : ℝ) ^ ((ex : ℤ) - 10) := by positivity
    have e5 : (2 : ℝ) ^ (5 : ℤ) = 32 := by norm_num
    rw [e5] at e
    nlinarith

/-- The word of 2 to the 64. -/
theorem ofBits_64 : Ideal.ofBits .f32 0x5F800000#32 = (((2 : ℝ) ^ 64 : ℝ) : EReal) := by
  simp [Ideal.ofBits, Ideal.ieee, -EReal.coe_mul, -EReal.coe_pow]; norm_num

/-- The word of 2 to the 32. -/
theorem ofBits_32 : Ideal.ofBits .f32 0x4F800000#32 = (((2 : ℝ) ^ 32 : ℝ) : EReal) := by
  simp [Ideal.ofBits, Ideal.ieee, -EReal.coe_mul, -EReal.coe_pow]; norm_num

/-- A value whose magnitude is at most a real is a real. -/
theorem real_of_abs (x : EReal) (c : ℝ) (h : max x (-x) ≤ ((c : ℝ) : EReal)) : ∃ v : ℝ, x = ((v : ℝ) : EReal) ∧ |v| ≤ c := by
  induction x using EReal.rec with
  | bot => simp at h
  | top => simp at h
  | coe v =>
    refine ⟨v, rfl, abs_le'.2 ⟨?_, ?_⟩⟩
    · exact EReal.coe_le_coe_iff.1 ((le_max_left _ _).trans h)
    · have := (le_max_right _ _).trans h
      rw [← EReal.coe_neg] at this
      exact EReal.coe_le_coe_iff.1 this

/-- A comparison that holds. -/
theorem le_of_cmp (x y : EReal) (h : Ideal.cmp .ole x y = 1#1) : x ≤ y := by
  have h' : BitVec.ofBool (decide (x ≤ y)) = 1#1 := h
  exact of_decide_eq_true ((ofBool_eq_one _).1 h')

section
variable [Cert.Pre_bounded.Facts] (a0 : IVec Cert.Pre_bounded.S8192x2048 8) (a1 : FVec Ideal Cert.Pre_bounded.S1x2048 .f32) (a2 : IVec Cert.Pre_bounded.S7 32)
  (a3 : FVec Ideal Cert.Pre_bounded.S8192x4 .bf16) (a4 : FVec Ideal Cert.Pre_bounded.S8192 .bf16)

/-- No code is a NaN. -/
theorem codes_of_bounded (h : (Cert.Pre_bounded.fn (F := Ideal) a0 a1 a2 a3 a4).2.1 = fun _ => 1#1) (j) : a0 j ≠ 127#8 ∧ a0 j ≠ 255#8 := by
  have e : IntOp.andi (IntOp.cmpi .ne (a0 j) 127#8) (IntOp.cmpi .ne (a0 j) 255#8) = 1#1 := congrFun h j
  rw [WordCmp.cmpi_ne_eq, WordCmp.cmpi_ne_eq, WordCmp.andi_ofBool, WordCmp.ofBool_eq_one_iff, Bool.and_eq_true, decide_eq_true_eq, decide_eq_true_eq] at e
  exact e

/-- The scales of the codes are bounded. -/
theorem scales_of_bounded (h : (Cert.Pre_bounded.fn (F := Ideal) a0 a1 a2 a3 a4).2.2.1 = fun _ => 1#1) (j) : ∃ v : ℝ, a1 j = ((v : ℝ) : EReal) ∧ |v| ≤ 2 ^ 64 := by
  have e : Ideal.cmp .ole (max (a1 j) (-(a1 j))) (Ideal.ofBits .f32 0x5F800000#32) = 1#1 := congrFun h j
  rw [ofBits_64] at e
  exact real_of_abs _ _ (le_of_cmp _ _ e)

/-- The weights are bounded. -/
theorem weights_of_bounded (h : (Cert.Pre_bounded.fn (F := Ideal) a0 a1 a2 a3 a4).2.2.2.1 = fun _ => 1#1) (j) : ∃ v : ℝ, a3 j = ((v : ℝ) : EReal) ∧ |v| ≤ 2 ^ 32 := by
  have e : Ideal.cmp .ole (max (a3 j) (-(a3 j))) (Ideal.ofBits .f32 0x4F800000#32) = 1#1 := congrFun h j
  rw [ofBits_32] at e
  exact real_of_abs _ _ (le_of_cmp _ _ e)

/-- The biases are bounded. -/
theorem biases_of_bounded (h : (Cert.Pre_bounded.fn (F := Ideal) a0 a1 a2 a3 a4).2.2.2.2 = fun _ => 1#1) (j) : ∃ v : ℝ, a4 j = ((v : ℝ) : EReal) ∧ |v| ≤ 2 ^ 64 := by
  have e : Ideal.cmp .ole (max (a4 j) (-(a4 j))) (Ideal.ofBits .f32 0x5F800000#32) = 1#1 := congrFun h j
  rw [ofBits_64] at e
  exact real_of_abs _ _ (le_of_cmp _ _ e)
end

end Cert.Hand
-- ==== Proof.KernelIdealSilu.lean ====
module

public import proofs.«01_k».proof.Proof.KernelIdealPoint

/-! SiLU over the reals: its two forms, its least value, and where its magnitude is largest. -/

@[expose] public section

set_option maxRecDepth 16384
set_option maxHeartbeats 4000000

noncomputable section

namespace Cert.KernelIdeal.Hand

open Idealize.ShloMosaic
open Cert.KernelIdeal.Gen

/-- SiLU of twice a real. -/
def silR (h : ℝ) : ℝ := 2 * h * (1 + Real.exp (-(2 * h)))⁻¹

/-- At exact reals SiLU of twice a value is SiLU of twice the real. -/
theorem silu2_coe (h : ℝ) : silu2 (h : EReal) = (silR h : EReal) := by
  have hp : (1 + Real.exp (0 - 2 * h)) ≠ 0 := by positivity
  unfold silu2 silR
  rw [ofBits_two, ← EReal.coe_mul, ← EReal.coe_zero, ← EReal.coe_sub, Ideal.exp_coe, ← EReal.coe_one, ← EReal.coe_add, Ideal.div_coe hp, ← EReal.coe_mul, ← EReal.coe_mul, zero_sub]
  congr 1
  rw [one_mul, one_div]

/-- The form with the hyperbolic tangent. -/
theorem silR_tanh (h : ℝ) : h * Real.tanh h + h = silR h := by
  unfold silR
  rw [Real.tanh_eq_sinh_div_cosh, Real.sinh_eq, Real.cosh_eq]
  have e : Real.exp (-(2 * h)) = Real.exp (-h) * Real.exp (-h) := by rw [← Real.exp_add]; congr 1; ring
  have e1 : Real.exp h * Real.exp (-h) = 1 := by rw [← Real.exp_add]; simp
  have p1 := Real.exp_pos h
  have p2 := Real.exp_pos (-h)
  have q1 : (Real.exp h + Real.exp (-h)) / 2 ≠ 0 := by positivity
  have q2 : 1 + Real.exp (-h) * Real.exp (-h) ≠ 0 := by positivity
  have q3 : Real.exp h + Real.exp (-h) ≠ 0 := by positivity
  rw [e]
  generalize Real.exp h = u at *
  generalize Real.exp (-h) = v at *
  field_simp
  have : u * v ^ 2 = v := by rw [pow_two, ← mul_assoc, e1, one_mul]
  linear_combination (2 * h * v) * e1

/-- The fast path's code is the slow path's, at finite values. -/
theorem fastY_eq (h w : ℝ) : fastY (h : EReal) (w : EReal) = slowY (h : EReal) (w : EReal) := by
  unfold fastY slowY
  rw [silu2_coe, Ideal.tanh_coe, ← EReal.coe_mul, ← EReal.coe_mul, ← EReal.coe_mul, ← EReal.coe_add]
  congr 2
  rw [← silR_tanh]; ring

/-- SiLU grows over the nonnegatives. -/
theorem silR_mono {x y : ℝ} (hx : 0 ≤ x) (h : x ≤ y) : silR x ≤ silR y := by
  unfold silR
  refine mul_le_mul (by linarith) ?_ (by positivity) (by linarith)
  refine inv_anti₀ (by positivity) ?_
  have : Real.exp (-(2 * y)) ≤ Real.exp (-(2 * x)) := Real.exp_le_exp.2 (by linarith)
  linarith

/-- SiLU is nonnegative just over the nonnegatives. -/
theorem silR_nonneg {x : ℝ} (hx : 0 ≤ x) : 0 ≤ silR x := by unfold silR; positivity
/-- SiLU is nonpositive over the nonpositives. -/
theorem silR_nonpos {x : ℝ} (hx : x ≤ 0) : silR x ≤ 0 := by
  unfold silR
  exact mul_nonpos_of_nonpos_of_nonneg (by linarith) (by positivity)

/-- A bound of the exponential, at the threshold. -/
theorem exp_cut : 1 / (9344909 / 33554432 : ℝ) ≤ Real.exp (1 + 9344909 / 33554432) := by
  have := Real.sum_le_exp_of_nonneg (x := (1 + 9344909 / 33554432 : ℝ)) (by norm_num) 12
  refine le_trans ?_ this
  simp only [Finset.sum_range_succ, Finset.sum_range_zero, Nat.factorial]
  norm_num

/-- SiLU is nowhere under minus the threshold. -/
theorem silR_ge (h : ℝ) : -(9344909 / 33554432 : ℝ) ≤ silR h := by
  unfold silR
  obtain ⟨c, hc⟩ : ∃ c : ℝ, c = 9344909 / 33554432 := ⟨_, rfl⟩
  have hcp : 0 < c := by rw [hc]; norm_num
  have hx := exp_cut
  rw [← hc] at hx ⊢
  have hp : 0 < 1 + Real.exp (-(2 * h)) := by positivity
  rw [← div_eq_mul_inv, le_div_iff₀ hp]
  obtain ⟨t, ht⟩ : ∃ t : ℝ, t = -(2 * h) := ⟨_, rfl⟩
  rw [← ht, show 2 * h = -t by linarith]
  have h1 : Real.exp t = Real.exp (1 + c) * Real.exp (t - (1 + c)) := by rw [← Real.exp_add]; congr 1; ring
  have h2 := Real.add_one_le_exp (t - (1 + c))
  have h3 : (1 / c) * Real.exp (t - (1 + c)) ≤ Real.exp t := by
    rw [h1]; exact mul_le_mul_of_nonneg_right hx (Real.exp_pos _).le
  have h4 : Real.exp (t - (1 + c)) ≤ c * Real.exp t := by
    rw [one_div, inv_mul_le_iff₀ hcp] at h3; exact h3
  nlinarith

/-- Where SiLU of the largest argument is over the threshold, it is the largest magnitude. -/
theorem silR_abs {x y : ℝ} (h : x ≤ y) (hy : (9344909 / 33554432 : ℝ) ≤ silR y) : |silR x| ≤ silR y := by
  have hy0 : 0 ≤ y := by
    by_contra hn
    have := silR_nonpos (not_le.1 hn).le
    linarith [(by norm_num : (0 : ℝ) < 9344909 / 33554432)]
  rcases le_or_gt 0 x with hx | hx
  · rw [abs_of_nonneg (silR_nonneg hx)]; exact silR_mono hx h
  · rw [abs_of_nonpos (silR_nonpos hx.le)]
    linarith [silR_ge x]

/-- The magnitude of SiLU is at most that of its argument. -/
theorem silR_le (h : ℝ) : |silR h| ≤ |2 * h| := by
  unfold silR
  rw [abs_mul]
  refine mul_le_of_le_one_right (abs_nonneg _) ?_
  rw [abs_of_nonneg (by positivity)]
  exact inv_le_one_of_one_le₀ (by linarith [Real.exp_pos (-(2 * h))])

/-- The largest magnitude of finitely many reals is one of them. -/
theorem foldAbs (f : Fin 8192 → EReal) (g : Fin 8192 → ℝ) (h : ∀ r, f r = ((g r : ℝ) : EReal)) :
    ∃ r : Fin 8192, (∀ r', |g r'| ≤ |g r|) ∧
      Finset.univ.fold max (Ideal.ofBits .f32 4286578688#32) (fun r : Fin 8192 => FloatOps.absf (φ := .f32) (F := Ideal) (f r)) = ((|g r| : ℝ) : EReal) := by
  obtain ⟨r, hr⟩ := Finite.exists_max (fun r : Fin 8192 => |g r|)
  have ha : ∀ r, FloatOps.absf (φ := .f32) (F := Ideal) (f r) = ((|g r| : ℝ) : EReal) := fun r => by
    rw [h r]
    show max ((g r : ℝ) : EReal) (-((g r : ℝ) : EReal)) = _
    rw [← EReal.coe_neg, ← EReal.coe_strictMono.monotone.map_max]; rfl
  refine ⟨r, hr, ?_⟩
  simp only [ha]
  rw [ofBits_bot]
  apply le_antisymm
  · rw [Finset.fold_max_le]
    exact ⟨bot_le, fun a _ => EReal.coe_le_coe_iff.2 (hr a)⟩
  · rw [Finset.le_fold_max]
    exact Or.inr ⟨r, Finset.mem_univ _, le_rfl⟩

end Cert.KernelIdeal.Hand
-- ==== Proof.KernelIdealFast.lean ====
module

public import proofs.«01_k».proof.Proof.KernelIdealScale
public import proofs.«01_k».proof.Proof.KernelIdealSilu

/-! At bounded real inputs the fast path gives the codes and scales of the slow one, and both those of the reference. -/

@[expose] public section

set_option maxRecDepth 16384
set_option maxHeartbeats 4000000

noncomputable section

namespace Cert.KernelIdeal.Hand

open Idealize.ShloMosaic
open Cert.KernelIdeal.Gen

variable {XD : ℕ → ℕ → EReal} {pos : ℕ → BitVec 32} {wg : ℕ → ℕ → EReal} {hb : ℕ → EReal} {X W : ℕ → ℕ → ℝ} {B : ℕ → ℝ}

/-- The inputs are bounded reals. -/
structure RealIn (XD : ℕ → ℕ → EReal) (wg : ℕ → ℕ → EReal) (hb : ℕ → EReal) (X W : ℕ → ℕ → ℝ) (B : ℕ → ℝ) : Prop where
  x : ∀ r t, XD r t = ((X r t : ℝ) : EReal)
  w : ∀ r k, wg r k = ((1 / 2 * W r k : ℝ) : EReal)
  b : ∀ r, hb r = ((1 / 2 * B r : ℝ) : EReal)
  xb : ∀ r t, |X r t| ≤ 2 ^ 73
  wb : ∀ r k, |W r k| ≤ 2 ^ 32
  bb : ∀ r, |B r| ≤ 2 ^ 64

/-- A tap of the convolution, over the reals. -/
def tapR (pos : ℕ → BitVec 32) (X W : ℕ → ℕ → ℝ) (r t k d : ℕ) : ℝ := if (BitVec.ofNat 32 d).toInt ≤ (pos t).toInt then W r k * X r (t - d) else 0

/-- The convolution, over the reals. -/
def zR (pos : ℕ → BitVec 32) (X W : ℕ → ℕ → ℝ) (B : ℕ → ℝ) (r t : ℕ) : ℝ := B r + tapR pos X W r t 0 3 + tapR pos X W r t 1 2 + tapR pos X W r t 2 1 + W r 3 * X r t

/-- The kernel's half convolution is half of it. -/
theorem convN_coe (h : RealIn XD wg hb X W B) (r t : ℕ) : convN XD pos wg hb r t = ((1 / 2 * zR pos X W B r t : ℝ) : EReal) := by
  have tap : ∀ k d : ℕ, wg r k * (if (BitVec.ofNat 32 d).toInt ≤ (pos t).toInt then XD r (t - d) else 0) = ((1 / 2 * tapR pos X W r t k d : ℝ) : EReal) := by
    intro k d
    unfold tapR
    split
    · rw [h.w, h.x, ← EReal.coe_mul]; congr 1; ring
    · simp
  have t3 := tap 0 3
  have t2 := tap 1 2
  have t1 := tap 2 1
  unfold convN
  rw [show wg r 0 * (if (3#32).toInt ≤ (pos t).toInt then XD r (t - 3) else 0) = _ from t3, show wg r 1 * (if (2#32).toInt ≤ (pos t).toInt then XD r (t - 2) else 0) = _ from t2,
    show wg r 2 * (if (1#32).toInt ≤ (pos t).toInt then XD r (t - 1) else 0) = _ from t1, h.w, h.x, h.b]
  simp only [← EReal.coe_mul, ← EReal.coe_add]
  congr 1
  unfold zR
  ring

/-- A product of bounded numbers. -/
theorem wx_le (h : RealIn XD wg hb X W B) (r k t : ℕ) : |W r k * X r t| ≤ 2 ^ 105 := by
  rw [abs_mul]
  calc |W r k| * |X r t| ≤ 2 ^ 32 * 2 ^ 73 := mul_le_mul (h.wb r k) (h.xb r t) (abs_nonneg _) (by norm_num)
    _ = 2 ^ 105 := by norm_num

/-- A tap is bounded. -/
theorem tap_le (h : RealIn XD wg hb X W B) (r t k d : ℕ) : |tapR pos X W r t k d| ≤ 2 ^ 105 := by
  unfold tapR
  split
  · exact wx_le h _ _ _
  · rw [abs_zero]; norm_num

/-- The convolution is bounded. -/
theorem zR_le (h : RealIn XD wg hb X W B) (r t : ℕ) : |zR pos X W B r t| ≤ 2 ^ 110 := by
  have h1 := abs_le.1 (tap_le (pos := pos) h r t 0 3)
  have h2 := abs_le.1 (tap_le (pos := pos) h r t 1 2)
  have h3 := abs_le.1 (tap_le (pos := pos) h r t 2 1)
  have h4 := abs_le.1 (wx_le h r 3 t)
  have h5 := abs_le.1 (h.bb r)
  unfold zR
  rw [abs_le]
  norm_num at *
  constructor <;> linarith [h1.1, h1.2, h2.1, h2.2, h3.1, h3.2, h4.1, h4.2, h5.1, h5.2]

/-- The activation, over the reals. -/
theorem silu2_conv (h : RealIn XD wg hb X W B) (r t : ℕ) : silu2 (convN XD pos wg hb r t) = ((silR (1 / 2 * zR pos X W B r t) : ℝ) : EReal) := by
  rw [convN_coe h, silu2_coe]

/-- The activation as the reference states it. -/
theorem silu2_logistic (h : RealIn XD wg hb X W B) (r t : ℕ) :
    silu2 (convN XD pos wg hb r t) = ((zR pos X W B r t : ℝ) : EReal) * Ideal.logistic ((zR pos X W B r t : ℝ) : EReal) := by
  rw [silu2_conv h, Ideal.logistic_coe, ← EReal.coe_mul]
  congr 1
  unfold silR
  rw [show 2 * (1 / 2 * zR pos X W B r t) = zR pos X W B r t by ring]

/-- The largest magnitude of a token is that of one of its channels, and bounded. -/
theorem AM_coe (h : RealIn XD wg hb X W B) (t : ℕ) :
    ∃ r : Fin 8192, (∀ r' : Fin 8192, |silR (1 / 2 * zR pos X W B r'.1 t)| ≤ |silR (1 / 2 * zR pos X W B r.1 t)|)
      ∧ AM XD pos wg hb t = ((|silR (1 / 2 * zR pos X W B r.1 t)| : ℝ) : EReal) ∧ |silR (1 / 2 * zR pos X W B r.1 t)| < 2 ^ (126 : ℤ) := by
  obtain ⟨r, h1, h2⟩ := foldAbs (fun r : Fin 8192 => silu2 (convN XD pos wg hb r.1 t)) (fun r => silR (1 / 2 * zR pos X W B r.1 t)) (fun r => silu2_conv h r.1 t)
  refine ⟨r, h1, h2, ?_⟩
  refine (silR_le _).trans_lt ?_
  rw [show 2 * (1 / 2 * zR pos X W B r.1 t) = zR pos X W B r.1 t by ring]
  refine (zR_le h r.1 t).trans_lt ?_
  norm_num

/-- The scale and its inverse are those of the reference. -/
theorem scale_AM (h : RealIn XD wg hb X W B) (t : ℕ) :
    scOf (AM XD pos wg hb t) = Ideal.exp2 (expRef (AM XD pos wg hb t)) ∧ invOf (AM XD pos wg hb t) = Ideal.exp2 (Ideal.ofBits .f32 0#32 - expRef (AM XD pos wg hb t))
      ∧ ∃ w : ℝ, invOf (AM XD pos wg hb t) = (w : EReal) := by
  obtain ⟨r, h1, h2, h3⟩ := AM_coe (pos := pos) h t
  rw [h2]
  exact scale_eq _ (abs_nonneg _) h3

/-- The fast path gives what the slow one gives. -/
theorem fast_of (h : RealIn XD wg hb X W B) : Fast XD pos wg hb := by
  constructor
  · intro t r hr hc
    obtain ⟨r0, h1, h2, h3⟩ := AM_coe (pos := pos) h t
    rw [ofBits_cut, silu2_conv h, EReal.coe_le_coe_iff] at hc
    rw [h2, silu2_conv h]
    congr 1
    have hr0 := hr r0
    rw [convN_coe h, convN_coe h, EReal.coe_le_coe_iff] at hr0
    apply le_antisymm
    · exact (le_abs_self _).trans (h1 r)
    · exact silR_abs hr0 hc
  · intro t r
    obtain ⟨-, -, w, hw⟩ := scale_AM (pos := pos) h t
    rw [hw, convN_coe h]
    exact fastY_eq _ _

end Cert.KernelIdeal.Hand
-- ==== Proof.KernelIdealPoint2.lean ====
module

public import proofs.«01_k».proof.Proof.KernelIdealPoint

/-! The body at a point of the grid: what it leaves, part after part. -/

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI Idealize.SL.Sem
open Cert.KernelIdeal.Gen

variable {𝒱 : Variants} {c : Dev nD} {bd : Option 𝒱.V} {E : Set ℕ} {M : Mems}

variable {XD : ℕ → ℕ → EReal} {pos : ℕ → BitVec 32} {wg : ℕ → ℕ → EReal} {hb : ℕ → EReal}

/-- The body at a point. -/
theorem wp_body (hf : Fast XD pos wg hb) (i : grid0.Coords) (s : St Ideal) (hi : BIn XD pos wg hb i s) (hp : 0 < (i 0).val → BPrev XD pos wg hb ((i 0).val - 1) s)
    (Q : PUnit → St Ideal → Prop) (hQ : ∀ s', BOut XD pos wg hb i s s' → Q ⟨⟩ s') :
    WP 𝒱 c bd E M (cc0_conv_silu_quant (F := Ideal) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17) Q s := by
  have hi8 : (i 0).val < 9 := (i 0).isLt
  rw [cc0_conv_silu_quant_eq_skeleton]
  dsimp only [cc0_conv_silu_quant_skel]
  refine WP.bind ?_
  rcases Nat.eq_zero_or_pos (i 0).val with h0 | h0
  · refine wp_part34_zero s i h0 hi.hw _ fun v25 v29 g u => ?_
    refine WP.bind ?_
    refine wp_part35 _ i _ _ fun v82 hv82 => ?_
    refine WP.bind ?_
    refine wp_part36_zero _ i v25 v29 1#1 _ v82 _ ?_
    refine WP.bind ?_
    refine wp_part37_conv (XD := XD) (pos := pos) (wg := wg) (hb := hb) (j := (i 0).val) _ i _ _ v82 ?_ ?_ _ fun acc hacc a s' hs => ?_
    · exact ⟨hi.hpos, fun c => by have := hi.hp c; rw [Nat.min_eq_left (by omega)] at this; exact this,
        fun r a c => by rw [hv82]; have := hi.hx r c; simp only [Nat.min_eq_left (show (i 0).val ≤ 7 by omega)] at this ⊢; exact this, fun h => by omega, rfl, hi.hb⟩
    · exact hi.hcu
    have hcu' : CuOk s'.cu := by rw [hs.cu]; exact hi.hcu
    have fin : ∀ s'', Same s' s'' → Q ⟨⟩ s'' := fun s'' hs' => hQ s''
      ⟨hs'.cu.trans hs.cu, hs'.xsS.trans hs.xsS, hs'.xb.trans hs.xb, hs'.xs.trans hs.xs, hs'.wt.trans hs.wt, hs'.bh.trans hs.bh, hs'.br.trans hs.br,
       fun _ => ⟨hs'.h.trans hs.h, hs'.l.trans hs.l, hs'.halo.trans hs.halo, by rw [hs'.zmax.trans hs.zmax]; exact hacc⟩, fun h => by omega, fun h => by omega⟩
    have hR := Same.free (s0 := s') hcu'
    refine WP.mono (Keeps.run (φ := fun _ => True) (R := Same s') ?_ s' (Same.refl _)) (fun b s'' h => fin s'' h.2)
    repeat' first
      | with_reducible (intro a ha)
      | with_reducible exact Keeps.pure
      | with_reducible refine Keeps.dite (fun _ => ?_) (fun _ => ?_)
      | with_reducible refine Keeps.ite ?_ ?_
      | with_reducible apply keeps_k0_part38 hR
      | with_reducible apply keeps_k0_part39 hR
      | with_reducible apply keeps_k0_part40 hR
      | with_reducible apply keeps_k0_t19_body hR
      | with_reducible apply keeps_k0_t20_body hR
      | with_reducible apply keeps_k0_part33 hR
      | with_reducible apply keeps_k0_t21_body hR
      | with_reducible refine Keeps.loop fun _ _ => ?_
      | with_reducible apply Keeps.bind
      | with_reducible exact Keeps.word2
      | exact Keeps.word2
      | split
  · have hp := hp h0
    refine wp_part34_pos s i h0 _ (fun hz v29 => ?_) (fun hz v29 => ?_)
    · refine WP.bind ?_
      refine wp_part35 _ i _ _ fun v82 hv82 => ?_
      refine WP.bind ?_
      rcases Nat.lt_or_ge (i 0).val 8 with h8 | h8
      · rw [v30_lt i h8]
        refine wp_part36_fast (XD := XD) (pos := pos) (wg := wg) (hb := hb) (j := (i 0).val) _ i v29 _ v82 ?_ _ fun acc hacc => ?_
        · exact ⟨hi.hpos, fun c => by have := hi.hp c; rw [Nat.min_eq_left (by omega)] at this; exact this,
            fun r a c => by rw [hv82]; have := hi.hx r c; simp only [Nat.min_eq_left (show (i 0).val ≤ 7 by omega)] at this ⊢; exact this,
            fun _ r l => by show s.halo (ix2 r l) = _; rw [hp.halo]; rfl, hp.l, hi.hb⟩
        refine WP.bind ?_
        refine wp_part37_skip _ i _ _ _ (show Scalar.andi 1#1 (Scalar.xori 1#1 1#1) = 0#1 by decide) _ _ _ _ _ _ _ _ _ ?_ _ fun a s' hs => ?_
        · exact hi.hcu
        have hcu' : CuOk s'.cu := by rw [hs.cu]; exact hi.hcu
        have fin : ∀ s'', Same s' s'' → Q ⟨⟩ s'' := fun s'' hs' => hQ s''
          ⟨hs'.cu.trans hs.cu, hs'.xsS.trans hs.xsS, hs'.xb.trans hs.xb, hs'.xs.trans hs.xs, hs'.wt.trans hs.wt, hs'.bh.trans hs.bh, hs'.br.trans hs.br,
           fun _ => ⟨hs'.h.trans hs.h, (hs'.l.trans hs.l).trans hp.l, hs'.halo.trans hs.halo, by rw [hs'.zmax.trans hs.zmax]; exact hacc⟩,
           fun _ => (hs'.y.trans hs.y).trans (by dsimp only; rw [hp.h]; exact fastB_eq hf _ _ (hp.fast hf hz)),
           fun _ => (hs'.ysc.trans hs.ysc).trans (by dsimp only; simp only [hp.fast hf hz])⟩
        have hR := Same.free (s0 := s') hcu'
        refine WP.mono (Keeps.run (φ := fun _ => True) (R := Same s') ?_ s' (Same.refl _)) (fun b s'' h => fin s'' h.2)
        repeat' first
          | with_reducible (intro a ha)
          | with_reducible exact Keeps.pure
          | with_reducible refine Keeps.dite (fun _ => ?_) (fun _ => ?_)
          | with_reducible refine Keeps.ite ?_ ?_
          | with_reducible apply keeps_k0_part38 hR
          | with_reducible apply keeps_k0_part39 hR
          | with_reducible apply keeps_k0_part40 hR
          | with_reducible apply keeps_k0_t19_body hR
          | with_reducible apply keeps_k0_t20_body hR
          | with_reducible apply keeps_k0_part33 hR
          | with_reducible apply keeps_k0_t21_body hR
          | with_reducible refine Keeps.loop fun _ _ => ?_
          | with_reducible apply Keeps.bind
          | with_reducible exact Keeps.word2
          | exact Keeps.word2
          | split
      · have h8 : (i 0).val = 8 := by omega
        rw [v30_eq i h8]
        refine wp_part36_last _ i v29 _ v82 _ ?_
        refine WP.bind ?_
        refine wp_part37_skip _ i _ _ _ (show Scalar.andi 0#1 (Scalar.xori 1#1 1#1) = 0#1 by decide) _ _ _ _ _ _ _ _ _ ?_ _ fun a s' hs => ?_
        · exact hi.hcu
        have hcu' : CuOk s'.cu := by rw [hs.cu]; exact hi.hcu
        have fin : ∀ s'', Same s' s'' → Q ⟨⟩ s'' := fun s'' hs' => hQ s''
          ⟨hs'.cu.trans hs.cu, hs'.xsS.trans hs.xsS, hs'.xb.trans hs.xb, hs'.xs.trans hs.xs, hs'.wt.trans hs.wt, hs'.bh.trans hs.bh, hs'.br.trans hs.br,
           fun h => by omega,
           fun _ => (hs'.y.trans hs.y).trans (by dsimp only; rw [hp.h]; exact fastB_eq hf _ _ (hp.fast hf hz)),
           fun _ => (hs'.ysc.trans hs.ysc).trans (by dsimp only; simp only [hp.fast hf hz])⟩
        have hR := Same.free (s0 := s') hcu'
        refine WP.mono (Keeps.run (φ := fun _ => True) (R := Same s') ?_ s' (Same.refl _)) (fun b s'' h => fin s'' h.2)
        repeat' first
          | with_reducible (intro a ha)
          | with_reducible exact Keeps.pure
          | with_reducible refine Keeps.dite (fun _ => ?_) (fun _ => ?_)
          | with_reducible refine Keeps.ite ?_ ?_
          | with_reducible apply keeps_k0_part38 hR
          | with_reducible apply keeps_k0_part39 hR
          | with_reducible apply keeps_k0_part40 hR
          | with_reducible apply keeps_k0_t19_body hR
          | with_reducible apply keeps_k0_t20_body hR
          | with_reducible apply keeps_k0_part33 hR
          | with_reducible apply keeps_k0_t21_body hR
          | with_reducible refine Keeps.loop fun _ _ => ?_
          | with_reducible apply Keeps.bind
          | with_reducible exact Keeps.word2
          | exact Keeps.word2
          | split
    · refine WP.bind ?_
      refine wp_part35 _ i _ _ fun v82 hv82 => ?_
      refine WP.bind ?_
      refine wp_part36_slow _ i v29 _ _ v82 _ fun acc0 hacc0 => ?_
      refine WP.bind ?_
      rcases Nat.lt_or_ge (i 0).val 8 with h8 | h8
      · rw [v30_lt i h8]
        refine wp_part37_conv (XD := XD) (pos := pos) (wg := wg) (hb := hb) (j := (i 0).val) _ i _ _ v82 ?_ ?_ _ fun acc hacc a s' hs => ?_
        · exact ⟨hi.hpos, fun c => by have := hi.hp c; rw [Nat.min_eq_left (by omega)] at this; exact this,
            fun r a c => by rw [hv82]; have := hi.hx r c; simp only [Nat.min_eq_left (show (i 0).val ≤ 7 by omega)] at this ⊢; exact this,
            fun _ r l => by show s.halo (ix2 r l) = _; rw [hp.halo]; rfl, hp.l, hi.hb⟩
        · exact hi.hcu
        have hcu' : CuOk s'.cu := by rw [hs.cu]; exact hi.hcu
        have fin : ∀ s'', Same s' s'' → Q ⟨⟩ s'' := fun s'' hs' => hQ s''
          ⟨hs'.cu.trans hs.cu, hs'.xsS.trans hs.xsS, hs'.xb.trans hs.xb, hs'.xs.trans hs.xs, hs'.wt.trans hs.wt, hs'.bh.trans hs.bh, hs'.br.trans hs.br,
           fun _ => ⟨hs'.h.trans hs.h, (hs'.l.trans hs.l).trans hp.l, hs'.halo.trans hs.halo, by rw [hs'.zmax.trans hs.zmax]; exact hacc⟩,
           fun _ => (hs'.y.trans hs.y).trans (by dsimp only; rw [hp.h]; exact slowB_eq _ _ (slow_max hp.h hacc0)),
           fun _ => (hs'.ysc.trans hs.ysc).trans (by dsimp only; simp only [slow_max hp.h hacc0])⟩
        have hR := Same.free (s0 := s') hcu'
        refine WP.mono (Keeps.run (φ := fun _ => True) (R := Same s') ?_ s' (Same.refl _)) (fun b s'' h => fin s'' h.2)
        repeat' first
          | with_reducible (intro a ha)
          | with_reducible exact Keeps.pure
          | with_reducible refine Keeps.dite (fun _ => ?_) (fun _ => ?_)
          | with_reducible refine Keeps.ite ?_ ?_
          | with_reducible apply keeps_k0_part38 hR
          | with_reducible apply keeps_k0_part39 hR
          | with_reducible apply keeps_k0_part40 hR
          | with_reducible apply keeps_k0_t19_body hR
          | with_reducible apply keeps_k0_t20_body hR
          | with_reducible apply keeps_k0_part33 hR
          | with_reducible apply keeps_k0_t21_body hR
          | with_reducible refine Keeps.loop fun _ _ => ?_
          | with_reducible apply Keeps.bind
          | with_reducible exact Keeps.word2
          | exact Keeps.word2
          | split
      · have h8 : (i 0).val = 8 := by omega
        rw [v30_eq i h8]
        refine wp_part37_skip _ i _ _ _ (show Scalar.andi 0#1 (Scalar.xori 0#1 1#1) = 0#1 by decide) _ _ _ _ _ _ _ _ _ ?_ _ fun a s' hs => ?_
        · exact hi.hcu
        have hcu' : CuOk s'.cu := by rw [hs.cu]; exact hi.hcu
        have fin : ∀ s'', Same s' s'' → Q ⟨⟩ s'' := fun s'' hs' => hQ s''
          ⟨hs'.cu.trans hs.cu, hs'.xsS.trans hs.xsS, hs'.xb.trans hs.xb, hs'.xs.trans hs.xs, hs'.wt.trans hs.wt, hs'.bh.trans hs.bh, hs'.br.trans hs.br,
           fun h => by omega,
           fun _ => (hs'.y.trans hs.y).trans (by dsimp only; rw [hp.h]; exact slowB_eq _ _ (slow_max hp.h hacc0)),
           fun _ => (hs'.ysc.trans hs.ysc).trans (by dsimp only; simp only [slow_max hp.h hacc0])⟩
        have hR := Same.free (s0 := s') hcu'
        refine WP.mono (Keeps.run (φ := fun _ => True) (R := Same s') ?_ s' (Same.refl _)) (fun b s'' h => fin s'' h.2)
        repeat' first
          | with_reducible (intro a ha)
          | with_reducible exact Keeps.pure
          | with_reducible refine Keeps.dite (fun _ => ?_) (fun _ => ?_)
          | with_reducible refine Keeps.ite ?_ ?_
          | with_reducible apply keeps_k0_part38 hR
          | with_reducible apply keeps_k0_part39 hR
          | with_reducible apply keeps_k0_part40 hR
          | with_reducible apply keeps_k0_t19_body hR
          | with_reducible apply keeps_k0_t20_body hR
          | with_reducible apply keeps_k0_part33 hR
          | with_reducible apply keeps_k0_t21_body hR
          | with_reducible refine Keeps.loop fun _ _ => ?_
          | with_reducible apply Keeps.bind
          | with_reducible exact Keeps.word2
          | exact Keeps.word2
          | split

end Cert.KernelIdeal.Hand
-- ==== Proof.KernelIdealRun.lean ====
module

public import proofs.«01_k».proof.Proof.KernelIdealPoint2
public import proofs.«01_k».proof.Proof.KernelIdealRegion
public import Idealize.ShloMosaic.Lib.Pipeline.ArrRel
public import Idealize.ShloMosaic.Lib.Pipeline.ValueKit

/-! The two results of the run of the kernel, at exact reals, from what the body does at each grid point. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open Idealize.SL.BI.BIBase Idealize.SL.Sem
open Cert.KernelIdeal.Gen
open Idealize.ShloMosaic.Pipeline (RDat Dat Cfg Window cellOf)

variable (m : (ℓ : Loc nD τ sig) → Buf (Elt Ideal) ℓ) (ρ : Dev nD → PrngReg)
variable (XD : ℕ → ℕ → EReal) (pos : ℕ → BitVec 32) (wg : ℕ → ℕ → EReal) (hb : ℕ → EReal)

/-- What is said of the region: the convolution of the previous block before each point, and the codes and scales it leaves. -/
def vSpec : Spec Ideal where
  P t s := ∀ j, t.val = j + 1 → j < 8 → s.h = HN XD pos wg hb j ∧ s.l = LN wg ∧ s.halo = UN XD j
    ∧ AccOk 8192 (HN XD pos wg hb j) (Ideal.ofBits .f32 0xFF800000#32) s.zmax
  y t Y X := 0 < t.val → X = YB XD pos wg hb (t.val - 1)
  ysc t Y X := 0 < t.val → X = scB (256 * (t.val - 1)) (fun c => scOf (AM XD pos wg hb (256 * (t.val - 1) + c.1))) Y

/-- The grid coordinate of a point is its number. -/
theorem coords_val : ∀ t : Fin cfg0.N, (grid0.coords t 0).val = t.val := by decide +kernel

/-- The body meets the specification at each point. -/
theorem bodySpec_v (hf : Fast XD pos wg hb) (c : Dev nD) (t : Fin cfg0.N)
    (hi : ∀ s, Ins m c t s → BIn XD pos wg hb (grid0.coords t) s) : BodySpec m (vSpec XD pos wg hb) c t := by
  intro s hs hP M
  have ht : t.val < 9 := t.isLt
  refine wp_body hf (grid0.coords t) s (hi s hs) (fun h => ?_) _ fun s' ho => ?_
  · rw [coords_val] at h ⊢
    obtain ⟨a1, a2, a3, a4⟩ := hP (t.val - 1) (by show t.val = _; omega) (by omega)
    exact ⟨a1, a2, a3, a4⟩
  · refine ⟨⟨ho.cu.trans hs.cu, ho.xsS.trans hs.xsS, ho.xb.trans hs.xb, ho.xs.trans hs.xs, ho.wt.trans hs.wt, ho.bh.trans hs.bh, ho.br.trans hs.br⟩, ?_, ?_, ?_⟩
    · intro j hj hj8
      have e : j = t.val := by have : t.val + 1 = j + 1 := hj; omega
      have h := ho.prev (by rw [coords_val]; omega)
      rw [coords_val, ← e] at h
      exact ⟨h.h, h.l, h.halo, h.zmax⟩
    · intro h0
      have h := ho.y (by rw [coords_val]; exact h0)
      rw [coords_val] at h
      exact h
    · intro h0
      have h := ho.ysc (by rw [coords_val]; exact h0)
      rw [coords_val] at h
      exact h

/-- The codes at the end. -/
theorem out_y {r : PUnit × MemSt nD τ sig (Elt Ideal)} (h : RDat.FramePost cfg0 (rdat m (vSpec XD pos wg hb)) (V m) r) (c : Dev nD) (a : Fin 8192) (t : Fin 2048) :
    r.2.mem ((c.tc : Thread nD τ).loc main_v9_0) (ix2 a t) = slowY (convN XD pos wg hb a.1 t.1) (invOf (AM XD pos wg hb t.1)) := by
  obtain ⟨after, hL, hA⟩ := h.exists_exact c
  have e := Dat.arrAt_eq_of_covers (dat := (rdat m (vSpec XD pos wg hb) c).withAfter after) (7 : Fin cfg0.W)
    (fun x => slowY (convN XD pos wg hb (x 0).1 (x 1).1) (invOf (AM XD pos wg hb (x 1).1))) (by decide +kernel) (fun u hu y => ?_)
  · exact (congrFun (hA 7) (ix2 a t)).trans (congrFun e (ix2 a t))
  · have hu9 : u.val < 9 := u.isLt
    have hpos : 0 < u.val := by
      have := (by decide +kernel : ∀ u : Fin cfg0.N, (cfg0.win 7).flush u = true → 0 < u.val) u hu
      exact this
    obtain ⟨Y, -, hY⟩ := hL 7 u hu
    have hY' : after 7 u = YB XD pos wg hb (u.val - 1) := hY hpos
    rw [RDat.withAfter_after, hY']
    blk_simp
    have e0 : win0_7.index u 0 = 0 := (by decide +kernel : ∀ u : Fin cfg0.N, win0_7.index u 0 = 0) u
    have e1 : win0_7.index u 1 = u.val - 1 := (by decide +kernel : ∀ u : Fin cfg0.N, win0_7.index u 1 = u.val - 1) u
    rw [e0, e1, Nat.zero_mul, Nat.zero_add, Nat.mul_comm]
    rfl

/-- What the body leaves of the scales at a point: the columns up to it. -/
theorem ysc_leaves (c : Dev nD) : ∀ n (hn : n < 9) (X : S1x2048.Idx → EReal), (rdat m (vSpec XD pos wg hb) c).Leaves (8 : Fin cfg0.W) ⟨n, hn⟩ X →
    ∀ x : S1x2048.Idx, (x 1).1 < 256 * n → X x = scOf (AM XD pos wg hb (x 1).1)
  | 0, hn, X, hX, x, hx => absurd hx (by omega)
  | n + 1, hn, X, hX, x, hx => by
    obtain ⟨Y, hF, hY⟩ := hX
    have hY' : X = scB (256 * (n + 1 - 1)) (fun c => scOf (AM XD pos wg hb (256 * (n + 1 - 1) + c.1))) Y := hY (Nat.succ_pos n)
    rw [Nat.add_sub_cancel] at hY'
    rw [hY']
    unfold scB
    split
    · next h => dsimp only; congr 2; omega
    · next h =>
      rw [RDat.finds_of_pos _ (by rfl) (by exact Nat.succ_ne_zero n)] at hF
      rcases hF with hF | hF
      · have := (flush0_8 _).1 hF
        dsimp only at this
        omega
      · exact ysc_leaves c n (by omega) Y hF x (by omega)

/-- The scales at the end. -/
theorem out_ysc {r : PUnit × MemSt nD τ sig (Elt Ideal)} (h : RDat.FramePost cfg0 (rdat m (vSpec XD pos wg hb)) (V m) r) (c : Dev nD) (t : Fin 2048) :
    r.2.mem ((c.tc : Thread nD τ).loc main_v9_1) (ix2 0 t) = scOf (AM XD pos wg hb t.1) := by
  obtain ⟨after, hL, hA⟩ := h.exists_exact c
  have e := Dat.arrAt_emb_eq_after_last ((rdat m (vSpec XD pos wg hb) c).withAfter after) (8 : Fin cfg0.W) (⟨8, by decide⟩ : Fin cfg0.N) (by decide +kernel) (ix2 0 t)
  rw [RDat.withAfter_after] at e
  have h8 := ysc_leaves m XD pos wg hb c 8 (by decide) (after 8 ⟨8, by decide⟩) (hL 8 ⟨8, by decide⟩ ((flush0_8 _).2 rfl)) (ix2 0 t) (by show t.1 < _; omega)
  exact (congrFun (hA 8) (ix2 0 t)).trans (e.trans h8)

end Cert.KernelIdeal.Hand
-- ==== Proof.KernelIdealInput.lean ====
module

public import proofs.«01_k».proof.Proof.KernelIdealRun
public import proofs.«01_k».proof.Proof.KernelIdealFrame
public import Idealize.ShloMosaic.Lib.StableHlo.ReadAt
public import Idealize.ShloMosaic.Lib.WordCmp

/-! What the body of the kernel reads, in terms of the arguments. -/

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open Idealize.SL.BI.BIBase Idealize.SL.Sem
open Cert.KernelIdeal.Gen
open Idealize.ShloMosaic.Pipeline (RDat Dat Cfg Window cellOf)

/-- The dequantised token matrix, zero out of range. -/
def XA (x0 : S8192x2048.Idx → BitVec 8) (x1 : S1x2048.Idx → EReal) (r t : ℕ) : EReal :=
  if h : r < 8192 ∧ t < 2048 then Ideal.ofBits .fp8e4m3 (x0 (ix2 ⟨r, h.1⟩ ⟨t, h.2⟩)) * x1 (ix2 0 ⟨t, h.2⟩) else 0

/-- Half the weights. -/
def WA (x3 : S8192x4.Idx → EReal) (r k : ℕ) : EReal :=
  if h : r < 8192 ∧ k < 4 then Ideal.ofBits .f32 1056964608#32 * x3 (ix2 ⟨r, h.1⟩ ⟨k, h.2⟩) else 0

/-- Half the bias. -/
def HA (x4 : S8192.Idx → EReal) (r : ℕ) : EReal :=
  if h : r < 8192 then Ideal.ofBits .f32 1056964608#32 * x4 (ix1 ⟨r, h⟩) else 0

/-- The start of the sequence so far, after one more boundary. -/
def curW (tok cur b : BitVec 32) : BitVec 32 := Scalar.select (IntOp.cmpi .sge tok b) (IntOp.maxsi cur b) cur

/-- A token's position in its sequence, as the kernel computes it. -/
def posW (cu : S7.Idx → BitVec 32) (tok : BitVec 32) : BitVec 32 :=
  IntOp.subi tok (curW tok (curW tok (curW tok (curW tok (curW tok 0#32 (cu (iw 1 (by decide)))) (cu (iw 2 (by decide)))) (cu (iw 3 (by decide)))) (cu (iw 4 (by decide)))) (cu (iw 5 (by decide))))

/-- The positions, zero out of range. -/
def PA (cu : S7.Idx → BitVec 32) (t : ℕ) : BitVec 32 := if t < 2048 then posW cu (BitVec.ofNat 32 t) else 0#32

/-- The positions that the kernel computes, at a token. -/
theorem pay147_apply (v35 a b c d e : BitVec 32) (q : Fin 256) :
    k0_pay147 (F := Ideal) v35 a a b b c c d d e e (ix2 0 q)
      = IntOp.subi (IntOp.addi (Scalar.muli v35 256#32) (BitVec.ofNat 32 q.1)) (curW (IntOp.addi (Scalar.muli v35 256#32) (BitVec.ofNat 32 q.1)) (curW (IntOp.addi (Scalar.muli v35 256#32) (BitVec.ofNat 32 q.1)) (curW (IntOp.addi (Scalar.muli v35 256#32) (BitVec.ofNat 32 q.1)) (curW (IntOp.addi (Scalar.muli v35 256#32) (BitVec.ofNat 32 q.1)) (curW (IntOp.addi (Scalar.muli v35 256#32) (BitVec.ofNat 32 q.1)) 0#32 a) b) c) d) e) := by
  unfold curW
  pointwise [k0_pay147]

variable (m : (ℓ : Loc nD τ sig) → Buf (Elt Ideal) ℓ)

/-- The fetched boundaries. -/
theorem in0 (c : Dev nD) (t : Fin cfg0.N) : iblk m c 0 t = m ((c : Thread nD τ).loc main_arg2) := by
  funext j
  unfold iblk
  rw [View.read_apply, cast_eq]
  refine (congrFun (V_main_arg2 m c) _).trans ?_
  congr 1
  blk_ext [(show win0_0.index t 0 = 0 from rfl)]

/-- The fetched scales. -/
theorem in3 (c : Dev nD) (t : Fin cfg0.N) : iblk m c 3 t = m ((c : Thread nD τ).loc main_arg1) := by
  funext j
  unfold iblk
  rw [View.read_apply, cast_eq]
  refine (congrFun (V_main_arg1 m c) _).trans ?_
  congr 1
  blk_ext [(show win0_3.index t 0 = 0 from rfl), (show win0_3.index t 1 = 0 from rfl)]

/-- The fetched codes. -/
theorem in2 (c : Dev nD) (t : Fin cfg0.N) (r : Fin 8192) (q : Fin 256) :
    iblk m c 2 t (ix2 r q) = Ideal.ofBits .fp8e4m3 (m ((c : Thread nD τ).loc main_arg0) (ix2 r ⟨256 * min t.val 7 + q.1, by omega⟩)) := by
  unfold iblk
  rw [View.read_apply, cast_eq]
  have e : ((cfg0.win 2).blk t).view.emb (ix2 r q) = ix2 r ⟨256 * min t.val 7 + q.1, by omega⟩ := by
    have e0 : win0_2.index t 0 = 0 := rfl
    have e1 : win0_2.index t 1 = min t.val 7 := (by decide +kernel : ∀ t : Fin cfg0.N, win0_2.index t 1 = min t.val 7) t
    blk_ext [e0, e1]
  have h : ∀ j, V m c main_v0 j = Ideal.ofBits .fp8e4m3 (m ((c : Thread nD τ).loc main_arg0) j) := by
    intro j
    unfold V
    after_reads_at
  exact (h _).trans (by rw [e])

/-- The fetched weights. -/
theorem in4 (c : Dev nD) (t : Fin cfg0.N) (k : Fin 4) (r : Fin 8192) :
    iblk m c 4 t (ix2 k r) = m ((c : Thread nD τ).loc main_arg3) (ix2 r k) := by
  unfold iblk
  rw [View.read_apply, cast_eq]
  have e : ((cfg0.win 4).blk t).view.emb (ix2 k r) = ix2 k r := by
    blk_ext [(show win0_4.index t 0 = 0 from rfl), (show win0_4.index t 1 = 0 from rfl)]
  have h : V m c main_v7 (ix2 k r) = m ((c : Thread nD τ).loc main_arg3) (ix2 r k) := by
    unfold V
    after_reads_at
  rw [e]
  exact h

/-- The fetched half bias. -/
theorem in5 (c : Dev nD) (t : Fin cfg0.N) (r : Fin 8192) :
    iblk m c 5 t (ix2 r 0) = Ideal.ofBits .f32 1056964608#32 * m ((c : Thread nD τ).loc main_arg4) (ix1 r) := by
  unfold iblk
  rw [View.read_apply, cast_eq]
  have e : ((cfg0.win 5).blk t).view.emb (ix2 r 0) = ix2 r 0 := by
    blk_ext [(show win0_5.index t 0 = 0 from rfl), (show win0_5.index t 1 = 0 from rfl)]
  have h : V m c main_v6 (ix2 r 0) = Ideal.ofBits .f32 1056964608#32 * m ((c : Thread nD τ).loc main_arg4) (ix1 r) := by
    unfold V
    after_reads_at
  rw [e]
  exact h

/-- A start so far, as an integer. -/
theorem curW_toInt (tok cur b : BitVec 32) : (curW tok cur b).toInt = if b.toInt ≤ tok.toInt then max cur.toInt b.toInt else cur.toInt := by
  unfold curW
  rw [WordCmp.cmpi_sge_eq, WordCmp.select_ofBool]
  by_cases h : b.toInt ≤ tok.toInt
  · rw [if_pos (decide_eq_true h), if_pos h]
    unfold IntOp.maxsi
    by_cases h2 : b.toInt < cur.toInt
    · rw [if_pos (BitVec.slt_iff_toInt_lt.2 h2)]; omega
    · rw [if_neg (fun h3 => h2 (BitVec.slt_iff_toInt_lt.1 h3))]; omega
  · rw [if_neg (by rw [decide_eq_false h]; exact Bool.false_ne_true), if_neg h]

/-- A start so far is in the sequence's range, before the token. -/
theorem curW_le (tok cur b : BitVec 32) (h0 : 0 ≤ cur.toInt) (h : cur.toInt ≤ tok.toInt) :
    0 ≤ (curW tok cur b).toInt ∧ (curW tok cur b).toInt ≤ tok.toInt := by
  rw [curW_toInt]
  split <;> omega

/-- A start so far is at most a place. -/
theorem curW_iff (tok cur b : BitVec 32) (x : ℤ) (hx : x ≤ tok.toInt) :
    (curW tok cur b).toInt ≤ x ↔ cur.toInt ≤ x ∧ (b.toInt ≤ x ∨ tok.toInt < b.toInt) := by
  rw [curW_toInt]
  split <;> omega

/-- A difference of two words that are both small. -/
theorem subi_toInt (a b : BitVec 32) (ha : 0 ≤ a.toInt) (ha' : a.toInt ≤ 4096) (hb : 0 ≤ b.toInt) (hb' : b.toInt ≤ 4096) : (IntOp.subi a b).toInt = a.toInt - b.toInt := by
  show (a - b).toInt = _
  rw [BitVec.toInt_sub]
  exact Int.bmod_eq_of_le (by norm_num; omega) (by norm_num; omega)

/-- The position, as an integer. -/
theorem posW_toInt (cu : S7.Idx → BitVec 32) (tok : BitVec 32) (h0 : 0 ≤ tok.toInt) (h1 : tok.toInt ≤ 4096) :
    ∃ cur : BitVec 32, cur = curW tok (curW tok (curW tok (curW tok (curW tok 0#32 (cu (iw 1 (by decide)))) (cu (iw 2 (by decide)))) (cu (iw 3 (by decide)))) (cu (iw 4 (by decide)))) (cu (iw 5 (by decide)))
      ∧ 0 ≤ cur.toInt ∧ (posW cu tok).toInt = tok.toInt - cur.toInt := by
  have z : (0#32 : BitVec 32).toInt = 0 := by decide
  have a1 := curW_le tok 0#32 (cu (iw 1 (by decide))) (by omega) (by omega)
  have a2 := curW_le tok _ (cu (iw 2 (by decide))) a1.1 a1.2
  have a3 := curW_le tok _ (cu (iw 3 (by decide))) a2.1 a2.2
  have a4 := curW_le tok _ (cu (iw 4 (by decide))) a3.1 a3.2
  have a5 := curW_le tok _ (cu (iw 5 (by decide))) a4.1 a4.2
  refine ⟨_, rfl, a5.1, ?_⟩
  exact subi_toInt _ _ h0 h1 a5.1 (by omega)

/-- Whether a token and the one `d` before it lie in one sequence, as the reference computes it. -/
def keepW (cu : S7.Idx → BitVec 32) (tok d : BitVec 32) : BitVec 1 :=
  IntOp.andi (IntOp.andi (IntOp.andi (IntOp.andi (IntOp.andi (IntOp.cmpi .sge tok d)
    (IntOp.ori (IntOp.cmpi .sle (cu (ix1 1)) (IntOp.subi tok d)) (IntOp.cmpi .slt tok (cu (ix1 1)))))
    (IntOp.ori (IntOp.cmpi .sle (cu (ix1 2)) (IntOp.subi tok d)) (IntOp.cmpi .slt tok (cu (ix1 2)))))
    (IntOp.ori (IntOp.cmpi .sle (cu (ix1 3)) (IntOp.subi tok d)) (IntOp.cmpi .slt tok (cu (ix1 3)))))
    (IntOp.ori (IntOp.cmpi .sle (cu (ix1 4)) (IntOp.subi tok d)) (IntOp.cmpi .slt tok (cu (ix1 4)))))
    (IntOp.ori (IntOp.cmpi .sle (cu (ix1 5)) (IntOp.subi tok d)) (IntOp.cmpi .slt tok (cu (ix1 5))))

/-- An index of a boundary word, spelt in two ways. -/
theorem iw_eq (b : ℕ) (hb : b < 7) : iw b hb = ix1 (⟨b, hb⟩ : Fin 7) := by
  funext a
  fin_cases a
  rfl

/-- The reference's mask is the kernel's. -/
theorem keepW_iff (cu : S7.Idx → BitVec 32) (tok d : BitVec 32) (h0 : 0 ≤ tok.toInt) (h1 : tok.toInt ≤ 4096) (hd0 : 0 ≤ d.toInt) (hd : d.toInt ≤ 4096) :
    keepW cu tok d = 1#1 ↔ d.toInt ≤ (posW cu tok).toInt := by
  obtain ⟨cur, hc, hc0, hp⟩ := posW_toInt cu tok h0 h1
  have z : (0#32 : BitVec 32).toInt = 0 := by decide
  rw [hp, show (d.toInt ≤ tok.toInt - cur.toInt ↔ cur.toInt ≤ tok.toInt - d.toInt) by omega,
    hc, curW_iff _ _ _ _ (by omega), curW_iff _ _ _ _ (by omega), curW_iff _ _ _ _ (by omega), curW_iff _ _ _ _ (by omega), curW_iff _ _ _ _ (by omega), z]
  unfold keepW
  simp only [WordCmp.cmpi_sge_eq, WordCmp.cmpi_sle_eq, WordCmp.cmpi_slt_eq, WordCmp.andi_ofBool, WordCmp.ori_ofBool, WordCmp.ofBool_eq_one_iff, Bool.and_eq_true, Bool.or_eq_true, decide_eq_true_eq,
    subi_toInt tok d h0 h1 hd0 hd, iw_eq]
  show _ ∧ _ ↔ _
  constructor
  · rintro ⟨⟨⟨⟨⟨a, b1⟩, b2⟩, b3⟩, b4⟩, b5⟩
    exact ⟨⟨⟨⟨⟨by omega, b1⟩, b2⟩, b3⟩, b4⟩, b5⟩
  · rintro ⟨⟨⟨⟨⟨a, b1⟩, b2⟩, b3⟩, b4⟩, b5⟩
    exact ⟨⟨⟨⟨⟨by omega, b1⟩, b2⟩, b3⟩, b4⟩, b5⟩

/-- A small number's word, as an integer. -/
theorem ofNat_toInt (t : ℕ) (h : t < 4096) : (BitVec.ofNat 32 t).toInt = (t : ℤ) := WordCmp.toInt_ofNat_of_lt (by norm_num; omega)

/-- What the body reads at a point is what the arguments say. -/
theorem bIn (c : Dev nD) (hcu : CuOk (m ((c : Thread nD τ).loc main_arg2))) (t : Fin cfg0.N) (s : St Ideal) (hs : Ins m c t s) :
    BIn (XA (m ((c : Thread nD τ).loc main_arg0)) (m ((c : Thread nD τ).loc main_arg1))) (PA (m ((c : Thread nD τ).loc main_arg2)))
      (WA (m ((c : Thread nD τ).loc main_arg3))) (HA (m ((c : Thread nD τ).loc main_arg4))) (grid0.coords t) s := by
  have ht : t.val < 9 := t.isLt
  constructor
  · intro u d hd h
    unfold PA at h
    rw [ofNat_toInt d (by omega)] at h
    split at h
    · next hu =>
      obtain ⟨cur, hc, hc0, hp⟩ := posW_toInt (m ((c : Thread nD τ).loc main_arg2)) (BitVec.ofNat 32 u) (by rw [ofNat_toInt u (by omega)]; omega) (by rw [ofNat_toInt u (by omega)]; omega)
      rw [hp, ofNat_toInt u (by omega)] at h
      omega
    · have : (0#32 : BitVec 32).toInt = 0 := by decide
      omega
  · intro q
    rw [coords_val, hs.cu, in0, pay147_apply]
    unfold PA
    rw [if_pos (by omega)]
    have e : IntOp.addi (Scalar.muli (Scalar.minsi (BitVec.ofNat 32 t.val) 7#32) 256#32) (BitVec.ofNat 32 q.1) = BitVec.ofNat 32 (256 * min t.val 7 + q.1) := by
      have : Scalar.muli (Scalar.minsi (BitVec.ofNat 32 t.val) 7#32) 256#32 = BitVec.ofNat 32 (256 * min t.val 7) :=
        (by decide +kernel : ∀ t : Fin 9, Scalar.muli (Scalar.minsi (BitVec.ofNat 32 t.val) 7#32) 256#32 = BitVec.ofNat 32 (256 * min t.val 7)) t
      rw [this]
      exact WordCmp.addi_ofNat _ _
    rw [e]
    rfl
  · intro r q
    simp only [coords_val]
    rw [hs.xb, hs.xs, in3]
    unfold XA
    rw [dif_pos ⟨r.2, by omega⟩]
    exact congrArg (· * _) (in2 m c t r q)
  · intro k r
    rw [hs.wt]
    unfold WA
    rw [dif_pos ⟨r.2, k.2⟩]
    exact congrArg (_ * ·) (in4 m c t k r)
  · intro r
    rw [hs.bh]
    unfold HA
    rw [dif_pos r.2]
    exact in5 m c t r
  · rw [hs.cu, in0]; exact hcu

/-- The run of the kernel: its codes and its scales, and the arguments as they were. -/
theorem run_value (ρ : Dev nD → PrngReg) (hcu : CuOk (m (((0 : Dev nD) : Thread nD τ).loc main_arg2)))
    (XD : ℕ → ℕ → EReal) (pos : ℕ → BitVec 32) (wg : ℕ → ℕ → EReal) (hb : ℕ → EReal)
    (hX : XD = XA (m (((0 : Dev nD) : Thread nD τ).loc main_arg0)) (m (((0 : Dev nD) : Thread nD τ).loc main_arg1)))
    (hP : pos = PA (m (((0 : Dev nD) : Thread nD τ).loc main_arg2)))
    (hW : wg = WA (m (((0 : Dev nD) : Thread nD τ).loc main_arg3)))
    (hH : hb = HA (m (((0 : Dev nD) : Thread nD τ).loc main_arg4)))
    (hf : Fast XD pos wg hb) :
    θ_run defs (onTc (τ := τ) (main (F := Ideal))) (s₀ m ρ) (fun r => ∀ c : Dev nD,
      (r.2.mem ((c.tc : Thread nD τ).loc main_v9_0) = fun x => slowY (convN XD pos wg hb (x 0).1 (x 1).1) (invOf (AM XD pos wg hb (x 1).1)))
      ∧ (r.2.mem ((c.tc : Thread nD τ).loc main_v9_1) = fun x => scOf (AM XD pos wg hb (x 1).1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r hr c => ⟨?_, ?_, args_of m _ hr.1 c⟩)
    (run_main m ρ (vSpec XD pos wg hb) (fun s j h => absurd h (by show ¬ 0 = j + 1; omega)) fun c t => ?_)
  · funext x
    obtain ⟨a, t, rfl⟩ : ∃ (a : Fin 8192) (t : Fin 2048), x = ix2 a t := ⟨x 0, x 1, Idealize.ShloMosaic.eq_ix2 x⟩
    exact out_y m XD pos wg hb hr.1 c a t
  · funext x
    obtain ⟨a, t, rfl⟩ : ∃ (a : Fin 1) (t : Fin 2048), x = ix2 a t := ⟨x 0, x 1, Idealize.ShloMosaic.eq_ix2 x⟩
    obtain rfl : a = 0 := Subsingleton.elim _ _
    exact out_ysc m XD pos wg hb hr.1 c t
  · obtain rfl : c = 0 := Subsingleton.elim (α := Fin 1) _ _
    subst hX hP hW hH
    exact bodySpec_v m _ _ _ _ hf 0 t fun s hs => bIn m 0 hcu t s hs

end Cert.KernelIdeal.Hand
-- ==== Proof.ReferenceIdealPay.lean ====
module
public import proofs.«01_k».proof.Proof.Gen.ReferenceIdeal.Frame
public import proofs.«01_k».proof.Proof.KernelIdealFast
public import Idealize.ShloMosaic.Lib.Pointwise
public import Idealize.ShloMosaic.Lib.Pipeline.ValueKit

/-! What the reference's one grid point writes, read at an element. -/

@[expose] public section

set_option maxHeartbeats 4000000
set_option maxRecDepth 16384

open Idealize.ShloMosaic Idealize.ShloMosaic.TcCoe Idealize.ShloMosaic.Tactic

namespace Cert.ReferenceIdeal.Hand

open Cert.ReferenceIdeal Cert.ReferenceIdeal.Gen
open Cert.KernelIdeal.Hand (expRef tapR zR clip silu2 convN AM scOf invOf slowY RealIn ofBits_one ofBits_zero silu2_logistic scale_AM)

/-- A maximum over the channels, read at a token. -/
theorem red (v : FVec Ideal S8192x2048 .f32) (c : Fin 2048) : multiReduction .maximumf [0] S2048 v 0xFF800000#32 reduces_S8192x2048_S2048 (.inl rfl) rfl (ix1 c)
    = Finset.fold max (Ideal.ofBits .f32 4286578688#32) (fun x : Fin 8192 => v (ix2 x c)) Finset.univ := by
  pointwise

/-- The exponent of the scale, from the largest magnitudes. -/
noncomputable def exOf (M : FVec Ideal S2048 .f32) : FVec Ideal S1x2048 .f32 :=
  let v66 := shapeCast S1x2048 M shapeCasts_S2048_S1x2048
  let v68 : FVec Ideal S1x2048 .f32 := mulf v66 (broadcast S1x2048 (Scalar.ofBits .f32 0x3B124925#32))
  select (cmpf .olt v68 (broadcast S1x2048 (Scalar.ofBits .f32 0x00800000#32))) (broadcast S1x2048 (Scalar.ofBits .f32 0x00000000#32))
    (addf (floor (divf (log v68) (log (broadcast S1x2048 (Scalar.ofBits .f32 0x40000000#32))))) (broadcast S1x2048 (Scalar.ofBits .f32 0x3F800000#32)))

/-- The reference's exponent is that function of its largest magnitudes. -/
theorem pay6 (v5 v24 v39 v41 v46 v57) : k0_pay6 (F := Ideal) v5 v24 v39 v41 v46 v57
    = exOf (multiReduction .maximumf [0] S2048 (absf (k0_pay5 v5 v24 v39 v41 v46 v57)) 0xFF800000#32 reduces_S8192x2048_S2048 (.inl rfl) rfl) := by
  unfold k0_pay6 exOf
  rfl

/-- The exponent at a token. -/
theorem exOf_apply (M : FVec Ideal S2048 .f32) (c : Fin 2048) : exOf M (ix2 0 c) = expRef (M (ix1 c)) := by
  unfold Cert.KernelIdeal.Hand.expRef
  rw [ofBits_zero, ofBits_one, EReal.coe_zero, EReal.coe_one]
  pointwise [exOf]

/-- A power of two, elementwise. -/
theorem exp2_at (v : FVec Ideal S1x2048 .f32) (j) : exp2 v j = Ideal.exp2 (v j) := rfl

/-- The power of two of the negated exponent, elementwise. -/
theorem exp2_neg_at (v : FVec Ideal S1x2048 .f32) (j) : exp2 (subf (broadcast S1x2048 (Scalar.ofBits .f32 0x00000000#32)) v) j = Ideal.exp2 (Ideal.ofBits .f32 0#32 - v j) := rfl

/-- A magnitude, elementwise. -/
theorem absf_at (v : FVec Ideal S8192x2048 .f32) (j) : absf v j = FloatOps.absf (v j) := rfl

/-- The scale's block. -/
theorem pay7 (v5 v24 v39 v41 v46 v57) (j) : k0_pay7 (F := Ideal) v5 v24 v39 v41 v46 v57 j = Ideal.exp2 (k0_pay6 (F := Ideal) v5 v24 v39 v41 v46 v57 j) := by
  unfold k0_pay7
  exact exp2_at _ j

/-- The reciprocal of the scale. -/
theorem pay8 (v5 v24 v39 v41 v46 v57) (j) : k0_pay8 (F := Ideal) v5 v24 v39 v41 v46 v57 j = Ideal.exp2 (Ideal.ofBits .f32 0#32 - k0_pay6 (F := Ideal) v5 v24 v39 v41 v46 v57 j) := by
  unfold k0_pay8
  exact exp2_neg_at _ j

/-- The code, from the activation and the reciprocal of the scale. -/
theorem pay1 (a : FVec Ideal S8192x2048 .f32) (b : FVec Ideal S1x2048 .f32) (r : Fin 8192) (c : Fin 2048) :
    k0_pay1 a b (ix2 r c) = clip (a (ix2 r c) * b (ix2 0 c)) := by
  unfold Cert.KernelIdeal.Hand.clip
  pointwise [k0_pay1]

/-- One tap of the reference, over the reals. -/
theorem tap_coe (pos : ℕ → BitVec 32) (X W : ℕ → ℕ → ℝ) (r c k d : ℕ) (w : BitVec 32) (a x : EReal)
    (hw : w ≠ 0#32 ↔ (BitVec.ofNat 32 d).toInt ≤ (pos c).toInt) (hle : (BitVec.ofNat 32 d).toInt ≤ (pos c).toInt → d ≤ c)
    (ha : d ≤ c → a = ((X r (c - d) : ℝ) : EReal)) (hx : x = ((W r k : ℝ) : EReal)) :
    Scalar.select (IntOp.cmpi .ne w 0#32) (x * a) (0 : EReal) = ((tapR pos X W r c k d : ℝ) : EReal) := by
  rw [WordCmp.cmpi_ne_eq, WordCmp.select_ofBool]
  unfold Cert.KernelIdeal.Hand.tapR
  by_cases h : w ≠ 0#32
  · rw [if_pos (hw.1 h), ha (hle (hw.1 h)), hx, ← EReal.coe_mul]
    simp [h]
  · rw [if_neg (fun e => h (hw.2 e))]
    simp at h
    simp [h]

/-- The block of the activations. -/
noncomputable abbrev actB (x0 : Vec Ideal S8192x2048 .fp8e4m3) (x1 : Vec Ideal S1x2048 .f32) (x2 : Vec Ideal S3x2048 .i32) (x3 : Vec Ideal S8192x4 .f32) (x4 : Vec Ideal S8192x1 .f32) :
    FVec Ideal S8192x2048 .f32 :=
  k0_pay5 (k0_pay9 x0 x1 x2 x3 x4) (k0_pay10 x0 x1 x2 x3 x4) (k0_pay11 x0 x1 x2 x3 x4) (View.ld x3 r0_7) (View.ld x2 r0_8) (View.ld x3 r0_9)

/-- The value before the activation, from the blocks. -/
noncomputable def zB (x0 : Vec Ideal S8192x2048 .fp8e4m3) (x1 : Vec Ideal S1x2048 .f32) (x2 : Vec Ideal S3x2048 .i32) (x3 : Vec Ideal S8192x4 .f32) (x4 : Vec Ideal S8192x1 .f32)
    (r : Fin 8192) (c : Fin 2048) : EReal :=
  x4 (ix2 r 0)
    + Scalar.select (IntOp.cmpi .ne (x2 (ix2 2 c)) 0#32) (x3 (ix2 r 0) * (if h : (c : ℕ) < 3 then (0 : EReal) else x0 (ix2 r ⟨(c : ℕ) - 3, by omega⟩) * x1 (ix2 0 ⟨(c : ℕ) - 3, by omega⟩))) (0 : EReal)
    + Scalar.select (IntOp.cmpi .ne (x2 (ix2 1 c)) 0#32) (x3 (ix2 r 1) * (if h : (c : ℕ) < 2 then (0 : EReal) else x0 (ix2 r ⟨(c : ℕ) - 2, by omega⟩) * x1 (ix2 0 ⟨(c : ℕ) - 2, by omega⟩))) (0 : EReal)
    + Scalar.select (IntOp.cmpi .ne (x2 (ix2 0 c)) 0#32) (x3 (ix2 r 2) * (if h : (c : ℕ) < 1 then (0 : EReal) else x0 (ix2 r ⟨(c : ℕ) - 1, by omega⟩) * x1 (ix2 0 ⟨(c : ℕ) - 1, by omega⟩))) (0 : EReal)
    + x3 (ix2 r 3) * (x0 (ix2 r c) * x1 (ix2 0 c))

/-- The activation at an element. -/
theorem pay5 (x0 : Vec Ideal S8192x2048 .fp8e4m3) (x1 : Vec Ideal S1x2048 .f32) (x2 : Vec Ideal S3x2048 .i32) (x3 : Vec Ideal S8192x4 .f32) (x4 : Vec Ideal S8192x1 .f32)
    (r : Fin 8192) (c : Fin 2048) : actB x0 x1 x2 x3 x4 (ix2 r c) = zB x0 x1 x2 x3 x4 r c * Ideal.logistic (zB x0 x1 x2 x3 x4 r c) := by
  unfold actB zB
  pointwise [k0_pay5, k0_pay9, k0_pay10, k0_pay11, k0_pay2, k0_pay3, k0_pay4]

/-- The scale's block as written. -/
theorem out6 (x0 : Vec Ideal S8192x2048 .fp8e4m3) (x1 : Vec Ideal S1x2048 .f32) (x2 : Vec Ideal S3x2048 .i32) (x3 : Vec Ideal S8192x4 .f32) (x4 : Vec Ideal S8192x1 .f32) :
    out0_6 x0 x1 x2 x3 x4 = k0_pay7 (k0_pay9 x0 x1 x2 x3 x4) (k0_pay10 x0 x1 x2 x3 x4) (k0_pay11 x0 x1 x2 x3 x4) (View.ld x3 r0_7) (View.ld x2 r0_8) (View.ld x3 r0_9) := by
  unfold out0_6
  exact View.canon_cons_unit_lit _ _ _ (by decide)

/-- The codes' block as written. -/
theorem out5 (x0 : Vec Ideal S8192x2048 .fp8e4m3) (x1 : Vec Ideal S1x2048 .f32) (x2 : Vec Ideal S3x2048 .i32) (x3 : Vec Ideal S8192x4 .f32) (x4 : Vec Ideal S8192x1 .f32) :
    out0_5 x0 x1 x2 x3 x4 = k0_pay1 (actB x0 x1 x2 x3 x4) (k0_pay8 (k0_pay9 x0 x1 x2 x3 x4) (k0_pay10 x0 x1 x2 x3 x4) (k0_pay11 x0 x1 x2 x3 x4) (View.ld x3 r0_7) (View.ld x2 r0_8) (View.ld x3 r0_9)) := by
  unfold out0_5
  exact View.canon_cons_unit_lit _ _ _ (by decide)

/-- The exponent at a token, from the activations. -/
theorem pay6_at (x0 : Vec Ideal S8192x2048 .fp8e4m3) (x1 : Vec Ideal S1x2048 .f32) (x2 : Vec Ideal S3x2048 .i32) (x3 : Vec Ideal S8192x4 .f32) (x4 : Vec Ideal S8192x1 .f32)
    (c : Fin 2048) (S : Fin 8192 → EReal) (h : ∀ r, actB x0 x1 x2 x3 x4 (ix2 r c) = S r) :
    k0_pay6 (k0_pay9 x0 x1 x2 x3 x4) (k0_pay10 x0 x1 x2 x3 x4) (k0_pay11 x0 x1 x2 x3 x4) (View.ld x3 r0_7) (View.ld x2 r0_8) (View.ld x3 r0_9) (ix2 0 c)
      = expRef (Finset.fold max (Ideal.ofBits .f32 4286578688#32) (fun r : Fin 8192 => FloatOps.absf (F := Ideal) (φ := .f32) (S r)) Finset.univ) := by
  rw [pay6, exOf_apply, red]
  congr 2
  funext r
  exact congrArg _ (h r)

section
variable {x0 : Vec Ideal S8192x2048 .fp8e4m3} {x1 : Vec Ideal S1x2048 .f32} {x2 : Vec Ideal S3x2048 .i32} {x3 : Vec Ideal S8192x4 .f32} {x4 : Vec Ideal S8192x1 .f32}
  {XD wg : ℕ → ℕ → EReal} {hb : ℕ → EReal} {X W : ℕ → ℕ → ℝ} {B : ℕ → ℝ} {pos : ℕ → BitVec 32}

/-- What the blocks hold, over the reals. -/
structure RefIn (x0 : Vec Ideal S8192x2048 .fp8e4m3) (x1 : Vec Ideal S1x2048 .f32) (x2 : Vec Ideal S3x2048 .i32) (x3 : Vec Ideal S8192x4 .f32) (x4 : Vec Ideal S8192x1 .f32)
    (X W : ℕ → ℕ → ℝ) (B : ℕ → ℝ) (pos : ℕ → BitVec 32) : Prop where
  x : ∀ (r : Fin 8192) (c : Fin 2048), x0 (ix2 r c) * x1 (ix2 0 c) = ((X r.1 c.1 : ℝ) : EReal)
  w : ∀ (r : Fin 8192) (k : Fin 4), x3 (ix2 r k) = ((W r.1 k.1 : ℝ) : EReal)
  b : ∀ r : Fin 8192, x4 (ix2 r 0) = ((B r.1 : ℝ) : EReal)
  k : ∀ (d : Fin 3) (c : Fin 2048), x2 (ix2 d c) ≠ 0#32 ↔ (BitVec.ofNat 32 (d.1 + 1)).toInt ≤ (pos c.1).toInt
  le : ∀ (d : Fin 3) (c : Fin 2048), (BitVec.ofNat 32 (d.1 + 1)).toInt ≤ (pos c.1).toInt → d.1 + 1 ≤ c.1

/-- The value before the activation is the convolution over the reals. -/
theorem zB_coe (h : RefIn x0 x1 x2 x3 x4 X W B pos) (r : Fin 8192) (c : Fin 2048) : zB x0 x1 x2 x3 x4 r c = ((zR pos X W B r.1 c.1 : ℝ) : EReal) := by
  unfold zB Cert.KernelIdeal.Hand.zR
  rw [tap_coe pos X W r.1 c.1 0 3 _ _ _ (h.k 2 c) (h.le 2 c) (fun q => by rw [dif_neg (by omega), h.x]) (h.w r 0),
    tap_coe pos X W r.1 c.1 1 2 _ _ _ (h.k 1 c) (h.le 1 c) (fun q => by rw [dif_neg (by omega), h.x]) (h.w r 1),
    tap_coe pos X W r.1 c.1 2 1 _ _ _ (h.k 0 c) (h.le 0 c) (fun q => by rw [dif_neg (by omega), h.x]) (h.w r 2), h.b, h.x, h.w r 3,
    ← EReal.coe_mul, ← EReal.coe_add, ← EReal.coe_add, ← EReal.coe_add, ← EReal.coe_add]
  rfl

/-- The reference's scale is the kernel's. -/
theorem out6_eq (h : RefIn x0 x1 x2 x3 x4 X W B pos) (hr : RealIn XD wg hb X W B) (c : Fin 2048) :
    out0_6 x0 x1 x2 x3 x4 (ix2 0 c) = scOf (AM XD pos wg hb c.1) := by
  rw [out6, pay7, pay6_at x0 x1 x2 x3 x4 c (fun r => silu2 (convN XD pos wg hb r.1 c.1)) (fun r => by rw [pay5, zB_coe h, silu2_logistic hr]), (scale_AM hr c.1).1]
  rfl

/-- The reference's code is the kernel's. -/
theorem out5_eq (h : RefIn x0 x1 x2 x3 x4 X W B pos) (hr : RealIn XD wg hb X W B) (r : Fin 8192) (c : Fin 2048) :
    out0_5 x0 x1 x2 x3 x4 (ix2 r c) = slowY (convN XD pos wg hb r.1 c.1) (invOf (AM XD pos wg hb c.1)) := by
  rw [out5, pay1, pay8, pay6_at x0 x1 x2 x3 x4 c (fun r => silu2 (convN XD pos wg hb r.1 c.1)) (fun r => by rw [pay5, zB_coe h, silu2_logistic hr]), (scale_AM hr c.1).2.1,
    pay5, zB_coe h, ← silu2_logistic hr]
  rfl
end

end Cert.ReferenceIdeal.Hand
-- ==== Proof.ReferenceIdealHost.lean ====
module
public import proofs.«01_k».proof.Proof.Gen.ReferenceIdeal.Frame
public import proofs.«01_k».proof.Proof.KernelIdealInput
public import Idealize.ShloMosaic.Lib.StableHlo.ReadAt
public import Idealize.ShloMosaic.Lib.Pointwise

/-! What the reference's host operations before the call leave, read at an element. -/

@[expose] public section

set_option maxHeartbeats 4000000
set_option maxRecDepth 16384

open Idealize.ShloMosaic Idealize.ShloMosaic.TcCoe Idealize.ShloMosaic.Tactic

namespace Cert.ReferenceIdeal.Hand

open Cert.ReferenceIdeal Cert.ReferenceIdeal.Gen
open Cert.KernelIdeal.Hand (keepW)

variable (m : (ℓ : Loc nD τ sig) → Buf (Elt Ideal) ℓ) (c : Dev nD)

/-- The codes as numbers. -/
theorem host0 (r : Fin 8192) (t : Fin 2048) : V m c main_v0 (ix2 r t) = Ideal.ofBits .fp8e4m3 (m (c.tc.loc main_arg0) (ix2 r t)) := by
  unfold V
  after_reads_at

/-- The scales of the codes, untouched. -/
theorem host1 : V m c main_arg1 = m (c.tc.loc main_arg1) := by
  unfold V
  after_reads_simp

/-- The weights. -/
theorem host3 (r : Fin 8192) (k : Fin 4) : V m c main_v195 (ix2 r k) = m (c.tc.loc main_arg3) (ix2 r k) := by
  unfold V
  after_reads_at

/-- The biases. -/
theorem host4 (r : Fin 8192) : V m c main_v197 (ix2 r 0) = m (c.tc.loc main_arg4) (ix1 r) := by
  unfold V
  after_reads_at

/-- The mask of the tap 1 before a token. -/
theorem keep1 (t : Fin 2048) : V m c main_v194 (ix2 0 t) = (keepW (m (c.tc.loc main_arg2)) (BitVec.ofNat 32 t.1) 1#32).setWidth 32 := by
  unfold V
  after_reads_at
  rw [StableHlo.unary_result]
  after_reads_at
  unfold Cert.KernelIdeal.Hand.keepW
  rfl

/-- The mask of the tap 2 before a token. -/
theorem keep2 (t : Fin 2048) : V m c main_v194 (ix2 1 t) = (keepW (m (c.tc.loc main_arg2)) (BitVec.ofNat 32 t.1) 2#32).setWidth 32 := by
  unfold V
  after_reads_at
  rw [StableHlo.unary_result]
  after_reads_at
  unfold Cert.KernelIdeal.Hand.keepW
  rfl

/-- The mask of the tap 3 before a token. -/
theorem keep3 (t : Fin 2048) : V m c main_v194 (ix2 2 t) = (keepW (m (c.tc.loc main_arg2)) (BitVec.ofNat 32 t.1) 3#32).setWidth 32 := by
  unfold V
  after_reads_at
  rw [StableHlo.unary_result]
  after_reads_at
  unfold Cert.KernelIdeal.Hand.keepW
  rfl

end Cert.ReferenceIdeal.Hand
-- ==== Proof.ReferenceIdealValue.lean ====
module
public import proofs.«01_k».proof.Proof.ReferenceIdealPay
public import proofs.«01_k».proof.Proof.ReferenceIdealHost
public import Idealize.ShloMosaic.Lib.StableHlo.ReadAt
public import Idealize.ShloMosaic.Lib.WordCmp

/-! The reference's two results, as the kernel's functions of the arguments. -/

@[expose] public section

set_option maxHeartbeats 4000000
set_option maxRecDepth 16384

open Idealize.ShloMosaic Idealize.ShloMosaic.TcCoe Idealize.ShloMosaic.Tactic
open Idealize.SL.Sem

namespace Cert.ReferenceIdeal.Hand

open Cert.ReferenceIdeal Cert.ReferenceIdeal.Gen
open Cert.KernelIdeal.Hand (CuOk keepW keepW_iff posW posW_toInt XA WA HA PA ofNat_toInt convN AM scOf invOf slowY RealIn)
open Idealize.ShloMosaic.Pipeline (Dat Cfg Window)

variable (m : (ℓ : Loc nD τ sig) → Buf (Elt Ideal) ℓ) (c : Dev nD) (t : Fin cfg0.N)

/-- The fetched codes. -/
theorem blk0 (j) : iblk m c 0 t j = V m c main_v0 j := by
  unfold iblk
  rw [View.read_apply, cast_eq]
  refine congrArg (V m c main_v0) ?_
  blk_ext [(show win0_0.index t 0 = 0 from rfl), (show win0_0.index t 1 = 0 from rfl)]

/-- The fetched scales. -/
theorem blk1 (j) : iblk m c 1 t j = V m c main_arg1 j := by
  unfold iblk
  rw [View.read_apply, cast_eq]
  refine congrArg (V m c main_arg1) ?_
  blk_ext [(show win0_1.index t 0 = 0 from rfl), (show win0_1.index t 1 = 0 from rfl)]

/-- The fetched masks. -/
theorem blk2 (j) : iblk m c 2 t j = V m c main_v194 j := by
  unfold iblk
  rw [View.read_apply, cast_eq]
  refine congrArg (V m c main_v194) ?_
  blk_ext [(show win0_2.index t 0 = 0 from rfl), (show win0_2.index t 1 = 0 from rfl)]

/-- The fetched weights. -/
theorem blk3 (j) : iblk m c 3 t j = V m c main_v195 j := by
  unfold iblk
  rw [View.read_apply, cast_eq]
  refine congrArg (V m c main_v195) ?_
  blk_ext [(show win0_3.index t 0 = 0 from rfl), (show win0_3.index t 1 = 0 from rfl)]

/-- The fetched biases. -/
theorem blk4 (j) : iblk m c 4 t j = V m c main_v197 j := by
  unfold iblk
  rw [View.read_apply, cast_eq]
  refine congrArg (V m c main_v197) ?_
  blk_ext [(show win0_4.index t 0 = 0 from rfl), (show win0_4.index t 1 = 0 from rfl)]

/-- A widened bit is not zero if it is one. -/
theorem widen_ne : ∀ b : BitVec 1, b.setWidth 32 ≠ 0#32 ↔ b = 1#1 := by decide

/-- A position in its sequence is at most the token. -/
theorem PA_le (cu : Cert.KernelIdeal.S7.Idx → BitVec 32) (q : Fin 2048) : (PA cu q.1).toInt ≤ q.1 := by
  have hq := ofNat_toInt q.1 (by omega)
  unfold Cert.KernelIdeal.Hand.PA
  rw [if_pos q.isLt]
  obtain ⟨cur, -, h1, h2⟩ := posW_toInt cu (BitVec.ofNat 32 q.1) (by omega) (by omega)
  omega

/-- The mask of the reference says that the position reaches the tap. -/
theorem mask_iff (cu : Cert.KernelIdeal.S7.Idx → BitVec 32) (q : Fin 2048) (d : ℕ) (hd : d ≤ 3) :
    (keepW cu (BitVec.ofNat 32 q.1) (BitVec.ofNat 32 d)).setWidth 32 ≠ 0#32 ↔ (BitVec.ofNat 32 d).toInt ≤ (PA cu q.1).toInt := by
  have hq := ofNat_toInt q.1 (by omega)
  have hd' := ofNat_toInt d (by omega)
  rw [widen_ne, keepW_iff cu _ _ (by omega) (by omega) (by omega) (by omega)]
  unfold Cert.KernelIdeal.Hand.PA
  rw [if_pos q.isLt]

section
variable {XD wg : ℕ → ℕ → EReal} {hb : ℕ → EReal} {X W : ℕ → ℕ → ℝ} {B : ℕ → ℝ} {pos : ℕ → BitVec 32}

/-- The blocks hold the reals of the arguments. -/
theorem refIn (hx : ∀ (r : Fin 8192) (q : Fin 2048), Ideal.ofBits .fp8e4m3 (m (c.tc.loc main_arg0) (ix2 r q)) * m (c.tc.loc main_arg1) (ix2 0 q) = ((X r.1 q.1 : ℝ) : EReal))
    (hw : ∀ (r : Fin 8192) (k : Fin 4), m (c.tc.loc main_arg3) (ix2 r k) = ((W r.1 k.1 : ℝ) : EReal))
    (hb : ∀ r : Fin 8192, m (c.tc.loc main_arg4) (ix1 r) = ((B r.1 : ℝ) : EReal)) :
    RefIn (iblk m c 0 t) (iblk m c 1 t) (iblk m c 2 t) (iblk m c 3 t) (iblk m c 4 t) X W B (PA (m (c.tc.loc main_arg2))) where
  x r q := by
    rw [blk0, blk1]
    refine Eq.trans ?_ (hx r q)
    exact congrArg₂ (· * ·) (host0 m c r q) (congrFun (host1 m c) _)
  w r k := by
    rw [blk3]
    exact (host3 m c r k).trans (hw r k)
  b r := by
    rw [blk4]
    exact (host4 m c r).trans (hb r)
  k d q := by
    rw [blk2]
    fin_cases d
    · have e := keep1 m c q
      have i := mask_iff (m (c.tc.loc main_arg2)) q 1 (by decide)
      rw [← e] at i
      exact i
    · have e := keep2 m c q
      have i := mask_iff (m (c.tc.loc main_arg2)) q 2 (by decide)
      rw [← e] at i
      exact i
    · have e := keep3 m c q
      have i := mask_iff (m (c.tc.loc main_arg2)) q 3 (by decide)
      rw [← e] at i
      exact i
  le d q h := by
    have h1 := PA_le (m (c.tc.loc main_arg2)) q
    have h2 := ofNat_toInt (d.1 + 1) (by omega)
    omega
end

/-- The only grid point. -/
abbrev t0 : Fin cfg0.N := ⟨0, by decide⟩

/-- The codes after the run: what the body leaves of them. -/
theorem y_at {r : PUnit × MemSt nD τ sig (Elt Ideal)} (h : Pipeline.FramePost cfgs (dats m) 0 (V m) r) (a : Fin 8192) (q : Fin 2048) :
    r.2.mem ((c.tc : Thread nD τ).loc main_v198_0) (ix2 a q)
      = out0_5 (iblk m c 0 t0) (iblk m c 1 t0) (iblk m c 2 t0) (iblk m c 3 t0) (iblk m c 4 t0) (ix2 a q) := by
  have e := Dat.arrAt_emb_eq_after_last (dats m 0 c) (5 : Fin cfg0.W) t0 (by decide +kernel) (ix2 a q)
  have eb : (cfg0.win 5).arr.view.emb (ix2 a q) = ix2 a q := rfl
  have e2 := (congrArg (fun f => f (ix2 a q)) (after0_5 m c t0))
  exact (congrFun ((h c).1 5) (ix2 a q)).trans ((congrArg ((dats m 0 c).arrAt 5 cfg0.N) eb.symm).trans (e.trans e2))

/-- The scales after the run: what the body leaves of them. -/
theorem sc_at {r : PUnit × MemSt nD τ sig (Elt Ideal)} (h : Pipeline.FramePost cfgs (dats m) 0 (V m) r) (q : Fin 2048) :
    r.2.mem ((c.tc : Thread nD τ).loc main_v198_1) (ix2 0 q)
      = out0_6 (iblk m c 0 t0) (iblk m c 1 t0) (iblk m c 2 t0) (iblk m c 3 t0) (iblk m c 4 t0) (ix2 0 q) := by
  have e := Dat.arrAt_emb_eq_after_last (dats m 0 c) (6 : Fin cfg0.W) t0 (by decide +kernel) (ix2 0 q)
  have eb : (cfg0.win 6).arr.view.emb (ix2 0 q) = ix2 0 q := rfl
  have e2 := (congrArg (fun f => f (ix2 0 q)) (after0_6 m c t0))
  exact (congrFun ((h c).1 6) (ix2 0 q)).trans ((congrArg ((dats m 0 c).arrAt 6 cfg0.N) eb.symm).trans (e.trans e2))

/-- The reference's run: its results are the kernel's functions of the arguments. -/
theorem ref_value (ρ : Dev nD → PrngReg) (XD : ℕ → ℕ → EReal) (pos : ℕ → BitVec 32) (wg : ℕ → ℕ → EReal) (hb : ℕ → EReal) (X W : ℕ → ℕ → ℝ) (B : ℕ → ℝ)
    (hr : RealIn XD wg hb X W B)
    (hP : pos = PA (m (((0 : Dev nD) : Thread nD τ).loc main_arg2)))
    (hx : ∀ (r : Fin 8192) (q : Fin 2048), Ideal.ofBits .fp8e4m3 (m (((0 : Dev nD) : Thread nD τ).loc main_arg0) (ix2 r q)) * m (((0 : Dev nD) : Thread nD τ).loc main_arg1) (ix2 0 q) = ((X r.1 q.1 : ℝ) : EReal))
    (hw : ∀ (r : Fin 8192) (k : Fin 4), m (((0 : Dev nD) : Thread nD τ).loc main_arg3) (ix2 r k) = ((W r.1 k.1 : ℝ) : EReal))
    (hbb : ∀ r : Fin 8192, m (((0 : Dev nD) : Thread nD τ).loc main_arg4) (ix1 r) = ((B r.1 : ℝ) : EReal)) :
    θ_run defs (onTc (τ := τ) (main (F := Ideal))) (s₀ m ρ) (fun r => ∀ c : Dev nD,
      (r.2.mem ((c.tc : Thread nD τ).loc main_v198_0) = fun x => slowY (convN XD pos wg hb (x 0).1 (x 1).1) (invOf (AM XD pos wg hb (x 1).1)))
      ∧ (r.2.mem ((c.tc : Thread nD τ).loc main_v198_1) = fun x => scOf (AM XD pos wg hb (x 1).1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  subst hP
  refine (θ_run defs _ _).mono (fun r h c => ⟨?_, ?_,
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)
  · funext x
    obtain ⟨a, q, rfl⟩ : ∃ (a : Fin 8192) (q : Fin 2048), x = ix2 a q := ⟨x 0, x 1, Idealize.ShloMosaic.eq_ix2 x⟩
    obtain rfl : c = 0 := Subsingleton.elim (α := Fin 1) _ _
    exact (y_at m 0 h a q).trans (out5_eq (refIn m 0 t0 hx hw hbb) hr a q)
  · funext x
    obtain ⟨a, q, rfl⟩ : ∃ (a : Fin 1) (q : Fin 2048), x = ix2 a q := ⟨x 0, x 1, Idealize.ShloMosaic.eq_ix2 x⟩
    obtain rfl : a = 0 := Subsingleton.elim _ _
    obtain rfl : c = 0 := Subsingleton.elim (α := Fin 1) _ _
    exact (sc_at m 0 h q).trans (out6_eq (refIn m 0 t0 hx hw hbb) hr q)

end Cert.ReferenceIdeal.Hand
-- ==== Proof.Algebraic.lean ====
module

public import proofs.«01_k».proof.Defs
public import proofs.«01_k».proof.Proof.PreBounded
public import proofs.«01_k».proof.Proof.KernelIdealFast
public import proofs.«01_k».proof.Proof.KernelIdealInput
public import proofs.«01_k».proof.Proof.ReferenceIdealValue

/-! The kernel and the reference give equal results. -/

@[expose] public section

set_option maxRecDepth 16384
set_option maxHeartbeats 1000000

noncomputable section

namespace Cert.Hand

open Idealize.ShloMosaic Idealize.SL.Sem Idealize.ShloMosaic.TcCoe
open Cert.KernelIdeal.Hand (XA WA HA PA RealIn CuOk slowY convN invOf AM scOf fast_of)

/-- The word of one half. -/
theorem ofBits_half : Ideal.ofBits .f32 1056964608#32 = ((1 / 2 : ℝ) : EReal) := by
  simp [Ideal.ofBits, Ideal.ieee, -EReal.coe_mul]; norm_num

section
variable (a0 : Cert.KernelIdeal.S8192x2048.Idx → BitVec 8) (a1 : Cert.KernelIdeal.S1x2048.Idx → EReal)
  (a3 : Cert.KernelIdeal.S8192x4.Idx → EReal) (a4 : Cert.KernelIdeal.S8192.Idx → EReal)

/-- The inputs as reals. -/
def XR (r t : ℕ) : ℝ := (XA a0 a1 r t).toReal
/-- The weights as reals. -/
def WR (r k : ℕ) : ℝ := if h : r < 8192 ∧ k < 4 then (a3 (ix2 ⟨r, h.1⟩ ⟨k, h.2⟩)).toReal else 0
/-- The biases as reals. -/
def BR (r : ℕ) : ℝ := if h : r < 8192 then (a4 (ix1 ⟨r, h⟩)).toReal else 0

variable {a0 a1 a3 a4}
  (h0 : ∀ j, a0 j ≠ 127#8 ∧ a0 j ≠ 255#8) (h1 : ∀ j, ∃ v : ℝ, a1 j = ((v : ℝ) : EReal) ∧ |v| ≤ 2 ^ 64)
  (h3 : ∀ j, ∃ v : ℝ, a3 j = ((v : ℝ) : EReal) ∧ |v| ≤ 2 ^ 32) (h4 : ∀ j, ∃ v : ℝ, a4 j = ((v : ℝ) : EReal) ∧ |v| ≤ 2 ^ 64)

include h0 h1 in
/-- The inputs are bounded reals. -/
theorem xa_real (r t : ℕ) : ∃ v : ℝ, XA a0 a1 r t = ((v : ℝ) : EReal) ∧ |v| ≤ 2 ^ 73 := by
  unfold Cert.KernelIdeal.Hand.XA
  split
  · obtain ⟨u, e1, b1⟩ := e4m3_real _ (h0 (ix2 ⟨r, _⟩ ⟨t, _⟩)).1 (h0 _).2
    obtain ⟨v, e2, b2⟩ := h1 (ix2 0 ⟨t, _⟩)
    refine ⟨u * v, by rw [e1, e2, EReal.coe_mul], ?_⟩
    rw [abs_mul]
    calc |u| * |v| ≤ 2 ^ 9 * 2 ^ 64 := mul_le_mul b1 b2 (abs_nonneg _) (by positivity)
      _ = 2 ^ 73 := by norm_num
  · exact ⟨0, by simp, by simp⟩

include h0 h1 h3 h4 in
/-- What the predicate gives: the arguments are bounded reals. -/
theorem realIn_of : RealIn (XA a0 a1) (WA a3) (HA a4) (XR a0 a1) (WR a3) (BR a4) where
  x r t := by
    obtain ⟨v, e, -⟩ := xa_real h0 h1 r t
    unfold XR
    rw [e, EReal.toReal_coe]
  w r k := by
    unfold Cert.KernelIdeal.Hand.WA WR
    split
    · obtain ⟨v, e, -⟩ := h3 (ix2 ⟨r, _⟩ ⟨k, _⟩)
      rw [ofBits_half, e, EReal.toReal_coe, ← EReal.coe_mul]
    · simp
  b r := by
    unfold Cert.KernelIdeal.Hand.HA BR
    split
    · obtain ⟨v, e, -⟩ := h4 (ix1 ⟨r, _⟩)
      rw [ofBits_half, e, EReal.toReal_coe, ← EReal.coe_mul]
    · simp
  xb r t := by
    obtain ⟨v, e, b⟩ := xa_real h0 h1 r t
    unfold XR
    rw [e, EReal.toReal_coe]
    exact b
  wb r k := by
    unfold WR
    split
    · obtain ⟨v, e, b⟩ := h3 (ix2 ⟨r, _⟩ ⟨k, _⟩)
      rw [e, EReal.toReal_coe]
      exact b
    · simp
  bb r := by
    unfold BR
    split
    · obtain ⟨v, e, b⟩ := h4 (ix1 ⟨r, _⟩)
      rw [e, EReal.toReal_coe]
      exact b
    · simp

include h0 h1 in
/-- The product of a code and its scale as a real. -/
theorem xr_eq (r : Fin 8192) (q : Fin 2048) : Ideal.ofBits .fp8e4m3 (a0 (ix2 r q)) * a1 (ix2 0 q) = ((XR a0 a1 r.1 q.1 : ℝ) : EReal) := by
  obtain ⟨v, e, -⟩ := xa_real h0 h1 r.1 q.1
  unfold XR
  rw [e, EReal.toReal_coe, ← e]
  unfold Cert.KernelIdeal.Hand.XA
  rw [dif_pos ⟨r.isLt, q.isLt⟩]

include h3 in
/-- A weight as a real. -/
theorem wr_eq (r : Fin 8192) (k : Fin 4) : a3 (ix2 r k) = ((WR a3 r.1 k.1 : ℝ) : EReal) := by
  obtain ⟨v, e, -⟩ := h3 (ix2 r k)
  unfold WR
  rw [dif_pos ⟨r.isLt, k.isLt⟩]
  show _ = (((a3 (ix2 r k)).toReal : ℝ) : EReal)
  rw [e, EReal.toReal_coe]

include h4 in
/-- A bias as a real. -/
theorem br_eq (r : Fin 8192) : a4 (ix1 r) = ((BR a4 r.1 : ℝ) : EReal) := by
  obtain ⟨v, e, -⟩ := h4 (ix1 r)
  unfold BR
  rw [dif_pos r.isLt]
  show _ = (((a4 (ix1 r)).toReal : ℝ) : EReal)
  rw [e, EReal.toReal_coe]
end

/-- Under the second predicate the kernel and the reference give equal codes and equal scales. -/
theorem algebraic : Cert.algebraic_KernelIdeal_ReferenceIdeal_pre_bounded (hKernelIdeal := Cert.KernelIdeal.Gen.facts)
    (hReferenceIdeal := Cert.ReferenceIdeal.Gen.facts) (hPre_bounded := facts_bounded) := by
  letI := facts_boundaries
  letI := facts_bounded
  intro m g m' g' hpre hag
  obtain ⟨p0, p1, p2, p3, p4⟩ := hpre 0
  obtain ⟨e0, e1, e2, e3, e4⟩ := hag 0
  have hcu : CuOk (m (((0 : Dev Cert.KernelIdeal.nD) : Thread Cert.KernelIdeal.nD Cert.KernelIdeal.τ).loc Cert.KernelIdeal.main_arg2)) :=
    range_of_boundaries _ _ _ _ _ ((boundaries_of_bounded _ _ _ _ _).symm.trans p0)
  have h0 := codes_of_bounded _ _ _ _ _ p1
  have h1 := scales_of_bounded _ _ _ _ _ p2
  have h3 := weights_of_bounded _ _ _ _ _ p3
  have h4 := biases_of_bounded _ _ _ _ _ p4
  have hr := realIn_of h0 h1 h3 h4
  refine ⟨fun _ x => slowY (convN _ (PA (m (((0 : Dev Cert.KernelIdeal.nD) : Thread Cert.KernelIdeal.nD Cert.KernelIdeal.τ).loc Cert.KernelIdeal.main_arg2))) _ _ (x 0).1 (x 1).1) (invOf (AM _ (PA _) _ _ (x 1).1)),
    fun _ x => scOf (AM _ (PA _) _ _ (x 1).1), Cert.KernelIdeal.Hand.run_value m g hcu _ _ _ _ rfl rfl rfl rfl (fast_of hr), ?_⟩
  exact Cert.ReferenceIdeal.Hand.ref_value m' g' _ _ _ _ _ _ _ hr (by rw [e2]) (fun r q => by rw [e0, e1]; exact xr_eq h0 h1 r q)
    (fun r k => by rw [e3]; exact wr_eq h3 r k) (fun r => by rw [e4]; exact br_eq h4 r)

end Cert.Hand
-- ==== Proof.lean ====
module

public import proofs.«01_k».proof.Defs
public import proofs.«01_k».proof.Proof.KernelFrame
public import proofs.«01_k».proof.Proof.KernelIdealFrame
public import proofs.«01_k».proof.Proof.Gen.ReferenceIdeal.Frame
public import proofs.«01_k».proof.Proof.Algebraic
public import Idealize.ShloMosaic.Lib.Bf16Pair

@[expose] public section

noncomputable section

namespace Cert.Proof

open Idealize.ShloMosaic Idealize.SL.Sem

/-- Every claim of this directory. -/
theorem claim : Cert.Claim :=
  ⟨Cert.Kernel.Gen.facts, Cert.KernelIdeal.Gen.facts, Cert.ReferenceIdeal.Gen.facts, Cert.Hand.facts_boundaries, Cert.Hand.facts_bounded,
    fun m g h => Cert.Kernel.Hand.frame m g fun c => letI := Cert.Hand.facts_boundaries; Cert.Hand.range_of_boundaries _ _ _ _ _ (h c),
    fun m g h => Cert.KernelIdeal.Hand.frame m g fun c => letI := Cert.Hand.facts_boundaries; Cert.Hand.range_of_boundaries _ _ _ _ _ (h c),
    fun m g h => Cert.KernelIdeal.Hand.frame m g fun c => letI := Cert.Hand.facts_boundaries; letI := Cert.Hand.facts_bounded
      Cert.Hand.range_of_boundaries _ _ _ _ _ ((Cert.Hand.boundaries_of_bounded _ _ _ _ _).symm.trans (h c).1),
    fun m g _ => Cert.ReferenceIdeal.Gen.frame m g,
    fun m g _ => Cert.ReferenceIdeal.Gen.frame m g,
    ⟨IdealRules.bf16_pair.statement _ _, IdealRules.bf16_pair.selectZeroStatement _⟩,
    Cert.Hand.algebraic⟩

end Cert.Proof

end
